-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v265)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v265) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v233) = v0 c
          ∧ r.2.mem ((c.tc : Thread Cert.Reference3Ideal.nD Cert.Reference3Ideal.τ).loc Cert.Reference3Ideal.main_v254) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S10x4096x512 : Shape := ⟨3, ![10, 4096, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S32x512 : Shape := ⟨2, ![32, 512]⟩
abbrev S16x512 : Shape := ⟨2, ![16, 512]⟩
abbrev S_ : Shape := ⟨0, ![]⟩
abbrev S512 : Shape := ⟨1, ![512]⟩
abbrev S32 : Shape := ⟨1, ![32]⟩
abbrev S32x1 : Shape := ⟨2, ![32, 1]⟩
abbrev S16 : Shape := ⟨1, ![16]⟩
abbrev S16x1 : Shape := ⟨2, ![16, 1]⟩

class Facts : Prop where
  bcast_S_S10x4096x512 : S_.BroadcastsInDim S10x4096x512 (![] : Fin 0 → Fin S10x4096x512.rank)
  reducesTo_S10x4096x512_S_d0_1_2 : S10x4096x512.ReducesTo [0, 1, 2] S_
  h_S_ : 0 < S_.numel
  bcast_S_S1x32x64 : S_.BroadcastsInDim S1x32x64 (![] : Fin 0 → Fin S1x32x64.rank)
  reducesTo_S1x32x64_S_d0_1_2 : S1x32x64.ReducesTo [0, 1, 2] S_
  bcast_S_S1x32 : S_.BroadcastsInDim S1x32 (![] : Fin 0 → Fin S1x32.rank)
  reducesTo_S1x32_S_d0_1 : S1x32.ReducesTo [0, 1] S_
  bcast_S_S1x32x64x16 : S_.BroadcastsInDim S1x32x64x16 (![] : Fin 0 → Fin S1x32x64x16.rank)
  reducesTo_S1x32x64x16_S_d0_1_2_3 : S1x32x64x16.ReducesTo [0, 1, 2, 3] S_
  bcast_S_S1x32x16x64 : S_.BroadcastsInDim S1x32x16x64 (![] : Fin 0 → Fin S1x32x16x64.rank)
  reducesTo_S1x32x16x64_S_d0_1_2_3 : S1x32x16x64.ReducesTo [0, 1, 2, 3] S_
  bcast_S_S1x512 : S_.BroadcastsInDim S1x512 (![] : Fin 0 → Fin S1x512.rank)
  reducesTo_S1x512_S_d0_1 : S1x512.ReducesTo [0, 1] S_
  bcast_S512_S1x512_1 : S512.BroadcastsInDim S1x512 (![1] : Fin 1 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)
  reducesTo_S32x512_S_d0_1 : S32x512.ReducesTo [0, 1] S_
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  reducesTo_S16x512_S_d0_1 : S16x512.ReducesTo [0, 1] S_

variable [Facts]

def fn_where {F : FTy → Type} [FloatOps F] (arg0 : IVec S1x512 1) (arg1 : IVec S1x512 32) (arg2 : IVec S1x512 32) : IVec S1x512 32 :=
  let v0 : IVec S1x512 32 := select arg0 arg1 arg2
  v0

def fn_floor_divide {F : FTy → Type} [FloatOps F] (arg0 : IVec S1x512 32) (arg1 : IVec S_ 32) : IVec S1x512 32 :=
  let v0 : IVec S_ 32 := id arg1
  let v1 : IVec S1x512 32 := broadcastInDim S1x512 ![] bcast_S_S1x512 v0
  let v2 : IVec S1x512 32 := Host.divsi arg0 v1
  let v3 : IVec S1x512 32 := signi arg0
  let v4 : IVec S_ 32 := signi v0
  let v5 : IVec S1x512 32 := broadcastInDim S1x512 ![] bcast_S_S1x512 v4
  let v6 : IVec S1x512 1 := cmpi .ne v3 v5
  let v7 : IVec S1x512 32 := broadcastInDim S1x512 ![] bcast_S_S1x512 v0
  let v8 : IVec S1x512 32 := Host.remsi arg0 v7
  let c : IVec S_ 32 := constantI S_ 32 0#32
  let v9 : IVec S1x512 32 := broadcastInDim S1x512 ![] bcast_S_S1x512 c
  let v10 : IVec S1x512 1 := cmpi .ne v8 v9
  let v11 : IVec S1x512 1 := andi v6 v10
  let c_0 : IVec S_ 32 := constantI S_ 32 1#32
  let v12 : IVec S1x512 32 := broadcastInDim S1x512 ![] bcast_S_S1x512 c_0
  let v13 : IVec S1x512 32 := subi v2 v12
  let v14 : IVec S1x512 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1x512 32) (arg1 : IVec S_ 32) : IVec S1x512 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S1x512 32 := broadcastInDim S1x512 ![] bcast_S_S1x512 v2
  let v4 : IVec S1x512 32 := Host.remsi arg0 v3
  let c_1 : IVec S_ 32 := constantI S_ 32 0#32
  let v5 : IVec S1x512 32 := broadcastInDim S1x512 ![] bcast_S_S1x512 c_1
  let v6 : IVec S1x512 1 := cmpi .ne v4 v5
  let c_2 : IVec S_ 32 := constantI S_ 32 0#32
  let v7 : IVec S1x512 32 := broadcastInDim S1x512 ![] bcast_S_S1x512 c_2
  let v8 : IVec S1x512 1 := cmpi .slt v4 v7
  let c_3 : IVec S_ 32 := constantI S_ 32 0#32
  let v9 : IVec S_ 1 := cmpi .slt v2 c_3
  let v10 : IVec S1x512 1 := broadcastInDim S1x512 ![] bcast_S_S1x512 v9
  let v11 : IVec S1x512 1 := cmpi .ne v8 v10
  let v12 : IVec S1x512 1 := andi v11 v6
  let v13 : IVec S1x512 32 := broadcastInDim S1x512 ![] bcast_S_S1x512 v2
  let v14 : IVec S1x512 32 := addi v4 v13
  let v15 : IVec S1x512 32 := select v12 v14 v4
  v15

def fn_part6 {F : FTy → Type} [FloatOps F] (main_arg17 : FVec F S16x512 .f32) (main_v93 : IVec S_ 1) (main_v94 : IVec S512 32) (main_v103 : IVec S32x512 1) : IVec S_ 1 :=
  let main_c_38 : IVec S_ 1 := constantI S_ 1 1#1
  let main_v104 : IVec S_ 1 := (fun x v => Host.reduce IntOp.andi x v reducesTo_S32x512_S_d0_1 h_S_) main_v103 main_c_38
  let main_v105 : IVec S_ 1 := andi main_v93 main_v104
  let main_v106 : IVec S1x512 32 := broadcastInDim S1x512 ![1] bcast_S512_S1x512_1 main_v94
  let main_c_39 : IVec S_ 32 := constantI S_ 32 16#32
  let main_v107 : IVec S1x512 32 := fn_remainder (F := F) main_v106 main_c_39
  let main_v108 : IVec S16 32 := iotaInDim S16 32 0
  let main_v109 : IVec S16x1 32 := broadcastInDim S16x1 ![0] bcast_S16_S16x1_0 main_v108
  let main_v110 : IVec S16x512 32 := broadcastInDim S16x512 ![0, 1] bcast_S1x512_S16x512_0_1 main_v107
  let main_v111 : IVec S16x512 32 := broadcastInDim S16x512 ![0, 1] bcast_S16x1_S16x512_0_1 main_v109
  let main_v112 : IVec S16x512 1 := cmpi .eq main_v110 main_v111
  let main_v113 : FVec F S16x512 .f32 := uitofp .f32 main_v112
  let main_v114 : IVec S16x512 1 := cmpf .oeq main_arg17 main_v113
  let main_c_40 : IVec S_ 1 := constantI S_ 1 1#1
  let main_v115 : IVec S_ 1 := (fun x v => Host.reduce IntOp.andi x v reducesTo_S16x512_S_d0_1 h_S_) main_v114 main_c_40
  let main_v116 : IVec S_ 1 := andi main_v105 main_v115
  main_v116

def fn_part5 {F : FTy → Type} [FloatOps F] (main_arg8 : FVec F S1x32x64 .f32) (main_arg9 : FVec F S1x32x64 .f32) (main_arg16 : FVec F S32x512 .f32) (main_arg17 : FVec F S16x512 .f32) (main_v79 : IVec S_ 1) (main_v84 : IVec S1x32x64 1) : IVec S_ 1 :=
  let main_c_33 : IVec S_ 1 := constantI S_ 1 1#1
  let main_v85 : IVec S_ 1 := (fun x v => Host.reduce IntOp.andi x v reducesTo_S1x32x64_S_d0_1_2 h_S_) main_v84 main_c_33
  let main_v86 : IVec S_ 1 := andi main_v79 main_v85
  let main_cst_34 : FVec F S_ .f32 := constant S_ .f32 0x00000000#32
  let main_v87 : FVec F S1x32x64 .f32 := broadcastInDim S1x32x64 ![] bcast_S_S1x32x64 main_cst_34
  let main_v88 : IVec S1x32x64 1 := cmpf .une main_arg8 main_v87
  let main_cst_35 : FVec F S_ .f32 := constant S_ .f32 0x00000000#32
  let main_v89 : FVec F S1x32x64 .f32 := broadcastInDim S1x32x64 ![] bcast_S_S1x32x64 main_cst_35
  let main_v90 : IVec S1x32x64 1 := cmpf .une main_arg9 main_v89
  let main_v91 : IVec S1x32x64 1 := ori main_v88 main_v90
  let main_c_36 : IVec S_ 1 := constantI S_ 1 1#1
  let main_v92 : IVec S_ 1 := (fun x v => Host.reduce IntOp.andi x v reducesTo_S1x32x64_S_d0_1_2 h_S_) main_v91 main_c_36
  let main_v93 : IVec S_ 1 := andi main_v86 main_v92
  let main_v94 : IVec S512 32 := iotaInDim S512 32 0
  let main_v95 : IVec S1x512 32 := broadcastInDim S1x512 ![1] bcast_S512_S1x512_1 main_v94
  let main_c_37 : IVec S_ 32 := constantI S_ 32 16#32
  let main_v96 : IVec S1x512 32 := fn_floor_divide (F := F) main_v95 main_c_37
  let main_v97 : IVec S32 32 := iotaInDim S32 32 0
  let main_v98 : IVec S32x1 32 := broadcastInDim S32x1 ![0] bcast_S32_S32x1_0 main_v97
  let main_v99 : IVec S32x512 32 := broadcastInDim S32x512 ![0, 1] bcast_S1x512_S32x512_0_1 main_v96
  let main_v100 : IVec S32x512 32 := broadcastInDim S32x512 ![0, 1] bcast_S32x1_S32x512_0_1 main_v98
  let main_v101 : IVec S32x512 1 := cmpi .eq main_v99 main_v100
  let main_v102 : FVec F S32x512 .f32 := uitofp .f32 main_v101
  let main_v103 : IVec S32x512 1 := cmpf .oeq main_arg16 main_v102
  fn_part6 (F := F) main_arg17 main_v93 main_v94 main_v103

def fn_part4 {F : FTy → Type} [FloatOps F] (main_arg1 : FVec F S1x32x64 .f32) (main_arg2 : FVec F S1x32x64 .f32) (main_arg8 : FVec F S1x32x64 .f32) (main_arg9 : FVec F S1x32x64 .f32) (main_arg14 : FVec F S1x32x16x64 .f32) (main_arg15 : FVec F S1x512 .f32) (main_arg16 : FVec F S32x512 .f32) (main_arg17 : FVec F S16x512 .f32) (main_v64 : IVec S_ 1) (main_v67 : IVec S1x32x16x64 1) : IVec S_ 1 :=
  let main_c_26 : IVec S_ 1 := constantI S_ 1 1#1
  let main_v68 : IVec S_ 1 := (fun x v => Host.reduce IntOp.andi x v reducesTo_S1x32x16x64_S_d0_1_2_3 h_S_) main_v67 main_c_26
  let main_v69 : IVec S_ 1 := andi main_v64 main_v68
  let main_v70 : FVec F S1x32x16x64 .f32 := Host.absf main_arg14
  let main_cst_27 : FVec F S_ .f32 := constant S_ .f32 0x7F800000#32
  let main_v71 : FVec F S1x32x16x64 .f32 := broadcastInDim S1x32x16x64 ![] bcast_S_S1x32x16x64 main_cst_27
  let main_v72 : IVec S1x32x16x64 1 := cmpf .olt main_v70 main_v71
  let main_c_28 : IVec S_ 1 := constantI S_ 1 1#1
  let main_v73 : IVec S_ 1 := (fun x v => Host.reduce IntOp.andi x v reducesTo_S1x32x16x64_S_d0_1_2_3 h_S_) main_v72 main_c_28
  let main_v74 : IVec S_ 1 := andi main_v69 main_v73
  let main_v75 : FVec F S1x512 .f32 := Host.absf main_arg15
  let main_cst_29 : FVec F S_ .f32 := constant S_ .f32 0x7F800000#32
  let main_v76 : FVec F S1x512 .f32 := broadcastInDim S1x512 ![] bcast_S_S1x512 main_cst_29
  let main_v77 : IVec S1x512 1 := cmpf .olt main_v75 main_v76
  let main_c_30 : IVec S_ 1 := constantI S_ 1 1#1
  let main_v78 : IVec S_ 1 := (fun x v => Host.reduce IntOp.andi x v reducesTo_S1x512_S_d0_1 h_S_) main_v77 main_c_30
  let main_v79 : IVec S_ 1 := andi main_v74 main_v78
  let main_cst_31 : FVec F S_ .f32 := constant S_ .f32 0x00000000#32
  let main_v80 : FVec F S1x32x64 .f32 := broadcastInDim S1x32x64 ![] bcast_S_S1x32x64 main_cst_31
  let main_v81 : IVec S1x32x64 1 := cmpf .une main_arg1 main_v80
  let main_cst_32 : FVec F S_ .f32 := constant S_ .f32 0x00000000#32
  let main_v82 : FVec F S1x32x64 .f32 := broadcastInDim S1x32x64 ![] bcast_S_S1x32x64 main_cst_32
  let main_v83 : IVec S1x32x64 1 := cmpf .une main_arg2 main_v82
  let main_v84 : IVec S1x32x64 1 := ori main_v81 main_v83
  fn_part5 (F := F) main_arg8 main_arg9 main_arg16 main_arg17 main_v79 main_v84

def fn_part3 {F : FTy → Type} [FloatOps F] (main_arg1 : FVec F S1x32x64 .f32) (main_arg2 : FVec F S1x32x64 .f32) (main_arg8 : FVec F S1x32x64 .f32) (main_arg9 : FVec F S1x32x64 .f32) (main_arg11 : FVec F S1x32x64x16 .f32) (main_arg12 : FVec F S1x32x64x16 .f32) (main_arg13 : FVec F S1x32x16x64 .f32) (main_arg14 : FVec F S1x32x16x64 .f32) (main_arg15 : FVec F S1x512 .f32) (main_arg16 : FVec F S32x512 .f32) (main_arg17 : FVec F S16x512 .f32) (main_v49 : IVec S_ 1) (main_v50 : FVec F S1x32 .f32) : IVec S_ 1 :=
  let main_cst_19 : FVec F S_ .f32 := constant S_ .f32 0x7F800000#32
  let main_v51 : FVec F S1x32 .f32 := broadcastInDim S1x32 ![] bcast_S_S1x32 main_cst_19
  let main_v52 : IVec S1x32 1 := cmpf .olt main_v50 main_v51
  let main_c_20 : IVec S_ 1 := constantI S_ 1 1#1
  let main_v53 : IVec S_ 1 := (fun x v => Host.reduce IntOp.andi x v reducesTo_S1x32_S_d0_1 h_S_) main_v52 main_c_20
  let main_v54 : IVec S_ 1 := andi main_v49 main_v53
  let main_v55 : FVec F S1x32x64x16 .f32 := Host.absf main_arg11
  let main_cst_21 : FVec F S_ .f32 := constant S_ .f32 0x7F800000#32
  let main_v56 : FVec F S1x32x64x16 .f32 := broadcastInDim S1x32x64x16 ![] bcast_S_S1x32x64x16 main_cst_21
  let main_v57 : IVec S1x32x64x16 1 := cmpf .olt main_v55 main_v56
  let main_c_22 : IVec S_ 1 := constantI S_ 1 1#1
  let main_v58 : IVec S_ 1 := (fun x v => Host.reduce IntOp.andi x v reducesTo_S1x32x64x16_S_d0_1_2_3 h_S_) main_v57 main_c_22
  let main_v59 : IVec S_ 1 := andi main_v54 main_v58
  let main_v60 : FVec F S1x32x64x16 .f32 := Host.absf main_arg12
  let main_cst_23 : FVec F S_ .f32 := constant S_ .f32 0x7F800000#32
  let main_v61 : FVec F S1x32x64x16 .f32 := broadcastInDim S1x32x64x16 ![] bcast_S_S1x32x64x16 main_cst_23
  let main_v62 : IVec S1x32x64x16 1 := cmpf .olt main_v60 main_v61
  let main_c_24 : IVec S_ 1 := constantI S_ 1 1#1
  let main_v63 : IVec S_ 1 := (fun x v => Host.reduce IntOp.andi x v reducesTo_S1x32x64x16_S_d0_1_2_3 h_S_) main_v62 main_c_24
  let main_v64 : IVec S_ 1 := andi main_v59 main_v63
  let main_v65 : FVec F S1x32x16x64 .f32 := Host.absf main_arg13
  let main_cst_25 : FVec F S_ .f32 := constant S_ .f32 0x7F800000#32
  let main_v66 : FVec F S1x32x16x64 .f32 := broadcastInDim S1x32x16x64 ![] bcast_S_S1x32x16x64 main_cst_25
  let main_v67 : IVec S1x32x16x64 1 := cmpf .olt main_v65 main_v66
  fn_part4 (F := F) main_arg1 main_arg2 main_arg8 main_arg9 main_arg14 main_arg15 main_arg16 main_arg17 main_v64 main_v67

def fn_part2 {F : FTy → Type} [FloatOps F] (main_arg1 : FVec F S1x32x64 .f32) (main_arg2 : FVec F S1x32x64 .f32) (main_arg7 : FVec F S1x32x16x64 .f32) (main_arg8 : FVec F S1x32x64 .f32) (main_arg9 : FVec F S1x32x64 .f32) (main_arg10 : FVec F S1x32 .f32) (main_arg11 : FVec F S1x32x64x16 .f32) (main_arg12 : FVec F S1x32x64x16 .f32) (main_arg13 : FVec F S1x32x16x64 .f32) (main_arg14 : FVec F S1x32x16x64 .f32) (main_arg15 : FVec F S1x512 .f32) (main_arg16 : FVec F S32x512 .f32) (main_arg17 : FVec F S16x512 .f32) (main_v29 : IVec S_ 1) (main_v32 : IVec S1x32x16x64 1) (main_c_12 : IVec S_ 1) : IVec S_ 1 :=
  let main_v33 : IVec S_ 1 := (fun x v => Host.reduce IntOp.andi x v reducesTo_S1x32x16x64_S_d0_1_2_3 h_S_) main_v32 main_c_12
  let main_v34 : IVec S_ 1 := andi main_v29 main_v33
  let main_v35 : FVec F S1x32x16x64 .f32 := Host.absf main_arg7
  let main_cst_13 : FVec F S_ .f32 := constant S_ .f32 0x7F800000#32
  let main_v36 : FVec F S1x32x16x64 .f32 := broadcastInDim S1x32x16x64 ![] bcast_S_S1x32x16x64 main_cst_13
  let main_v37 : IVec S1x32x16x64 1 := cmpf .olt main_v35 main_v36
  let main_c_14 : IVec S_ 1 := constantI S_ 1 1#1
  let main_v38 : IVec S_ 1 := (fun x v => Host.reduce IntOp.andi x v reducesTo_S1x32x16x64_S_d0_1_2_3 h_S_) main_v37 main_c_14
  let main_v39 : IVec S_ 1 := andi main_v34 main_v38
  let main_v40 : FVec F S1x32x64 .f32 := Host.absf main_arg8
  let main_cst_15 : FVec F S_ .f32 := constant S_ .f32 0x7F800000#32
  let main_v41 : FVec F S1x32x64 .f32 := broadcastInDim S1x32x64 ![] bcast_S_S1x32x64 main_cst_15
  let main_v42 : IVec S1x32x64 1 := cmpf .olt main_v40 main_v41
  let main_c_16 : IVec S_ 1 := constantI S_ 1 1#1
  let main_v43 : IVec S_ 1 := (fun x v => Host.reduce IntOp.andi x v reducesTo_S1x32x64_S_d0_1_2 h_S_) main_v42 main_c_16
  let main_v44 : IVec S_ 1 := andi main_v39 main_v43
  let main_v45 : FVec F S1x32x64 .f32 := Host.absf main_arg9
  let main_cst_17 : FVec F S_ .f32 := constant S_ .f32 0x7F800000#32
  let main_v46 : FVec F S1x32x64 .f32 := broadcastInDim S1x32x64 ![] bcast_S_S1x32x64 main_cst_17
  let main_v47 : IVec S1x32x64 1 := cmpf .olt main_v45 main_v46
  let main_c_18 : IVec S_ 1 := constantI S_ 1 1#1
  let main_v48 : IVec S_ 1 := (fun x v => Host.reduce IntOp.andi x v reducesTo_S1x32x64_S_d0_1_2 h_S_) main_v47 main_c_18
  let main_v49 : IVec S_ 1 := andi main_v44 main_v48
  let main_v50 : FVec F S1x32 .f32 := Host.absf main_arg10
  fn_part3 (F := F) main_arg1 main_arg2 main_arg8 main_arg9 main_arg11 main_arg12 main_arg13 main_arg14 main_arg15 main_arg16 main_arg17 main_v49 main_v50

def fn_part1 {F : FTy → Type} [FloatOps F] (main_arg1 : FVec F S1x32x64 .f32) (main_arg2 : FVec F S1x32x64 .f32) (main_arg4 : FVec F S1x32x64x16 .f32) (main_arg5 : FVec F S1x32x64x16 .f32) (main_arg6 : FVec F S1x32x16x64 .f32) (main_arg7 : FVec F S1x32x16x64 .f32) (main_arg8 : FVec F S1x32x64 .f32) (main_arg9 : FVec F S1x32x64 .f32) (main_arg10 : FVec F S1x32 .f32) (main_arg11 : FVec F S1x32x64x16 .f32) (main_arg12 : FVec F S1x32x64x16 .f32) (main_arg13 : FVec F S1x32x16x64 .f32) (main_arg14 : FVec F S1x32x16x64 .f32) (main_arg15 : FVec F S1x512 .f32) (main_arg16 : FVec F S32x512 .f32) (main_arg17 : FVec F S16x512 .f32) (main_v14 : IVec S_ 1) (main_v15 : FVec F S1x32 .f32) (main_cst_5 : FVec F S_ .f32) : IVec S_ 1 :=
  let main_v16 : FVec F S1x32 .f32 := broadcastInDim S1x32 ![] bcast_S_S1x32 main_cst_5
  let main_v17 : IVec S1x32 1 := cmpf .olt main_v15 main_v16
  let main_c_6 : IVec S_ 1 := constantI S_ 1 1#1
  let main_v18 : IVec S_ 1 := (fun x v => Host.reduce IntOp.andi x v reducesTo_S1x32_S_d0_1 h_S_) main_v17 main_c_6
  let main_v19 : IVec S_ 1 := andi main_v14 main_v18
  let main_v20 : FVec F S1x32x64x16 .f32 := Host.absf main_arg4
  let main_cst_7 : FVec F S_ .f32 := constant S_ .f32 0x7F800000#32
  let main_v21 : FVec F S1x32x64x16 .f32 := broadcastInDim S1x32x64x16 ![] bcast_S_S1x32x64x16 main_cst_7
  let main_v22 : IVec S1x32x64x16 1 := cmpf .olt main_v20 main_v21
  let main_c_8 : IVec S_ 1 := constantI S_ 1 1#1
  let main_v23 : IVec S_ 1 := (fun x v => Host.reduce IntOp.andi x v reducesTo_S1x32x64x16_S_d0_1_2_3 h_S_) main_v22 main_c_8
  let main_v24 : IVec S_ 1 := andi main_v19 main_v23
  let main_v25 : FVec F S1x32x64x16 .f32 := Host.absf main_arg5
  let main_cst_9 : FVec F S_ .f32 := constant S_ .f32 0x7F800000#32
  let main_v26 : FVec F S1x32x64x16 .f32 := broadcastInDim S1x32x64x16 ![] bcast_S_S1x32x64x16 main_cst_9
  let main_v27 : IVec S1x32x64x16 1 := cmpf .olt main_v25 main_v26
  let main_c_10 : IVec S_ 1 := constantI S_ 1 1#1
  let main_v28 : IVec S_ 1 := (fun x v => Host.reduce IntOp.andi x v reducesTo_S1x32x64x16_S_d0_1_2_3 h_S_) main_v27 main_c_10
  let main_v29 : IVec S_ 1 := andi main_v24 main_v28
  let main_v30 : FVec F S1x32x16x64 .f32 := Host.absf main_arg6
  let main_cst_11 : FVec F S_ .f32 := constant S_ .f32 0x7F800000#32
  let main_v31 : FVec F S1x32x16x64 .f32 := broadcastInDim S1x32x16x64 ![] bcast_S_S1x32x16x64 main_cst_11
  let main_v32 : IVec S1x32x16x64 1 := cmpf .olt main_v30 main_v31
  let main_c_12 : IVec S_ 1 := constantI S_ 1 1#1
  fn_part2 (F := F) main_arg1 main_arg2 main_arg7 main_arg8 main_arg9 main_arg10 main_arg11 main_arg12 main_arg13 main_arg14 main_arg15 main_arg16 main_arg17 main_v29 main_v32 main_c_12

def fn {F : FTy → Type} [FloatOps F] (main_arg0 : FVec F S10x4096x512 .f32) (main_arg1 : FVec F S1x32x64 .f32) (main_arg2 : FVec F S1x32x64 .f32) (main_arg3 : FVec F S1x32 .f32) (main_arg4 : FVec F S1x32x64x16 .f32) (main_arg5 : FVec F S1x32x64x16 .f32) (main_arg6 : FVec F S1x32x16x64 .f32) (main_arg7 : FVec F S1x32x16x64 .f32) (main_arg8 : FVec F S1x32x64 .f32) (main_arg9 : FVec F S1x32x64 .f32) (main_arg10 : FVec F S1x32 .f32) (main_arg11 : FVec F S1x32x64x16 .f32) (main_arg12 : FVec F S1x32x64x16 .f32) (main_arg13 : FVec F S1x32x16x64 .f32) (main_arg14 : FVec F S1x32x16x64 .f32) (main_arg15 : FVec F S1x512 .f32) (main_arg16 : FVec F S32x512 .f32) (main_arg17 : FVec F S16x512 .f32) : IVec S_ 1 :=
  let main_v0 : FVec F S10x4096x512 .f32 := Host.absf main_arg0
  let main_cst : FVec F S_ .f32 := constant S_ .f32 0x7F800000#32
  let main_v1 : FVec F S10x4096x512 .f32 := broadcastInDim S10x4096x512 ![] bcast_S_S10x4096x512 main_cst
  let main_v2 : IVec S10x4096x512 1 := cmpf .olt main_v0 main_v1
  let main_c : IVec S_ 1 := constantI S_ 1 1#1
  let main_v3 : IVec S_ 1 := (fun x v => Host.reduce IntOp.andi x v reducesTo_S10x4096x512_S_d0_1_2 h_S_) main_v2 main_c
  let main_c_0 : IVec S_ 1 := constantI S_ 1 1#1
  let main_v4 : IVec S_ 1 := andi main_c_0 main_v3
  let main_v5 : FVec F S1x32x64 .f32 := Host.absf main_arg1
  let main_cst_1 : FVec F S_ .f32 := constant S_ .f32 0x7F800000#32
  let main_v6 : FVec F S1x32x64 .f32 := broadcastInDim S1x32x64 ![] bcast_S_S1x32x64 main_cst_1
  let main_v7 : IVec S1x32x64 1 := cmpf .olt main_v5 main_v6
  let main_c_2 : IVec S_ 1 := constantI S_ 1 1#1
  let main_v8 : IVec S_ 1 := (fun x v => Host.reduce IntOp.andi x v reducesTo_S1x32x64_S_d0_1_2 h_S_) main_v7 main_c_2
  let main_v9 : IVec S_ 1 := andi main_v4 main_v8
  let main_v10 : FVec F S1x32x64 .f32 := Host.absf main_arg2
  let main_cst_3 : FVec F S_ .f32 := constant S_ .f32 0x7F800000#32
  let main_v11 : FVec F S1x32x64 .f32 := broadcastInDim S1x32x64 ![] bcast_S_S1x32x64 main_cst_3
  let main_v12 : IVec S1x32x64 1 := cmpf .olt main_v10 main_v11
  let main_c_4 : IVec S_ 1 := constantI S_ 1 1#1
  let main_v13 : IVec S_ 1 := (fun x v => Host.reduce IntOp.andi x v reducesTo_S1x32x64_S_d0_1_2 h_S_) main_v12 main_c_4
  let main_v14 : IVec S_ 1 := andi main_v9 main_v13
  let main_v15 : FVec F S1x32 .f32 := Host.absf main_arg3
  let main_cst_5 : FVec F S_ .f32 := constant S_ .f32 0x7F800000#32
  fn_part1 (F := F) main_arg1 main_arg2 main_arg4 main_arg5 main_arg6 main_arg7 main_arg8 main_arg9 main_arg10 main_arg11 main_arg12 main_arg13 main_arg14 main_arg15 main_arg16 main_arg17 main_v14 main_v15 main_cst_5
-- ==== Kernel.lean ====
abbrev S10x4096x512 : Shape := ⟨3, ![10, 4096, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S32x512 : Shape := ⟨2, ![32, 512]⟩
abbrev S16x512 : Shape := ⟨2, ![16, 512]⟩
abbrev S10x128x32x512 : Shape := ⟨4, ![10, 128, 32, 512]⟩
abbrev S10x32x128x512 : Shape := ⟨4, ![10, 32, 128, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S32x1 : Shape := ⟨2, ![32, 1]⟩
abbrev S33 : Shape := ⟨1, ![33]⟩
abbrev S1x33x1 : Shape := ⟨3, ![1, 33, 1]⟩
abbrev S32x1x64 : Shape := ⟨3, ![32, 1, 64]⟩
abbrev S32x33x64 : Shape := ⟨3, ![32, 33, 64]⟩
abbrev S_ : Shape := ⟨0, ![]⟩
abbrev S32x64x1 : Shape := ⟨3, ![32, 64, 1]⟩
abbrev S32x1x16x64 : Shape := ⟨4, ![32, 1, 16, 64]⟩
abbrev S32x33x1x64 : Shape := ⟨4, ![32, 33, 1, 64]⟩
abbrev S32x33x16x64 : Shape := ⟨4, ![32, 33, 16, 64]⟩
abbrev S32x32x16x64 : Shape := ⟨4, ![32, 32, 16, 64]⟩
abbrev S32x32x16x128 : Shape := ⟨4, ![32, 32, 16, 128]⟩
abbrev S32x128x16 : Shape := ⟨3, ![32, 128, 16]⟩
abbrev S32x32x16x16 : Shape := ⟨4, ![32, 32, 16, 16]⟩
abbrev S32x1x16x16 : Shape := ⟨4, ![32, 1, 16, 16]⟩
abbrev S32x16x16 : Shape := ⟨3, ![32, 16, 16]⟩
abbrev S16x16 : Shape := ⟨2, ![16, 16]⟩
abbrev S1x16x16 : Shape := ⟨3, ![1, 16, 16]⟩
abbrev S32x1x16 : Shape := ⟨3, ![32, 1, 16]⟩
abbrev S32x31x16x16 : Shape := ⟨4, ![32, 31, 16, 16]⟩
abbrev S32x63x16x16 : Shape := ⟨4, ![32, 63, 16, 16]⟩
abbrev S32x16x63x16 : Shape := ⟨4, ![32, 16, 63, 16]⟩
abbrev S32x16x1008 : Shape := ⟨3, ![32, 16, 1008]⟩
abbrev S32x16x1024 : Shape := ⟨3, ![32, 16, 1024]⟩
abbrev S32x32x64 : Shape := ⟨3, ![32, 32, 64]⟩
abbrev S32x64x32 : Shape := ⟨3, ![32, 64, 32]⟩
abbrev S32x64x512 : Shape := ⟨3, ![32, 64, 512]⟩
abbrev S32x256x512 : Shape := ⟨3, ![32, 256, 512]⟩
abbrev S32x512x64 : Shape := ⟨3, ![32, 512, 64]⟩
abbrev S32x512x256 : Shape := ⟨3, ![32, 512, 256]⟩
abbrev S32x256 : Shape := ⟨2, ![32, 256]⟩
abbrev S32x256x1 : Shape := ⟨3, ![32, 256, 1]⟩
abbrev S32x256x128 : Shape := ⟨3, ![32, 256, 128]⟩
abbrev S1x32x128x128 : Shape := ⟨4, ![1, 32, 128, 128]⟩
abbrev S8x256x512 : Shape := ⟨3, ![8, 256, 512]⟩
abbrev S8x16x1024 : Shape := ⟨3, ![8, 16, 1024]⟩
abbrev S8x512x256 : Shape := ⟨3, ![8, 512, 256]⟩
abbrev S8x256x128 : Shape := ⟨3, ![8, 256, 128]⟩
abbrev S8x512x128 : Shape := ⟨3, ![8, 512, 128]⟩
abbrev S8x7x256x128 : Shape := ⟨4, ![8, 7, 256, 128]⟩
abbrev S8x512x512 : Shape := ⟨3, ![8, 512, 512]⟩
abbrev S1x256x128 : Shape := ⟨3, ![1, 256, 128]⟩
abbrev S256x128 : Shape := ⟨2, ![256, 128]⟩
abbrev S1x1x256x128 : Shape := ⟨4, ![1, 1, 256, 128]⟩
abbrev S64x128 : Shape := ⟨2, ![64, 128]⟩
abbrev S1x16x1024 : Shape := ⟨3, ![1, 16, 1024]⟩
abbrev S16x1024 : Shape := ⟨2, ![16, 1024]⟩
abbrev S1x16x512 : Shape := ⟨3, ![1, 16, 512]⟩
abbrev S1x1x128x128 : Shape := ⟨4, ![1, 1, 128, 128]⟩
abbrev S128x128 : Shape := ⟨2, ![128, 128]⟩
abbrev S8x16x128 : Shape := ⟨3, ![8, 16, 128]⟩
abbrev S1x512x128 : Shape := ⟨3, ![1, 512, 128]⟩
abbrev S512x128 : Shape := ⟨2, ![512, 128]⟩
abbrev S1x256x512 : Shape := ⟨3, ![1, 256, 512]⟩
abbrev S256x512 : Shape := ⟨2, ![256, 512]⟩
abbrev S1x1x64x128 : Shape := ⟨4, ![1, 1, 64, 128]⟩
abbrev S1x512x512 : Shape := ⟨3, ![1, 512, 512]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 291
  | .vmem => 16
  | .smem => 0
  | _ => 0

abbrev hbmTy0_0 (i : Nat) : BufTy := match i % 128 with
  | 0 => ⟨S10x4096x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x32x64, .f32⟩
  | 9 => ⟨S1x32x64, .f32⟩
  | 10 => ⟨S1x32, .f32⟩
  | 11 => ⟨S1x32x64x16, .f32⟩
  | 12 => ⟨S1x32x64x16, .f32⟩
  | 13 => ⟨S1x32x16x64, .f32⟩
  | 14 => ⟨S1x32x16x64, .f32⟩
  | 15 => ⟨S1x512, .f32⟩
  | 16 => ⟨S32x512, .f32⟩
  | 17 => ⟨S16x512, .f32⟩
  | 18 => ⟨S10x128x32x512, .f32⟩
  | 19 => ⟨S10x32x128x512, .f32⟩
  | 20 => ⟨S10x32x128x512, .bf16⟩
  | 21 => ⟨S32x64, .f32⟩
  | 22 => ⟨S32x64, .f32⟩
  | 23 => ⟨S32, .f32⟩
  | 24 => ⟨S32x64x16, .f32⟩
  | 25 => ⟨S32x64x16, .f32⟩
  | 26 => ⟨S32x16x64, .f32⟩
  | 27 => ⟨S32x16x64, .f32⟩
  | 28 => ⟨S32x64, .f32⟩
  | 29 => ⟨S32x64, .f32⟩
  | 30 => ⟨S32, .f32⟩
  | 31 => ⟨S32x64x16, .f32⟩
  | 32 => ⟨S32x64x16, .f32⟩
  | 33 => ⟨S32x16x64, .f32⟩
  | 34 => ⟨S32x16x64, .f32⟩
  | 35 => ⟨S512, .f32⟩
  | 36 => ⟨S32, .f32⟩
  | 37 => ⟨S32x1, .f32⟩
  | 38 => ⟨S33, .f32⟩
  | 39 => ⟨S1x33x1, .f32⟩
  | 40 => ⟨S32x64, .f32⟩
  | 41 => ⟨S32x64, .f32⟩
  | 42 => ⟨S32x1x64, .f32⟩
  | 43 => ⟨S32x33x64, .f32⟩
  | 44 => ⟨S32x33x64, .f32⟩
  | 45 => ⟨S32x33x64, .f32⟩
  | 46 => ⟨S32x33x64, .f32⟩
  | 47 => ⟨S32x64, .f32⟩
  | 48 => ⟨S32x64, .f32⟩
  | 49 => ⟨S32x1x64, .f32⟩
  | 50 => ⟨S32x33x64, .f32⟩
  | 51 => ⟨S32x33x64, .f32⟩
  | 52 => ⟨S32x33x64, .f32⟩
  | 53 => ⟨S32x33x64, .f32⟩
  | 54 => ⟨S32x33x64, .f32⟩
  | 55 => ⟨S32x33x64, .f32⟩
  | 56 => ⟨S32x33x64, .f32⟩
  | 57 => ⟨S32x1x64, .f32⟩
  | 58 => ⟨S32x64, .f32⟩
  | 59 => ⟨S32x1x64, .f32⟩
  | 60 => ⟨S32x64, .f32⟩
  | 61 => ⟨S32x64, .f32⟩
  | 62 => ⟨S32x64, .f32⟩
  | 63 => ⟨S32x64, .f32⟩
  | 64 => ⟨S_, .f32⟩
  | 65 => ⟨S32x64, .f32⟩
  | 66 => ⟨S32x64, .f32⟩
  | 67 => ⟨S32x64, .f32⟩
  | 68 => ⟨S32x64, .f32⟩
  | 69 => ⟨S32x64, .f32⟩
  | 70 => ⟨S32x64, .f32⟩
  | 71 => ⟨S32x64, .f32⟩
  | 72 => ⟨S_, .f32⟩
  | 73 => ⟨S32x64, .f32⟩
  | 74 => ⟨S32x64, .f32⟩
  | 75 => ⟨S32x64, .f32⟩
  | 76 => ⟨S32x64, .f32⟩
  | 77 => ⟨S32x64, .f32⟩
  | 78 => ⟨S32x64x1, .f32⟩
  | 79 => ⟨S32x64x16, .f32⟩
  | 80 => ⟨S32x64x16, .f32⟩
  | 81 => ⟨S32x64x1, .f32⟩
  | 82 => ⟨S32x64x16, .f32⟩
  | 83 => ⟨S32x64x16, .f32⟩
  | 84 => ⟨S32x64x16, .f32⟩
  | 85 => ⟨S32x64x1, .f32⟩
  | 86 => ⟨S32x64x16, .f32⟩
  | 87 => ⟨S32x64x16, .f32⟩
  | 88 => ⟨S32x64x1, .f32⟩
  | 89 => ⟨S32x64x16, .f32⟩
  | 90 => ⟨S32x64x16, .f32⟩
  | 91 => ⟨S32x64x16, .f32⟩
  | 92 => ⟨S32x1x16x64, .f32⟩
  | 93 => ⟨S32x33x1x64, .f32⟩
  | 94 => ⟨S32x33x16x64, .f32⟩
  | 95 => ⟨S32x33x16x64, .f32⟩
  | 96 => ⟨S32x33x16x64, .f32⟩
  | 97 => ⟨S32x1x16x64, .f32⟩
  | 98 => ⟨S32x33x1x64, .f32⟩
  | 99 => ⟨S32x33x16x64, .f32⟩
  | 100 => ⟨S32x33x16x64, .f32⟩
  | 101 => ⟨S32x33x16x64, .f32⟩
  | 102 => ⟨S32x33x16x64, .f32⟩
  | 103 => ⟨S32x1x16x64, .f32⟩
  | 104 => ⟨S32x33x1x64, .f32⟩
  | 105 => ⟨S32x33x16x64, .f32⟩
  | 106 => ⟨S32x33x16x64, .f32⟩
  | 107 => ⟨S32x33x16x64, .f32⟩
  | 108 => ⟨S32x1x16x64, .f32⟩
  | 109 => ⟨S32x33x1x64, .f32⟩
  | 110 => ⟨S32x33x16x64, .f32⟩
  | 111 => ⟨S32x33x16x64, .f32⟩
  | 112 => ⟨S32x33x16x64, .f32⟩
  | 113 => ⟨S32x33x16x64, .f32⟩
  | 114 => ⟨S32x32x16x64, .f32⟩
  | 115 => ⟨S32x32x16x64, .f32⟩
  | 116 => ⟨S32x32x16x64, .f32⟩
  | 117 => ⟨S32x32x16x128, .f32⟩
  | 118 => ⟨S32x128x16, .f32⟩
  | 119 => ⟨S32x32x16x16, .f32⟩
  | 120 => ⟨S32, .f32⟩
  | 121 => ⟨S32x1, .f32⟩
  | 122 => ⟨S33, .f32⟩
  | 123 => ⟨S1x33x1, .f32⟩
  | 124 => ⟨S32x64, .f32⟩
  | 125 => ⟨S32x64, .f32⟩
  | 126 => ⟨S32x1x64, .f32⟩
  | 127 => ⟨S32x33x64, .f32⟩
  | _ => ⟨S10x4096x512, .f32⟩

abbrev hbmTy0_1 (i : Nat) : BufTy := match i % 128 with
  | 0 => ⟨S32x33x64, .f32⟩
  | 1 => ⟨S32x33x64, .f32⟩
  | 2 => ⟨S32x33x64, .f32⟩
  | 3 => ⟨S32x64, .f32⟩
  | 4 => ⟨S32x64, .f32⟩
  | 5 => ⟨S32x1x64, .f32⟩
  | 6 => ⟨S32x33x64, .f32⟩
  | 7 => ⟨S32x33x64, .f32⟩
  | 8 => ⟨S32x33x64, .f32⟩
  | 9 => ⟨S32x33x64, .f32⟩
  | 10 => ⟨S32x33x64, .f32⟩
  | 11 => ⟨S32x33x64, .f32⟩
  | 12 => ⟨S32x33x64, .f32⟩
  | 13 => ⟨S32x1x64, .f32⟩
  | 14 => ⟨S32x64, .f32⟩
  | 15 => ⟨S32x1x64, .f32⟩
  | 16 => ⟨S32x64, .f32⟩
  | 17 => ⟨S32x64, .f32⟩
  | 18 => ⟨S32x64, .f32⟩
  | 19 => ⟨S32x64, .f32⟩
  | 20 => ⟨S_, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S_, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64x1, .f32⟩
  | 35 => ⟨S32x64x16, .f32⟩
  | 36 => ⟨S32x64x16, .f32⟩
  | 37 => ⟨S32x64x1, .f32⟩
  | 38 => ⟨S32x64x16, .f32⟩
  | 39 => ⟨S32x64x16, .f32⟩
  | 40 => ⟨S32x64x16, .f32⟩
  | 41 => ⟨S32x64x1, .f32⟩
  | 42 => ⟨S32x64x16, .f32⟩
  | 43 => ⟨S32x64x16, .f32⟩
  | 44 => ⟨S32x64x1, .f32⟩
  | 45 => ⟨S32x64x16, .f32⟩
  | 46 => ⟨S32x64x16, .f32⟩
  | 47 => ⟨S32x64x16, .f32⟩
  | 48 => ⟨S32x1x16x64, .f32⟩
  | 49 => ⟨S32x33x1x64, .f32⟩
  | 50 => ⟨S32x33x16x64, .f32⟩
  | 51 => ⟨S32x33x16x64, .f32⟩
  | 52 => ⟨S32x33x16x64, .f32⟩
  | 53 => ⟨S32x1x16x64, .f32⟩
  | 54 => ⟨S32x33x1x64, .f32⟩
  | 55 => ⟨S32x33x16x64, .f32⟩
  | 56 => ⟨S32x33x16x64, .f32⟩
  | 57 => ⟨S32x33x16x64, .f32⟩
  | 58 => ⟨S32x33x16x64, .f32⟩
  | 59 => ⟨S32x1x16x64, .f32⟩
  | 60 => ⟨S32x33x1x64, .f32⟩
  | 61 => ⟨S32x33x16x64, .f32⟩
  | 62 => ⟨S32x33x16x64, .f32⟩
  | 63 => ⟨S32x33x16x64, .f32⟩
  | 64 => ⟨S32x1x16x64, .f32⟩
  | 65 => ⟨S32x33x1x64, .f32⟩
  | 66 => ⟨S32x33x16x64, .f32⟩
  | 67 => ⟨S32x33x16x64, .f32⟩
  | 68 => ⟨S32x33x16x64, .f32⟩
  | 69 => ⟨S32x33x16x64, .f32⟩
  | 70 => ⟨S32x32x16x64, .f32⟩
  | 71 => ⟨S32x32x16x64, .f32⟩
  | 72 => ⟨S32x32x16x64, .f32⟩
  | 73 => ⟨S32x32x16x128, .f32⟩
  | 74 => ⟨S32x128x16, .f32⟩
  | 75 => ⟨S32x32x16x16, .f32⟩
  | 76 => ⟨S32x1x16x16, .f32⟩
  | 77 => ⟨S32x16x16, .f32⟩
  | 78 => ⟨S32x1x16x16, .f32⟩
  | 79 => ⟨S32x16x16, .f32⟩
  | 80 => ⟨S32x16x16, .f32⟩
  | 81 => ⟨S16x16, .i32⟩
  | 82 => ⟨S16x16, .i32⟩
  | 83 => ⟨S_, .i32⟩
  | 84 => ⟨S16x16, .i32⟩
  | 85 => ⟨S16x16, .i32⟩
  | 86 => ⟨S16x16, .i1⟩
  | 87 => ⟨S16x16, .f32⟩
  | 88 => ⟨S1x16x16, .f32⟩
  | 89 => ⟨S32x1x16, .f32⟩
  | 90 => ⟨S32x16x16, .f32⟩
  | 91 => ⟨S32x16x16, .f32⟩
  | 92 => ⟨S32x16x16, .f32⟩
  | 93 => ⟨S32x16x16, .f32⟩
  | 94 => ⟨S32x31x16x16, .f32⟩
  | 95 => ⟨S32x31x16x16, .f32⟩
  | 96 => ⟨S32x1x16x16, .f32⟩
  | 97 => ⟨S32x31x16x16, .f32⟩
  | 98 => ⟨S32x63x16x16, .f32⟩
  | 99 => ⟨S32x63x16x16, .f32⟩
  | 100 => ⟨S32x16x63x16, .f32⟩
  | 101 => ⟨S32x16x1008, .f32⟩
  | 102 => ⟨S_, .i32⟩
  | 103 => ⟨S_, .f32⟩
  | 104 => ⟨S32x16x1024, .f32⟩
  | 105 => ⟨S32x32x64, .f32⟩
  | 106 => ⟨S32x32x64, .f32⟩
  | 107 => ⟨S32x32x64, .f32⟩
  | 108 => ⟨S32x64x32, .f32⟩
  | 109 => ⟨S32x64x512, .f32⟩
  | 110 => ⟨S32x32x64, .f32⟩
  | 111 => ⟨S32x64x32, .f32⟩
  | 112 => ⟨S32x64x512, .f32⟩
  | 113 => ⟨S32x64x512, .f32⟩
  | 114 => ⟨S32x64x512, .f32⟩
  | 115 => ⟨S32x64x512, .f32⟩
  | 116 => ⟨S32x64x512, .f32⟩
  | 117 => ⟨S32x64x512, .f32⟩
  | 118 => ⟨S32x64x512, .f32⟩
  | 119 => ⟨S32x64x512, .f32⟩
  | 120 => ⟨S32x64x512, .f32⟩
  | 121 => ⟨S32x32x64, .f32⟩
  | 122 => ⟨S32x64x32, .f32⟩
  | 123 => ⟨S32x64x512, .f32⟩
  | 124 => ⟨S32x32x64, .f32⟩
  | 125 => ⟨S32x64x32, .f32⟩
  | 126 => ⟨S32x64x512, .f32⟩
  | 127 => ⟨S32x64x512, .f32⟩
  | _ => ⟨S10x4096x512, .f32⟩

abbrev hbmTy0_2 (i : Nat) : BufTy := match i % 128 with
  | 0 => ⟨S32x64x512, .f32⟩
  | 1 => ⟨S32x64x512, .f32⟩
  | 2 => ⟨S32x64x512, .f32⟩
  | 3 => ⟨S32x64x512, .f32⟩
  | 4 => ⟨S32x64x512, .f32⟩
  | 5 => ⟨S32x64x512, .f32⟩
  | 6 => ⟨S32x64x512, .f32⟩
  | 7 => ⟨S32x256x512, .f32⟩
  | 8 => ⟨S32x32x16x64, .f32⟩
  | 9 => ⟨S32x512x64, .f32⟩
  | 10 => ⟨S32x32x16x64, .f32⟩
  | 11 => ⟨S32x512x64, .f32⟩
  | 12 => ⟨S32x512x64, .f32⟩
  | 13 => ⟨S32x32x16x64, .f32⟩
  | 14 => ⟨S32x32x16x64, .f32⟩
  | 15 => ⟨S32x512x64, .f32⟩
  | 16 => ⟨S32x32x16x64, .f32⟩
  | 17 => ⟨S32x32x16x64, .f32⟩
  | 18 => ⟨S32x512x64, .f32⟩
  | 19 => ⟨S32x512x64, .f32⟩
  | 20 => ⟨S32x512x256, .f32⟩
  | 21 => ⟨S32x1x64, .f32⟩
  | 22 => ⟨S32x64, .f32⟩
  | 23 => ⟨S32x1x64, .f32⟩
  | 24 => ⟨S32x64, .f32⟩
  | 25 => ⟨S32x1x64, .f32⟩
  | 26 => ⟨S32x64, .f32⟩
  | 27 => ⟨S32x1x64, .f32⟩
  | 28 => ⟨S32x64, .f32⟩
  | 29 => ⟨S32x256, .f32⟩
  | 30 => ⟨S32x256x1, .f32⟩
  | 31 => ⟨S32x256x128, .f32⟩
  | 32 => ⟨S32x256x512, .bf16⟩
  | 33 => ⟨S32x512x256, .bf16⟩
  | 34 => ⟨S10x32x128x512, .f32⟩
  | _ => ⟨S10x4096x512, .f32⟩

abbrev hbmTy (i : Nat) : BufTy := match i / 128 with
  | 0 => hbmTy0_0 i
  | 1 => hbmTy0_1 i
  | 2 => hbmTy0_2 i
  | _ => ⟨S10x4096x512, .f32⟩

abbrev bufTy : (tb : Table) → Fin (tcTables nBuf tb) → BufTy
  | .hbm, ⟨i, _⟩ => hbmTy i
  | .local _ .vmem, ⟨0, _⟩ => ⟨S1x32x128x128, .bf16⟩
  | .local _ .vmem, ⟨1, _⟩ => ⟨S1x32x128x128, .bf16⟩
  | .local _ .vmem, ⟨2, _⟩ => ⟨S8x256x512, .bf16⟩
  | .local _ .vmem, ⟨3, _⟩ => ⟨S8x256x512, .bf16⟩
  | .local _ .vmem, ⟨4, _⟩ => ⟨S8x16x1024, .f32⟩
  | .local _ .vmem, ⟨5, _⟩ => ⟨S8x16x1024, .f32⟩
  | .local _ .vmem, ⟨6, _⟩ => ⟨S8x512x256, .bf16⟩
  | .local _ .vmem, ⟨7, _⟩ => ⟨S8x512x256, .bf16⟩
  | .local _ .vmem, ⟨8, _⟩ => ⟨S8x256x128, .f32⟩
  | .local _ .vmem, ⟨9, _⟩ => ⟨S8x256x128, .f32⟩
  | .local _ .vmem, ⟨10, _⟩ => ⟨S1x32x128x128, .f32⟩
  | .local _ .vmem, ⟨11, _⟩ => ⟨S1x32x128x128, .f32⟩
  | .local _ .vmem, ⟨12, _⟩ => ⟨S8x512x128, .bf16⟩
  | .local _ .vmem, ⟨13, _⟩ => ⟨S8x512x128, .f32⟩
  | .local _ .vmem, ⟨14, _⟩ => ⟨S8x7x256x128, .f32⟩
  | .local _ .vmem, ⟨15, _⟩ => ⟨S8x512x512, .bf16⟩
  | _, _ => ⟨S10x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_0 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_1 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_2 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_c : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_c_3 : Ref sig .tc := ⟨.hbm, 230, rfl⟩
abbrev main_call0_v0 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 10], ![false, false]⟩

@[reducible] def k0_t1_loop : Scf.Loop 32 :=
  let c0_i32_163 : BitVec 32 := 0#32
  let c8_i32 : BitVec 32 := 8#32
  let v292 : BitVec 32 := Scalar.addi c0_i32_163 c8_i32
  let c1_i32 : BitVec 32 := 1#32
  ⟨c0_i32_163, v292, c1_i32⟩
def k0_off1 (k0_t1 : Fin k0_t1_loop.trips) : Fin 3 → Nat :=
  let c0_i32_163 : BitVec 32 := 0#32
  let c1_i32 : BitVec 32 := 1#32
  let arg12 : BitVec 32 := Scf.iv c0_i32_163 c1_i32 k0_t1
  let v485 : Index := Scalar.indexCast arg12
  let c0_389 : Index := 0#32
  let c0_390 : Index := 0#32
  ![v485.toNat, 0, 0]
def k0_off2 (k0_t1 : Fin k0_t1_loop.trips) : Fin 3 → Nat :=
  let c0_i32_163 : BitVec 32 := 0#32
  let c1_i32 : BitVec 32 := 1#32
  let arg12 : BitVec 32 := Scf.iv c0_i32_163 c1_i32 k0_t1
  let v488 : Index := Scalar.indexCast arg12
  let c0_391 : Index := 0#32
  let c0_392 : Index := 0#32
  ![v488.toNat, 0, 0]
def k0_off3 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v494 : Index := Scalar.indexCast arg12
  let c0_393 : Index := 0#32
  let c0_394 : Index := 0#32
  let c0_395 : Index := 0#32
  ![v494.toNat, 0, 0, 0]
def k0_off4 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v497 : Index := Scalar.indexCast arg12
  let c0_396 : Index := 0#32
  let c64_397 : Index := 64#32
  let c0_398 : Index := 0#32
  ![v497.toNat, 0, 64, 0]
def k0_off5 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v518 : Index := Scalar.indexCast arg12
  let c1_405 : Index := 1#32
  let c0_406 : Index := 0#32
  let c0_407 : Index := 0#32
  ![v518.toNat, 1, 0, 0]
def k0_off6 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v521 : Index := Scalar.indexCast arg12
  let c1_408 : Index := 1#32
  let c64_409 : Index := 64#32
  let c0_410 : Index := 0#32
  ![v521.toNat, 1, 64, 0]
def k0_off7 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v542 : Index := Scalar.indexCast arg12
  let c2_416 : Index := 2#32
  let c0_417 : Index := 0#32
  let c0_418 : Index := 0#32
  ![v542.toNat, 2, 0, 0]
def k0_off8 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v545 : Index := Scalar.indexCast arg12
  let c2_419 : Index := 2#32
  let c64_420 : Index := 64#32
  let c0_421 : Index := 0#32
  ![v545.toNat, 2, 64, 0]
def k0_off9 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v566 : Index := Scalar.indexCast arg12
  let c3_427 : Index := 3#32
  let c0_428 : Index := 0#32
  let c0_429 : Index := 0#32
  ![v566.toNat, 3, 0, 0]
def k0_off10 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v569 : Index := Scalar.indexCast arg12
  let c3_430 : Index := 3#32
  let c64_431 : Index := 64#32
  let c0_432 : Index := 0#32
  ![v569.toNat, 3, 64, 0]
def k0_off11 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v590 : Index := Scalar.indexCast arg12
  let c4_439 : Index := 4#32
  let c0_440 : Index := 0#32
  let c0_441 : Index := 0#32
  ![v590.toNat, 4, 0, 0]
def k0_off12 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v593 : Index := Scalar.indexCast arg12
  let c4_442 : Index := 4#32
  let c64_443 : Index := 64#32
  let c0_444 : Index := 0#32
  ![v593.toNat, 4, 64, 0]
def k0_off13 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v614 : Index := Scalar.indexCast arg12
  let c5_450 : Index := 5#32
  let c0_451 : Index := 0#32
  let c0_452 : Index := 0#32
  ![v614.toNat, 5, 0, 0]
def k0_off14 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v617 : Index := Scalar.indexCast arg12
  let c5_453 : Index := 5#32
  let c64_454 : Index := 64#32
  let c0_455 : Index := 0#32
  ![v617.toNat, 5, 64, 0]
def k0_off15 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v638 : Index := Scalar.indexCast arg12
  let c6_461 : Index := 6#32
  let c0_462 : Index := 0#32
  let c0_463 : Index := 0#32
  ![v638.toNat, 6, 0, 0]
def k0_off16 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v641 : Index := Scalar.indexCast arg12
  let c6_464 : Index := 6#32
  let c64_465 : Index := 64#32
  let c0_466 : Index := 0#32
  ![v641.toNat, 6, 64, 0]
def k0_off17 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v664 : Index := Scalar.indexCast arg12
  let c0_472 : Index := 0#32
  let c128_473 : Index := 128#32
  let c0_474 : Index := 0#32
  ![v664.toNat, 0, 128, 0]
def k0_off18 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v667 : Index := Scalar.indexCast arg12
  let c0_475 : Index := 0#32
  let c192_476 : Index := 192#32
  let c0_477 : Index := 0#32
  ![v667.toNat, 0, 192, 0]
def k0_off19 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v688 : Index := Scalar.indexCast arg12
  let c1_483 : Index := 1#32
  let c128_484 : Index := 128#32
  let c0_485 : Index := 0#32
  ![v688.toNat, 1, 128, 0]
def k0_off20 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v691 : Index := Scalar.indexCast arg12
  let c1_486 : Index := 1#32
  let c192_487 : Index := 192#32
  let c0_488 : Index := 0#32
  ![v691.toNat, 1, 192, 0]
def k0_off21 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v712 : Index := Scalar.indexCast arg12
  let c2_494 : Index := 2#32
  let c128_495 : Index := 128#32
  let c0_496 : Index := 0#32
  ![v712.toNat, 2, 128, 0]
def k0_off22 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v715 : Index := Scalar.indexCast arg12
  let c2_497 : Index := 2#32
  let c192_498 : Index := 192#32
  let c0_499 : Index := 0#32
  ![v715.toNat, 2, 192, 0]
def k0_off23 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v736 : Index := Scalar.indexCast arg12
  let c3_505 : Index := 3#32
  let c128_506 : Index := 128#32
  let c0_507 : Index := 0#32
  ![v736.toNat, 3, 128, 0]
def k0_off24 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v739 : Index := Scalar.indexCast arg12
  let c3_508 : Index := 3#32
  let c192_509 : Index := 192#32
  let c0_510 : Index := 0#32
  ![v739.toNat, 3, 192, 0]
def k0_off25 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v760 : Index := Scalar.indexCast arg12
  let c4_516 : Index := 4#32
  let c128_517 : Index := 128#32
  let c0_518 : Index := 0#32
  ![v760.toNat, 4, 128, 0]
def k0_off26 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v763 : Index := Scalar.indexCast arg12
  let c4_519 : Index := 4#32
  let c192_520 : Index := 192#32
  let c0_521 : Index := 0#32
  ![v763.toNat, 4, 192, 0]
def k0_off27 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v784 : Index := Scalar.indexCast arg12
  let c5_527 : Index := 5#32
  let c128_528 : Index := 128#32
  let c0_529 : Index := 0#32
  ![v784.toNat, 5, 128, 0]
def k0_off28 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v787 : Index := Scalar.indexCast arg12
  let c5_530 : Index := 5#32
  let c192_531 : Index := 192#32
  let c0_532 : Index := 0#32
  ![v787.toNat, 5, 192, 0]
def k0_off29 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v808 : Index := Scalar.indexCast arg12
  let c6_538 : Index := 6#32
  let c128_539 : Index := 128#32
  let c0_540 : Index := 0#32
  ![v808.toNat, 6, 128, 0]
def k0_off30 (k0_t1 : Fin k0_t1_loop.trips) : Fin 4 → Nat :=
  let c0_i32_163 : BitVec 32 := 0#32
  let c1_i32 : BitVec 32 := 1#32
  let arg12 : BitVec 32 := Scf.iv c0_i32_163 c1_i32 k0_t1
  let v811 : Index := Scalar.indexCast arg12
  let c6_541 : Index := 6#32
  let c192_542 : Index := 192#32
  let c0_543 : Index := 0#32
  ![v811.toNat, 6, 192, 0]
def k0_off31 (k0_t1 : Fin k0_t1_loop.trips) : Fin 3 → Nat :=
  let c0_i32_163 : BitVec 32 := 0#32
  let c1_i32 : BitVec 32 := 1#32
  let arg12 : BitVec 32 := Scf.iv c0_i32_163 c1_i32 k0_t1
  let v853 : Index := Scalar.indexCast arg12
  let c0_562 : Index := 0#32
  let c0_563 : Index := 0#32
  ![v853.toNat, 0, 0]
def k0_off32 (k0_t1 : Fin k0_t1_loop.trips) : Fin 3 → Nat :=
  let c0_i32_163 : BitVec 32 := 0#32
  let c1_i32 : BitVec 32 := 1#32
  let arg12 : BitVec 32 := Scf.iv c0_i32_163 c1_i32 k0_t1
  let v857 : Index := Scalar.indexCast arg12
  let c0_565 : Index := 0#32
  let c0_566 : Index := 0#32
  ![v857.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 2 → Memref sig .tc .vmem S1x32x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S10x4096x512 : Shape := ⟨3, ![10, 4096, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S32x512 : Shape := ⟨2, ![32, 512]⟩
abbrev S16x512 : Shape := ⟨2, ![16, 512]⟩
abbrev S10x4096x32x16 : Shape := ⟨4, ![10, 4096, 32, 16]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x64x10x4096 : Shape := ⟨4, ![32, 64, 10, 4096]⟩
abbrev S10x4096x32x64 : Shape := ⟨4, ![10, 4096, 32, 64]⟩
abbrev S4096x10x32x64 : Shape := ⟨4, ![4096, 10, 32, 64]⟩
abbrev S10x32x64 : Shape := ⟨3, ![10, 32, 64]⟩
abbrev S1x10x32x64 : Shape := ⟨4, ![1, 10, 32, 64]⟩
abbrev S32x16x64 : Shape := ⟨3, ![32, 16, 64]⟩
abbrev S32x16x4096x10 : Shape := ⟨4, ![32, 16, 4096, 10]⟩
abbrev S512 : Shape := ⟨1, ![512]⟩
abbrev S32x16 : Shape := ⟨2, ![32, 16]⟩
abbrev S1x1x32x16 : Shape := ⟨4, ![1, 1, 32, 16]⟩
abbrev S10x128x32x512 : Shape := ⟨4, ![10, 128, 32, 512]⟩
abbrev S10x32x128x512 : Shape := ⟨4, ![10, 32, 128, 512]⟩

abbrev nBuf : Space → Nat
  | .hbm => 261
  | .vmem => 0
  | .smem => 0
  | _ => 0

abbrev hbmTy0_0 (i : Nat) : BufTy := match i % 128 with
  | 0 => ⟨S10x4096x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x32x64, .f32⟩
  | 9 => ⟨S1x32x64, .f32⟩
  | 10 => ⟨S1x32, .f32⟩
  | 11 => ⟨S1x32x64x16, .f32⟩
  | 12 => ⟨S1x32x64x16, .f32⟩
  | 13 => ⟨S1x32x16x64, .f32⟩
  | 14 => ⟨S1x32x16x64, .f32⟩
  | 15 => ⟨S1x512, .f32⟩
  | 16 => ⟨S32x512, .f32⟩
  | 17 => ⟨S16x512, .f32⟩
  | 18 => ⟨S10x4096x32x16, .f32⟩
  | 19 => ⟨S32x64, .f32⟩
  | 20 => ⟨S32x64, .f32⟩
  | 21 => ⟨S32, .f32⟩
  | 22 => ⟨S32x64x16, .f32⟩
  | 23 => ⟨S32x64x16, .f32⟩
  | 24 => ⟨S32, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S_, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64x1, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x16, .f32⟩
  | 61 => ⟨S32x64x1, .f32⟩
  | 62 => ⟨S32x64x16, .f32⟩
  | 63 => ⟨S32x64x16, .f32⟩
  | 64 => ⟨S32x64x1, .f32⟩
  | 65 => ⟨S32x64x16, .f32⟩
  | 66 => ⟨S32x64x16, .f32⟩
  | 67 => ⟨S32x64x16, .f32⟩
  | 68 => ⟨S32x64x10x4096, .f32⟩
  | 69 => ⟨S10x4096x32x64, .f32⟩
  | 70 => ⟨S4096x10x32x64, .f32⟩
  | 71 => ⟨S32x64x10x4096, .f32⟩
  | 72 => ⟨S10x4096x32x64, .f32⟩
  | 73 => ⟨S4096x10x32x64, .f32⟩
  | 74 => ⟨S32x64, .f32⟩
  | 75 => ⟨S32x64, .f32⟩
  | 76 => ⟨S32, .f32⟩
  | 77 => ⟨S32x64x16, .f32⟩
  | 78 => ⟨S32x64x16, .f32⟩
  | 79 => ⟨S32, .f32⟩
  | 80 => ⟨S32x1, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S_, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S_, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64x1, .f32⟩
  | 110 => ⟨S32x64x16, .f32⟩
  | 111 => ⟨S32x64x16, .f32⟩
  | 112 => ⟨S32x64x1, .f32⟩
  | 113 => ⟨S32x64x16, .f32⟩
  | 114 => ⟨S32x64x16, .f32⟩
  | 115 => ⟨S32x64x16, .f32⟩
  | 116 => ⟨S32x64x1, .f32⟩
  | 117 => ⟨S32x64x16, .f32⟩
  | 118 => ⟨S32x64x16, .f32⟩
  | 119 => ⟨S32x64x1, .f32⟩
  | 120 => ⟨S32x64x16, .f32⟩
  | 121 => ⟨S32x64x16, .f32⟩
  | 122 => ⟨S32x64x16, .f32⟩
  | 123 => ⟨S32x64x10x4096, .f32⟩
  | 124 => ⟨S10x4096x32x64, .f32⟩
  | 125 => ⟨S4096x10x32x64, .f32⟩
  | 126 => ⟨S32x64x10x4096, .f32⟩
  | 127 => ⟨S10x4096x32x64, .f32⟩
  | _ => ⟨S10x4096x512, .f32⟩

abbrev hbmTy0_1 (i : Nat) : BufTy := match i % 128 with
  | 0 => ⟨S4096x10x32x64, .f32⟩
  | 1 => ⟨S_, .f32⟩
  | 2 => ⟨S10x32x64, .f32⟩
  | 3 => ⟨S4096x10x32x64, .f32⟩
  | 4 => ⟨S4096x10x32x64, .f32⟩
  | 5 => ⟨S_, .f32⟩
  | 6 => ⟨S4096x10x32x64, .f32⟩
  | 7 => ⟨S_, .f32⟩
  | 8 => ⟨S4096x10x32x64, .f32⟩
  | 9 => ⟨S_, .f32⟩
  | 10 => ⟨S4096x10x32x64, .f32⟩
  | 11 => ⟨S_, .f32⟩
  | 12 => ⟨S4096x10x32x64, .f32⟩
  | 13 => ⟨S_, .i32⟩
  | 14 => ⟨S4096x10x32x64, .f32⟩
  | 15 => ⟨S4096x10x32x64, .f32⟩
  | 16 => ⟨S4096x10x32x64, .f32⟩
  | 17 => ⟨S4096x10x32x64, .f32⟩
  | 18 => ⟨S32x64, .f32⟩
  | 19 => ⟨S32x64, .f32⟩
  | 20 => ⟨S32x64, .f32⟩
  | 21 => ⟨S32x64, .f32⟩
  | 22 => ⟨S_, .i32⟩
  | 23 => ⟨S10x32x64, .f32⟩
  | 24 => ⟨S10x32x64, .f32⟩
  | 25 => ⟨S10x32x64, .f32⟩
  | 26 => ⟨S10x32x64, .f32⟩
  | 27 => ⟨S4096x10x32x64, .f32⟩
  | 28 => ⟨S4096x10x32x64, .f32⟩
  | 29 => ⟨S4096x10x32x64, .f32⟩
  | 30 => ⟨S4096x10x32x64, .f32⟩
  | 31 => ⟨S_, .i32⟩
  | 32 => ⟨S_, .i1⟩
  | 33 => ⟨S_, .i32⟩
  | 34 => ⟨S_, .i32⟩
  | 35 => ⟨S_, .i32⟩
  | 36 => ⟨S1x10x32x64, .f32⟩
  | 37 => ⟨S10x32x64, .f32⟩
  | 38 => ⟨S_, .i32⟩
  | 39 => ⟨S_, .i32⟩
  | 40 => ⟨S_, .i32⟩
  | 41 => ⟨S1x10x32x64, .f32⟩
  | 42 => ⟨S10x32x64, .f32⟩
  | 43 => ⟨S_, .i32⟩
  | 44 => ⟨S_, .i32⟩
  | 45 => ⟨S_, .i32⟩
  | 46 => ⟨S1x10x32x64, .f32⟩
  | 47 => ⟨S10x32x64, .f32⟩
  | 48 => ⟨S_, .i32⟩
  | 49 => ⟨S_, .i32⟩
  | 50 => ⟨S_, .i32⟩
  | 51 => ⟨S1x10x32x64, .f32⟩
  | 52 => ⟨S10x32x64, .f32⟩
  | 53 => ⟨S1x32x64, .f32⟩
  | 54 => ⟨S10x32x64, .f32⟩
  | 55 => ⟨S10x32x64, .f32⟩
  | 56 => ⟨S1x32x64, .f32⟩
  | 57 => ⟨S10x32x64, .f32⟩
  | 58 => ⟨S10x32x64, .f32⟩
  | 59 => ⟨S10x32x64, .f32⟩
  | 60 => ⟨S10x32x64, .f32⟩
  | 61 => ⟨S1x32x64, .f32⟩
  | 62 => ⟨S10x32x64, .f32⟩
  | 63 => ⟨S10x32x64, .f32⟩
  | 64 => ⟨S1x32x64, .f32⟩
  | 65 => ⟨S10x32x64, .f32⟩
  | 66 => ⟨S10x32x64, .f32⟩
  | 67 => ⟨S10x32x64, .f32⟩
  | 68 => ⟨S10x32x64, .f32⟩
  | 69 => ⟨S1x32x64, .f32⟩
  | 70 => ⟨S10x32x64, .f32⟩
  | 71 => ⟨S10x32x64, .f32⟩
  | 72 => ⟨S1x32x64, .f32⟩
  | 73 => ⟨S10x32x64, .f32⟩
  | 74 => ⟨S10x32x64, .f32⟩
  | 75 => ⟨S10x32x64, .f32⟩
  | 76 => ⟨S10x32x64, .f32⟩
  | 77 => ⟨S1x32x64, .f32⟩
  | 78 => ⟨S10x32x64, .f32⟩
  | 79 => ⟨S10x32x64, .f32⟩
  | 80 => ⟨S1x32x64, .f32⟩
  | 81 => ⟨S10x32x64, .f32⟩
  | 82 => ⟨S10x32x64, .f32⟩
  | 83 => ⟨S10x32x64, .f32⟩
  | 84 => ⟨S10x32x64, .f32⟩
  | 85 => ⟨S1x10x32x64, .f32⟩
  | 86 => ⟨S_, .i32⟩
  | 87 => ⟨S_, .i32⟩
  | 88 => ⟨S_, .i32⟩
  | 89 => ⟨S4096x10x32x64, .f32⟩
  | 90 => ⟨S1x10x32x64, .f32⟩
  | 91 => ⟨S_, .i32⟩
  | 92 => ⟨S_, .i32⟩
  | 93 => ⟨S_, .i32⟩
  | 94 => ⟨S4096x10x32x64, .f32⟩
  | 95 => ⟨S1x10x32x64, .f32⟩
  | 96 => ⟨S_, .i32⟩
  | 97 => ⟨S_, .i32⟩
  | 98 => ⟨S_, .i32⟩
  | 99 => ⟨S4096x10x32x64, .f32⟩
  | 100 => ⟨S1x10x32x64, .f32⟩
  | 101 => ⟨S_, .i32⟩
  | 102 => ⟨S_, .i32⟩
  | 103 => ⟨S_, .i32⟩
  | 104 => ⟨S4096x10x32x64, .f32⟩
  | 105 => ⟨S_, .i32⟩
  | 106 => ⟨S_, .i32⟩
  | 107 => ⟨S32x16x64, .f32⟩
  | 108 => ⟨S32x16x4096x10, .f32⟩
  | 109 => ⟨S10x4096x32x16, .f32⟩
  | 110 => ⟨S32x16x64, .f32⟩
  | 111 => ⟨S32x16x4096x10, .f32⟩
  | 112 => ⟨S10x4096x32x16, .f32⟩
  | 113 => ⟨S10x4096x32x16, .f32⟩
  | 114 => ⟨S4096x10x32x64, .f32⟩
  | 115 => ⟨S32x16x64, .f32⟩
  | 116 => ⟨S32x16x4096x10, .f32⟩
  | 117 => ⟨S10x4096x32x16, .f32⟩
  | 118 => ⟨S4096x10x32x64, .f32⟩
  | 119 => ⟨S32x16x64, .f32⟩
  | 120 => ⟨S32x16x4096x10, .f32⟩
  | 121 => ⟨S10x4096x32x16, .f32⟩
  | 122 => ⟨S10x4096x32x16, .f32⟩
  | 123 => ⟨S10x4096x32x16, .f32⟩
  | 124 => ⟨S512, .f32⟩
  | 125 => ⟨S32x16, .f32⟩
  | 126 => ⟨S10x4096x32x16, .f32⟩
  | 127 => ⟨S1x1x32x16, .f32⟩
  | _ => ⟨S10x4096x512, .f32⟩

abbrev hbmTy0_2 (i : Nat) : BufTy := match i % 128 with
  | 0 => ⟨S10x4096x32x16, .f32⟩
  | 1 => ⟨S10x4096x32x16, .f32⟩
  | 2 => ⟨S10x4096x32x16, .f32⟩
  | 3 => ⟨S10x128x32x512, .f32⟩
  | 4 => ⟨S10x32x128x512, .f32⟩
  | _ => ⟨S10x4096x512, .f32⟩

abbrev hbmTy (i : Nat) : BufTy := match i / 128 with
  | 0 => hbmTy0_0 i
  | 1 => hbmTy0_1 i
  | 2 => hbmTy0_2 i
  | _ => ⟨S10x4096x512, .f32⟩

abbrev bufTy : (tb : Table) → Fin (tcTables nBuf tb) → BufTy
  | .hbm, ⟨i, _⟩ => hbmTy i
  | _, _ => ⟨S10x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_1 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_2 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_3 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_4 : Ref sig .tc := ⟨.hbm, 133, rfl⟩
abbrev main_v110 : Ref sig .tc := ⟨.hbm, 134, rfl⟩
abbrev main_cst_5 : Ref sig .tc := ⟨.hbm, 135, rfl⟩
abbrev main_v111 : Ref sig .tc := ⟨.hbm, 136, rfl⟩
abbrev main_cst_6 : Ref sig .tc := ⟨.hbm, 137, rfl⟩
abbrev main_v112 : Ref sig .tc := ⟨.hbm, 138, rfl⟩
abbrev main_cst_7 : Ref sig .tc := ⟨.hbm, 139, rfl⟩
abbrev main_v113 : Ref sig .tc := ⟨.hbm, 140, rfl⟩
abbrev main_c : Ref sig .tc := ⟨.hbm, 141, rfl⟩
abbrev main_v114_0 : Ref sig .tc := ⟨.hbm, 142, rfl⟩
abbrev main_v114_1 : Ref sig .tc := ⟨.hbm, 143, rfl⟩
abbrev main_v114_2 : Ref sig .tc := ⟨.hbm, 144, rfl⟩
abbrev main_v114_3 : Ref sig .tc := ⟨.hbm, 145, rfl⟩
abbrev main_v114_4 : Ref sig .tc := ⟨.hbm, 146, rfl⟩
abbrev main_v114_5 : Ref sig .tc := ⟨.hbm, 147, rfl⟩
abbrev main_v114_6 : Ref sig .tc := ⟨.hbm, 148, rfl⟩
abbrev main_v114_7 : Ref sig .tc := ⟨.hbm, 149, rfl⟩
abbrev main_v114_8 : Ref sig .tc := ⟨.hbm, 150, rfl⟩
abbrev main_v114_9 : Ref sig .tc := ⟨.hbm, 151, rfl⟩
abbrev main_v114_10 : Ref sig .tc := ⟨.hbm, 152, rfl⟩
abbrev main_v114_11 : Ref sig .tc := ⟨.hbm, 153, rfl⟩
abbrev main_v114_12 : Ref sig .tc := ⟨.hbm, 154, rfl⟩
abbrev main_v114_13 : Ref sig .tc := ⟨.hbm, 155, rfl⟩
abbrev main_v114_14 : Ref sig .tc := ⟨.hbm, 156, rfl⟩
abbrev main_v114_15 : Ref sig .tc := ⟨.hbm, 157, rfl⟩
abbrev main_v114_16 : Ref sig .tc := ⟨.hbm, 158, rfl⟩
abbrev main_while0c_c_24 : Ref sig .tc := ⟨.hbm, 159, rfl⟩
abbrev main_while0c_v141 : Ref sig .tc := ⟨.hbm, 160, rfl⟩
abbrev main_while0b_call2_c : Ref sig .tc := ⟨.hbm, 161, rfl⟩
abbrev main_while0b_call2_c_0 : Ref sig .tc := ⟨.hbm, 162, rfl⟩
abbrev main_while0b_call2_c_1 : Ref sig .tc := ⟨.hbm, 163, rfl⟩
abbrev main_while0b_call2_v0 : Ref sig .tc := ⟨.hbm, 164, rfl⟩
abbrev main_while0b_v141 : Ref sig .tc := ⟨.hbm, 165, rfl⟩
abbrev main_while0b_call3_c : Ref sig .tc := ⟨.hbm, 166, rfl⟩
abbrev main_while0b_call3_c_0 : Ref sig .tc := ⟨.hbm, 167, rfl⟩
abbrev main_while0b_call3_c_1 : Ref sig .tc := ⟨.hbm, 168, rfl⟩
abbrev main_while0b_call3_v0 : Ref sig .tc := ⟨.hbm, 169, rfl⟩
abbrev main_while0b_v142 : Ref sig .tc := ⟨.hbm, 170, rfl⟩
abbrev main_while0b_call4_c : Ref sig .tc := ⟨.hbm, 171, rfl⟩
abbrev main_while0b_call4_c_0 : Ref sig .tc := ⟨.hbm, 172, rfl⟩
abbrev main_while0b_call4_c_1 : Ref sig .tc := ⟨.hbm, 173, rfl⟩
abbrev main_while0b_call4_v0 : Ref sig .tc := ⟨.hbm, 174, rfl⟩
abbrev main_while0b_v143 : Ref sig .tc := ⟨.hbm, 175, rfl⟩
abbrev main_while0b_call5_c : Ref sig .tc := ⟨.hbm, 176, rfl⟩
abbrev main_while0b_call5_c_0 : Ref sig .tc := ⟨.hbm, 177, rfl⟩
abbrev main_while0b_call5_c_1 : Ref sig .tc := ⟨.hbm, 178, rfl⟩
abbrev main_while0b_call5_v0 : Ref sig .tc := ⟨.hbm, 179, rfl⟩
abbrev main_while0b_v144 : Ref sig .tc := ⟨.hbm, 180, rfl⟩
abbrev main_while0b_v145 : Ref sig .tc := ⟨.hbm, 181, rfl⟩
abbrev main_while0b_v146 : Ref sig .tc := ⟨.hbm, 182, rfl⟩
abbrev main_while0b_v147 : Ref sig .tc := ⟨.hbm, 183, rfl⟩
abbrev main_while0b_v148 : Ref sig .tc := ⟨.hbm, 184, rfl⟩
abbrev main_while0b_v149 : Ref sig .tc := ⟨.hbm, 185, rfl⟩
abbrev main_while0b_v150 : Ref sig .tc := ⟨.hbm, 186, rfl⟩
abbrev main_while0b_v151 : Ref sig .tc := ⟨.hbm, 187, rfl⟩
abbrev main_while0b_v152 : Ref sig .tc := ⟨.hbm, 188, rfl⟩
abbrev main_while0b_v153 : Ref sig .tc := ⟨.hbm, 189, rfl⟩
abbrev main_while0b_v154 : Ref sig .tc := ⟨.hbm, 190, rfl⟩
abbrev main_while0b_v155 : Ref sig .tc := ⟨.hbm, 191, rfl⟩
abbrev main_while0b_v156 : Ref sig .tc := ⟨.hbm, 192, rfl⟩
abbrev main_while0b_v157 : Ref sig .tc := ⟨.hbm, 193, rfl⟩
abbrev main_while0b_v158 : Ref sig .tc := ⟨.hbm, 194, rfl⟩
abbrev main_while0b_v159 : Ref sig .tc := ⟨.hbm, 195, rfl⟩
abbrev main_while0b_v160 : Ref sig .tc := ⟨.hbm, 196, rfl⟩
abbrev main_while0b_v161 : Ref sig .tc := ⟨.hbm, 197, rfl⟩
abbrev main_while0b_v162 : Ref sig .tc := ⟨.hbm, 198, rfl⟩
abbrev main_while0b_v163 : Ref sig .tc := ⟨.hbm, 199, rfl⟩
abbrev main_while0b_v164 : Ref sig .tc := ⟨.hbm, 200, rfl⟩
abbrev main_while0b_v165 : Ref sig .tc := ⟨.hbm, 201, rfl⟩
abbrev main_while0b_v166 : Ref sig .tc := ⟨.hbm, 202, rfl⟩
abbrev main_while0b_v167 : Ref sig .tc := ⟨.hbm, 203, rfl⟩
abbrev main_while0b_v168 : Ref sig .tc := ⟨.hbm, 204, rfl⟩
abbrev main_while0b_v169 : Ref sig .tc := ⟨.hbm, 205, rfl⟩
abbrev main_while0b_v170 : Ref sig .tc := ⟨.hbm, 206, rfl⟩
abbrev main_while0b_v171 : Ref sig .tc := ⟨.hbm, 207, rfl⟩
abbrev main_while0b_v172 : Ref sig .tc := ⟨.hbm, 208, rfl⟩
abbrev main_while0b_v173 : Ref sig .tc := ⟨.hbm, 209, rfl⟩
abbrev main_while0b_v174 : Ref sig .tc := ⟨.hbm, 210, rfl⟩
abbrev main_while0b_v175 : Ref sig .tc := ⟨.hbm, 211, rfl⟩
abbrev main_while0b_v176 : Ref sig .tc := ⟨.hbm, 212, rfl⟩
abbrev main_while0b_call6_v0 : Ref sig .tc := ⟨.hbm, 213, rfl⟩
abbrev main_while0b_call6_c : Ref sig .tc := ⟨.hbm, 214, rfl⟩
abbrev main_while0b_call6_c_0 : Ref sig .tc := ⟨.hbm, 215, rfl⟩
abbrev main_while0b_call6_c_1 : Ref sig .tc := ⟨.hbm, 216, rfl⟩
abbrev main_while0b_v177 : Ref sig .tc := ⟨.hbm, 217, rfl⟩
abbrev main_while0b_call7_v0 : Ref sig .tc := ⟨.hbm, 218, rfl⟩
abbrev main_while0b_call7_c : Ref sig .tc := ⟨.hbm, 219, rfl⟩
abbrev main_while0b_call7_c_0 : Ref sig .tc := ⟨.hbm, 220, rfl⟩
abbrev main_while0b_call7_c_1 : Ref sig .tc := ⟨.hbm, 221, rfl⟩
abbrev main_while0b_v178 : Ref sig .tc := ⟨.hbm, 222, rfl⟩
abbrev main_while0b_call8_v0 : Ref sig .tc := ⟨.hbm, 223, rfl⟩
abbrev main_while0b_call8_c : Ref sig .tc := ⟨.hbm, 224, rfl⟩
abbrev main_while0b_call8_c_0 : Ref sig .tc := ⟨.hbm, 225, rfl⟩
abbrev main_while0b_call8_c_1 : Ref sig .tc := ⟨.hbm, 226, rfl⟩
abbrev main_while0b_v179 : Ref sig .tc := ⟨.hbm, 227, rfl⟩
abbrev main_while0b_call9_v0 : Ref sig .tc := ⟨.hbm, 228, rfl⟩
abbrev main_while0b_call9_c : Ref sig .tc := ⟨.hbm, 229, rfl⟩
abbrev main_while0b_call9_c_0 : Ref sig .tc := ⟨.hbm, 230, rfl⟩
abbrev main_while0b_call9_c_1 : Ref sig .tc := ⟨.hbm, 231, rfl⟩
abbrev main_while0b_v180 : Ref sig .tc := ⟨.hbm, 232, rfl⟩
abbrev main_while0b_c_24 : Ref sig .tc := ⟨.hbm, 233, rfl⟩
abbrev main_while0b_v181 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S2x4096x2048 : Shape := ⟨3, ![2, 4096, 2048]⟩
abbrev S8x4096x2048 : Shape := ⟨3, ![8, 4096, 2048]⟩
abbrev S16x6x2048 : Shape := ⟨3, ![16, 6, 2048]⟩
abbrev S1x2048 : Shape := ⟨2, ![1, 2048]⟩
abbrev S1x2048x5632 : Shape := ⟨3, ![1, 2048, 5632]⟩
abbrev S2048x5632 : Shape := ⟨2, ![2048, 5632]⟩
abbrev S2048x1536 : Shape := ⟨2, ![2048, 1536]⟩
abbrev S10x4096x1024 : Shape := ⟨3, ![10, 4096, 1024]⟩
abbrev S10x32x128x512 : Shape := ⟨4, ![10, 32, 128, 512]⟩
abbrev S1x512x2048 : Shape := ⟨3, ![1, 512, 2048]⟩
abbrev S1x6x2048 : Shape := ⟨3, ![1, 6, 2048]⟩
abbrev S1x512x1024 : Shape := ⟨3, ![1, 512, 1024]⟩
abbrev S1x32x16x512 : Shape := ⟨4, ![1, 32, 16, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x1536 : Shape := ⟨2, ![512, 1536]⟩
abbrev S512x1024 : Shape := ⟨2, ![512, 1024]⟩
abbrev S512x512 : Shape := ⟨2, ![512, 512]⟩
abbrev S32x16x512 : Shape := ⟨3, ![32, 16, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S8x4096x2048, .f32⟩
  | .hbm, ⟨2, _⟩ => ⟨S16x6x2048, .f32⟩
  | .hbm, ⟨3, _⟩ => ⟨S1x2048, .f32⟩
  | .hbm, ⟨4, _⟩ => ⟨S1x2048x5632, .f32⟩
  | .hbm, ⟨5, _⟩ => ⟨S2048x5632, .f32⟩
  | .hbm, ⟨6, _⟩ => ⟨S2048x5632, .bf16⟩
  | .hbm, ⟨7, _⟩ => ⟨S2048x1536, .bf16⟩
  | .hbm, ⟨8, _⟩ => ⟨S10x4096x1024, .bf16⟩
  | .hbm, ⟨9, _⟩ => ⟨S10x32x128x512, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2048x1536, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x32x16x512, .bf16⟩
  | .local _ .vmem, ⟨11, _⟩ => ⟨S1x32x16x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![10, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .slt arg0 c2_i32
  let c7_i32 : BitVec 32 := 7#32
  let v2 : BitVec 32 := Scalar.select v1 arg1 c7_i32
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let v2 : BitVec 1 := Scalar.cmpi .slt arg0 c2_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x4096x2048 : Shape := ⟨3, ![2, 4096, 2048]⟩
abbrev S8x4096x2048 : Shape := ⟨3, ![8, 4096, 2048]⟩
abbrev S16x6x2048 : Shape := ⟨3, ![16, 6, 2048]⟩
abbrev S1x2048 : Shape := ⟨2, ![1, 2048]⟩
abbrev S1x2048x5632 : Shape := ⟨3, ![1, 2048, 5632]⟩
abbrev S10x4096x2048 : Shape := ⟨3, ![10, 4096, 2048]⟩
abbrev S_ : Shape := ⟨0, ![]⟩
abbrev S10x4096 : Shape := ⟨2, ![10, 4096]⟩
abbrev S10x4096x1 : Shape := ⟨3, ![10, 4096, 1]⟩
abbrev S10x1x2048 : Shape := ⟨3, ![10, 1, 2048]⟩
abbrev S10x2048 : Shape := ⟨2, ![10, 2048]⟩
abbrev S2048 : Shape := ⟨1, ![2048]⟩
abbrev S1x1x2048 : Shape := ⟨3, ![1, 1, 2048]⟩
abbrev S2048x5632 : Shape := ⟨2, ![2048, 5632]⟩
abbrev S10x4096x5632 : Shape := ⟨3, ![10, 4096, 5632]⟩
abbrev S10x4096x1024 : Shape := ⟨3, ![10, 4096, 1024]⟩
abbrev S10x4096x512 : Shape := ⟨3, ![10, 4096, 512]⟩
abbrev S10x128x32x512 : Shape := ⟨4, ![10, 128, 32, 512]⟩
abbrev S10x32x128x512 : Shape := ⟨4, ![10, 32, 128, 512]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x4096x2048, .f32⟩
  | .hbm, ⟨2, _⟩ => ⟨S16x6x2048, .f32⟩
  | .hbm, ⟨3, _⟩ => ⟨S1x2048, .f32⟩
  | .hbm, ⟨4, _⟩ => ⟨S1x2048x5632, .f32⟩
  | .hbm, ⟨5, _⟩ => ⟨S10x4096x2048, .f32⟩
  | .hbm, ⟨6, _⟩ => ⟨S10x4096x2048, .f32⟩
  | .hbm, ⟨7, _⟩ => ⟨S_, .f32⟩
  | .hbm, ⟨8, _⟩ => ⟨S10x4096, .f32⟩
  | .hbm, ⟨9, _⟩ => ⟨S10x4096x1, .f32⟩
  | .hbm, ⟨10, _⟩ => ⟨S_, .f32⟩
  | .hbm, ⟨11, _⟩ => ⟨S10x4096x1, .f32⟩
  | .hbm, ⟨12, _⟩ => ⟨S10x4096x1, .f32⟩
  | .hbm, ⟨13, _⟩ => ⟨S_, .f32⟩
  | .hbm, ⟨14, _⟩ => ⟨S10x4096x1, .f32⟩
  | .hbm, ⟨15, _⟩ => ⟨S10x4096x1, .f32⟩
  | .hbm, ⟨16, _⟩ => ⟨S10x4096x1, .f32⟩
  | .hbm, ⟨17, _⟩ => ⟨S10x1x2048, .f32⟩
  | .hbm, ⟨18, _⟩ => ⟨S10x2048, .f32⟩
  | .hbm, ⟨19, _⟩ => ⟨S10x1x2048, .f32⟩
  | .hbm, ⟨20, _⟩ => ⟨S10x1x2048, .f32⟩
  | .hbm, ⟨21, _⟩ => ⟨S10x2048, .f32⟩
  | .hbm, ⟨22, _⟩ => ⟨S10x1x2048, .f32⟩
  | .hbm, ⟨23, _⟩ => ⟨S10x4096x2048, .f32⟩
  | .hbm, ⟨24, _⟩ => ⟨S10x4096x2048, .f32⟩
  | .hbm, ⟨25, _⟩ => ⟨S2048, .f32⟩
  | .hbm, ⟨26, _⟩ => ⟨S1x1x2048, .f32⟩
  | .hbm, ⟨27, _⟩ => ⟨S10x4096x2048, .f32⟩
  | .hbm, ⟨28, _⟩ => ⟨S10x4096x2048, .f32⟩
  | .hbm, ⟨29, _⟩ => ⟨S_, .f32⟩
  | .hbm, ⟨30, _⟩ => ⟨S10x1x2048, .f32⟩
  | .hbm, ⟨31, _⟩ => ⟨S10x1x2048, .f32⟩
  | .hbm, ⟨32, _⟩ => ⟨S10x4096x2048, .f32⟩
  | .hbm, ⟨33, _⟩ => ⟨S10x4096x2048, .f32⟩
  | .hbm, ⟨34, _⟩ => ⟨S10x4096x2048, .f32⟩
  | .hbm, ⟨35, _⟩ => ⟨S10x4096x2048, .f32⟩
  | .hbm, ⟨36, _⟩ => ⟨S2048x5632, .f32⟩
  | .hbm, ⟨37, _⟩ => ⟨S10x4096x5632, .f32⟩
  | .hbm, ⟨38, _⟩ => ⟨S10x4096x1024, .f32⟩
  | .hbm, ⟨39, _⟩ => ⟨S10x4096x1024, .bf16⟩
  | .hbm, ⟨40, _⟩ => ⟨S10x4096x512, .f32⟩
  | .hbm, ⟨41, _⟩ => ⟨S10x4096x512, .bf16⟩
  | .hbm, ⟨42, _⟩ => ⟨S10x128x32x512, .bf16⟩
  | .hbm, ⟨43, _⟩ => ⟨S10x32x128x512, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel3.lean ====
abbrev S2x4096x2048 : Shape := ⟨3, ![2, 4096, 2048]⟩
abbrev S8x4096x2048 : Shape := ⟨3, ![8, 4096, 2048]⟩
abbrev S16x6x2048 : Shape := ⟨3, ![16, 6, 2048]⟩
abbrev S1x2048 : Shape := ⟨2, ![1, 2048]⟩
abbrev S10x4096x1024 : Shape := ⟨3, ![10, 4096, 1024]⟩
abbrev S10x4096x512 : Shape := ⟨3, ![10, 4096, 512]⟩
abbrev S1x2048x5632 : Shape := ⟨3, ![1, 2048, 5632]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x512x512 : Shape := ⟨3, ![1, 512, 512]⟩
abbrev S1x512 : Shape := ⟨2, ![1, 512]⟩
abbrev S1x512x2048 : Shape := ⟨3, ![1, 512, 2048]⟩
abbrev S1x2048x2048 : Shape := ⟨3, ![1, 2048, 2048]⟩
abbrev S2048x5632 : Shape := ⟨2, ![2048, 5632]⟩
abbrev S10x128x32x512 : Shape := ⟨4, ![10, 128, 32, 512]⟩
abbrev S10x32x128x512 : Shape := ⟨4, ![10, 32, 128, 512]⟩
abbrev S2048x4096 : Shape := ⟨2, ![2048, 4096]⟩
abbrev S4x256x256 : Shape := ⟨3, ![4, 256, 256]⟩
abbrev S1024x2048 : Shape := ⟨2, ![1024, 2048]⟩
abbrev S512x512 : Shape := ⟨2, ![512, 512]⟩
abbrev S512x2048 : Shape := ⟨2, ![512, 2048]⟩
abbrev S2048x2048 : Shape := ⟨2, ![2048, 2048]⟩
abbrev S10x4096x2048 : Shape := ⟨3, ![10, 4096, 2048]⟩
abbrev S1x256x2048 : Shape := ⟨3, ![1, 256, 2048]⟩
abbrev S1x6x2048 : Shape := ⟨3, ![1, 6, 2048]⟩
abbrev S1x256x1024 : Shape := ⟨3, ![1, 256, 1024]⟩
abbrev S1x16x1024 : Shape := ⟨3, ![1, 16, 1024]⟩
abbrev S1x32x8x512 : Shape := ⟨4, ![1, 32, 8, 512]⟩
abbrev S288x1024 : Shape := ⟨2, ![288, 1024]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S16x1024 : Shape := ⟨2, ![16, 1024]⟩
abbrev S256x256 : Shape := ⟨2, ![256, 256]⟩
abbrev S1x256x256 : Shape := ⟨3, ![1, 256, 256]⟩
abbrev S1x256 : Shape := ⟨2, ![1, 256]⟩
abbrev S32x8x512 : Shape := ⟨3, ![32, 8, 512]⟩
abbrev S256x512 : Shape := ⟨2, ![256, 512]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 33
  | .vmem => 31
  | .smem => 0
  | _ => 0

abbrev bufTy : (tb : Table) → Fin (tcTables nBuf tb) → BufTy
  | .hbm, ⟨0, _⟩ => ⟨S2x4096x2048, .f32⟩
  | .hbm, ⟨1, _⟩ => ⟨S8x4096x2048, .f32⟩
  | .hbm, ⟨2, _⟩ => ⟨S16x6x2048, .f32⟩
  | .hbm, ⟨3, _⟩ => ⟨S1x2048, .f32⟩
  | .hbm, ⟨4, _⟩ => ⟨S1x2048, .f32⟩
  | .hbm, ⟨5, _⟩ => ⟨S10x4096x1024, .f32⟩
  | .hbm, ⟨6, _⟩ => ⟨S10x4096x512, .f32⟩
  | .hbm, ⟨7, _⟩ => ⟨S1x2048x5632, .f32⟩
  | .hbm, ⟨8, _⟩ => ⟨S1x4x256x256, .f32⟩
  | .hbm, ⟨9, _⟩ => ⟨S1x1024, .f32⟩
  | .hbm, ⟨10, _⟩ => ⟨S1x1024x2048, .f32⟩
  | .hbm, ⟨11, _⟩ => ⟨S1x512x512, .f32⟩
  | .hbm, ⟨12, _⟩ => ⟨S1x512, .f32⟩
  | .hbm, ⟨13, _⟩ => ⟨S1x512x2048, .f32⟩
  | .hbm, ⟨14, _⟩ => ⟨S1x2048x2048, .f32⟩
  | .hbm, ⟨15, _⟩ => ⟨S2048x5632, .f32⟩
  | .hbm, ⟨16, _⟩ => ⟨S2048x5632, .bf16⟩
  | .hbm, ⟨17, _⟩ => ⟨S10x128x32x512, .f32⟩
  | .hbm, ⟨18, _⟩ => ⟨S10x32x128x512, .f32⟩
  | .hbm, ⟨19, _⟩ => ⟨S10x4096x1024, .bf16⟩
  | .hbm, ⟨20, _⟩ => ⟨S2048x4096, .bf16⟩
  | .hbm, ⟨21, _⟩ => ⟨S4x256x256, .f32⟩
  | .hbm, ⟨22, _⟩ => ⟨S4x256x256, .bf16⟩
  | .hbm, ⟨23, _⟩ => ⟨S1024x2048, .f32⟩
  | .hbm, ⟨24, _⟩ => ⟨S1024x2048, .bf16⟩
  | .hbm, ⟨25, _⟩ => ⟨S512x512, .f32⟩
  | .hbm, ⟨26, _⟩ => ⟨S512x512, .bf16⟩
  | .hbm, ⟨27, _⟩ => ⟨S512x2048, .f32⟩
  | .hbm, ⟨28, _⟩ => ⟨S512x2048, .bf16⟩
  | .hbm, ⟨29, _⟩ => ⟨S2048x2048, .f32⟩
  | .hbm, ⟨30, _⟩ => ⟨S2048x2048, .bf16⟩
  | .hbm, ⟨31, _⟩ => ⟨S10x4096x2048, .f32⟩
  | .hbm, ⟨32, _⟩ => ⟨S10x4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S1x2048, .f32⟩
  | .local _ .vmem, ⟨8, _⟩ => ⟨S1x256x1024, .bf16⟩
  | .local _ .vmem, ⟨9, _⟩ => ⟨S1x256x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x16x1024, .bf16⟩
  | .local _ .vmem, ⟨13, _⟩ => ⟨S1x16x1024, .bf16⟩
  | .local _ .vmem, ⟨14, _⟩ => ⟨S1x32x8x512, .f32⟩
  | .local _ .vmem, ⟨15, _⟩ => ⟨S1x32x8x512, .f32⟩
  | .local _ .vmem, ⟨16, _⟩ => ⟨S2048x4096, .bf16⟩
  | .local _ .vmem, ⟨17, _⟩ => ⟨S4x256x256, .bf16⟩
  | .local _ .vmem, ⟨18, _⟩ => ⟨S1x1024, .f32⟩
  | .local _ .vmem, ⟨19, _⟩ => ⟨S1024x2048, .bf16⟩
  | .local _ .vmem, ⟨20, _⟩ => ⟨S512x512, .bf16⟩
  | .local _ .vmem, ⟨21, _⟩ => ⟨S1x512, .f32⟩
  | .local _ .vmem, ⟨22, _⟩ => ⟨S512x2048, .bf16⟩
  | .local _ .vmem, ⟨23, _⟩ => ⟨S2048x2048, .bf16⟩
  | .local _ .vmem, ⟨24, _⟩ => ⟨S1x256x2048, .f32⟩
  | .local _ .vmem, ⟨25, _⟩ => ⟨S1x256x2048, .f32⟩
  | .local _ .vmem, ⟨26, _⟩ => ⟨S1x256x2048, .bf16⟩
  | .local _ .vmem, ⟨27, _⟩ => ⟨S1x256x2048, .bf16⟩
  | .local _ .vmem, ⟨28, _⟩ => ⟨S288x1024, .f32⟩
  | .local _ .vmem, ⟨29, _⟩ => ⟨S256x1024, .bf16⟩
  | .local _ .vmem, ⟨30, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![10, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .slt arg0 c2_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let v2 : BitVec 1 := Scalar.cmpi .slt arg0 c2_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2048x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2048x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S2x4096x2048 : Shape := ⟨3, ![2, 4096, 2048]⟩
abbrev S8x4096x2048 : Shape := ⟨3, ![8, 4096, 2048]⟩
abbrev S16x6x2048 : Shape := ⟨3, ![16, 6, 2048]⟩
abbrev S1x2048 : Shape := ⟨2, ![1, 2048]⟩
abbrev S10x4096x1024 : Shape := ⟨3, ![10, 4096, 1024]⟩
abbrev S10x4096x512 : Shape := ⟨3, ![10, 4096, 512]⟩
abbrev S1x2048x5632 : Shape := ⟨3, ![1, 2048, 5632]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x512x512 : Shape := ⟨3, ![1, 512, 512]⟩
abbrev S1x512 : Shape := ⟨2, ![1, 512]⟩
abbrev S1x512x2048 : Shape := ⟨3, ![1, 512, 2048]⟩
abbrev S1x2048x2048 : Shape := ⟨3, ![1, 2048, 2048]⟩
abbrev S10x4096x2048 : Shape := ⟨3, ![10, 4096, 2048]⟩
abbrev S10x1x2048 : Shape := ⟨3, ![10, 1, 2048]⟩
abbrev S10x2048 : Shape := ⟨2, ![10, 2048]⟩
abbrev S_ : Shape := ⟨0, ![]⟩
abbrev S10x4096 : Shape := ⟨2, ![10, 4096]⟩
abbrev S10x4096x1 : Shape := ⟨3, ![10, 4096, 1]⟩
abbrev S2048 : Shape := ⟨1, ![2048]⟩
abbrev S1x1x2048 : Shape := ⟨3, ![1, 1, 2048]⟩
abbrev S2048x5632 : Shape := ⟨2, ![2048, 5632]⟩
abbrev S2048x4096 : Shape := ⟨2, ![2048, 4096]⟩
abbrev S10x4096x4096 : Shape := ⟨3, ![10, 4096, 4096]⟩
abbrev S4096 : Shape := ⟨1, ![4096]⟩
abbrev S10x4112x1024 : Shape := ⟨3, ![10, 4112, 1024]⟩
abbrev S10x4096x256 : Shape := ⟨3, ![10, 4096, 256]⟩
abbrev S1x4096x1 : Shape := ⟨3, ![1, 4096, 1]⟩
abbrev S1x1x256x256 : Shape := ⟨4, ![1, 1, 256, 256]⟩
abbrev S256x256 : Shape := ⟨2, ![256, 256]⟩
abbrev S1024 : Shape := ⟨1, ![1024]⟩
abbrev S1x1x1024 : Shape := ⟨3, ![1, 1, 1024]⟩
abbrev S512x512 : Shape := ⟨2, ![512, 512]⟩
abbrev S512 : Shape := ⟨1, ![512]⟩
abbrev S1x1x512 : Shape := ⟨3, ![1, 1, 512]⟩
abbrev S1024x2048 : Shape := ⟨2, ![1024, 2048]⟩
abbrev S512x2048 : Shape := ⟨2, ![512, 2048]⟩
abbrev S2048x2048 : Shape := ⟨2, ![2048, 2048]⟩

abbrev nBuf : Space → Nat
  | .hbm => 310
  | .vmem => 0
  | .smem => 0
  | _ => 0

abbrev hbmTy0_0 (i : Nat) : BufTy := match i % 128 with
  | 0 => ⟨S2x4096x2048, .f32⟩
  | 1 => ⟨S8x4096x2048, .f32⟩
  | 2 => ⟨S16x6x2048, .f32⟩
  | 3 => ⟨S1x2048, .f32⟩
  | 4 => ⟨S1x2048, .f32⟩
  | 5 => ⟨S10x4096x1024, .f32⟩
  | 6 => ⟨S10x4096x512, .f32⟩
  | 7 => ⟨S1x2048x5632, .f32⟩
  | 8 => ⟨S1x4x256x256, .f32⟩
  | 9 => ⟨S1x1024, .f32⟩
  | 10 => ⟨S1x1024x2048, .f32⟩
  | 11 => ⟨S1x512x512, .f32⟩
  | 12 => ⟨S1x512, .f32⟩
  | 13 => ⟨S1x512x2048, .f32⟩
  | 14 => ⟨S1x2048x2048, .f32⟩
  | 15 => ⟨S10x4096x2048, .f32⟩
  | 16 => ⟨S10x1x2048, .f32⟩
  | 17 => ⟨S10x2048, .f32⟩
  | 18 => ⟨S10x1x2048, .f32⟩
  | 19 => ⟨S10x1x2048, .f32⟩
  | 20 => ⟨S10x2048, .f32⟩
  | 21 => ⟨S10x1x2048, .f32⟩
  | 22 => ⟨S10x1x2048, .f32⟩
  | 23 => ⟨S10x2048, .f32⟩
  | 24 => ⟨S10x1x2048, .f32⟩
  | 25 => ⟨S10x1x2048, .f32⟩
  | 26 => ⟨S10x2048, .f32⟩
  | 27 => ⟨S10x1x2048, .f32⟩
  | 28 => ⟨S10x1x2048, .f32⟩
  | 29 => ⟨S10x2048, .f32⟩
  | 30 => ⟨S10x1x2048, .f32⟩
  | 31 => ⟨S10x4096x2048, .f32⟩
  | 32 => ⟨S_, .f32⟩
  | 33 => ⟨S10x4096, .f32⟩
  | 34 => ⟨S10x4096x1, .f32⟩
  | 35 => ⟨S_, .f32⟩
  | 36 => ⟨S10x4096x1, .f32⟩
  | 37 => ⟨S10x4096x1, .f32⟩
  | 38 => ⟨S_, .f32⟩
  | 39 => ⟨S10x4096x1, .f32⟩
  | 40 => ⟨S10x4096x1, .f32⟩
  | 41 => ⟨S10x4096x1, .f32⟩
  | 42 => ⟨S10x4096x2048, .f32⟩
  | 43 => ⟨S10x4096x2048, .f32⟩
  | 44 => ⟨S2048, .f32⟩
  | 45 => ⟨S1x1x2048, .f32⟩
  | 46 => ⟨S10x4096x2048, .f32⟩
  | 47 => ⟨S10x4096x2048, .f32⟩
  | 48 => ⟨S_, .f32⟩
  | 49 => ⟨S10x1x2048, .f32⟩
  | 50 => ⟨S10x1x2048, .f32⟩
  | 51 => ⟨S10x4096x2048, .f32⟩
  | 52 => ⟨S10x4096x2048, .f32⟩
  | 53 => ⟨S10x4096x2048, .f32⟩
  | 54 => ⟨S10x4096x2048, .f32⟩
  | 55 => ⟨S2048x5632, .f32⟩
  | 56 => ⟨S2048x4096, .f32⟩
  | 57 => ⟨S10x4096x4096, .f32⟩
  | 58 => ⟨S4096, .i32⟩
  | 59 => ⟨S_, .i32⟩
  | 60 => ⟨S_, .f32⟩
  | 61 => ⟨S10x4112x1024, .f32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S10x4096x256, .f32⟩
  | 75 => ⟨S10x4096x256, .f32⟩
  | 76 => ⟨S10x4096x256, .f32⟩
  | 77 => ⟨S4096, .i32⟩
  | 78 => ⟨S_, .i32⟩
  | 79 => ⟨S4096, .i32⟩
  | 80 => ⟨S4096, .i32⟩
  | 81 => ⟨S4096, .f32⟩
  | 82 => ⟨S1x4096x1, .f32⟩
  | 83 => ⟨S10x4096x256, .f32⟩
  | 84 => ⟨S10x4096x256, .f32⟩
  | 85 => ⟨S10x4096x256, .f32⟩
  | 86 => ⟨S10x4096x256, .f32⟩
  | 87 => ⟨S1x1x256x256, .f32⟩
  | 88 => ⟨S256x256, .f32⟩
  | 89 => ⟨S10x4096x256, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S10x4096x256, .f32⟩
  | 103 => ⟨S10x4096x256, .f32⟩
  | 104 => ⟨S10x4096x256, .f32⟩
  | 105 => ⟨S10x4096x256, .f32⟩
  | 106 => ⟨S10x4096x256, .f32⟩
  | 107 => ⟨S10x4096x256, .f32⟩
  | 108 => ⟨S10x4096x256, .f32⟩
  | 109 => ⟨S4096, .i32⟩
  | 110 => ⟨S_, .i32⟩
  | 111 => ⟨S4096, .i32⟩
  | 112 => ⟨S4096, .i32⟩
  | 113 => ⟨S4096, .f32⟩
  | 114 => ⟨S1x4096x1, .f32⟩
  | 115 => ⟨S10x4096x256, .f32⟩
  | 116 => ⟨S10x4096x256, .f32⟩
  | 117 => ⟨S10x4096x256, .f32⟩
  | 118 => ⟨S10x4096x256, .f32⟩
  | 119 => ⟨S1x1x256x256, .f32⟩
  | 120 => ⟨S256x256, .f32⟩
  | 121 => ⟨S10x4096x256, .f32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S2x4096x2048, .f32⟩

abbrev hbmTy0_1 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S10x4096x256, .f32⟩
  | 7 => ⟨S10x4096x256, .f32⟩
  | 8 => ⟨S10x4096x256, .f32⟩
  | 9 => ⟨S10x4096x256, .f32⟩
  | 10 => ⟨S10x4096x256, .f32⟩
  | 11 => ⟨S10x4096x256, .f32⟩
  | 12 => ⟨S10x4096x256, .f32⟩
  | 13 => ⟨S10x4096x256, .f32⟩
  | 14 => ⟨S10x4096x256, .f32⟩
  | 15 => ⟨S10x4096x256, .f32⟩
  | 16 => ⟨S10x4096x256, .f32⟩
  | 17 => ⟨S10x4096x256, .f32⟩
  | 18 => ⟨S10x4096x256, .f32⟩
  | 19 => ⟨S10x4096x256, .f32⟩
  | 20 => ⟨S10x4096x256, .f32⟩
  | 21 => ⟨S4096, .i32⟩
  | 22 => ⟨S_, .i32⟩
  | 23 => ⟨S4096, .i32⟩
  | 24 => ⟨S4096, .i32⟩
  | 25 => ⟨S4096, .f32⟩
  | 26 => ⟨S1x4096x1, .f32⟩
  | 27 => ⟨S10x4096x256, .f32⟩
  | 28 => ⟨S10x4096x256, .f32⟩
  | 29 => ⟨S10x4096x256, .f32⟩
  | 30 => ⟨S10x4096x256, .f32⟩
  | 31 => ⟨S1x1x256x256, .f32⟩
  | 32 => ⟨S256x256, .f32⟩
  | 33 => ⟨S10x4096x256, .f32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S10x4096x256, .f32⟩
  | 47 => ⟨S10x4096x256, .f32⟩
  | 48 => ⟨S10x4096x256, .f32⟩
  | 49 => ⟨S10x4096x256, .f32⟩
  | 50 => ⟨S10x4096x256, .f32⟩
  | 51 => ⟨S10x4096x256, .f32⟩
  | 52 => ⟨S10x4096x256, .f32⟩
  | 53 => ⟨S10x4096x256, .f32⟩
  | 54 => ⟨S10x4096x256, .f32⟩
  | 55 => ⟨S10x4096x256, .f32⟩
  | 56 => ⟨S10x4096x256, .f32⟩
  | 57 => ⟨S10x4096x256, .f32⟩
  | 58 => ⟨S10x4096x256, .f32⟩
  | 59 => ⟨S10x4096x256, .f32⟩
  | 60 => ⟨S10x4096x256, .f32⟩
  | 61 => ⟨S10x4096x256, .f32⟩
  | 62 => ⟨S10x4096x256, .f32⟩
  | 63 => ⟨S10x4096x256, .f32⟩
  | 64 => ⟨S10x4096x256, .f32⟩
  | 65 => ⟨S10x4096x256, .f32⟩
  | 66 => ⟨S10x4096x256, .f32⟩
  | 67 => ⟨S10x4096x256, .f32⟩
  | 68 => ⟨S10x4096x256, .f32⟩
  | 69 => ⟨S10x4096x256, .f32⟩
  | 70 => ⟨S10x4096x256, .f32⟩
  | 71 => ⟨S10x4096x256, .f32⟩
  | 72 => ⟨S10x4096x256, .f32⟩
  | 73 => ⟨S10x4096x256, .f32⟩
  | 74 => ⟨S10x4096x256, .f32⟩
  | 75 => ⟨S10x4096x256, .f32⟩
  | 76 => ⟨S10x4096x256, .f32⟩
  | 77 => ⟨S4096, .i32⟩
  | 78 => ⟨S_, .i32⟩
  | 79 => ⟨S4096, .i32⟩
  | 80 => ⟨S4096, .i32⟩
  | 81 => ⟨S4096, .f32⟩
  | 82 => ⟨S1x4096x1, .f32⟩
  | 83 => ⟨S10x4096x256, .f32⟩
  | 84 => ⟨S10x4096x256, .f32⟩
  | 85 => ⟨S10x4096x256, .f32⟩
  | 86 => ⟨S10x4096x256, .f32⟩
  | 87 => ⟨S1x1x256x256, .f32⟩
  | 88 => ⟨S256x256, .f32⟩
  | 89 => ⟨S10x4096x256, .f32⟩
  | 90 => ⟨S10x4096x1024, .f32⟩
  | 91 => ⟨S1024, .f32⟩
  | 92 => ⟨S1x1x1024, .f32⟩
  | 93 => ⟨S10x4096x1024, .f32⟩
  | 94 => ⟨S10x4096x1024, .f32⟩
  | 95 => ⟨S10x4096x512, .f32⟩
  | 96 => ⟨S10x4096x512, .f32⟩
  | 97 => ⟨S_, .f32⟩
  | 98 => ⟨S10x4096x512, .f32⟩
  | 99 => ⟨S10x4096x512, .f32⟩
  | 100 => ⟨S10x4096x512, .f32⟩
  | 101 => ⟨S_, .f32⟩
  | 102 => ⟨S10x4096x512, .f32⟩
  | 103 => ⟨S10x4096x512, .f32⟩
  | 104 => ⟨S10x4096x512, .f32⟩
  | 105 => ⟨S_, .f32⟩
  | 106 => ⟨S10x4096x512, .f32⟩
  | 107 => ⟨S10x4096x512, .f32⟩
  | 108 => ⟨S_, .f32⟩
  | 109 => ⟨S10x4096x512, .f32⟩
  | 110 => ⟨S10x4096x512, .f32⟩
  | 111 => ⟨S10x4096x512, .f32⟩
  | 112 => ⟨S512x512, .f32⟩
  | 113 => ⟨S10x4096x512, .f32⟩
  | 114 => ⟨S512, .f32⟩
  | 115 => ⟨S1x1x512, .f32⟩
  | 116 => ⟨S10x4096x512, .f32⟩
  | 117 => ⟨S10x4096x512, .f32⟩
  | 118 => ⟨S10x4096x512, .f32⟩
  | 119 => ⟨S10x4096x512, .f32⟩
  | 120 => ⟨S_, .f32⟩
  | 121 => ⟨S10x4096x512, .f32⟩
  | 122 => ⟨S10x4096x512, .f32⟩
  | 123 => ⟨S_, .f32⟩
  | 124 => ⟨S10x4096x512, .f32⟩
  | 125 => ⟨S10x4096x512, .f32⟩
  | 126 => ⟨S10x4096x512, .f32⟩
  | 127 => ⟨S10x4096x2048, .f32⟩
  | _ => ⟨S2x4096x2048, .f32⟩

abbrev hbmTy0_2 (i : Nat) : BufTy := match i % 128 with
  | 0 => ⟨S10x4096x2048, .f32⟩
  | 1 => ⟨S10x4096x2048, .f32⟩
  | 2 => ⟨S_, .f32⟩
  | 3 => ⟨S10x4096x2048, .f32⟩
  | 4 => ⟨S10x4096x2048, .f32⟩
  | 5 => ⟨S_, .f32⟩
  | 6 => ⟨S10x4096x2048, .f32⟩
  | 7 => ⟨S10x4096x2048, .f32⟩
  | 8 => ⟨S1024x2048, .f32⟩
  | 9 => ⟨S10x4096x2048, .f32⟩
  | 10 => ⟨S10x4096x2048, .f32⟩
  | 11 => ⟨S10x4096x2048, .f32⟩
  | 12 => ⟨S10x4096x2048, .f32⟩
  | 13 => ⟨S10x4096x2048, .f32⟩
  | 14 => ⟨S_, .f32⟩
  | 15 => ⟨S10x4096x2048, .f32⟩
  | 16 => ⟨S10x4096x2048, .f32⟩
  | 17 => ⟨S_, .f32⟩
  | 18 => ⟨S10x4096x2048, .f32⟩
  | 19 => ⟨S10x4096x2048, .f32⟩
  | 20 => ⟨S512x2048, .f32⟩
  | 21 => ⟨S10x4096x2048, .f32⟩
  | 22 => ⟨S10x4096x2048, .f32⟩
  | 23 => ⟨S10x4096x2048, .f32⟩
  | 24 => ⟨S2048x2048, .f32⟩
  | 25 => ⟨S10x4096x2048, .f32⟩
  | 26 => ⟨S10x4096x2048, .f32⟩
  | 27 => ⟨S10x4096x2048, .f32⟩
  | 28 => ⟨S10x4096x2048, .f32⟩
  | 29 => ⟨S10x4096x2048, .f32⟩
  | 30 => ⟨S_, .f32⟩
  | 31 => ⟨S10x4096, .f32⟩
  | 32 => ⟨S10x4096x1, .f32⟩
  | 33 => ⟨S_, .f32⟩
  | 34 => ⟨S10x4096x1, .f32⟩
  | 35 => ⟨S10x4096x1, .f32⟩
  | 36 => ⟨S_, .f32⟩
  | 37 => ⟨S10x4096x1, .f32⟩
  | 38 => ⟨S10x4096x1, .f32⟩
  | 39 => ⟨S10x4096x1, .f32⟩
  | 40 => ⟨S10x4096x2048, .f32⟩
  | 41 => ⟨S10x4096x2048, .f32⟩
  | 42 => ⟨S2048, .f32⟩
  | 43 => ⟨S1x1x2048, .f32⟩
  | 44 => ⟨S10x4096x2048, .f32⟩
  | 45 => ⟨S10x4096x2048, .f32⟩
  | 46 => ⟨S_, .f32⟩
  | 47 => ⟨S10x1x2048, .f32⟩
  | 48 => ⟨S10x1x2048, .f32⟩
  | 49 => ⟨S10x4096x2048, .f32⟩
  | 50 => ⟨S10x4096x2048, .f32⟩
  | 51 => ⟨S10x4096x2048, .f32⟩
  | 52 => ⟨S10x4096x2048, .f32⟩
  | 53 => ⟨S10x4096x2048, .bf16⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_call0_v0 : Ref sig .tc := ⟨.hbm, 60, rfl⟩
abbrev main_v40 : Ref sig .tc := ⟨.hbm, 61, rfl⟩
abbrev main_c_3 : Ref sig .tc := ⟨.hbm, 62, rfl⟩
abbrev main_v41 : Ref sig .tc := ⟨.hbm, 63, rfl⟩
abbrev main_v42 : Ref sig .tc := ⟨.hbm, 64, rfl⟩
abbrev main_c_4 : Ref sig .tc := ⟨.hbm, 65, rfl⟩
abbrev main_v43 : Ref sig .tc := ⟨.hbm, 66, rfl⟩
abbrev main_v44 : Ref sig .tc := ⟨.hbm, 67, rfl⟩
abbrev main_c_5 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_8 : Ref sig .tc := ⟨.hbm, 90, rfl⟩
abbrev main_v64 : Ref sig .tc := ⟨.hbm, 91, rfl⟩
abbrev main_v65 : Ref sig .tc := ⟨.hbm, 92, rfl⟩
abbrev main_c_9 : Ref sig .tc := ⟨.hbm, 93, rfl⟩
abbrev main_v66 : Ref sig .tc := ⟨.hbm, 94, rfl⟩
abbrev main_v67 : Ref sig .tc := ⟨.hbm, 95, rfl⟩
abbrev main_c_10 : Ref sig .tc := ⟨.hbm, 96, rfl⟩
abbrev main_v68 : Ref sig .tc := ⟨.hbm, 97, rfl⟩
abbrev main_v69 : Ref sig .tc := ⟨.hbm, 98, rfl⟩
abbrev main_c_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_12 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_13 : Ref sig .tc := ⟨.hbm, 122, rfl⟩
abbrev main_v91 : Ref sig .tc := ⟨.hbm, 123, rfl⟩
abbrev main_v92 : Ref sig .tc := ⟨.hbm, 124, rfl⟩
abbrev main_c_14 : Ref sig .tc := ⟨.hbm, 125, rfl⟩
abbrev main_v93 : Ref sig .tc := ⟨.hbm, 126, rfl⟩
abbrev main_v94 : Ref sig .tc := ⟨.hbm, 127, rfl⟩
abbrev main_c_15 : Ref sig .tc := ⟨.hbm, 128, rfl⟩
abbrev main_v95 : Ref sig .tc := ⟨.hbm, 129, rfl⟩
abbrev main_v96 : Ref sig .tc := ⟨.hbm, 130, rfl⟩
abbrev main_c_16 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_17 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_18 : Ref sig .tc := ⟨.hbm, 162, rfl⟩
abbrev main_v126 : Ref sig .tc := ⟨.hbm, 163, rfl⟩
abbrev main_v127 : Ref sig .tc := ⟨.hbm, 164, rfl⟩
abbrev main_c_19 : Ref sig .tc := ⟨.hbm, 165, rfl⟩
abbrev main_v128 : Ref sig .tc := ⟨.hbm, 166, rfl⟩
abbrev main_v129 : Ref sig .tc := ⟨.hbm, 167, rfl⟩
abbrev main_c_20 : Ref sig .tc := ⟨.hbm, 168, rfl⟩
abbrev main_v130 : Ref sig .tc := ⟨.hbm, 169, rfl⟩
abbrev main_v131 : Ref sig .tc := ⟨.hbm, 170, rfl⟩
abbrev main_c_21 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_c_22 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_cst_23 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_cst_24 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_cst_25 : Ref sig .tc := ⟨.hbm, 233, rfl⟩
abbrev main_v190 : Ref sig .tc := ⟨.hbm, 234, rfl⟩
abbrev main_v191 : Ref sig .tc := ⟨.hbm, 235, rfl⟩
abbrev main_cst_26 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_cst_27 : Ref sig .tc := ⟨.hbm, 248, rfl⟩
abbrev main_v203 : Ref sig .tc := ⟨.hbm, 249, rfl⟩
abbrev main_v204 : Ref sig .tc := ⟨.hbm, 250, rfl⟩
abbrev main_cst_28 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_cst_29 : Ref sig .tc := ⟨.hbm, 258, rfl⟩
abbrev main_v211 : Ref sig .tc := ⟨.hbm, 259, rfl⟩
abbrev main_v212 : Ref sig .tc := ⟨.hbm, 260, rfl⟩
abbrev main_cst_30 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_cst_31 : Ref sig .tc := ⟨.hbm, 270, rfl⟩
abbrev main_v221 : Ref sig .tc := ⟨.hbm, 271, rfl⟩
abbrev main_v222 : Ref sig .tc := ⟨.hbm, 272, rfl⟩
abbrev main_cst_32 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_cst_33 : Ref sig .tc := ⟨.hbm, 286, rfl⟩
abbrev main_v235 : Ref sig .tc := ⟨.hbm, 287, rfl⟩
abbrev main_v236 : Ref sig .tc := ⟨.hbm, 288, rfl⟩
abbrev main_cst_34 : Ref sig .tc := ⟨.hbm, 289, rfl⟩
abbrev main_v237 : Ref sig .tc := ⟨.hbm, 290, rfl⟩
abbrev main_v238 : Ref sig .tc := ⟨.hbm, 291, rfl⟩
abbrev main_cst_35 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_cst_36 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩

abbrev nD : Nat := 1
abbrev τ : Topo := Topo.v7x

variable {F : FTy → Type} [FloatOps F]
-- ==== Proof.Trip.lean ====
/- One trip of the group loop as a function of the vectors it loads: a scan step, the seven steps in each direction, and
   the block the trip stores. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.S5

open Cert.KernelIdeal Cert.KernelIdeal.Gen

/-- A value of one state row block: 64 states by 128 chunks. -/
abbrev Vs := FVec Ideal S64x128 .f32

/-- The lane numbers. -/
def lanes : IVec S64x128 32 := iota Kind.tc S64x128 32 [1] iota_S64x128_d1_w32

/-- Each lane's value `d` lanes before it, zero in the first `d` lanes. -/
def shF (d : BitVec 32) (x : Vs) : Vs :=
  select (cmpi .sge lanes (broadcast S64x128 d)) (dynamicRotate 1 d none x rotates_S64x128_d1)
    (broadcast S64x128 (FloatOps.ofBits (F := Ideal) .f32 0#32))

/-- Each lane's value `128 - d` lanes after it, zero in the last ones. -/
def shB (d : BitVec 32) (x : Vs) : Vs :=
  select (cmpi .slt lanes (broadcast S64x128 d)) (dynamicRotate 1 d none x rotates_S64x128_d1)
    (broadcast S64x128 (FloatOps.ofBits (F := Ideal) .f32 0#32))

/-- One step of a scan, of the shift `sh` and the power `ar + i ai`. -/
def stepRe (sh : Vs → Vs) (ar ai xr xi : Vs) : Vs := addf xr (subf (mulf ar (sh xr)) (mulf ai (sh xi)))
def stepIm (sh : Vs → Vs) (ar ai xr xi : Vs) : Vs := addf xi (addf (mulf ar (sh xi)) (mulf ai (sh xr)))

/-- A scan's state: the real and the imaginary rows. -/
abbrev St := Vs × Vs

/-- One step on a scan's state, by the power `a`. -/
def stp (sh : Vs → Vs) (a x : St) : St := (stepRe sh a.1 a.2 x.1 x.2, stepIm sh a.1 a.2 x.1 x.2)

/-- The chunk powers' row block at an offset of a trip. -/
def pw (a10 : FVec Ideal S8x7x256x128 .f32) (o : Fin k0_t1_loop.trips → Fin 4 → Nat)
    (ho : ∀ k d, o k d + S1x1x64x128.size d ≤ S8x7x256x128.size d) (k : Fin k0_t1_loop.trips) : Vs :=
  shapeCast S64x128 (View.ld (Val := Elt Ideal) (e' := .f32) a10 (Rect.unit (s := S8x7x256x128) (o k) S1x1x64x128.size (ho k)) : FVec Ideal S1x1x64x128 .f32) shapeCasts_S1x1x64x128_S64x128

section
variable (w3 : FVec Ideal S8x256x512 .bf16) (w5 : FVec Ideal S8x512x256 .bf16) (u8 : FVec Ideal S8x512x128 .bf16)
  (a10 : FVec Ideal S8x7x256x128 .f32) (t11 : FVec Ideal S8x512x512 .bf16) (k : Fin k0_t1_loop.trips)

/-- The group's inputs. -/
def ldU : FVec Ideal S512x128 .bf16 :=
  shapeCast S512x128 (View.ld (Val := Elt Ideal) (e' := .bf16) u8 (Rect.unit (s := S8x512x128) (k0_off1 k) S1x512x128.size (k0_off1_inb k)) : FVec Ideal S1x512x128 .bf16)
    shapeCasts_S1x512x128_S512x128

/-- The group's matrix to the chunks' local states. -/
def ldS : FVec Ideal S256x512 .bf16 :=
  shapeCast S256x512 (View.ld (Val := Elt Ideal) (e' := .bf16) w3 (Rect.unit (s := S8x256x512) (k0_off2 k) S1x256x512.size (k0_off2_inb k)) : FVec Ideal S1x256x512 .bf16)
    shapeCasts_S1x256x512_S256x512

/-- The chunks' local states, all four row blocks. -/
def loc : FVec Ideal S256x128 .f32 :=
  matmul dot_S256x512_S512x128_S256x128_1_0_0_1_n_n none (ldS w3 k) (ldU u8 k) (constant S256x128 FTy.f32 0#32)

/-- The forward scan's power of step `j`. -/
def powF : ℕ → St
  | 0 => (pw a10 k0_off3 k0_off3_inb k, pw a10 k0_off4 k0_off4_inb k)
  | 1 => (pw a10 k0_off5 k0_off5_inb k, pw a10 k0_off6 k0_off6_inb k)
  | 2 => (pw a10 k0_off7 k0_off7_inb k, pw a10 k0_off8 k0_off8_inb k)
  | 3 => (pw a10 k0_off9 k0_off9_inb k, pw a10 k0_off10 k0_off10_inb k)
  | 4 => (pw a10 k0_off11 k0_off11_inb k, pw a10 k0_off12 k0_off12_inb k)
  | 5 => (pw a10 k0_off13 k0_off13_inb k, pw a10 k0_off14 k0_off14_inb k)
  | _ => (pw a10 k0_off15 k0_off15_inb k, pw a10 k0_off16 k0_off16_inb k)

/-- The backward scan's power of step `j`. -/
def powB : ℕ → St
  | 0 => (pw a10 k0_off17 k0_off17_inb k, pw a10 k0_off18 k0_off18_inb k)
  | 1 => (pw a10 k0_off19 k0_off19_inb k, pw a10 k0_off20 k0_off20_inb k)
  | 2 => (pw a10 k0_off21 k0_off21_inb k, pw a10 k0_off22 k0_off22_inb k)
  | 3 => (pw a10 k0_off23 k0_off23_inb k, pw a10 k0_off24 k0_off24_inb k)
  | 4 => (pw a10 k0_off25 k0_off25_inb k, pw a10 k0_off26 k0_off26_inb k)
  | 5 => (pw a10 k0_off27 k0_off27_inb k, pw a10 k0_off28 k0_off28_inb k)
  | _ => (pw a10 k0_off29 k0_off29_inb k, pw a10 k0_off30 k0_off30_inb k)

/-- The shift amounts of step `j`. -/
def dF : ℕ → BitVec 32
  | 0 => 1#32 | 1 => 2#32 | 2 => 4#32 | 3 => 8#32 | 4 => 16#32 | 5 => 32#32 | _ => 64#32
def dB : ℕ → BitVec 32
  | 0 => 127#32 | 1 => 126#32 | 2 => 124#32 | 3 => 120#32 | 4 => 112#32 | 5 => 96#32 | _ => 64#32

/-- The forward scan's state after `j` steps. -/
def fwd : ℕ → St
  | 0 => (extractStridedSlice S64x128 ![0, 0] (loc w3 u8 k) slices_S256x128_o0_0_S64x128,
      extractStridedSlice S64x128 ![64, 0] (loc w3 u8 k) slices_S256x128_o64_0_S64x128)
  | j + 1 => stp (shF (dF j)) (powF a10 k j) (fwd j)

/-- The backward scan's state after `j` steps. -/
def bwd : ℕ → St
  | 0 => (extractStridedSlice S64x128 ![128, 0] (loc w3 u8 k) slices_S256x128_o128_0_S64x128,
      extractStridedSlice S64x128 ![192, 0] (loc w3 u8 k) slices_S256x128_o192_0_S64x128)
  | j + 1 => stp (shB (dB j)) (powB a10 k j) (bwd j)

/-- The group's matrix of taps. -/
def ldT : FVec Ideal S512x512 .bf16 :=
  shapeCast S512x512 (View.ld (Val := Elt Ideal) (e' := .bf16) t11 (Rect.unit (s := S8x512x512) (k0_off31 k) S1x512x512.size (k0_off31_inb k)) : FVec Ideal S1x512x512 .bf16)
    shapeCasts_S1x512x512_S512x512

/-- The group's matrix from the carried states. -/
def ldW : FVec Ideal S512x256 .bf16 :=
  shapeCast S512x256 (View.ld (Val := Elt Ideal) (e' := .bf16) w5 (Rect.unit (s := S8x512x256) (k0_off32 k) S1x512x256.size (k0_off32_inb k)) : FVec Ideal S1x512x256 .bf16)
    shapeCasts_S1x512x256_S512x256

/-- The states carried into each chunk, all four row blocks. -/
def carried (f b : St) : FVec Ideal S256x128 .bf16 :=
  truncf FTy.bf16
    (concatenate S256x128 0 [⟨S64x128, shF 1#32 f.1⟩, ⟨S64x128, shF 1#32 f.2⟩, ⟨S64x128, shB 127#32 b.1⟩,
      ⟨S64x128, shB 127#32 b.2⟩] concatenates_S64x128_S64x128_S64x128_S64x128_S256x128_d0) bitsLt_bf16_f32

/-- What a trip stores: the chunk's own part and the part of the states before and after it. -/
def tripPay (f b : St) : FVec Ideal S1x512x128 .f32 :=
  shapeCast S1x512x128
    (addf
      (matmul dot_S512x512_S512x128_S512x128_1_0_0_1_n_n none (ldT t11 k) (ldU u8 k) (constant S512x128 FTy.f32 0#32))
      (matmul dot_S512x256_S256x128_S512x128_1_0_0_1_n_n none (ldW w5 k) (carried f b) (constant S512x128 FTy.f32 0#32)))
    shapeCasts_S512x128_S1x512x128

end

variable (c : Dev nD) (i : grid0.Coords) (arg2 : Memref sig .tc .vmem S1x32x128x128 .bf16) (harg2 : arg2.IsWhole) (arg3 : Memref sig .tc .vmem S8x256x512 .bf16) (harg3 : arg3.IsWhole) (arg4 : Memref sig .tc .vmem S8x16x1024 .f32) (harg4 : arg4.IsWhole) (arg5 : Memref sig .tc .vmem S8x512x256 .bf16) (harg5 : arg5.IsWhole) (arg6 : Memref sig .tc .vmem S8x256x128 .f32) (harg6 : arg6.IsWhole) (arg7 : Memref sig .tc .vmem S1x32x128x128 .f32) (harg7 : arg7.IsWhole) (arg8 : Memref sig .tc .vmem S8x512x128 .bf16) (harg8 : arg8.IsWhole) (arg9 : Memref sig .tc .vmem S8x512x128 .f32) (harg9 : arg9.IsWhole) (arg10 : Memref sig .tc .vmem S8x7x256x128 .f32) (harg10 : arg10.IsWhole) (arg11 : Memref sig .tc .vmem S8x512x512 .bf16) (harg11 : arg11.IsWhole) (v282 : Vec Ideal S1x1x128x128 .bf16) (X_arg3 : BufTy.Contents (Elt Ideal) arg3.view.ty) (X_arg5 : BufTy.Contents (Elt Ideal) arg5.view.ty) (X_arg8 : BufTy.Contents (Elt Ideal) arg8.view.ty) (X_arg10 : BufTy.Contents (Elt Ideal) arg10.view.ty) (X_arg11 : BufTy.Contents (Elt Ideal) arg11.view.ty) (k : Fin k0_t1_loop.trips)

theorem fwd_1 : (trip_k0_t1.sl.r_2 (F := Ideal) arg3 arg8 arg10 lanes X_arg3 X_arg8 X_arg10 k, trip_k0_t1.sl.r_3 (F := Ideal) arg3 arg8 arg10 lanes X_arg3 X_arg8 X_arg10 k) = fwd (arg3.view.read (Elt Ideal) X_arg3) (arg8.view.read (Elt Ideal) X_arg8) (arg10.view.read (Elt Ideal) X_arg10) k 1 := rfl

/-- The forward scan's fourth state. -/
theorem fwd_4 : (trip_k0_t1.sl.r_10 (F := Ideal) arg3 arg8 arg10 lanes X_arg3 X_arg8 X_arg10 k, trip_k0_t1.sl.r_11 (F := Ideal) arg3 arg8 arg10 lanes X_arg3 X_arg8 X_arg10 k) = fwd (arg3.view.read (Elt Ideal) X_arg3) (arg8.view.read (Elt Ideal) X_arg8) (arg10.view.read (Elt Ideal) X_arg10) k 4 := by
  have h : (trip_k0_t1.sl.r_10 (F := Ideal) arg3 arg8 arg10 lanes X_arg3 X_arg8 X_arg10 k, trip_k0_t1.sl.r_11 (F := Ideal) arg3 arg8 arg10 lanes X_arg3 X_arg8 X_arg10 k) = (stp (shF (dF 3)) (powF (arg10.view.read (Elt Ideal) X_arg10) k 3) (stp (shF (dF 2)) (powF (arg10.view.read (Elt Ideal) X_arg10) k 2) (stp (shF (dF 1)) (powF (arg10.view.read (Elt Ideal) X_arg10) k 1) (trip_k0_t1.sl.r_2 (F := Ideal) arg3 arg8 arg10 lanes X_arg3 X_arg8 X_arg10 k, trip_k0_t1.sl.r_3 (F := Ideal) arg3 arg8 arg10 lanes X_arg3 X_arg8 X_arg10 k)))) := by
    dsimp only [trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, k0_pay480, k0_pay485, k0_pay487, k0_pay488, k0_pay490, k0_pay491, k0_pay497, k0_pay498,
      stp, stepRe, stepIm, powF, powB, pw, shF, shB, dF, dB]
    rfl
  rw [h, fwd_1]
  rfl

/-- The forward scan's sixth state. -/
theorem fwd_6 : (trip_k0_t1.sl.r_15 (F := Ideal) arg3 arg8 arg10 lanes X_arg3 X_arg8 X_arg10 k, trip_k0_t1.sl.r_16 (F := Ideal) arg3 arg8 arg10 lanes X_arg3 X_arg8 X_arg10 k) = fwd (arg3.view.read (Elt Ideal) X_arg3) (arg8.view.read (Elt Ideal) X_arg8) (arg10.view.read (Elt Ideal) X_arg10) k 6 := by
  have h : (trip_k0_t1.sl.r_15 (F := Ideal) arg3 arg8 arg10 lanes X_arg3 X_arg8 X_arg10 k, trip_k0_t1.sl.r_16 (F := Ideal) arg3 arg8 arg10 lanes X_arg3 X_arg8 X_arg10 k) = (stp (shF (dF 5)) (powF (arg10.view.read (Elt Ideal) X_arg10) k 5) (stp (shF (dF 4)) (powF (arg10.view.read (Elt Ideal) X_arg10) k 4) (trip_k0_t1.sl.r_10 (F := Ideal) arg3 arg8 arg10 lanes X_arg3 X_arg8 X_arg10 k, trip_k0_t1.sl.r_11 (F := Ideal) arg3 arg8 arg10 lanes X_arg3 X_arg8 X_arg10 k))) := rfl
  rw [h, fwd_4]
  rfl

/-- The forward scan's last state. -/
theorem fwd_7 : (trip_k0_t1.sl.r_18 (F := Ideal) arg3 arg8 arg10 lanes X_arg3 X_arg8 X_arg10 k, trip_k0_t1.sl.r_19 (F := Ideal) arg3 arg8 arg10 lanes X_arg3 X_arg8 X_arg10 k) = fwd (arg3.view.read (Elt Ideal) X_arg3) (arg8.view.read (Elt Ideal) X_arg8) (arg10.view.read (Elt Ideal) X_arg10) k 7 := by
  have h : (trip_k0_t1.sl.r_18 (F := Ideal) arg3 arg8 arg10 lanes X_arg3 X_arg8 X_arg10 k, trip_k0_t1.sl.r_19 (F := Ideal) arg3 arg8 arg10 lanes X_arg3 X_arg8 X_arg10 k) = (stp (shF (dF 6)) (powF (arg10.view.read (Elt Ideal) X_arg10) k 6) (trip_k0_t1.sl.r_15 (F := Ideal) arg3 arg8 arg10 lanes X_arg3 X_arg8 X_arg10 k, trip_k0_t1.sl.r_16 (F := Ideal) arg3 arg8 arg10 lanes X_arg3 X_arg8 X_arg10 k)) := rfl
  rw [h, fwd_6]
  rfl

/-- The backward scan's second state. -/
theorem bwd_2 : (trip_k0_t1.sl.r_27 (F := Ideal) arg3 arg8 arg10 lanes X_arg3 X_arg8 X_arg10 k, trip_k0_t1.sl.r_28 (F := Ideal) arg3 arg8 arg10 lanes X_arg3 X_arg8 X_arg10 k) = bwd (arg3.view.read (Elt Ideal) X_arg3) (arg8.view.read (Elt Ideal) X_arg8) (arg10.view.read (Elt Ideal) X_arg10) k 2 := by
  have h : (trip_k0_t1.sl.r_27 (F := Ideal) arg3 arg8 arg10 lanes X_arg3 X_arg8 X_arg10 k, trip_k0_t1.sl.r_28 (F := Ideal) arg3 arg8 arg10 lanes X_arg3 X_arg8 X_arg10 k) = (stp (shB (dB 1)) (powB (arg10.view.read (Elt Ideal) X_arg10) k 1) (stp (shB (dB 0)) (powB (arg10.view.read (Elt Ideal) X_arg10) k 0) (bwd (arg3.view.read (Elt Ideal) X_arg3) (arg8.view.read (Elt Ideal) X_arg8) (arg10.view.read (Elt Ideal) X_arg10) k 0))) := rfl
  rw [h]
  rfl

/-- The backward scan's fourth state. -/
theorem bwd_4 : (trip_k0_t1.sl.r_32 (F := Ideal) arg3 arg8 arg10 lanes X_arg3 X_arg8 X_arg10 k, trip_k0_t1.sl.r_33 (F := Ideal) arg3 arg8 arg10 lanes X_arg3 X_arg8 X_arg10 k) = bwd (arg3.view.read (Elt Ideal) X_arg3) (arg8.view.read (Elt Ideal) X_arg8) (arg10.view.read (Elt Ideal) X_arg10) k 4 := by
  have h : (trip_k0_t1.sl.r_32 (F := Ideal) arg3 arg8 arg10 lanes X_arg3 X_arg8 X_arg10 k, trip_k0_t1.sl.r_33 (F := Ideal) arg3 arg8 arg10 lanes X_arg3 X_arg8 X_arg10 k) = (stp (shB (dB 3)) (powB (arg10.view.read (Elt Ideal) X_arg10) k 3) (stp (shB (dB 2)) (powB (arg10.view.read (Elt Ideal) X_arg10) k 2) (trip_k0_t1.sl.r_27 (F := Ideal) arg3 arg8 arg10 lanes X_arg3 X_arg8 X_arg10 k, trip_k0_t1.sl.r_28 (F := Ideal) arg3 arg8 arg10 lanes X_arg3 X_arg8 X_arg10 k))) := rfl
  rw [h, bwd_2]
  rfl

/-- The backward scan's last state. -/
theorem bwd_7 : (trip_k0_t1.sl.r_42 (F := Ideal) arg3 arg8 arg10 lanes X_arg3 X_arg8 X_arg10 k, trip_k0_t1.sl.r_43 (F := Ideal) arg3 arg8 arg10 lanes X_arg3 X_arg8 X_arg10 k) = bwd (arg3.view.read (Elt Ideal) X_arg3) (arg8.view.read (Elt Ideal) X_arg8) (arg10.view.read (Elt Ideal) X_arg10) k 7 := by
  have h : (trip_k0_t1.sl.r_42 (F := Ideal) arg3 arg8 arg10 lanes X_arg3 X_arg8 X_arg10 k, trip_k0_t1.sl.r_43 (F := Ideal) arg3 arg8 arg10 lanes X_arg3 X_arg8 X_arg10 k) = (stp (shB (dB 6)) (powB (arg10.view.read (Elt Ideal) X_arg10) k 6) (stp (shB (dB 5)) (powB (arg10.view.read (Elt Ideal) X_arg10) k 5) (stp (shB (dB 4)) (powB (arg10.view.read (Elt Ideal) X_arg10) k 4) (trip_k0_t1.sl.r_32 (F := Ideal) arg3 arg8 arg10 lanes X_arg3 X_arg8 X_arg10 k, trip_k0_t1.sl.r_33 (F := Ideal) arg3 arg8 arg10 lanes X_arg3 X_arg8 X_arg10 k)))) := by
    dsimp only [trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, k0_pay547, k0_pay551, k0_pay552, k0_pay553, k0_pay554, k0_pay555, k0_pay556, k0_pay557, k0_pay564, k0_pay565,
      stp, stepRe, stepIm, powF, powB, pw, shF, shB, dF, dB]
    rfl
  rw [h, bwd_4]
  rfl

/-- One trip's store: the block `tripPay` of the contents the trip reads, at the group's rows. -/
theorem tripL_eq :
    tripL_k0_t1 (F := Ideal) Variants.none c none i arg2 harg2 arg3 harg3 arg4 harg4 arg5 harg5 arg6 harg6 arg7 harg7 arg8 harg8 arg9 harg9 arg10 harg10 arg11 harg11 v282 lanes X_arg3 X_arg5 X_arg8 X_arg10 X_arg11 k
    = [⟨Rect.unit (s := S8x512x128) (k0_off1 k) S1x512x128.size (k0_off1_inb k),
        tripPay (arg5.view.read (Elt Ideal) X_arg5) (arg8.view.read (Elt Ideal) X_arg8) (arg11.view.read (Elt Ideal) X_arg11) k (fwd (arg3.view.read (Elt Ideal) X_arg3) (arg8.view.read (Elt Ideal) X_arg8) (arg10.view.read (Elt Ideal) X_arg10) k 7) (bwd (arg3.view.read (Elt Ideal) X_arg3) (arg8.view.read (Elt Ideal) X_arg8) (arg10.view.read (Elt Ideal) X_arg10) k 7)⟩] := by
  rw [← fwd_7, ← bwd_7]
  unfold tripL_k0_t1 trip_k0_t1
  rfl

end Cert.KernelIdeal.S5
-- ==== Proof.Scan.lean ====
/- The recurrence `x ← A x + v` over tokens, cut into chunks of 32: the state after a chunk, the doubling scan over chunks,
   and a token's output as taps within its chunk plus a term of the state carried into it. -/
module

public import Mathlib.Analysis.Complex.Exponential
public import Mathlib.Tactic.Ring
public import Mathlib.Tactic.Linarith
public import Mathlib.Algebra.BigOperators.Intervals
public import Mathlib.Algebra.BigOperators.Fin

@[expose] public section

noncomputable section

namespace Cert.Scan

open Finset

/-- The state before token `T`. -/
def st (A : ℂ) (v : ℕ → ℂ) : ℕ → ℂ
  | 0 => 0
  | T + 1 => A * st A v T + v T

/-- `m` tokens on. -/
theorem st_add (A : ℂ) (v : ℕ → ℂ) (T m : ℕ) :
    st A v (T + m) = A ^ m * st A v T + ∑ i ∈ range m, A ^ (m - 1 - i) * v (T + i) := by
  induction m with
  | zero => simp
  | succ m ih =>
    rw [← Nat.add_assoc, st, ih, Finset.sum_range_succ, mul_add, Finset.mul_sum]
    have h : ∀ i ∈ range m, A * (A ^ (m - 1 - i) * v (T + i)) = A ^ (m + 1 - 1 - i) * v (T + i) := by
      intro i hi
      have hi' := Finset.mem_range.mp hi
      have e : m + 1 - 1 - i = (m - 1 - i) + 1 := by omega
      rw [e, pow_succ]; ring
    rw [Finset.sum_congr rfl h]
    simp only [Nat.add_sub_cancel, Nat.sub_self, pow_zero, pow_succ, one_mul]
    ring

/-- The doubling scan after `k` steps. -/
def dbl (A : ℂ) (v : ℕ → ℂ) (k c : ℕ) : ℂ :=
  st A v (32 * (c + 1)) - (A ^ 32) ^ 2 ^ k * st A v (32 * (c + 1 - 2 ^ k))

theorem dbl_zero (A : ℂ) (v : ℕ → ℂ) (c : ℕ) : dbl A v 0 c = ∑ i ∈ range 32, A ^ (31 - i) * v (32 * c + i) := by
  have h := st_add A v (32 * c) 32
  rw [dbl, show 32 * (c + 1) = 32 * c + 32 by ring, h]
  simp only [pow_zero, pow_one, Nat.add_sub_cancel]
  ring

theorem dbl_succ (A : ℂ) (v : ℕ → ℂ) (k c : ℕ) :
    dbl A v (k + 1) c = dbl A v k c + (A ^ 32) ^ 2 ^ k * (if 2 ^ k ≤ c then dbl A v k (c - 2 ^ k) else 0) := by
  have e2 : (2 : ℕ) ^ (k + 1) = 2 ^ k + 2 ^ k := by rw [pow_succ]; ring
  have hp : (1 : ℕ) ≤ 2 ^ k := Nat.one_le_two_pow
  generalize hd : (2 : ℕ) ^ k = d at *
  unfold dbl
  rw [e2, hd, pow_add]
  split
  · rename_i h
    rw [show c - d + 1 = c + 1 - d by omega, show c + 1 - d - d = c + 1 - (d + d) by omega]
    ring
  · rename_i h
    rw [show c + 1 - d = 0 by omega, show c + 1 - (d + d) = 0 by omega]
    simp [st]

theorem dbl_seven (A : ℂ) (v : ℕ → ℂ) (c : ℕ) (h : c < 128) : dbl A v 7 c = st A v (32 * (c + 1)) := by
  rw [dbl, show c + 1 - 2 ^ 7 = 0 by omega]
  simp [st]

/-- The last scan's values, one chunk on. -/
theorem carried_eq (A : ℂ) (v : ℕ → ℂ) (c : ℕ) (h : c < 128) :
    (if 1 ≤ c then dbl A v 7 (c - 1) else 0) = st A v (32 * c) := by
  split
  · rw [dbl_seven A v (c - 1) (by omega), show c - 1 + 1 = c by omega]
  · rw [show c = 0 by omega]; simp [st]

/-- The tokens from the last on. -/
def rev (v : ℕ → ℂ) (T : ℕ) : ℂ := v (4095 - T)

/-- A token's output by the forward recurrence: the taps of its chunk up to it and the state carried into the chunk. -/
theorem fwd_token (A C : ℂ) (v : ℕ → ℂ) (c t : ℕ) (ht : t < 32) :
    C * st A v (32 * c + t + 1)
      = C * A ^ (t + 1) * st A v (32 * c) + ∑ s ∈ range 32, (if s ≤ t then C * A ^ (t - s) * v (32 * c + s) else 0) := by
  rw [Nat.add_assoc, st_add, mul_add, Finset.mul_sum, ← mul_assoc]
  congr 1
  rw [← Finset.sum_filter]
  have hf : (range 32).filter (fun s => s ≤ t) = range (t + 1) := by
    ext s; simp only [Finset.mem_filter, Finset.mem_range]; omega
  rw [hf]
  refine Finset.sum_congr rfl fun i hi => ?_
  rw [show t + 1 - 1 - i = t - i by omega]; ring

/-- A token's output by the backward recurrence. -/
theorem bwd_token (A C : ℂ) (v : ℕ → ℂ) (c t : ℕ) (hc : c < 128) (ht : t < 32) :
    C * st A (rev v) (4096 - (32 * c + t))
      = C * A ^ (32 - t) * st A (rev v) (32 * (127 - c))
        + ∑ s ∈ range 32, (if t ≤ s then C * A ^ (s - t) * v (32 * c + s) else 0) := by
  rw [show 4096 - (32 * c + t) = 32 * (127 - c) + (32 - t) by omega, st_add, mul_add, Finset.mul_sum, ← mul_assoc]
  congr 1
  rw [← Finset.sum_filter]
  refine Finset.sum_bij' (fun i _ => 31 - i) (fun s _ => 31 - s) ?_ ?_ ?_ ?_ ?_
  · intro i hi; simp only [Finset.mem_range, Finset.mem_filter] at *; omega
  · intro i hi; simp only [Finset.mem_range, Finset.mem_filter] at *; omega
  · intro i hi; simp only [Finset.mem_range] at hi; omega
  · intro i hi; simp only [Finset.mem_range, Finset.mem_filter] at hi; omega
  · intro i hi
    simp only [Finset.mem_range] at hi
    rw [rev, show 4095 - (32 * (127 - c) + i) = 32 * c + (31 - i) by omega, show 32 - t - 1 - i = 31 - i - t by omega]
    ring

/-- The backward chunk's local state. -/
theorem dbl_zero_rev (A : ℂ) (v : ℕ → ℂ) (c : ℕ) (hc : c < 128) :
    dbl A (rev v) 0 (127 - c) = ∑ s ∈ range 32, A ^ s * v (32 * c + s) := by
  rw [dbl_zero, ← Finset.sum_range_reflect]
  refine Finset.sum_congr rfl fun i hi => ?_
  have hi' := Finset.mem_range.mp hi
  rw [rev, show 4095 - (32 * (127 - c) + (32 - 1 - i)) = 32 * c + i by omega, show 31 - (32 - 1 - i) = i by omega]

/-! ## A group's output -/

variable {ι κ : Type*} [Fintype ι] [Fintype κ]

/-- The input of a token to a state: the input matrix times the token. -/
def inp (B : ι → κ → ℂ) (u : ℕ → κ → ℝ) (n : ι) (T : ℕ) : ℂ := ∑ q, B n q * (u T q : ℂ)

/-- A tap: lag `l`, from column `q`, to the output row `C`. -/
def tap (A : ι → ℂ) (B : ι → κ → ℂ) (C : ι → ℂ) (l : ℕ) (q : κ) : ℝ := ∑ n, (C n * A n ^ l * B n q).re

theorem tap_sum (A : ι → ℂ) (B : ι → κ → ℂ) (C : ι → ℂ) (u : ℕ → κ → ℝ) (l T : ℕ) :
    ∑ q, tap A B C l q * u T q = ∑ n, (C n * A n ^ l * inp B u n T).re := by
  simp only [tap, inp, Finset.mul_sum, Finset.sum_mul, Complex.re_sum]
  rw [Finset.sum_comm]
  refine Finset.sum_congr rfl fun n _ => Finset.sum_congr rfl fun q _ => ?_
  rw [← mul_assoc, Complex.re_mul_ofReal]

/-- The chunk form's output equals the recurrence's: both directions and the skip connection. -/
theorem group_out [DecidableEq κ] (Af Ab : ι → ℂ) (Bf Bb : ι → κ → ℂ) (Cf Cb : ι → ℂ) (d : ℝ) (p : κ) (u : ℕ → κ → ℝ) (c t : ℕ)
    (hc : c < 128) (ht : t < 32) :
    (∑ s ∈ range 32, ∑ q, ((if s ≤ t then tap Af Bf Cf (t - s) q else 0) + (if t ≤ s then tap Ab Bb Cb (s - t) q else 0)
        + (if t = s ∧ p = q then d else 0)) * u (32 * c + s) q)
      + ((∑ n, (Cf n * Af n ^ (t + 1) * st (Af n) (inp Bf u n) (32 * c)).re)
        + ∑ n, (Cb n * Ab n ^ (32 - t) * st (Ab n) (rev (inp Bb u n)) (32 * (127 - c))).re)
    = (∑ n, (Cf n * st (Af n) (inp Bf u n) (32 * c + t + 1)).re)
      + (∑ n, (Cb n * st (Ab n) (rev (inp Bb u n)) (4096 - (32 * c + t))).re) + d * u (32 * c + t) p := by
  have hf : ∑ n, (Cf n * st (Af n) (inp Bf u n) (32 * c + t + 1)).re
      = (∑ n, (Cf n * Af n ^ (t + 1) * st (Af n) (inp Bf u n) (32 * c)).re)
        + ∑ s ∈ range 32, (if s ≤ t then ∑ q, tap Af Bf Cf (t - s) q * u (32 * c + s) q else 0) := by
    simp only [fwd_token _ _ _ c t ht, Complex.add_re, Finset.sum_add_distrib, Complex.re_sum]
    congr 1
    rw [Finset.sum_comm]
    refine Finset.sum_congr rfl fun s _ => ?_
    split
    · rw [tap_sum]
    · simp
  have hb : ∑ n, (Cb n * st (Ab n) (rev (inp Bb u n)) (4096 - (32 * c + t))).re
      = (∑ n, (Cb n * Ab n ^ (32 - t) * st (Ab n) (rev (inp Bb u n)) (32 * (127 - c))).re)
        + ∑ s ∈ range 32, (if t ≤ s then ∑ q, tap Ab Bb Cb (s - t) q * u (32 * c + s) q else 0) := by
    simp only [bwd_token _ _ _ c t hc ht, Complex.add_re, Finset.sum_add_distrib, Complex.re_sum]
    congr 1
    rw [Finset.sum_comm]
    refine Finset.sum_congr rfl fun s _ => ?_
    split
    · rw [tap_sum]
    · simp
  have hd : ∑ s ∈ range 32, ∑ q, (if t = s ∧ p = q then d else 0) * u (32 * c + s) q = d * u (32 * c + t) p := by
    rw [Finset.sum_eq_single t, Finset.sum_eq_single p]
    · simp
    · intro q _ hq; rw [if_neg (fun h => hq h.2.symm), zero_mul]
    · simp
    · intro s _ hs
      exact Finset.sum_eq_zero fun q _ => by rw [if_neg (fun h => hs h.1.symm), zero_mul]
    · intro h; exact absurd (Finset.mem_range.mpr ht) h
  have hs : ∑ s ∈ range 32, ∑ q, ((if s ≤ t then tap Af Bf Cf (t - s) q else 0) + (if t ≤ s then tap Ab Bb Cb (s - t) q else 0)
        + (if t = s ∧ p = q then d else 0)) * u (32 * c + s) q
      = (∑ s ∈ range 32, (if s ≤ t then ∑ q, tap Af Bf Cf (t - s) q * u (32 * c + s) q else 0))
        + (∑ s ∈ range 32, (if t ≤ s then ∑ q, tap Ab Bb Cb (s - t) q * u (32 * c + s) q else 0))
        + d * u (32 * c + t) p := by
    rw [← hd, ← Finset.sum_add_distrib, ← Finset.sum_add_distrib]
    refine Finset.sum_congr rfl fun s _ => ?_
    simp only [add_mul, Finset.sum_add_distrib, ite_mul, zero_mul]
    congr 2
    · split <;> simp
    · split <;> simp
  rw [hf, hb, hs]
  ring

end Cert.Scan
-- ==== Proof.TripVal.lean ====
/- The trip's values at an index: the scans' steps on complex numbers, and the block stored. -/
module

public import proofs.«01_k».proof.Proof.Trip
public import proofs.«01_k».proof.Proof.Scan

@[expose] public section

set_option maxRecDepth 16384

noncomputable section

open Idealize.ShloMosaic Idealize.ShloMosaic.TcCoe Idealize.SL.Sem Cert.Scan

namespace Cert.KernelIdeal.S5

open Cert.KernelIdeal Cert.KernelIdeal.Gen

/-- The pair of arrays holds the complex numbers `z`. -/
def Cx (x : St) (z : Fin 64 → Fin 128 → ℂ) : Prop :=
  ∀ n c, x.1 (ix2 n c) = ((z n c).re : EReal) ∧ x.2 (ix2 n c) = ((z n c).im : EReal)

theorem select_1 {α : Type} (x y : α) : Scalar.select 1#1 x y = x := rfl
theorem select_0 {α : Type} (x y : α) : Scalar.select 0#1 x y = y := rfl

theorem shF_apply (j : ℕ) (hj : j < 7) (x : Vs) (n : Fin 64) (c : Fin 128) :
    shF (dF j) x (ix2 n c) = if h : 2 ^ j ≤ c.val then x (ix2 n ⟨c.val - 2 ^ j, by have := c.isLt; generalize 2 ^ j = d; omega⟩) else 0 := by
  have : j = 0 ∨ j = 1 ∨ j = 2 ∨ j = 3 ∨ j = 4 ∨ j = 5 ∨ j = 6 := by omega
  rcases this with h | h | h | h | h | h | h <;> subst h
  case' inl => have hd : ∀ c : Fin 128, IntOp.cmpi CmpIPredicate.sge (BitVec.ofNat 32 ↑c) 1#32 = if 2 ^ 0 ≤ c.val then 1#1 else 0#1 := by decide +kernel
  case' inr.inl => have hd : ∀ c : Fin 128, IntOp.cmpi CmpIPredicate.sge (BitVec.ofNat 32 ↑c) 2#32 = if 2 ^ 1 ≤ c.val then 1#1 else 0#1 := by decide +kernel
  case' inr.inr.inl => have hd : ∀ c : Fin 128, IntOp.cmpi CmpIPredicate.sge (BitVec.ofNat 32 ↑c) 4#32 = if 2 ^ 2 ≤ c.val then 1#1 else 0#1 := by decide +kernel
  case' inr.inr.inr.inl => have hd : ∀ c : Fin 128, IntOp.cmpi CmpIPredicate.sge (BitVec.ofNat 32 ↑c) 8#32 = if 2 ^ 3 ≤ c.val then 1#1 else 0#1 := by decide +kernel
  case' inr.inr.inr.inr.inl => have hd : ∀ c : Fin 128, IntOp.cmpi CmpIPredicate.sge (BitVec.ofNat 32 ↑c) 16#32 = if 2 ^ 4 ≤ c.val then 1#1 else 0#1 := by decide +kernel
  case' inr.inr.inr.inr.inr.inl => have hd : ∀ c : Fin 128, IntOp.cmpi CmpIPredicate.sge (BitVec.ofNat 32 ↑c) 32#32 = if 2 ^ 5 ≤ c.val then 1#1 else 0#1 := by decide +kernel
  case' inr.inr.inr.inr.inr.inr => have hd : ∀ c : Fin 128, IntOp.cmpi CmpIPredicate.sge (BitVec.ofNat 32 ↑c) 64#32 = if 2 ^ 6 ≤ c.val then 1#1 else 0#1 := by decide +kernel
  all_goals
    pointwise [shF, lanes, dF]
    rw [hd c]
    split
    · rename_i h
      rw [select_1]
      congr 2
      apply Fin.ext
      have := c.isLt
      simp only
      omega
    · rw [select_0]

theorem shB_apply (j : ℕ) (hj : j < 7) (x : Vs) (n : Fin 64) (c : Fin 128) :
    shB (dB j) x (ix2 n c) = if h : c.val + 2 ^ j < 128 then x (ix2 n ⟨c.val + 2 ^ j, h⟩) else 0 := by
  have : j = 0 ∨ j = 1 ∨ j = 2 ∨ j = 3 ∨ j = 4 ∨ j = 5 ∨ j = 6 := by omega
  rcases this with h | h | h | h | h | h | h <;> subst h
  case' inl => have hd : ∀ c : Fin 128, IntOp.cmpi CmpIPredicate.slt (BitVec.ofNat 32 ↑c) 127#32 = if c.val + 2 ^ 0 < 128 then 1#1 else 0#1 := by decide +kernel
  case' inr.inl => have hd : ∀ c : Fin 128, IntOp.cmpi CmpIPredicate.slt (BitVec.ofNat 32 ↑c) 126#32 = if c.val + 2 ^ 1 < 128 then 1#1 else 0#1 := by decide +kernel
  case' inr.inr.inl => have hd : ∀ c : Fin 128, IntOp.cmpi CmpIPredicate.slt (BitVec.ofNat 32 ↑c) 124#32 = if c.val + 2 ^ 2 < 128 then 1#1 else 0#1 := by decide +kernel
  case' inr.inr.inr.inl => have hd : ∀ c : Fin 128, IntOp.cmpi CmpIPredicate.slt (BitVec.ofNat 32 ↑c) 120#32 = if c.val + 2 ^ 3 < 128 then 1#1 else 0#1 := by decide +kernel
  case' inr.inr.inr.inr.inl => have hd : ∀ c : Fin 128, IntOp.cmpi CmpIPredicate.slt (BitVec.ofNat 32 ↑c) 112#32 = if c.val + 2 ^ 4 < 128 then 1#1 else 0#1 := by decide +kernel
  case' inr.inr.inr.inr.inr.inl => have hd : ∀ c : Fin 128, IntOp.cmpi CmpIPredicate.slt (BitVec.ofNat 32 ↑c) 96#32 = if c.val + 2 ^ 5 < 128 then 1#1 else 0#1 := by decide +kernel
  case' inr.inr.inr.inr.inr.inr => have hd : ∀ c : Fin 128, IntOp.cmpi CmpIPredicate.slt (BitVec.ofNat 32 ↑c) 64#32 = if c.val + 2 ^ 6 < 128 then 1#1 else 0#1 := by decide +kernel
  all_goals
    pointwise [shB, lanes, dB]
    rw [hd c]
    split
    · rename_i h
      rw [select_1]
      congr 2
      apply Fin.ext
      have := c.isLt
      simp only
      omega
    · rw [select_0]

/-- One step, on complex numbers. -/
theorem stp_cx (sh : Vs → Vs) (a x : St) (α ξ σ : Fin 64 → Fin 128 → ℂ) (ha : Cx a α) (hx : Cx x ξ)
    (hs : Cx (sh x.1, sh x.2) σ) : Cx (stp sh a x) fun n c => ξ n c + α n c * σ n c := by
  intro n c
  obtain ⟨h1, h2⟩ := ha n c
  obtain ⟨h3, h4⟩ := hx n c
  obtain ⟨h5, h6⟩ := hs n c
  dsimp only at h5 h6
  constructor
  · show stepRe sh a.1 a.2 x.1 x.2 (ix2 n c) = _
    pointwise [stepRe]
    rw [h1, h2, h3, h5, h6, Complex.add_re, Complex.mul_re]
    norm_cast
  · show stepIm sh a.1 a.2 x.1 x.2 (ix2 n c) = _
    pointwise [stepIm]
    rw [h1, h2, h4, h5, h6, Complex.add_im, Complex.mul_im]
    norm_cast

theorem shF_cx (j : ℕ) (hj : j < 7) (x : St) (ξ : Fin 64 → Fin 128 → ℂ) (hx : Cx x ξ) :
    Cx (shF (dF j) x.1, shF (dF j) x.2)
      fun n c => if h : 2 ^ j ≤ c.val then ξ n ⟨c.val - 2 ^ j, by have := c.isLt; generalize 2 ^ j = d; omega⟩ else 0 := by
  intro n c
  dsimp only
  rw [shF_apply j hj, shF_apply j hj]
  split
  · exact hx n _
  · simp

theorem shB_cx (j : ℕ) (hj : j < 7) (x : St) (ξ : Fin 64 → Fin 128 → ℂ) (hx : Cx x ξ) :
    Cx (shB (dB j) x.1, shB (dB j) x.2) fun n c => if h : c.val + 2 ^ j < 128 then ξ n ⟨c.val + 2 ^ j, h⟩ else 0 := by
  intro n c
  dsimp only
  rw [shB_apply j hj, shB_apply j hj]
  split
  · exact hx n _
  · simp

section
variable (w3 : FVec Ideal S8x256x512 .bf16) (w5 : FVec Ideal S8x512x256 .bf16) (u8 : FVec Ideal S8x512x128 .bf16)
  (a10 : FVec Ideal S8x7x256x128 .f32) (t11 : FVec Ideal S8x512x512 .bf16) (k : Fin k0_t1_loop.trips)

/-- The forward scan's states: the chunks' local states and the powers being those of `A` and `v`. -/
theorem fwd_cx (A : Fin 64 → ℂ) (v : Fin 64 → ℕ → ℂ) (h0 : Cx (fwd w3 u8 a10 k 0) fun n c => dbl (A n) (v n) 0 c)
    (hp : ∀ j < 7, Cx (powF a10 k j) fun n _ => (A n ^ 32) ^ 2 ^ j) (j : ℕ) (hj : j ≤ 7) :
    Cx (fwd w3 u8 a10 k j) fun n c => dbl (A n) (v n) j c := by
  induction j with
  | zero => exact h0
  | succ j ih =>
    have h := stp_cx (shF (dF j)) _ _ _ _ _ (hp j (by omega)) (ih (by omega)) (shF_cx j (by omega) _ _ (ih (by omega)))
    intro n c
    have h' := h n c
    have e : ∀ n (c : Fin 128), dbl (A n) (v n) (j + 1) c = dbl (A n) (v n) j c + (A n ^ 32) ^ 2 ^ j *
        (if h : 2 ^ j ≤ c.val then dbl (A n) (v n) j (c.val - 2 ^ j) else 0) := by
      intro n c; rw [dbl_succ]; rfl
    dsimp only
    rw [e]
    exact h'

/-- The backward scan's. -/
theorem bwd_cx (A : Fin 64 → ℂ) (v : Fin 64 → ℕ → ℂ) (h0 : Cx (bwd w3 u8 a10 k 0) fun n c => dbl (A n) (v n) 0 (127 - c))
    (hp : ∀ j < 7, Cx (powB a10 k j) fun n _ => (A n ^ 32) ^ 2 ^ j) (j : ℕ) (hj : j ≤ 7) :
    Cx (bwd w3 u8 a10 k j) fun n c => dbl (A n) (v n) j (127 - c) := by
  induction j with
  | zero => exact h0
  | succ j ih =>
    have h := stp_cx (shB (dB j)) _ _ _ _ _ (hp j (by omega)) (ih (by omega)) (shB_cx j (by omega) _ _ (ih (by omega)))
    intro n c
    have h' := h n c
    have e : ∀ n (c : Fin 128), dbl (A n) (v n) (j + 1) (127 - c) = dbl (A n) (v n) j (127 - c) + (A n ^ 32) ^ 2 ^ j *
        (if h : c.val + 2 ^ j < 128 then dbl (A n) (v n) j (127 - (c.val + 2 ^ j)) else 0) := by
      intro n c
      rw [dbl_succ]
      have hc := c.isLt
      by_cases hd : c.val + 2 ^ j < 128
      · rw [if_pos (by omega), dif_pos hd, Nat.sub_sub]
      · rw [if_neg (by omega), dif_neg hd]
    dsimp only
    rw [e]
    exact h'

/-- The states carried into the chunks, row by row. -/
theorem carried_cx (f b : St) (A A' : Fin 64 → ℂ) (v v' : Fin 64 → ℕ → ℂ) (hf : Cx f fun n c => dbl (A n) (v n) 7 c)
    (hb : Cx b fun n c => dbl (A' n) (v' n) 7 (127 - c)) (n : Fin 64) (c : Fin 128) :
    carried f b (ix2 ⟨n.val, by omega⟩ c) = ((st (A n) (v n) (32 * c)).re : EReal)
    ∧ carried f b (ix2 ⟨64 + n.val, by omega⟩ c) = ((st (A n) (v n) (32 * c)).im : EReal)
    ∧ carried f b (ix2 ⟨128 + n.val, by omega⟩ c) = ((st (A' n) (v' n) (32 * (127 - c))).re : EReal)
    ∧ carried f b (ix2 ⟨192 + n.val, by omega⟩ c) = ((st (A' n) (v' n) (32 * (127 - c))).im : EReal) := by
  have h1 := shF_cx 0 (by omega) f _ hf n c
  have h2 := shB_cx 0 (by omega) b _ hb n c
  have e1 := carried_eq (A n) (v n) c c.isLt
  have e2 := carried_eq (A' n) (v' n) (127 - c) (by omega)
  refine ⟨?_, ?_, ?_, ?_⟩
  · have := h1.1
    dsimp only at this
    pointwise [carried]
    refine this.trans ?_
    rw [← e1]; rfl
  · have := h1.2
    dsimp only at this
    pointwise [carried]
    refine this.trans ?_
    rw [← e1]; rfl
  · have := h2.1
    dsimp only at this
    pointwise [carried]
    rw [dif_neg (by omega), dif_neg (by omega), dif_pos (by omega)]
    refine (congrArg _ (congrArg₂ ix2 (Fin.ext (show 128 + n.val - 64 - 64 = n.val by omega)) rfl)).trans (this.trans ?_)
    rw [← e2]
    congr 2
    by_cases hc : c.val + 1 < 128
    · rw [if_pos (by omega), dif_pos (by omega), Nat.sub_sub]; rfl
    · rw [if_neg (by omega), dif_neg (by omega)]
  · have := h2.2
    dsimp only at this
    pointwise [carried]
    rw [dif_neg (by omega), dif_neg (by omega), dif_neg (by omega)]
    refine (congrArg _ (congrArg₂ ix2 (Fin.ext (show 192 + n.val - 64 - 64 - 64 = n.val by omega)) rfl)).trans (this.trans ?_)
    rw [← e2]
    congr 2
    by_cases hc : c.val + 1 < 128
    · rw [if_pos (by omega), dif_pos (by omega), Nat.sub_sub]; rfl
    · rw [if_neg (by omega), dif_neg (by omega)]

/-- A trip's group. -/
def gOf (k : Fin k0_t1_loop.trips) : Fin 8 := ⟨k.val, k.isLt⟩

theorem ldU_apply (r : Fin 512) (c : Fin 128) : ldU u8 k (ix2 r c) = u8 (ix3 (gOf k) r c) := by
  unfold ldU
  have e (X : FVec Ideal S1x512x128 .bf16) : shapeCast S512x128 X shapeCasts_S1x512x128_S512x128 (ix2 r c) = X (ix3 0 r c) := by pointwise
  rw [e]
  refine View.ld_unit_apply_of (Val := Elt Ideal) (e := .bf16) (S := S8x512x128) u8 (k0_off1 k) S1x512x128.size (k0_off1_inb k) (ix3 0 r c) (ix3 (gOf k) r c) fun a => ?_
  have h0 : ∀ k a, k0_off1 k a = (![k.val, 0, 0] : Fin 3 → ℕ) a := by decide +kernel
  rw [h0]
  fin_cases a <;> simp [ix3, gOf]

theorem ldS_apply (r : Fin 256) (c : Fin 512) : ldS w3 k (ix2 r c) = w3 (ix3 (gOf k) r c) := by
  unfold ldS
  have e (X : FVec Ideal S1x256x512 .bf16) : shapeCast S256x512 X shapeCasts_S1x256x512_S256x512 (ix2 r c) = X (ix3 0 r c) := by pointwise
  rw [e]
  refine View.ld_unit_apply_of (Val := Elt Ideal) (e := .bf16) (S := S8x256x512) w3 (k0_off2 k) S1x256x512.size (k0_off2_inb k) (ix3 0 r c) (ix3 (gOf k) r c) fun a => ?_
  have h0 : ∀ k a, k0_off2 k a = (![k.val, 0, 0] : Fin 3 → ℕ) a := by decide +kernel
  rw [h0]
  fin_cases a <;> simp [ix3, gOf]

theorem ldT_apply (r c : Fin 512) : ldT t11 k (ix2 r c) = t11 (ix3 (gOf k) r c) := by
  unfold ldT
  have e (X : FVec Ideal S1x512x512 .bf16) : shapeCast S512x512 X shapeCasts_S1x512x512_S512x512 (ix2 r c) = X (ix3 0 r c) := by pointwise
  rw [e]
  refine View.ld_unit_apply_of (Val := Elt Ideal) (e := .bf16) (S := S8x512x512) t11 (k0_off31 k) S1x512x512.size (k0_off31_inb k) (ix3 0 r c) (ix3 (gOf k) r c) fun a => ?_
  have h0 : ∀ k a, k0_off31 k a = (![k.val, 0, 0] : Fin 3 → ℕ) a := by decide +kernel
  rw [h0]
  fin_cases a <;> simp [ix3, gOf]

theorem ldW_apply (r : Fin 512) (c : Fin 256) : ldW w5 k (ix2 r c) = w5 (ix3 (gOf k) r c) := by
  unfold ldW
  have e (X : FVec Ideal S1x512x256 .bf16) : shapeCast S512x256 X shapeCasts_S1x512x256_S512x256 (ix2 r c) = X (ix3 0 r c) := by pointwise
  rw [e]
  refine View.ld_unit_apply_of (Val := Elt Ideal) (e := .bf16) (S := S8x512x256) w5 (k0_off32 k) S1x512x256.size (k0_off32_inb k) (ix3 0 r c) (ix3 (gOf k) r c) fun a => ?_
  have h0 : ∀ k a, k0_off32 k a = (![k.val, 0, 0] : Fin 3 → ℕ) a := by decide +kernel
  rw [h0]
  fin_cases a <;> simp [ix3, gOf]

theorem pw_apply (o : Fin k0_t1_loop.trips → Fin 4 → Nat)
    (ho : ∀ k d, o k d + S1x1x64x128.size d ≤ S8x7x256x128.size d) (j : Fin 7) (r : ℕ) (hr : r + 64 ≤ 256)
    (h0 : ∀ k a, o k a = (![k.val, j.val, r, 0] : Fin 4 → ℕ) a) (n : Fin 64) (c : Fin 128) :
    pw a10 o ho k (ix2 n c) = a10 (ix4 (gOf k) j ⟨r + n.val, by omega⟩ c) := by
  unfold pw
  have e (X : FVec Ideal S1x1x64x128 .f32) : shapeCast S64x128 X shapeCasts_S1x1x64x128_S64x128 (ix2 n c) = X (ix4 0 0 n c) := by pointwise
  rw [e]
  refine View.ld_unit_apply_of (Val := Elt Ideal) (e := .f32) (S := S8x7x256x128) a10 (o k) S1x1x64x128.size (ho k) (ix4 0 0 n c) (ix4 (gOf k) j ⟨r + n.val, by omega⟩ c) fun a => ?_
  rw [h0]
  fin_cases a <;> simp [ix4, gOf]

theorem loc_apply (r : Fin 256) (c : Fin 128) :
    loc w3 u8 k (ix2 r c) = ∑ q : Fin 512, w3 (ix3 (gOf k) r q) * u8 (ix3 (gOf k) q c) := by
  have h : loc w3 u8 k = matmul (F := Ideal) dot_S256x512_S512x128_S256x128_1_0_0_1_n_n none (ldS w3 k) (ldU u8 k) (constant S256x128 FTy.f32 0#32) := rfl
  rw [h]
  simp only [← ldS_apply, ← ldU_apply]
  generalize ldS w3 k = X
  generalize ldU u8 k = Y
  pointwise

theorem tripPay_apply (f b : St) (r : Fin 512) (c : Fin 128) :
    tripPay w5 u8 t11 k f b (ix3 0 r c)
      = (∑ q : Fin 512, t11 (ix3 (gOf k) r q) * u8 (ix3 (gOf k) q c)) + ∑ q : Fin 256, w5 (ix3 (gOf k) r q) * carried f b (ix2 q c) := by
  unfold tripPay
  simp only [← ldT_apply, ← ldU_apply, ← ldW_apply]
  generalize ldT t11 k = X
  generalize ldU u8 k = Y
  generalize ldW w5 k = Z
  generalize carried f b = W
  pointwise

end

end Cert.KernelIdeal.S5
-- ==== Proof.UT.lean ====
/- The transposed inputs of a point, group by group: what the 32 stores leave. -/
module

public import proofs.«01_k».proof.Proof.TripVal

@[expose] public section

set_option maxRecDepth 16384

noncomputable section

open Idealize.ShloMosaic Idealize.ShloMosaic.TcCoe Idealize.SL.Sem

namespace Cert.KernelIdeal.S5

open Cert.KernelIdeal Cert.KernelIdeal.Gen

/-- A group's inputs, position by position within a chunk. -/
def UTf (x0 : FVec Ideal S1x32x128x128 .bf16) : FVec Ideal S8x512x128 .bf16 := fun y =>
  x0 (ix4 0 ⟨(y 1).val / 16, Nat.div_lt_of_lt_mul (y 1).isLt⟩ (y 2) ⟨(y 0).val * 16 + (y 1).val % 16, by
    have h : (y 0).val < 8 := (y 0).isLt; have := Nat.mod_lt (y 1).val (show 0 < 16 by omega); omega⟩)

variable (c : Dev nD) (arg2 : Memref sig .tc .vmem S1x32x128x128 .bf16) (harg2 : arg2.IsWhole) (x0 : FVec Ideal S1x32x128x128 .bf16)

/-- What one store of the inputs computes of the position's block. -/
def utP (X : FVec Ideal S1x1x128x128 .bf16) : FVec Ideal S8x16x128 .bf16 :=
  shapeCast S8x16x128 (truncf .bf16 (shapeCast S8x16x128
    (transpose S128x128 [1, 0] (extf .f32 (shapeCast S128x128 X shapeCasts_S1x1x128x128_S128x128 : FVec Ideal S128x128 .bf16) bitsLt_bf16_f32 : FVec Ideal S128x128 .f32) transposes_S128x128_p1_0_S128x128 : FVec Ideal S128x128 .f32)
    shapeCasts_S128x128_S8x16x128 : FVec Ideal S8x16x128 .f32) bitsLt_bf16_f32 : FVec Ideal S8x16x128 .bf16) shapeCasts_S8x16x128_S8x16x128

theorem utP_apply (X : FVec Ideal S1x1x128x128 .bf16) (g : Fin 8) (p : Fin 16) (c : Fin 128) :
    utP X (ix3 g p c) = X (ix4 0 0 c ⟨g.val * 16 + p.val, by omega⟩) := by
  unfold utP
  pointwise

/-- A store's block agrees with `UTf`. -/
def UtGood (p : View.Piece (Elt Ideal) S8x512x128 .bf16) : Prop := ∀ x : p.1.shape.Idx, p.2 x = UTf x0 (p.1.emb x)

theorem ut_pt (t : ℕ) (inb2) (o : ℕ) (ho : o = 16 * t) (inb8) (ht : t < 32) (g : Fin 8) (p : Fin 16) (q : Fin 128) (x : S8x16x128.Idx)
    (h0 : x 0 = g) (h1 : x 1 = p) (h2 : x 2 = q) :
    utP (View.readAt (Elt Ideal) arg2.view (Rect.unit (s := S1x32x128x128) ![0, t, 0, 0] S1x1x128x128.size inb2).toLoadRect (harg2.unread x0)) x
      = UTf x0 ((Rect.unit (s := S8x512x128) ![0, o, 0] S8x16x128.size inb8).emb x) := by
  obtain rfl : x = ix3 g p q := by
    funext a; fin_cases a
    · exact h0
    · exact h1
    · exact h2
  have e : (Rect.unit (s := S8x512x128) ![0, o, 0] S8x16x128.size inb8).emb (ix3 g p q : S8x16x128.Idx) = ix3 g ⟨16 * t + p.val, by omega⟩ q := by
    funext a
    refine Fin.ext ((Rect.idx_unit_val _ _ _ _ a).trans ?_)
    subst ho
    fin_cases a <;> simp [ix3]
  rw [e, utP_apply, View.readAt_eq_ld, harg2.read_unread]
  refine View.ld_unit_apply_of (Val := Elt Ideal) (e := .bf16) (S := S1x32x128x128) x0 ![0, t, 0, 0] S1x1x128x128.size inb2 _ _ fun a => ?_
  fin_cases a
  · rfl
  · show (16 * t + p.val) / 16 = t + 0; omega
  · show q.val = 0 + q.val; omega
  · show g.val * 16 + (16 * t + p.val) % 16 = 0 + (g.val * 16 + p.val); omega

/-- One store's block agrees with `UTf`. -/
theorem ut_piece (t : ℕ) (inb2) (o : ℕ) (ho : o = 16 * t) (inb8) (pay : FVec Ideal S8x16x128 .bf16)
    (hp : pay = utP (View.readAt (Elt Ideal) arg2.view (Rect.unit (s := S1x32x128x128) ![0, t, 0, 0] S1x1x128x128.size inb2).toLoadRect (harg2.unread x0)))
    : UtGood x0 ⟨Rect.unit (s := S8x512x128) ![0, o, 0] S8x16x128.size inb8, pay⟩ := by
  have ht : t < 32 := by have := inb2 1; exact this
  intro x
  exact (congrFun hp x).trans (ut_pt arg2 harg2 x0 t inb2 o ho inb8 ht (x 0) (x 1) (x 2) x rfl rfl rfl)

theorem HS0_good : ∀ p ∈ kernelRun0_B.sl.HS0_32 (F := Ideal) c arg2 harg2 x0, UtGood x0 p := by
  unfold kernelRun0_B.sl.HS0_32
  repeat' (first | exact List.forall_mem_nil _ | refine List.forall_mem_cons.2 ⟨?_, ?_⟩)
  all_goals exact ut_piece arg2 harg2 x0 _ _ _ (by rfl) _ _ rfl

theorem HS0_cover (y : S8x512x128.Idx) : ∃ p ∈ kernelRun0_B.sl.HS0_32 (F := Ideal) c arg2 harg2 x0, y ∈ p.1.set :=
  View.cover_of_tiledL (kernelRun0_B.sl.HS0_32 (F := Ideal) c arg2 harg2 x0) S8x16x128.size (by sl_kernel_rfl) y

theorem HS0_read (v : View sig .tc .vmem S8x512x128 .bf16) (f : v.ty.Contents (Elt Ideal)) :
    v.read (Elt Ideal) (v.writes (Elt Ideal) f (kernelRun0_B.sl.HS0_32 (F := Ideal) c arg2 harg2 x0)) = UTf x0 := by
  funext y
  rw [View.read_writes_apply_eq_canon _ _ _ _ (HS0_cover c arg2 harg2 x0 y)]
  exact View.canon_apply_of_pieces (UTf x0) _ (HS0_good c arg2 harg2 x0) y (HS0_cover c arg2 harg2 x0 y)

theorem HS0_A : kernelRun0_A.sl.HS0_32 (F := Ideal) c arg2 harg2 x0 = kernelRun0_B.sl.HS0_32 (F := Ideal) c arg2 harg2 x0 := rfl

end Cert.KernelIdeal.S5
-- ==== Proof.Apow.lean ====
/- The powers of the chunk's multiplier a group-block's first point keeps for its later points. -/
module

public import proofs.«01_k».proof.Proof.TripVal

@[expose] public section

set_option maxRecDepth 16384

noncomputable section

open Idealize.ShloMosaic Idealize.ShloMosaic.TcCoe Idealize.SL.Sem

namespace Cert.KernelIdeal.S5

open Cert.KernelIdeal Cert.KernelIdeal.Gen

/-- Both directions' multipliers squared, the four blocks of rows kept apart. -/
def sq (a : FVec Ideal S256x128 .f32) : FVec Ideal S256x128 .f32 :=
  let fr : FVec Ideal S64x128 .f32 := extractStridedSlice S64x128 ![0, 0] a slices_S256x128_o0_0_S64x128
  let fi : FVec Ideal S64x128 .f32 := extractStridedSlice S64x128 ![64, 0] a slices_S256x128_o64_0_S64x128
  let br : FVec Ideal S64x128 .f32 := extractStridedSlice S64x128 ![128, 0] a slices_S256x128_o128_0_S64x128
  let bi : FVec Ideal S64x128 .f32 := extractStridedSlice S64x128 ![192, 0] a slices_S256x128_o192_0_S64x128
  concatenate S256x128 0
    [⟨S64x128, (subf (mulf fr fr) (mulf fi fi) : FVec Ideal S64x128 .f32)⟩,
     ⟨S64x128, (mulf (broadcast S64x128 (FloatOps.ofBits (F := Ideal) .f32 0x40000000#32)) (mulf fr fi) : FVec Ideal S64x128 .f32)⟩,
     ⟨S64x128, (subf (mulf br br) (mulf bi bi) : FVec Ideal S64x128 .f32)⟩,
     ⟨S64x128, (mulf (broadcast S64x128 (FloatOps.ofBits (F := Ideal) .f32 0x40000000#32)) (mulf br bi) : FVec Ideal S64x128 .f32)⟩]
    concatenates_S64x128_S64x128_S64x128_S64x128_S256x128_d0

/-- The multipliers squared `k` times over. -/
def sqn (a : FVec Ideal S256x128 .f32) : ℕ → FVec Ideal S256x128 .f32
  | 0 => a
  | k + 1 => sq (sqn a k)

/-- The whole table of powers. -/
def APf (x4 : FVec Ideal S8x256x128 .f32) : FVec Ideal S8x7x256x128 .f32 := fun y =>
  sqn (fun z : S256x128.Idx => x4 (ix3 (y 0) (z 0) (z 1))) (y 1).val (ix2 (y 2) (y 3))

/-- What one store of a power holds. -/
def apP (k : ℕ) (X : FVec Ideal S1x256x128 .f32) : FVec Ideal S1x1x256x128 .f32 :=
  shapeCast S1x1x256x128 (sqn (shapeCast S256x128 X shapeCasts_S1x256x128_S256x128) k) shapeCasts_S256x128_S1x1x256x128

/-- A store's block agrees with `APf`. -/
def ApGood (x4 : FVec Ideal S8x256x128 .f32) (p : View.Piece (Elt Ideal) S8x7x256x128 .f32) : Prop := ∀ x : p.1.shape.Idx, p.2 x = APf x4 (p.1.emb x)

variable (c : Dev nD) (arg6 : Memref sig .tc .vmem S8x256x128 .f32) (harg6 : arg6.IsWhole) (x4 : FVec Ideal S8x256x128 .f32)

theorem flat_apply (X : FVec Ideal S1x256x128 .f32) (a : Fin 256) (b : Fin 128) :
    shapeCast S256x128 X shapeCasts_S1x256x128_S256x128 (ix2 a b) = X (ix3 0 a b) := by
  pointwise

theorem apP_apply (X : FVec Ideal S256x128 .f32) (a : Fin 256) (b : Fin 128) :
    shapeCast S1x1x256x128 X shapeCasts_S256x128_S1x1x256x128 (ix4 0 0 a b) = X (ix2 a b) := by
  pointwise

theorem ap_pt (g k : ℕ) (inb6) (inb10) (hg : g < 8) (hk : k < 7) (r : Fin 256) (q : Fin 128) (x : S1x1x256x128.Idx)
    (h2 : x 2 = r) (h3 : x 3 = q) :
    apP k (View.readAt (Elt Ideal) arg6.view (Rect.unit (s := S8x256x128) ![g, 0, 0] S1x256x128.size inb6).toLoadRect (harg6.unread x4)) x
      = APf x4 ((Rect.unit (s := S8x7x256x128) ![g, k, 0, 0] S1x1x256x128.size inb10).emb x) := by
  obtain rfl : x = ix4 0 0 r q := by
    funext a; fin_cases a
    · exact Subsingleton.elim (α := Fin 1) _ _
    · exact Subsingleton.elim (α := Fin 1) _ _
    · exact h2
    · exact h3
  have e : (Rect.unit (s := S8x7x256x128) ![g, k, 0, 0] S1x1x256x128.size inb10).emb (ix4 0 0 r q : S1x1x256x128.Idx) = ix4 ⟨g, hg⟩ ⟨k, hk⟩ r q := by
    funext a
    refine Fin.ext ((Rect.idx_unit_val _ _ _ _ a).trans ?_)
    fin_cases a <;> simp [ix4]
  rw [e, View.readAt_eq_ld, harg6.read_unread]
  have ex : shapeCast S256x128 (View.ld (Val := Elt Ideal) (e' := .f32) x4 (Rect.unit (s := S8x256x128) ![g, 0, 0] S1x256x128.size inb6) : FVec Ideal S1x256x128 .f32) shapeCasts_S1x256x128_S256x128
      = fun z : S256x128.Idx => x4 (ix3 (⟨g, hg⟩ : Fin 8) (z 0) (z 1)) := by
    funext z
    obtain ⟨a, b, rfl⟩ : ∃ (a : Fin 256) (b : Fin 128), z = ix2 a b := ⟨z 0, z 1, by funext d; fin_cases d <;> rfl⟩
    have := View.ld_unit_apply_of (Val := Elt Ideal) (e := .f32) (S := S8x256x128) x4 ![g, 0, 0] S1x256x128.size inb6 (ix3 0 a b) (ix3 (⟨g, hg⟩ : Fin 8) a b) fun d => by
      fin_cases d <;> simp [ix3]
    exact (flat_apply _ a b).trans this
  unfold apP
  rw [apP_apply]
  exact congrArg (fun w => sqn w k (ix2 r q)) ex

theorem ap_piece (g k : ℕ) (inb6) (inb10) (pay : FVec Ideal S1x1x256x128 .f32)
    (hp : pay = apP k (View.readAt (Elt Ideal) arg6.view (Rect.unit (s := S8x256x128) ![g, 0, 0] S1x256x128.size inb6).toLoadRect (harg6.unread x4))) :
    ApGood x4 ⟨Rect.unit (s := S8x7x256x128) ![g, k, 0, 0] S1x1x256x128.size inb10, pay⟩ := by
  have hg : g < 8 := by have := inb6 0; exact this
  have hk : k < 7 := by have := inb10 1; exact this
  intro x
  exact (congrFun hp x).trans (ap_pt arg6 harg6 x4 g k inb6 inb10 hg hk (x 2) (x 3) x rfl rfl)

set_option maxHeartbeats 2000000 in
theorem HS2_good : ∀ p ∈ kernelRun0_A.sl.HS2_56 (F := Ideal) c arg6 harg6 x4, ApGood x4 p := by
  unfold kernelRun0_A.sl.HS2_56
  repeat' (first | exact List.forall_mem_nil _ | refine List.forall_mem_cons.2 ⟨?_, ?_⟩)
  all_goals refine ap_piece arg6 harg6 x4 _ _ (by decide) _ _ ?_
  all_goals sl_kernel_rfl

end Cert.KernelIdeal.S5
-- ==== Proof.Taps.lean ====
/- The Toeplitz matrix of taps a group-block's first point keeps for its later points. -/
module

public import proofs.«01_k».proof.Proof.TripVal

@[expose] public section

set_option maxRecDepth 16384

noncomputable section

open Idealize.ShloMosaic Idealize.ShloMosaic.TcCoe Idealize.SL.Sem

namespace Cert.KernelIdeal.S5

open Cert.KernelIdeal Cert.KernelIdeal.Gen

/-- The matrix: each position's rows are the strip of taps, moved to the position. -/
def TTf (x2 : FVec Ideal S8x16x1024 .f32) : FVec Ideal S8x512x512 .bf16 := fun y =>
  x2 (ix3 (y 0) ⟨(y 1).val % 16, Nat.mod_lt _ (by omega)⟩ ⟨(y 2).val + (31 - (y 1).val / 16) * 16, by
    have h : (y 2).val < 512 := (y 2).isLt; omega⟩)

/-- What a store of one position's rows holds, the strip turned by `d` lanes. -/
def ttP (d : BitVec 32) (X : FVec Ideal S1x16x1024 .f32) : FVec Ideal S1x16x512 .bf16 :=
  shapeCast S1x16x512 (truncf .bf16 (extractStridedSlice S16x512 ![0, 0]
    (dynamicRotate 1 d none (shapeCast S16x1024 X shapeCasts_S1x16x1024_S16x1024 : FVec Ideal S16x1024 .f32) rotates_S16x1024_d1 : FVec Ideal S16x1024 .f32)
    slices_S16x1024_o0_0_S16x512 : FVec Ideal S16x512 .f32) bitsLt_bf16_f32 : FVec Ideal S16x512 .bf16) shapeCasts_S16x512_S1x16x512

/-- What the store of the last position's rows holds: the strip as it is. -/
def ttL (X : FVec Ideal S1x16x1024 .f32) : FVec Ideal S1x16x512 .bf16 :=
  shapeCast S1x16x512 (truncf .bf16 (extractStridedSlice S16x512 ![0, 0]
    (shapeCast S16x1024 X shapeCasts_S1x16x1024_S16x1024 : FVec Ideal S16x1024 .f32)
    slices_S16x1024_o0_0_S16x512 : FVec Ideal S16x512 .f32) bitsLt_bf16_f32 : FVec Ideal S16x512 .bf16) shapeCasts_S16x512_S1x16x512

theorem ttP_apply (t : ℕ) (ht : t < 31) (X : FVec Ideal S1x16x1024 .f32) (p : Fin 16) (s : Fin 512) :
    ttP (BitVec.ofNat 32 (528 + 16 * t)) X (ix3 0 p s) = X (ix3 0 p ⟨s.val + (31 - t) * 16, by omega⟩) := by
  have e : (BitVec.ofNat 32 (528 + 16 * t)).toNat = 528 + 16 * t := by
    rw [BitVec.toNat_ofNat]; exact Nat.mod_eq_of_lt (by omega)
  pointwise [ttP]
  refine congrArg (fun k => X (ix3 0 p k)) (Fin.ext ?_)
  show (s.val + 1024 - (BitVec.ofNat 32 (528 + 16 * t)).toNat % 1024) % 1024 = s.val + (31 - t) * 16
  rw [e]
  have := s.isLt
  omega

theorem ttL_apply (X : FVec Ideal S1x16x1024 .f32) (p : Fin 16) (s : Fin 512) :
    ttL X (ix3 0 p s) = X (ix3 0 p ⟨s.val, by omega⟩) := by
  pointwise [ttL]

/-- What the store of position `t` holds. -/
def ttQ (t : ℕ) (X : FVec Ideal S1x16x1024 .f32) : FVec Ideal S1x16x512 .bf16 :=
  bif Nat.beq t 31 then ttL X else ttP (BitVec.ofNat 32 (528 + 16 * t)) X

theorem ttQ_apply (t : ℕ) (ht : t < 32) (X : FVec Ideal S1x16x1024 .f32) (p : Fin 16) (s : Fin 512) :
    ttQ t X (ix3 0 p s) = X (ix3 0 p ⟨s.val + (31 - t) * 16, by omega⟩) := by
  unfold ttQ
  by_cases h : t = 31
  · subst h
    exact ttL_apply X p s
  · rw [show Nat.beq t 31 = false from Bool.eq_false_iff.2 fun e => h (Nat.eq_of_beq_eq_true e)]
    exact ttP_apply t (by omega) X p s

/-- A store's block agrees with `TTf`. -/
def TtGood (x2 : FVec Ideal S8x16x1024 .f32) (p : View.Piece (Elt Ideal) S8x512x512 .bf16) : Prop := ∀ x : p.1.shape.Idx, p.2 x = TTf x2 (p.1.emb x)

variable (c : Dev nD) (arg4 : Memref sig .tc .vmem S8x16x1024 .f32) (harg4 : arg4.IsWhole) (x2 : FVec Ideal S8x16x1024 .f32)

theorem tt_pt (g t : ℕ) (inb4) (o : ℕ) (ho : o = 16 * t) (inb11) (hg : g < 8) (ht : t < 32) (Y : FVec Ideal S1x16x1024 .f32 → FVec Ideal S1x16x512 .bf16)
    (hY : ∀ X (p : Fin 16) (s : Fin 512), Y X (ix3 0 p s) = X (ix3 0 p ⟨s.val + (31 - t) * 16, by omega⟩)) (p : Fin 16) (s : Fin 512) (x : S1x16x512.Idx)
    (h1 : x 1 = p) (h2 : x 2 = s) :
    Y (View.readAt (Elt Ideal) arg4.view (Rect.unit (s := S8x16x1024) ![g, 0, 0] S1x16x1024.size inb4).toLoadRect (harg4.unread x2)) x
      = TTf x2 ((Rect.unit (s := S8x512x512) ![g, o, 0] S1x16x512.size inb11).emb x) := by
  obtain rfl : x = ix3 0 p s := by
    funext a; fin_cases a
    · exact Subsingleton.elim (α := Fin 1) _ _
    · exact h1
    · exact h2
  have e : (Rect.unit (s := S8x512x512) ![g, o, 0] S1x16x512.size inb11).emb (ix3 0 p s : S1x16x512.Idx) = ix3 ⟨g, hg⟩ ⟨16 * t + p.val, by omega⟩ s := by
    funext a
    refine Fin.ext ((Rect.idx_unit_val _ _ _ _ a).trans ?_)
    subst ho
    fin_cases a <;> simp [ix3]
  rw [e, hY, View.readAt_eq_ld, harg4.read_unread]
  refine View.ld_unit_apply_of (Val := Elt Ideal) (e := .f32) (S := S8x16x1024) x2 ![g, 0, 0] S1x16x1024.size inb4 _ _ fun a => ?_
  fin_cases a
  · rfl
  · show (16 * t + p.val) % 16 = 0 + p.val; omega
  · show s.val + (31 - (16 * t + p.val) / 16) * 16 = 0 + (s.val + (31 - t) * 16); omega

theorem tt_piece (g : ℕ) (inb4) (o : ℕ) (ho : o = 16 * (o / 16) ∧ o < 512) (inb11) (pay : FVec Ideal S1x16x512 .bf16)
    (hp : pay = ttQ (o / 16) (View.readAt (Elt Ideal) arg4.view (Rect.unit (s := S8x16x1024) ![g, 0, 0] S1x16x1024.size inb4).toLoadRect (harg4.unread x2))) :
    TtGood x2 ⟨Rect.unit (s := S8x512x512) ![g, o, 0] S1x16x512.size inb11, pay⟩ := by
  have hg : g < 8 := by have := inb4 0; exact this
  intro x
  exact (congrFun hp x).trans (tt_pt arg4 harg4 x2 g (o / 16) inb4 o ho.1 inb11 hg (by omega) _ (ttQ_apply (o / 16) (by omega)) (x 1) (x 2) x rfl rfl)

set_option maxHeartbeats 1000000 in
theorem HS3_good : ∀ p ∈ kernelRun0_A.sl.HS3_256 (F := Ideal) c arg4 harg4 x2, TtGood x2 p := by
  unfold kernelRun0_A.sl.HS3_256
  repeat' (first | exact List.forall_mem_nil _ | refine List.forall_mem_cons.2 ⟨?_, ?_⟩)
  all_goals refine tt_piece arg4 harg4 x2 _ (by decide) _ (by decide) _ _ ?_
  all_goals sl_kernel_rfl

end Cert.KernelIdeal.S5
-- ==== Proof.Out.lean ====
/- A point's output block: the eight trips' blocks, read back position by position. -/
module

public import proofs.«01_k».proof.Proof.UT
public import proofs.«01_k».proof.Proof.Apow
public import proofs.«01_k».proof.Proof.Taps

@[expose] public section

set_option maxRecDepth 16384

noncomputable section

open Idealize.ShloMosaic Idealize.ShloMosaic.TcCoe Idealize.SL.Sem

namespace Cert.KernelIdeal.S5

open Cert.KernelIdeal Cert.KernelIdeal.Gen

/-- A group's number as a trip's. -/
def kOf (g : Fin 8) : Fin k0_t1_loop.trips := ⟨g.val, g.isLt⟩

section Block

variable (w3 : FVec Ideal S8x256x512 .bf16) (w5 : FVec Ideal S8x512x256 .bf16) (u8 : FVec Ideal S8x512x128 .bf16) (a10 : FVec Ideal S8x7x256x128 .f32) (t11 : FVec Ideal S8x512x512 .bf16)

/-- What the trips leave, group by group. -/
def YTf : FVec Ideal S8x512x128 .f32 := fun y =>
  tripPay w5 u8 t11 (kOf (y 0)) (fwd w3 u8 a10 (kOf (y 0)) 7) (bwd w3 u8 a10 (kOf (y 0)) 7) (ix3 0 (y 1) (y 2))

/-- A trip's piece. -/
def pc (k : Fin k0_t1_loop.trips) : View.Piece (Elt Ideal) S8x512x128 .f32 :=
  ⟨Rect.unit (s := S8x512x128) (k0_off1 k) S1x512x128.size (k0_off1_inb k), tripPay w5 u8 t11 k (fwd w3 u8 a10 k 7) (bwd w3 u8 a10 k 7)⟩

theorem off1_eq : ∀ (k : Fin k0_t1_loop.trips) (a : Fin 3), k0_off1 k a = (![k.val, 0, 0] : Fin 3 → ℕ) a := by decide +kernel

theorem pc_good (k : Fin k0_t1_loop.trips) (x : (pc w3 w5 u8 a10 t11 k).1.shape.Idx) :
    (pc w3 w5 u8 a10 t11 k).2 x = YTf w3 w5 u8 a10 t11 ((pc w3 w5 u8 a10 t11 k).1.emb x) := by
  have e (a : Fin 3) : ((pc w3 w5 u8 a10 t11 k).1.emb x a).val = (![k.val, 0, 0] : Fin 3 → ℕ) a + (x a).val :=
    (Rect.idx_unit_val (s := S8x512x128) (k0_off1 k) S1x512x128.size (k0_off1_inb k) x a).trans (by rw [off1_eq])
  have hx0 : (x 0).val = 0 := by have h : (x 0).val < 1 := (x 0).isLt; omega
  have e0 : kOf ((pc w3 w5 u8 a10 t11 k).1.emb x 0) = k := Fin.ext ((e 0).trans (by rw [hx0]; rfl))
  have e1 : ix3 (0 : Fin 1) ((pc w3 w5 u8 a10 t11 k).1.emb x 1) ((pc w3 w5 u8 a10 t11 k).1.emb x 2) = x := by
    funext a
    fin_cases a
    · exact Fin.ext hx0.symm
    · exact Fin.ext ((e 1).trans (Nat.zero_add _))
    · exact Fin.ext ((e 2).trans (Nat.zero_add _))
  unfold YTf
  rw [e0]
  exact (congrArg (tripPay w5 u8 t11 k (fwd w3 u8 a10 k 7) (bwd w3 u8 a10 k 7)) e1).symm

theorem mem_pc (y : S8x512x128.Idx) : y ∈ (pc w3 w5 u8 a10 t11 (kOf (y 0))).1.set := by
  show y ∈ (Rect.unit (s := S8x512x128) (k0_off1 (kOf (y 0))) S1x512x128.size (k0_off1_inb (kOf (y 0)))).set
  refine Rect.mem_set_unit.2 fun a => ?_
  rw [off1_eq]
  have h1 : (y 1).val < 512 := (y 1).isLt
  have h2 : (y 2).val < 128 := (y 2).isLt
  fin_cases a
  · exact ⟨le_refl _, Nat.lt_succ_self _⟩
  · exact ⟨Nat.zero_le _, (Nat.zero_add 512).symm ▸ h1⟩
  · exact ⟨Nat.zero_le _, (Nat.zero_add 128).symm ▸ h2⟩

/-- What one position's store makes of the position's rows. -/
def outP (X : FVec Ideal S8x16x128 .f32) : FVec Ideal S1x1x128x128 .f32 :=
  shapeCast S1x1x128x128 (transpose S128x128 [1, 0] (shapeCast S128x128 X shapeCasts_S8x16x128_S128x128 : FVec Ideal S128x128 .f32) transposes_S128x128_p1_0_S128x128 : FVec Ideal S128x128 .f32) shapeCasts_S128x128_S1x1x128x128

theorem outP_apply (X : FVec Ideal S8x16x128 .f32) (c h : Fin 128) :
    outP X (ix4 0 0 c h) = X (ix3 ⟨h.val / 16, by omega⟩ ⟨h.val % 16, by omega⟩ c) := by
  unfold outP
  pointwise

/-- A point's output block. -/
def OutF (x0 : FVec Ideal S1x32x128x128 .bf16) : FVec Ideal S1x32x128x128 .f32 := fun y =>
  YTf w3 w5 (UTf x0) a10 t11 (ix3 ⟨(y 3).val / 16, by have h : (y 3).val < 128 := (y 3).isLt; omega⟩
    ⟨16 * (y 1).val + (y 3).val % 16, by have h : (y 1).val < 32 := (y 1).isLt; omega⟩ (y 2))

end Block

section Point

variable (c : Dev nD) (i : grid0.Coords) (arg2 : Memref sig .tc .vmem S1x32x128x128 .bf16) (harg2 : arg2.IsWhole) (arg3 : Memref sig .tc .vmem S8x256x512 .bf16) (harg3 : arg3.IsWhole) (arg4 : Memref sig .tc .vmem S8x16x1024 .f32) (harg4 : arg4.IsWhole) (arg5 : Memref sig .tc .vmem S8x512x256 .bf16) (harg5 : arg5.IsWhole) (arg6 : Memref sig .tc .vmem S8x256x128 .f32) (harg6 : arg6.IsWhole) (arg7 : Memref sig .tc .vmem S1x32x128x128 .f32) (harg7 : arg7.IsWhole) (arg8 : Memref sig .tc .vmem S8x512x128 .bf16) (harg8 : arg8.IsWhole) (arg9 : Memref sig .tc .vmem S8x512x128 .f32) (harg9 : arg9.IsWhole) (arg10 : Memref sig .tc .vmem S8x7x256x128 .f32) (harg10 : arg10.IsWhole) (arg11 : Memref sig .tc .vmem S8x512x512 .bf16) (harg11 : arg11.IsWhole)

section Trips

variable (v282 : FVec Ideal S1x1x128x128 .bf16) (X_arg3 : arg3.view.ty.Contents (Elt Ideal)) (X_arg5 : arg5.view.ty.Contents (Elt Ideal)) (X_arg8 : arg8.view.ty.Contents (Elt Ideal)) (X_arg10 : arg10.view.ty.Contents (Elt Ideal)) (X_arg11 : arg11.view.ty.Contents (Elt Ideal))

/-- The pieces the first `n` trips leave. -/
def pbs (n : ℕ) : List (View.Piece (Elt Ideal) S8x512x128 .f32) :=
  pb_k0_t1 (F := Ideal) Variants.none c none i arg2 harg2 arg3 harg3 arg4 harg4 arg5 harg5 arg6 harg6 arg7 harg7 arg8 harg8 arg9 harg9 arg10 harg10 arg11 harg11 v282 lanes X_arg3 X_arg5 X_arg8 X_arg10 X_arg11 n

/-- A trip's piece, of what the buffers hold. -/
def pcs (k : Fin k0_t1_loop.trips) : View.Piece (Elt Ideal) S8x512x128 .f32 :=
  pc (arg3.view.read (Elt Ideal) X_arg3) (arg5.view.read (Elt Ideal) X_arg5) (arg8.view.read (Elt Ideal) X_arg8) (arg10.view.read (Elt Ideal) X_arg10) (arg11.view.read (Elt Ideal) X_arg11) k

theorem pbs_succ (k : Fin k0_t1_loop.trips) :
    pbs c i arg2 harg2 arg3 harg3 arg4 harg4 arg5 harg5 arg6 harg6 arg7 harg7 arg8 harg8 arg9 harg9 arg10 harg10 arg11 harg11 v282 X_arg3 X_arg5 X_arg8 X_arg10 X_arg11 (k.val + 1)
      = pcs arg3 arg5 arg8 arg10 arg11 X_arg3 X_arg5 X_arg8 X_arg10 X_arg11 k :: pbs c i arg2 harg2 arg3 harg3 arg4 harg4 arg5 harg5 arg6 harg6 arg7 harg7 arg8 harg8 arg9 harg9 arg10 harg10 arg11 harg11 v282 X_arg3 X_arg5 X_arg8 X_arg10 X_arg11 k.val := by
  unfold pbs
  rw [pb_k0_t1_succ, tripL_eq]
  rfl

theorem pbs_all (n : ℕ) (hn : n ≤ k0_t1_loop.trips) :
    (∀ p ∈ pbs c i arg2 harg2 arg3 harg3 arg4 harg4 arg5 harg5 arg6 harg6 arg7 harg7 arg8 harg8 arg9 harg9 arg10 harg10 arg11 harg11 v282 X_arg3 X_arg5 X_arg8 X_arg10 X_arg11 n, ∃ k, p = pcs arg3 arg5 arg8 arg10 arg11 X_arg3 X_arg5 X_arg8 X_arg10 X_arg11 k)
      ∧ ∀ k : Fin k0_t1_loop.trips, k.val < n → pcs arg3 arg5 arg8 arg10 arg11 X_arg3 X_arg5 X_arg8 X_arg10 X_arg11 k ∈ pbs c i arg2 harg2 arg3 harg3 arg4 harg4 arg5 harg5 arg6 harg6 arg7 harg7 arg8 harg8 arg9 harg9 arg10 harg10 arg11 harg11 v282 X_arg3 X_arg5 X_arg8 X_arg10 X_arg11 n := by
  induction n with
  | zero => exact ⟨fun p hp => absurd hp (List.not_mem_nil (a := p)), fun k hk => absurd hk (Nat.not_lt_zero _)⟩
  | succ n ih =>
    have ih := ih (by omega)
    have e := pbs_succ c i arg2 harg2 arg3 harg3 arg4 harg4 arg5 harg5 arg6 harg6 arg7 harg7 arg8 harg8 arg9 harg9 arg10 harg10 arg11 harg11 v282 X_arg3 X_arg5 X_arg8 X_arg10 X_arg11 ⟨n, by omega⟩
    rw [show n + 1 = (⟨n, by omega⟩ : Fin k0_t1_loop.trips).val + 1 from rfl, e]
    constructor
    · intro p hp
      rcases List.mem_cons.1 hp with h | h
      · exact ⟨_, h⟩
      · exact ih.1 p h
    · intro k hk
      by_cases h : k.val = n
      · exact List.mem_cons.2 (Or.inl (by rw [show k = ⟨n, by omega⟩ from Fin.ext h]))
      · have hk' : k.val < n + 1 := hk
        exact List.mem_cons.2 (Or.inr (ih.2 k (by omega)))

theorem pbs_canon (y : S8x512x128.Idx) :
    View.canon (pbs c i arg2 harg2 arg3 harg3 arg4 harg4 arg5 harg5 arg6 harg6 arg7 harg7 arg8 harg8 arg9 harg9 arg10 harg10 arg11 harg11 v282 X_arg3 X_arg5 X_arg8 X_arg10 X_arg11 8) y
      = YTf (arg3.view.read (Elt Ideal) X_arg3) (arg5.view.read (Elt Ideal) X_arg5) (arg8.view.read (Elt Ideal) X_arg8) (arg10.view.read (Elt Ideal) X_arg10) (arg11.view.read (Elt Ideal) X_arg11) y := by
  have h := pbs_all c i arg2 harg2 arg3 harg3 arg4 harg4 arg5 harg5 arg6 harg6 arg7 harg7 arg8 harg8 arg9 harg9 arg10 harg10 arg11 harg11 v282 X_arg3 X_arg5 X_arg8 X_arg10 X_arg11 8 (by decide)
  refine View.canon_apply_of_pieces _ _ (fun p hp x => ?_) y ⟨_, h.2 (kOf (y 0)) (y 0).isLt, mem_pc _ _ _ _ _ y⟩
  obtain ⟨k, rfl⟩ := h.1 p hp
  exact pc_good _ _ _ _ _ k x

/-- One position's store agrees with `OutF`. -/
def OutGood (w3 : FVec Ideal S8x256x512 .bf16) (w5 : FVec Ideal S8x512x256 .bf16) (a10 : FVec Ideal S8x7x256x128 .f32) (t11 : FVec Ideal S8x512x512 .bf16) (x0 : FVec Ideal S1x32x128x128 .bf16) (p : View.Piece (Elt Ideal) S1x32x128x128 .f32) : Prop :=
  ∀ x : p.1.shape.Idx, p.2 x = OutF w3 w5 a10 t11 x0 (p.1.emb x)

theorem out_pt (x0 : FVec Ideal S1x32x128x128 .bf16) (h8 : arg8.view.read (Elt Ideal) X_arg8 = UTf x0) (t : ℕ) (ht : t < 32) (o : ℕ) (ho : o = 16 * t) (inb9) (inb7) (v : View sig .tc .vmem S8x512x128 .f32)
    (q r : Fin 128) (x : S1x1x128x128.Idx) (h2 : x 2 = q) (h3 : x 3 = r) :
    outP (v.readCov (pbs c i arg2 harg2 arg3 harg3 arg4 harg4 arg5 harg5 arg6 harg6 arg7 harg7 arg8 harg8 arg9 harg9 arg10 harg10 arg11 harg11 v282 X_arg3 X_arg5 X_arg8 X_arg10 X_arg11 8) (Rect.unit (s := S8x512x128) ![0, o, 0] S8x16x128.size inb9).toLoadRect) x
      = OutF (arg3.view.read (Elt Ideal) X_arg3) (arg5.view.read (Elt Ideal) X_arg5) (arg10.view.read (Elt Ideal) X_arg10) (arg11.view.read (Elt Ideal) X_arg11) x0
          ((Rect.unit (s := S1x32x128x128) ![0, t, 0, 0] S1x1x128x128.size inb7).emb x) := by
  obtain rfl : x = ix4 0 0 q r := by
    funext a; fin_cases a
    · exact Subsingleton.elim (α := Fin 1) _ _
    · exact Subsingleton.elim (α := Fin 1) _ _
    · exact h2
    · exact h3
  have e : (Rect.unit (s := S1x32x128x128) ![0, t, 0, 0] S1x1x128x128.size inb7).emb (ix4 0 0 q r : S1x1x128x128.Idx) = ix4 0 ⟨t, ht⟩ q r := by
    funext a
    refine Fin.ext ((Rect.idx_unit_val _ _ _ _ a).trans ?_)
    fin_cases a <;> simp [ix4]
  rw [e, outP_apply, View.readCov_eq_canon']
  refine (pbs_canon c i arg2 harg2 arg3 harg3 arg4 harg4 arg5 harg5 arg6 harg6 arg7 harg7 arg8 harg8 arg9 harg9 arg10 harg10 arg11 harg11 v282 X_arg3 X_arg5 X_arg8 X_arg10 X_arg11 _).trans ?_
  rw [h8]
  unfold OutF
  refine congrArg _ ?_
  funext a
  refine Fin.ext ((Rect.idx_unit_val _ _ _ _ a).trans ?_)
  subst ho
  fin_cases a <;> simp [ix3, ix4]

theorem out_piece (x0 : FVec Ideal S1x32x128x128 .bf16) (h8 : arg8.view.read (Elt Ideal) X_arg8 = UTf x0) (v : View sig .tc .vmem S8x512x128 .f32) (t : ℕ) (inb9) (inb7) (pay : FVec Ideal S1x1x128x128 .f32)
    (hp : pay = outP (v.readCov (pbs c i arg2 harg2 arg3 harg3 arg4 harg4 arg5 harg5 arg6 harg6 arg7 harg7 arg8 harg8 arg9 harg9 arg10 harg10 arg11 harg11 v282 X_arg3 X_arg5 X_arg8 X_arg10 X_arg11 8) (Rect.unit (s := S8x512x128) ![0, 16 * t, 0] S8x16x128.size inb9).toLoadRect)) :
    OutGood (arg3.view.read (Elt Ideal) X_arg3) (arg5.view.read (Elt Ideal) X_arg5) (arg10.view.read (Elt Ideal) X_arg10) (arg11.view.read (Elt Ideal) X_arg11) x0
      ⟨Rect.unit (s := S1x32x128x128) ![0, t, 0, 0] S1x1x128x128.size inb7, pay⟩ := by
  have ht : t < 32 := by have := inb7 1; exact this
  intro x
  exact (congrFun hp x).trans (out_pt c i arg2 harg2 arg3 harg3 arg4 harg4 arg5 harg5 arg6 harg6 arg7 harg7 arg8 harg8 arg9 harg9 arg10 harg10 arg11 harg11 v282 X_arg3 X_arg5 X_arg8 X_arg10 X_arg11 x0 h8 t ht (16 * t) rfl inb9 inb7 v (x 2) (x 3) x rfl rfl)

end Trips

variable (x0 : FVec Ideal S1x32x128x128 .bf16) (x1 : FVec Ideal S8x256x512 .bf16) (x2 : FVec Ideal S8x16x1024 .f32) (x3 : FVec Ideal S8x512x256 .bf16) (x4 : FVec Ideal S8x256x128 .f32)

set_option maxHeartbeats 1000000 in
/-- A later point's block. -/
theorem outB_eq (hc0 : ¬cond0_0 i) (xs2 : FVec Ideal S8x7x256x128 .f32) (xs3 : FVec Ideal S8x512x512 .bf16) :
    out0_B_5 (F := Ideal) c i arg2 harg2 arg3 harg3 arg4 harg4 arg5 harg5 arg6 harg6 arg7 harg7 arg8 harg8 arg9 harg9 arg10 harg10 arg11 harg11 hc0 x0 x1 x2 x3 x4 xs2 xs3 = OutF x1 x3 xs2 xs3 x0 := by
  funext y
  have cov := cover0_B_5 (F := Ideal) c i arg2 harg2 arg3 harg3 arg4 harg4 arg5 harg5 arg6 harg6 arg7 harg7 arg8 harg8 arg9 harg9 arg10 harg10 arg11 harg11 hc0 x0 x1 x2 x3 x4 xs2 xs3 y
  unfold out0_B_5
  rw [View.read_writes_junk_eq_canon]
  refine View.canon_apply_of_pieces (OutF x1 x3 xs2 xs3 x0) _ ?_ y cov
  have key := out_piece c i arg2 harg2 arg3 harg3 arg4 harg4 arg5 harg5 arg6 harg6 arg7 harg7 arg8 harg8 arg9 harg9 arg10 harg10 arg11 harg11 (kernelRun0_B.sl.r_4 (F := Ideal) c arg2 harg2 x0) (harg3.unread x1) (harg5.unread x3)
    (arg8.view.writes (Elt Ideal) arg8.view.junk (kernelRun0_B.sl.HS0_32 (F := Ideal) c arg2 harg2 x0)) (harg10.unread xs2) (harg11.unread xs3) x0
    (HS0_read c arg2 harg2 x0 arg8.view _) arg9.view
  rw [harg3.read_unread, harg5.read_unread, harg10.read_unread, harg11.read_unread] at key
  show ∀ p ∈ _, OutGood x1 x3 xs2 xs3 x0 p
  unfold kernelRun0_B
  dsimp only
  repeat' (first | exact List.forall_mem_nil _ | refine List.forall_mem_cons.2 ⟨?_, ?_⟩)
  all_goals refine key _ (by decide) _ _ ?_
  all_goals sl_kernel_rfl

/-- The second scratch after a run's first point: the decay's powers. -/
theorem HS2_canon (y : S8x7x256x128.Idx) : View.canon (kernelRun0_A.sl.HS2_56 (F := Ideal) c arg6 harg6 x4) y = APf x4 y :=
  View.canon_apply_of_pieces (APf x4) _ (HS2_good c arg6 harg6 x4) y (View.cover_of_tiledL (kernelRun0_A.sl.HS2_56 (F := Ideal) c arg6 harg6 x4) S1x1x256x128.size (by sl_kernel_rfl) y)

/-- The third scratch after a run's first point: the taps by position. -/
theorem HS3_canon (y : S8x512x512.Idx) : View.canon (kernelRun0_A.sl.HS3_256 (F := Ideal) c arg4 harg4 x2) y = TTf x2 y :=
  View.canon_apply_of_pieces (TTf x2) _ (HS3_good c arg4 harg4 x2) y (View.cover_of_tiledL (kernelRun0_A.sl.HS3_256 (F := Ideal) c arg4 harg4 x2) S1x16x512.size (by sl_kernel_rfl) y)

theorem HS2_read (v : View sig .tc .vmem S8x7x256x128 .f32) (f : v.ty.Contents (Elt Ideal)) :
    v.read (Elt Ideal) (v.writes (Elt Ideal) f (kernelRun0_A.sl.HS2_56 (F := Ideal) c arg6 harg6 x4)) = APf x4 := by
  funext y
  rw [View.read_writes_apply_eq_canon v f y _ (View.cover_of_tiledL (kernelRun0_A.sl.HS2_56 (F := Ideal) c arg6 harg6 x4) S1x1x256x128.size (by sl_kernel_rfl) y)]
  exact HS2_canon c arg6 harg6 x4 y

theorem HS3_read (v : View sig .tc .vmem S8x512x512 .bf16) (f : v.ty.Contents (Elt Ideal)) :
    v.read (Elt Ideal) (v.writes (Elt Ideal) f (kernelRun0_A.sl.HS3_256 (F := Ideal) c arg4 harg4 x2)) = TTf x2 := by
  funext y
  rw [View.read_writes_apply_eq_canon v f y _ (View.cover_of_tiledL (kernelRun0_A.sl.HS3_256 (F := Ideal) c arg4 harg4 x2) S1x16x512.size (by sl_kernel_rfl) y)]
  exact HS3_canon c arg4 harg4 x2 y

theorem soutA2_eq (hc0 : cond0_0 i) : sout0_A_2 (F := Ideal) c i arg2 harg2 arg3 harg3 arg4 harg4 arg5 harg5 arg6 harg6 arg7 harg7 arg8 harg8 arg9 harg9 arg10 harg10 arg11 harg11 hc0 x0 x1 x2 x3 x4 = APf x4 := by
  unfold sout0_A_2 kernelRun0_A
  exact HS2_read c arg6 harg6 x4 _ _

theorem soutA3_eq (hc0 : cond0_0 i) : sout0_A_3 (F := Ideal) c i arg2 harg2 arg3 harg3 arg4 harg4 arg5 harg5 arg6 harg6 arg7 harg7 arg8 harg8 arg9 harg9 arg10 harg10 arg11 harg11 hc0 x0 x1 x2 x3 x4 = TTf x2 := by
  unfold sout0_A_3 kernelRun0_A
  exact HS3_read c arg4 harg4 x2 _ _

set_option maxHeartbeats 1000000 in
/-- A run's first point's block. -/
theorem outA_eq (hc0 : cond0_0 i) :
    out0_A_5 (F := Ideal) c i arg2 harg2 arg3 harg3 arg4 harg4 arg5 harg5 arg6 harg6 arg7 harg7 arg8 harg8 arg9 harg9 arg10 harg10 arg11 harg11 hc0 x0 x1 x2 x3 x4 = OutF x1 x3 (APf x4) (TTf x2) x0 := by
  funext y
  have cov := cover0_A_5 (F := Ideal) c i arg2 harg2 arg3 harg3 arg4 harg4 arg5 harg5 arg6 harg6 arg7 harg7 arg8 harg8 arg9 harg9 arg10 harg10 arg11 harg11 hc0 x0 x1 x2 x3 x4 y
  unfold out0_A_5
  rw [View.read_writes_junk_eq_canon]
  refine View.canon_apply_of_pieces (OutF x1 x3 (APf x4) (TTf x2) x0) _ ?_ y cov
  have key := out_piece c i arg2 harg2 arg3 harg3 arg4 harg4 arg5 harg5 arg6 harg6 arg7 harg7 arg8 harg8 arg9 harg9 arg10 harg10 arg11 harg11 (kernelRun0_A.sl.r_116 (F := Ideal) c arg2 harg2 x0) (harg3.unread x1) (harg5.unread x3)
    (arg8.view.writes (Elt Ideal) arg8.view.junk (kernelRun0_A.sl.HS0_32 (F := Ideal) c arg2 harg2 x0))
    (arg10.view.writes (Elt Ideal) arg10.view.junk (kernelRun0_A.sl.HS2_56 (F := Ideal) c arg6 harg6 x4))
    (arg11.view.writes (Elt Ideal) arg11.view.junk (kernelRun0_A.sl.HS3_256 (F := Ideal) c arg4 harg4 x2)) x0
    (HS0_read c arg2 harg2 x0 arg8.view _) arg9.view
  rw [harg3.read_unread, harg5.read_unread, HS2_read, HS3_read] at key
  show ∀ p ∈ _, OutGood x1 x3 (APf x4) (TTf x2) x0 p
  unfold kernelRun0_A
  dsimp only
  repeat' (first | exact List.forall_mem_nil _ | refine List.forall_mem_cons.2 ⟨?_, ?_⟩)
  all_goals refine key _ (by decide) _ _ ?_
  all_goals sl_kernel_rfl

end Point

end Cert.KernelIdeal.S5
-- ==== Proof.Block.lean ====
/- What every point of the grid leaves, of the operands' blocks. -/
module

public import proofs.«01_k».proof.Proof.Out

@[expose] public section

set_option maxRecDepth 16384

noncomputable section

open Idealize.ShloMosaic Idealize.ShloMosaic.TcCoe Idealize.SL.Sem

namespace Cert.KernelIdeal.S5

open Cert.KernelIdeal Cert.KernelIdeal.Gen Cert.KernelIdeal.Value

variable (m : (ℓ : Loc nD τ sig) → Buf (Elt Ideal) ℓ) (c : Dev nD)

theorem idx0 : ∀ t : Fin cfg0.N, win0_0.index t = ![t.val % 10, 0, 0, t.val / 10] := (by decide +kernel : ∀ t : Fin grid0.N, _)
theorem idx1 : ∀ t : Fin cfg0.N, win0_1.index t = ![t.val / 10, 0, 0] := (by decide +kernel : ∀ t : Fin grid0.N, _)
theorem idx2 : ∀ t : Fin cfg0.N, win0_2.index t = ![t.val / 10, 0, 0] := (by decide +kernel : ∀ t : Fin grid0.N, _)
theorem idx3 : ∀ t : Fin cfg0.N, win0_3.index t = ![t.val / 10, 0, 0] := (by decide +kernel : ∀ t : Fin grid0.N, _)
theorem idx4 : ∀ t : Fin cfg0.N, win0_4.index t = ![t.val / 10, 0, 0] := (by decide +kernel : ∀ t : Fin grid0.N, _)

theorem lt40 (t : Fin cfg0.N) : t.val < 40 := lt_of_lt_of_eq t.isLt (show cfg0.N = 40 from N_0)

theorem blk0 (t : Fin cfg0.N) (s : Fin 32) (l k : Fin 128) :
    iblk m c 0 t (ix4 0 s l k) = (Gen.V m c main_v2 : FVec Ideal S10x32x128x512 .bf16) (ix4 ⟨t.val % 10, by omega⟩ s l ⟨t.val / 10 * 128 + k.val, by have := lt40 t; omega⟩) := by
  blk_ext [iblk, idx0 t]
theorem blk1 (t : Fin cfg0.N) (g : Fin 8) (r : Fin 256) (l : Fin 512) :
    iblk m c 1 t (ix3 g r l) = (Gen.V m c main_v263 : FVec Ideal S32x256x512 .bf16) (ix3 ⟨t.val / 10 * 8 + g.val, by have := lt40 t; omega⟩ r l) := by
  blk_ext [iblk, idx1 t]
theorem blk2 (t : Fin cfg0.N) (g : Fin 8) (r : Fin 16) (l : Fin 1024) :
    iblk m c 2 t (ix3 g r l) = (Gen.V m c main_v207 : FVec Ideal S32x16x1024 .f32) (ix3 ⟨t.val / 10 * 8 + g.val, by have := lt40 t; omega⟩ r l) := by
  blk_ext [iblk, idx2 t]
theorem blk3 (t : Fin cfg0.N) (g : Fin 8) (r : Fin 512) (l : Fin 256) :
    iblk m c 3 t (ix3 g r l) = (Gen.V m c main_v264 : FVec Ideal S32x512x256 .bf16) (ix3 ⟨t.val / 10 * 8 + g.val, by have := lt40 t; omega⟩ r l) := by
  blk_ext [iblk, idx3 t]
theorem blk4 (t : Fin cfg0.N) (g : Fin 8) (r : Fin 256) (l : Fin 128) :
    iblk m c 4 t (ix3 g r l) = (Gen.V m c main_v262 : FVec Ideal S32x256x128 .f32) (ix3 ⟨t.val / 10 * 8 + g.val, by have := lt40 t; omega⟩ r l) := by
  blk_ext [iblk, idx4 t]

theorem ext3 {a b d : ℕ} {f g : (⟨3, ![a, b, d]⟩ : Shape).Idx → EReal} (h : ∀ i j k, f (ix3 i j k) = g (ix3 i j k)) : f = g := by
  funext x
  have e : x = ix3 (x 0) (x 1) (x 2) := by funext a; fin_cases a <;> rfl
  rw [e]
  exact h _ _ _

theorem blk2_run (t t' : Fin cfg0.N) (h : t.val / 10 = t'.val / 10) : (iblk m c 2 t : FVec Ideal S8x16x1024 .f32) = iblk m c 2 t' := by
  refine ext3 fun i j k => ?_
  rw [blk2, blk2]
  simp only [h]
theorem blk4_run (t t' : Fin cfg0.N) (h : t.val / 10 = t'.val / 10) : (iblk m c 4 t : FVec Ideal S8x256x128 .f32) = iblk m c 4 t' := by
  refine ext3 fun i j k => ?_
  rw [blk4, blk4]
  simp only [h]

theorem stepA (t : Fin cfg0.N) (h0 : t.val % 10 = 0) : (outsAt0 m c t.val t.isLt)
    = (OutF (iblk m c 1 t) (iblk m c 3 t) (APf (iblk m c 4 t)) (TTf (iblk m c 2 t)) (iblk m c 0 t), APf (iblk m c 4 t), TTf (iblk m c 2 t)) := by
  refine (outsAt0_A m c t h0).trans ?_
  refine congrArg₂ Prod.mk ?_ (congrArg₂ Prod.mk ?_ ?_)
  · exact outA_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((hcond0_0 t).mpr h0)
  · exact soutA2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((hcond0_0 t).mpr h0)
  · exact soutA3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((hcond0_0 t).mpr h0)

theorem stepB (t : Fin cfg0.N) (h0 : ¬t.val % 10 = 0) (hlt : t.val - 1 < cfg0.N) : (outsAt0 m c t.val t.isLt)
    = (OutF (iblk m c 1 t) (iblk m c 3 t) (outsAt0 m c (t.val - 1) hlt).2.1 (outsAt0 m c (t.val - 1) hlt).2.2 (iblk m c 0 t), (outsAt0 m c (t.val - 1) hlt).2.1, (outsAt0 m c (t.val - 1) hlt).2.2) := by
  refine (outsAt0_B m c t h0).trans ?_
  refine congrArg₂ Prod.mk ?_ (congrArg₂ Prod.mk ?_ ?_)
  · exact outB_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (fun h => h0 ((hcond0_0 t).mp h)) (outsAt0 m c (t.val - 1) hlt).2.1 (outsAt0 m c (t.val - 1) hlt).2.2
  · rfl
  · rfl

/-- A point's output block and its two carried scratches. -/
theorem point_eq (n : ℕ) (t : Fin cfg0.N) (ht : t.val = n) : (outsAt0 m c t.val t.isLt)
    = (OutF (iblk m c 1 t) (iblk m c 3 t) (APf (iblk m c 4 t)) (TTf (iblk m c 2 t)) (iblk m c 0 t), APf (iblk m c 4 t), TTf (iblk m c 2 t)) := by
  induction n generalizing t with
  | zero => exact stepA m c t (by rw [ht])
  | succ n ih =>
    by_cases h0 : t.val % 10 = 0
    · exact stepA m c t h0
    · have hlt : t.val - 1 < cfg0.N := Nat.lt_of_le_of_lt (Nat.sub_le _ _) t.isLt
      have h := ih ⟨t.val - 1, hlt⟩ (by simp only; omega)
      rw [stepB m c t h0 hlt, h, blk2_run m c t ⟨t.val - 1, hlt⟩ (by simp only; omega), blk4_run m c t ⟨t.val - 1, hlt⟩ (by simp only; omega)]

/-- A point's output block. -/
theorem block_eq (t : Fin cfg0.N) :
    (outsAt0 m c t.val t.isLt).1 = OutF (iblk m c 1 t) (iblk m c 3 t) (APf (iblk m c 4 t)) (TTf (iblk m c 2 t)) (iblk m c 0 t) :=
  congrArg Prod.fst (point_eq m c t.val t rfl)

/-- The call's result at an index. -/
theorem G5_at (b : Fin 10) (s : Fin 32) (l : Fin 128) (q : Fin 4) (k : Fin 128) (t : Fin cfg0.N) (ht : t.val = 10 * q.val + b.val) :
    G5 m c (ix4 b s l ⟨q.val * 128 + k.val, by omega⟩ : S10x32x128x512.Idx)
      = OutF (iblk m c 1 t) (iblk m c 3 t) (APf (iblk m c 4 t)) (TTf (iblk m c 2 t)) (iblk m c 0 t) (ix4 0 s l k) := by
  have hp : pt5Of (ix4 b s l ⟨q.val * 128 + k.val, by omega⟩ : S10x32x128x512.Idx) = t.val := by
    show 1 * (b.val / 1 - 0) + 10 * (s.val / 32 - 0) + 10 * (l.val / 128 - 0) + 10 * ((q.val * 128 + k.val) / 128 - 0) = _
    omega
  have hl : loc5Of (ix4 b s l ⟨q.val * 128 + k.val, by omega⟩ : S10x32x128x512.Idx) = ix4 0 s l k := by
    funext a; apply Fin.ext
    match a with
    | ⟨0, _⟩ => show b.val % 1 = 0; omega
    | ⟨1, _⟩ => show s.val % 32 = s.val; omega
    | ⟨2, _⟩ => show l.val % 128 = l.val; omega
    | ⟨3, _⟩ => show (q.val * 128 + k.val) % 128 = k.val; omega
  unfold G5
  rw [dif_pos (by rw [hp]; exact t.isLt), hl, fold0_congr m c _ _ t.val (by omega) hp, ← outsAt0_sweep m c t.val t.isLt, block_eq]

end Cert.KernelIdeal.S5
-- ==== Proof.Host.lean ====
/- What the host part computes for the call, as functions of the arguments: the two directions' operators, written once
   over a direction's arrays, and the five operands of the call. -/
module

public import proofs.«01_k».proof.Proof.Gen.KernelIdeal.Value
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem StableHlo

namespace Cert.KernelIdeal.S5

open Cert.KernelIdeal Cert.KernelIdeal.Gen

/-- An array of extended reals. -/
abbrev Arr (s : Shape) := FVec Ideal s .f32

/-- The time step, a column. -/
def hDt (ld : Arr S32) : Arr S32x1 := broadcastInDim S32x1 ![0] bcast_S32_S32x1_0 (Host.exp ld)

/-- The exponents `0 … 32`, along the middle axis. -/
def hK : Arr S1x33x1 := broadcastInDim S1x33x1 ![1] bcast_S33_S1x33x1_1 (sitofp .f32 (iotaInDim S33 32 0))

/-- Exponent times eigenvalue part times step. -/
def hScale (x : Arr S32x64) (ld : Arr S32) : Arr S32x33x64 :=
  mulf (broadcastInDim S32x33x64 ![0, 1, 2] bcast_S1x33x1_S32x33x64_0_1_2 hK)
    (broadcastInDim S32x33x64 ![0, 1, 2] bcast_S32x1x64_S32x33x64_0_1_2
      (broadcastInDim S32x1x64 ![0, 2] bcast_S32x64_S32x1x64_0_2
        (mulf x (broadcastInDim S32x64 ![0, 1] bcast_S32x1_S32x64_0_1 (hDt ld)))))

/-- The powers of `A`: real and imaginary parts. -/
def hPr (ar ai : Arr S32x64) (ld : Arr S32) : Arr S32x33x64 := mulf (Host.exp (hScale ar ld)) (Host.cos (hScale ai ld))
def hPi (ar ai : Arr S32x64) (ld : Arr S32) : Arr S32x33x64 := mulf (Host.exp (hScale ar ld)) (Host.sin (hScale ai ld))

/-- The powers' row 1, and row 32. -/
def hRow1 (p : Arr S32x33x64) : Arr S32x64 :=
  shapeCast S32x64 (extractStridedSlice S32x1x64 ![0, 1, 0] p slices_S32x33x64_S32x1x64_0_1_0 : Arr S32x1x64) shapeCasts_S32x1x64_S32x64
def hRow32 (p : Arr S32x33x64) : Arr S32x64 :=
  shapeCast S32x64 (extractStridedSlice S32x1x64 ![0, 32, 0] p slices_S32x33x64_S32x1x64_0_32_0 : Arr S32x1x64) shapeCasts_S32x1x64_S32x64

def hOne : Arr S32x64 := broadcastInDim S32x64 ![] bcast_S_S32x64 (constant S_ .f32 0x3F800000#32)

def hDen (ar ai : Arr S32x64) : Arr S32x64 := addf (mulf ar ar) (mulf ai ai)

/-- The quotient that turns `b` into the discrete input matrix: `x + i y` is row 1 of the powers. -/
def hQr (ar ai x y : Arr S32x64) : Arr S32x64 :=
  Host.divf (addf (mulf (subf x hOne) ar) (mulf y ai)) (hDen ar ai)
def hQi (ar ai x y : Arr S32x64) : Arr S32x64 :=
  Host.divf (subf (mulf y ar) (mulf (subf x hOne) ai)) (hDen ar ai)

def hB3 (q : Arr S32x64) : Arr S32x64x16 :=
  broadcastInDim S32x64x16 ![0, 1, 2] bcast_S32x64x1_S32x64x16_0_1_2 (broadcastInDim S32x64x1 ![0, 1] bcast_S32x64_S32x64x1_0_1 q)

/-- The discrete input matrix of the quotient `q + i r`. -/
def hBr (q r : Arr S32x64) (br bi : Arr S32x64x16) : Arr S32x64x16 := subf (mulf (hB3 q) br) (mulf (hB3 r) bi)
def hBi (q r : Arr S32x64) (br bi : Arr S32x64x16) : Arr S32x64x16 := addf (mulf (hB3 q) bi) (mulf (hB3 r) br)

def hC4 (c : Arr S32x16x64) : Arr S32x33x16x64 :=
  broadcastInDim S32x33x16x64 ![0, 1, 2, 3] bcast_S32x1x16x64_S32x33x16x64_0_1_2_3
    (broadcastInDim S32x1x16x64 ![0, 2, 3] bcast_S32x16x64_S32x1x16x64_0_2_3 c)
def hP4 (p : Arr S32x33x64) : Arr S32x33x16x64 :=
  broadcastInDim S32x33x16x64 ![0, 1, 2, 3] bcast_S32x33x1x64_S32x33x16x64_0_1_2_3
    (broadcastInDim S32x33x1x64 ![0, 1, 3] bcast_S32x33x64_S32x33x1x64_0_1_3 p)

/-- The output matrix times the powers. -/
def hCr (cr ci : Arr S32x16x64) (p q : Arr S32x33x64) : Arr S32x33x16x64 := subf (mulf (hC4 cr) (hP4 p)) (mulf (hC4 ci) (hP4 q))
def hCi (cr ci : Arr S32x16x64) (p q : Arr S32x33x64) : Arr S32x33x16x64 := addf (mulf (hC4 cr) (hP4 q)) (mulf (hC4 ci) (hP4 p))

/-- The taps: output matrix, power, input matrix. -/
def hTaps (x y : Arr S32x33x16x64) (br bi : Arr S32x64x16) : Arr S32x32x16x16 :=
  Host.dotGeneral dot_S32x32x16x128_S32x128x16_S32x32x16x16_3_1_12_2_0_0 (some .bf16x3)
    (concatenate S32x32x16x128 3
      [⟨S32x32x16x64, (extractStridedSlice S32x32x16x64 ![0, 0, 0, 0] x slices_S32x33x16x64_S32x32x16x64_0_0_0_0 : Arr S32x32x16x64)⟩,
       ⟨S32x32x16x64, (Host.negf (extractStridedSlice S32x32x16x64 ![0, 0, 0, 0] y slices_S32x33x16x64_S32x32x16x64_0_0_0_0 : Arr S32x32x16x64) : Arr S32x32x16x64)⟩]
      concatenates_S32x32x16x64_S32x32x16x64_S32x32x16x128_d3 : Arr S32x32x16x128)
    (concatenate S32x128x16 1 [⟨S32x64x16, br⟩, ⟨S32x64x16, bi⟩] concatenates_S32x64x16_S32x64x16_S32x128x16_d1 : Arr S32x128x16)

/-- Lag 0: both directions' and the skip connection's. -/
def hCentre (tf tb : Arr S32x32x16x16) (d : Arr S512) : Arr S32x16x16 :=
  addf (addf (shapeCast S32x16x16 (extractStridedSlice S32x1x16x16 ![0, 0, 0, 0] tf slices_S32x32x16x16_S32x1x16x16_0_0_0_0 : Arr S32x1x16x16) shapeCasts_S32x1x16x16_S32x16x16)
      (shapeCast S32x16x16 (extractStridedSlice S32x1x16x16 ![0, 0, 0, 0] tb slices_S32x32x16x16_S32x1x16x16_0_0_0_0 : Arr S32x1x16x16) shapeCasts_S32x1x16x16_S32x16x16))
    (mulf (broadcastInDim S32x16x16 ![0, 1, 2] bcast_S1x16x16_S32x16x16_0_1_2
        (broadcastInDim S1x16x16 ![1, 2] bcast_S16x16_S1x16x16_1_2
          (uitofp .f32 (cmpi .eq (addi (iotaInDim S16x16 32 0) (broadcastInDim S16x16 ![] bcast_S_S16x16 (constantI S_ 32 0#32))) (iotaInDim S16x16 32 1)) : Arr S16x16)))
      (broadcastInDim S32x16x16 ![0, 1, 2] bcast_S32x1x16_S32x16x16_0_1_2 (shapeCast S32x1x16 d shapeCasts_S512_S32x1x16)))

/-- The taps by lag, the centre between. -/
def hLags (x : Arr S32x31x16x16) (y : Arr S32x1x16x16) (z : Arr S32x31x16x16) : Arr S32x16x1008 :=
  shapeCast S32x16x1008
    (transpose S32x16x63x16 [0, 2, 1, 3]
      (Host.reverse [1]
        (concatenate S32x63x16x16 1 [⟨S32x31x16x16, x⟩, ⟨S32x1x16x16, y⟩, ⟨S32x31x16x16, z⟩]
          concatenates_S32x31x16x16_S32x1x16x16_S32x31x16x16_S32x63x16x16_d1 : Arr S32x63x16x16))
      transposes_S32x63x16x16_S32x16x63x16_0_2_1_3 : Arr S32x16x63x16)
    shapeCasts_S32x16x63x16_S32x16x1008

def hTapB (t : Arr S32x32x16x16) : Arr S32x31x16x16 :=
  Host.reverse [1] (extractStridedSlice S32x31x16x16 ![0, 1, 0, 0] t slices_S32x32x16x16_S32x31x16x16_0_1_0_0 : Arr S32x31x16x16)
def hTapF (t : Arr S32x32x16x16) : Arr S32x31x16x16 :=
  extractStridedSlice S32x31x16x16 ![0, 1, 0, 0] t slices_S32x32x16x16_S32x31x16x16_0_1_0_0
def hTap0 (x : Arr S32x16x16) : Arr S32x1x16x16 := broadcastInDim S32x1x16x16 ![0, 2, 3] bcast_S32x16x16_S32x1x16x16_0_2_3 x

/-- The strip of taps by lag. -/
def hStrip (tf tb : Arr S32x32x16x16) (d : Arr S512) : Arr S32x16x1008 := hLags (hTapB tb) (hTap0 (hCentre tf tb d)) (hTapF tf)

/-- The strip with its padded lanes. -/
def hPad (s : Arr S32x16x1008) (z : IVec S_ 32) : Arr S32x16x1024 :=
  pad S32x16x1024 ![0, 0, 0] ![0, 0, 16] ![0, 0, 0] s (sitofp .f32 z) pads_S32x16x1008_S32x16x1024_000_000_0160 h_S_
def hStripP (s : Arr S32x16x1008) : Arr S32x16x1024 := hPad s (constantI S_ 32 0#32)

/-- Powers repeated, and input matrix tiled, along a chunk's columns. -/
def hRep (x : Arr S32x64x32) (r : Arr S32x512) : Arr S32x64x512 :=
  Host.dotGeneral dot_S32x64x32_S32x512_S32x64x512_2_0_01_1_n_n (some .bf16x3) x r
def hTile (x : Arr S32x64x16) (t : Arr S16x512) : Arr S32x64x512 :=
  Host.dotGeneral dot_S32x64x16_S16x512_S32x64x512_2_0_01_1_n_n (some .bf16x3) x t

def hPow0 (p : Arr S32x33x64) : Arr S32x32x64 := extractStridedSlice S32x32x64 ![0, 0, 0] p slices_S32x33x64_S32x32x64_0_0_0
def hAsc (p : Arr S32x33x64) : Arr S32x64x32 := transpose S32x64x32 [0, 2, 1] (hPow0 p) transposes_S32x32x64_S32x64x32_0_2_1
def hDesc (p : Arr S32x33x64) : Arr S32x64x32 := transpose S32x64x32 [0, 2, 1] (Host.reverse [1] (hPow0 p) : Arr S32x32x64) transposes_S32x32x64_S32x64x32_0_2_1

/-- The product of two complex arrays. -/
def hMulR (a b c d : Arr S32x64x512) : Arr S32x64x512 := subf (mulf a c) (mulf b d)
def hMulI (a b c d : Arr S32x64x512) : Arr S32x64x512 := addf (mulf a d) (mulf b c)

/-- The matrix from a chunk's inputs to its local states. -/
def hWst (w x y z : Arr S32x64x512) : FVec Ideal S32x256x512 .bf16 :=
  truncf .bf16 (concatenate S32x256x512 1 [⟨S32x64x512, w⟩, ⟨S32x64x512, x⟩, ⟨S32x64x512, y⟩, ⟨S32x64x512, z⟩]
    concatenates_S32x64x512_S32x64x512_S32x64x512_S32x64x512_S32x256x512_d1 : Arr S32x256x512) bitsLt_bf16_f32

def hFrom1 (x : Arr S32x33x16x64) : Arr S32x32x16x64 := extractStridedSlice S32x32x16x64 ![0, 1, 0, 0] x slices_S32x33x16x64_S32x32x16x64_0_1_0_0
def hFlat (x : Arr S32x32x16x64) : Arr S32x512x64 := shapeCast S32x512x64 x shapeCasts_S32x32x16x64_S32x512x64

/-- The matrix from the carried states to a chunk's outputs. -/
def hWot (w x y z : Arr S32x33x16x64) : FVec Ideal S32x512x256 .bf16 :=
  truncf .bf16 (concatenate S32x512x256 2
    [⟨S32x512x64, hFlat (hFrom1 w)⟩, ⟨S32x512x64, (Host.negf (hFlat (hFrom1 x)) : Arr S32x512x64)⟩,
     ⟨S32x512x64, hFlat (Host.reverse [1] (hFrom1 y))⟩, ⟨S32x512x64, (Host.negf (hFlat (Host.reverse [1] (hFrom1 z))) : Arr S32x512x64)⟩]
    concatenates_S32x512x64_S32x512x64_S32x512x64_S32x512x64_S32x512x256_d2 : Arr S32x512x256) bitsLt_bf16_f32

/-- The chunk's power of `A`, all four row blocks, on every lane. -/
def hAch (w x y z : Arr S32x64) : Arr S32x256x128 :=
  broadcastInDim S32x256x128 ![0, 1, 2] bcast_S32x256x1_S32x256x128_0_1_2
    (broadcastInDim S32x256x1 ![0, 1] bcast_S32x256_S32x256x1_0_1
      (concatenate S32x256 1 [⟨S32x64, w⟩, ⟨S32x64, x⟩, ⟨S32x64, y⟩, ⟨S32x64, z⟩] concatenates_S32x64_S32x64_S32x64_S32x64_S32x256_d1 : Arr S32x256))

/-- The input listed by the position within a chunk, then by the chunk. -/
def hU (u : Arr S10x4096x512) : FVec Ideal S10x32x128x512 .bf16 :=
  truncf .bf16 (transpose S10x32x128x512 [0, 2, 1, 3] (shapeCast S10x128x32x512 u shapeCasts_S10x4096x512_S10x128x32x512 : Arr S10x128x32x512)
    transposes_S10x128x32x512_S10x32x128x512_0_2_1_3 : Arr S10x32x128x512) bitsLt_bf16_f32

/-- One direction's arrays, the leading axis of length 1 dropped. -/
structure DirA where
  ar : Arr S32x64
  ai : Arr S32x64
  ld : Arr S32
  br : Arr S32x64x16
  bi : Arr S32x64x16
  cr : Arr S32x16x64
  ci : Arr S32x16x64

namespace DirA

variable (D : DirA)

def pr : Arr S32x33x64 := hPr D.ar D.ai D.ld
def pi : Arr S32x33x64 := hPi D.ar D.ai D.ld
def qr : Arr S32x64 := hQr D.ar D.ai (hRow1 D.pr) (hRow1 D.pi)
def qi : Arr S32x64 := hQi D.ar D.ai (hRow1 D.pr) (hRow1 D.pi)
def Br : Arr S32x64x16 := hBr D.qr D.qi D.br D.bi
def Bi : Arr S32x64x16 := hBi D.qr D.qi D.br D.bi
def Cr : Arr S32x33x16x64 := hCr D.cr D.ci D.pr D.pi
def Ci : Arr S32x33x16x64 := hCi D.cr D.ci D.pr D.pi
def taps : Arr S32x32x16x16 := hTaps D.Cr D.Ci D.Br D.Bi

end DirA

variable (m : (ℓ : Loc nD τ sig) → Buf (Elt Ideal) ℓ) (c : Dev nD)

/-- The forward direction's arrays of a memory. -/
def dirF : DirA where
  ar := shapeCast S32x64 (m ((c : Thread nD τ).loc main_arg1) : Arr S1x32x64) shapeCasts_S1x32x64_S32x64
  ai := shapeCast S32x64 (m ((c : Thread nD τ).loc main_arg2) : Arr S1x32x64) shapeCasts_S1x32x64_S32x64
  ld := shapeCast S32 (m ((c : Thread nD τ).loc main_arg3) : Arr S1x32) shapeCasts_S1x32_S32
  br := shapeCast S32x64x16 (m ((c : Thread nD τ).loc main_arg4) : Arr S1x32x64x16) shapeCasts_S1x32x64x16_S32x64x16
  bi := shapeCast S32x64x16 (m ((c : Thread nD τ).loc main_arg5) : Arr S1x32x64x16) shapeCasts_S1x32x64x16_S32x64x16
  cr := shapeCast S32x16x64 (m ((c : Thread nD τ).loc main_arg6) : Arr S1x32x16x64) shapeCasts_S1x32x16x64_S32x16x64
  ci := shapeCast S32x16x64 (m ((c : Thread nD τ).loc main_arg7) : Arr S1x32x16x64) shapeCasts_S1x32x16x64_S32x16x64

/-- The backward direction's. -/
def dirB : DirA where
  ar := shapeCast S32x64 (m ((c : Thread nD τ).loc main_arg8) : Arr S1x32x64) shapeCasts_S1x32x64_S32x64
  ai := shapeCast S32x64 (m ((c : Thread nD τ).loc main_arg9) : Arr S1x32x64) shapeCasts_S1x32x64_S32x64
  ld := shapeCast S32 (m ((c : Thread nD τ).loc main_arg10) : Arr S1x32) shapeCasts_S1x32_S32
  br := shapeCast S32x64x16 (m ((c : Thread nD τ).loc main_arg11) : Arr S1x32x64x16) shapeCasts_S1x32x64x16_S32x64x16
  bi := shapeCast S32x64x16 (m ((c : Thread nD τ).loc main_arg12) : Arr S1x32x64x16) shapeCasts_S1x32x64x16_S32x64x16
  cr := shapeCast S32x16x64 (m ((c : Thread nD τ).loc main_arg13) : Arr S1x32x16x64) shapeCasts_S1x32x16x64_S32x16x64
  ci := shapeCast S32x16x64 (m ((c : Thread nD τ).loc main_arg14) : Arr S1x32x16x64) shapeCasts_S1x32x16x64_S32x16x64

/-- The skip connection's weights. -/
def skipD : Arr S512 := shapeCast S512 (m ((c : Thread nD τ).loc main_arg15) : Arr S1x512) shapeCasts_S1x512_S512

theorem V_u : Gen.V m c main_v2 = hU (m ((c : Thread nD τ).loc main_arg0)) := by
  unfold Gen.V
  after_reads_simp
  rfl

set_option maxHeartbeats 2000000 in
theorem V_ach : Gen.V m c main_v262 = hAch (hRow32 (dirF m c).pr) (hRow32 (dirF m c).pi) (hRow32 (dirB m c).pr) (hRow32 (dirB m c).pi) := by
  unfold Gen.V
  after_reads_simp
  rfl

/-- A direction's rows of the matrix to the local states, of powers `p + i q` and tiled columns. -/
def hWr (p q : Arr S32x64x32) (br bi : Arr S32x64x16) (r : Arr S32x512) (t : Arr S16x512) : Arr S32x64x512 :=
  hMulR (hRep p r) (hRep q r) (hTile br t) (hTile bi t)
def hWi (p q : Arr S32x64x32) (br bi : Arr S32x64x16) (r : Arr S32x512) (t : Arr S16x512) : Arr S32x64x512 :=
  hMulI (hRep p r) (hRep q r) (hTile br t) (hTile bi t)

set_option maxHeartbeats 2000000 in
theorem V_wst : Gen.V m c main_v263 = hWst
    (hWr (hDesc (dirF m c).pr) (hDesc (dirF m c).pi) (dirF m c).Br (dirF m c).Bi (m ((c : Thread nD τ).loc main_arg16)) (m ((c : Thread nD τ).loc main_arg17)))
    (hWi (hDesc (dirF m c).pr) (hDesc (dirF m c).pi) (dirF m c).Br (dirF m c).Bi (m ((c : Thread nD τ).loc main_arg16)) (m ((c : Thread nD τ).loc main_arg17)))
    (hWr (hAsc (dirB m c).pr) (hAsc (dirB m c).pi) (dirB m c).Br (dirB m c).Bi (m ((c : Thread nD τ).loc main_arg16)) (m ((c : Thread nD τ).loc main_arg17)))
    (hWi (hAsc (dirB m c).pr) (hAsc (dirB m c).pi) (dirB m c).Br (dirB m c).Bi (m ((c : Thread nD τ).loc main_arg16)) (m ((c : Thread nD τ).loc main_arg17))) := by
  unfold Gen.V
  after_reads_simp
  dsimp only [hWst, hWr, hWi, hMulR, hMulI, hRep, hTile, hDesc, hAsc, hPow0, DirA.pr, DirA.pi, DirA.Br, DirA.Bi, DirA.qr, DirA.qi, hBr, hBi, hB3, hQr, hQi, hDen, hOne, hRow1, hPr, hPi, hScale, hK, hDt, dirF, dirB]
  rfl

set_option maxHeartbeats 2000000 in
theorem V_wot : Gen.V m c main_v264 = hWot (dirF m c).Cr (dirF m c).Ci (dirB m c).Cr (dirB m c).Ci := by
  unfold Gen.V
  after_reads_simp
  rfl

theorem after_app (l₁ l₂ : List (HloOp τ sig (Elt Ideal))) (W : Valuation τ sig (Elt Ideal)) : after (l₁ ++ l₂) W = after l₂ (after l₁ W) := by
  induction l₁ generalizing W with
  | nil => rfl
  | cons op l ih => exact ih _

/-- The strip, of the contents before the taps are set side by side. -/
theorem after_lags (W : Valuation τ sig (Elt Ideal)) : after ((hostOps0 (F := Ideal)).drop 208) W (Proc.devRef .tc main_v206)
    = hLags (W (Proc.devRef .tc main_v200)) (W (Proc.devRef .tc main_v201)) (W (Proc.devRef .tc main_v202)) := by
  after_reads_simp
  rfl

theorem take_v200 (W : Valuation τ sig (Elt Ideal)) : after (((hostOps0 (F := Ideal)).drop 186).take 22) W (Proc.devRef .tc main_v200)
    = hTapB (W (Proc.devRef .tc main_v181)) := by
  after_reads_simp
  rfl
theorem take_v202 (W : Valuation τ sig (Elt Ideal)) : after (((hostOps0 (F := Ideal)).drop 186).take 22) W (Proc.devRef .tc main_v202)
    = hTapF (W (Proc.devRef .tc main_v99)) := by
  after_reads_simp
  rfl
theorem take_v201 (W : Valuation τ sig (Elt Ideal)) : after (((hostOps0 (F := Ideal)).drop 186).take 22) W (Proc.devRef .tc main_v201)
    = hTap0 (hCentre (W (Proc.devRef .tc main_v99)) (W (Proc.devRef .tc main_v181)) (W (Proc.devRef .tc main_v17))) := by
  after_reads_simp
  rfl

/-- The strip, of the taps. -/
theorem V_206 : Gen.V m c main_v206 = hStrip (Gen.V m c main_v99) (Gen.V m c main_v181) (Gen.V m c main_v17) := by
  have h206 (W : Valuation τ sig (Elt Ideal)) : after (hostOps0_1 (F := Ideal) ++ hostOps0_2) W (Proc.devRef .tc main_v206) = W (Proc.devRef .tc main_v206) := by
    after_reads_simp
  have h99 (W : Valuation τ sig (Elt Ideal)) : after ((hostOps0 (F := Ideal)).drop 186 ++ (hostOps0_1 (F := Ideal) ++ hostOps0_2)) W (Proc.devRef .tc main_v99) = W (Proc.devRef .tc main_v99) := by
    after_reads_simp
  have h181 (W : Valuation τ sig (Elt Ideal)) : after ((hostOps0 (F := Ideal)).drop 186 ++ (hostOps0_1 (F := Ideal) ++ hostOps0_2)) W (Proc.devRef .tc main_v181) = W (Proc.devRef .tc main_v181) := by
    after_reads_simp
  have h17 (W : Valuation τ sig (Elt Ideal)) : after ((hostOps0 (F := Ideal)).drop 186 ++ (hostOps0_1 (F := Ideal) ++ hostOps0_2)) W (Proc.devRef .tc main_v17) = W (Proc.devRef .tc main_v17) := by
    after_reads_simp
  have hfl : (List.flatten [hostOps0 (F := Ideal), hostOps0_1, hostOps0_2])
      = hostOps0.take 186 ++ (hostOps0.drop 186 ++ (hostOps0_1 ++ hostOps0_2)) := by
    rw [← List.append_assoc, List.take_append_drop]
    simp only [List.flatten_cons, List.flatten_nil, List.append_nil]
  have hd : (hostOps0 (F := Ideal)).drop 186 = (hostOps0.drop 186).take 22 ++ hostOps0.drop 208 := by
    have := List.take_append_drop 22 ((hostOps0 (F := Ideal)).drop 186)
    rw [List.drop_drop] at this
    exact this.symm
  unfold Gen.V
  rw [hfl, after_app (hostOps0.take 186), h99, h181, h17, after_app (hostOps0.drop 186), h206, hd, after_app, after_lags, take_v200, take_v201, take_v202]
  rfl

/-- The padded strip, of the strip. -/
theorem V_pad : Gen.V m c main_v207 = hStripP (Gen.V m c main_v206) := by
  have hc (W : Valuation τ sig (Elt Ideal)) : after (hostOps0_1 (F := Ideal)) W (Proc.devRef .tc main_v207)
      = hPad (W (Proc.devRef .tc main_v206)) (W (Proc.devRef .tc main_c_3)) := by
    after_reads_simp
    rfl
  have hz (W : Valuation τ sig (Elt Ideal)) : after (hostOps0 (F := Ideal)) W (Proc.devRef .tc main_c_3) = constantI S_ 32 0#32 := by
    after_reads_simp
  have h2 (W : Valuation τ sig (Elt Ideal)) : after (hostOps0_2 (F := Ideal)) W (Proc.devRef .tc main_v207) = W (Proc.devRef .tc main_v207) := by
    after_reads_simp
  have h3 (W : Valuation τ sig (Elt Ideal)) : after (hostOps0_2 (F := Ideal)) W (Proc.devRef .tc main_v206) = W (Proc.devRef .tc main_v206) := by
    after_reads_simp
  have h4 (W : Valuation τ sig (Elt Ideal)) : after (hostOps0_1 (F := Ideal)) W (Proc.devRef .tc main_v206) = W (Proc.devRef .tc main_v206) := by
    after_reads_simp
  have hfl : (List.flatten [hostOps0 (F := Ideal), hostOps0_1, hostOps0_2]) = hostOps0 ++ (hostOps0_1 ++ hostOps0_2) := by
    simp only [List.flatten_cons, List.flatten_nil, List.append_nil]
  unfold Gen.V
  rw [hfl, after_app, after_app, h2, h3, hc, h4, hz]
  rfl

set_option maxHeartbeats 1000000 in
theorem V_taps_f : Gen.V m c main_v99 = (dirF m c).taps := by
  unfold Gen.V
  after_reads_simp
  rfl

set_option maxHeartbeats 1000000 in
theorem V_taps_b : Gen.V m c main_v181 = (dirB m c).taps := by
  unfold Gen.V
  after_reads_simp
  rfl

theorem V_skip : Gen.V m c main_v17 = skipD m c := by
  unfold Gen.V
  after_reads_simp
  rfl

/-- The padded strip, of the arguments. -/
theorem V_strip : Gen.V m c main_v207 = hStripP (hStrip (dirF m c).taps (dirB m c).taps (skipD m c)) := by
  rw [V_pad, V_206, V_taps_f, V_taps_b, V_skip]

end Cert.KernelIdeal.S5
-- ==== Proof.Par.lean ====
/- One direction's parameters as real numbers, and what the recurrence is made of: the multiplier of a token, the input
   matrix and the output matrix, as complex numbers. -/
module

public import proofs.«01_k».proof.Proof.Scan
public import Mathlib.Analysis.SpecialFunctions.Trigonometric.Basic

@[expose] public section

noncomputable section

namespace Cert.Scan

/-- A direction's parameters. -/
structure Dir where
  ar : Fin 32 → Fin 64 → ℝ
  ai : Fin 32 → Fin 64 → ℝ
  ld : Fin 32 → ℝ
  br : Fin 32 → Fin 64 → Fin 16 → ℝ
  bi : Fin 32 → Fin 64 → Fin 16 → ℝ
  cr : Fin 32 → Fin 16 → Fin 64 → ℝ
  ci : Fin 32 → Fin 16 → Fin 64 → ℝ

namespace Dir

variable (D : Dir) (g : Fin 32) (n : Fin 64)

/-- The real part of `k` steps' exponent, its imaginary part, and the powers they make. -/
def pre (k : ℝ) : ℝ := Real.exp (k * (D.ar g n * Real.exp (D.ld g))) * Real.cos (k * (D.ai g n * Real.exp (D.ld g)))
def pim (k : ℝ) : ℝ := Real.exp (k * (D.ar g n * Real.exp (D.ld g))) * Real.sin (k * (D.ai g n * Real.exp (D.ld g)))

/-- A token's multiplier. -/
def A : ℂ := ⟨D.pre g n 1, D.pim g n 1⟩

theorem pow_eq (k : ℕ) : D.A g n ^ k = ⟨D.pre g n k, D.pim g n k⟩ := by
  have h : ∀ x : ℝ, (⟨D.pre g n x, D.pim g n x⟩ : ℂ)
      = Complex.exp ((x : ℂ) * ⟨D.ar g n * Real.exp (D.ld g), D.ai g n * Real.exp (D.ld g)⟩) := by
    intro x
    apply Complex.ext
    · rw [Complex.exp_re]; simp [pre]
    · rw [Complex.exp_im]; simp [pim]
  have h1 : D.A g n = Complex.exp (⟨D.ar g n * Real.exp (D.ld g), D.ai g n * Real.exp (D.ld g)⟩) := by
    have := h 1
    rw [Complex.ofReal_one, one_mul] at this
    exact this
  rw [h1, ← Complex.exp_nat_mul, h]
  simp

/-- The input matrix's scale. -/
def den : ℝ := D.ar g n * D.ar g n + D.ai g n * D.ai g n
def qr : ℝ := ((D.pre g n 1 - 1) * D.ar g n + D.pim g n 1 * D.ai g n) * (1 / D.den g n)
def qi : ℝ := (D.pim g n 1 * D.ar g n - (D.pre g n 1 - 1) * D.ai g n) * (1 / D.den g n)

/-- The input matrix. -/
def B (q : Fin 16) : ℂ := ⟨D.qr g n * D.br g n q - D.qi g n * D.bi g n q, D.qr g n * D.bi g n q + D.qi g n * D.br g n q⟩

/-- The output matrix. -/
def C (p : Fin 16) : ℂ := ⟨D.cr g p n, D.ci g p n⟩

end Dir

/-- The inputs of one sequence and one group, token by token. -/
def tok (u : Fin 10 → Fin 4096 → Fin 512 → ℝ) (b : Fin 10) (g : Fin 32) (T : ℕ) (q : Fin 16) : ℝ :=
  if h : T < 4096 then u b ⟨T, h⟩ ⟨g.val * 16 + q.val, by omega⟩ else 0

/-- The state of one direction before its `k`-th token, forward and backward. -/
def sf (D : Dir) (u : Fin 10 → Fin 4096 → Fin 512 → ℝ) (b : Fin 10) (g : Fin 32) (n : Fin 64) (k : ℕ) : ℂ :=
  st (D.A g n) (inp (D.B g) (tok u b g) n) k
def sb (D : Dir) (u : Fin 10 → Fin 4096 → Fin 512 → ℝ) (b : Fin 10) (g : Fin 32) (n : Fin 64) (k : ℕ) : ℂ :=
  st (D.A g n) (rev (inp (D.B g) (tok u b g) n)) k

/-- The layer's output at one token and channel. -/
def outR (F B : Dir) (d : Fin 512 → ℝ) (u : Fin 10 → Fin 4096 → Fin 512 → ℝ) (b : Fin 10) (T : ℕ) (g : Fin 32) (p : Fin 16) : ℝ :=
  (∑ n, (F.C g n p * sf F u b g n (T + 1)).re) + (∑ n, (B.C g n p * sb B u b g n (4096 - T)).re)
    + d ⟨g.val * 16 + p.val, by omega⟩ * tok u b g T p

end Cert.Scan
-- ==== Proof.HostVal.lean ====
/- The host part's arrays over real arguments, entry by entry. -/
module

public import proofs.«01_k».proof.Proof.Host
public import proofs.«01_k».proof.Proof.Par
public import Idealize.ShloMosaic.PureOps.Ideal
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem StableHlo

namespace Cert.KernelIdeal.S5

open Cert.KernelIdeal Cert.KernelIdeal.Gen Cert.Scan

theorem coe_sum {ι : Type} [Fintype ι] (f : ι → ℝ) : ∑ i, (f i : EReal) = ((∑ i, f i : ℝ) : EReal) := by
  classical
  induction (Finset.univ : Finset ι) using Finset.induction_on with
  | empty => simp
  | insert a s h ih => rw [Finset.sum_insert h, Finset.sum_insert h, ih, EReal.coe_add]

/-- The arrays hold the direction's real parameters. -/
structure EncA (R : Dir) (D : DirA) : Prop where
  ar : ∀ g n, D.ar (ix2 g n) = (R.ar g n : EReal)
  ai : ∀ g n, D.ai (ix2 g n) = (R.ai g n : EReal)
  ld : ∀ g, D.ld (ix1 g) = (R.ld g : EReal)
  br : ∀ g n q, D.br (ix3 g n q) = (R.br g n q : EReal)
  bi : ∀ g n q, D.bi (ix3 g n q) = (R.bi g n q : EReal)
  cr : ∀ g p n, D.cr (ix3 g p n) = (R.cr g p n : EReal)
  ci : ∀ g p n, D.ci (ix3 g p n) = (R.ci g p n : EReal)
  ne : ∀ g n, R.den g n ≠ 0

/-- An exponent as a number. -/
theorem sitofp_at (k : ℕ) (hk : k < 2 ^ 31) : (FloatOps.sitofp (F := Ideal) FTy.f32 (BitVec.ofNat 32 k)) = ((k : ℝ) : EReal) := by
  show (((BitVec.ofNat 32 k).toInt : ℝ) : EReal) = _
  have e : (BitVec.ofNat 32 k).toInt = (k : ℤ) := by
    rw [BitVec.toInt_ofNat']; exact Int.bmod_eq_of_le (by omega) (by omega)
  rw [e, Int.cast_natCast]

section Direction

variable (R : Dir) (D : DirA) (h : EncA R D) (g : Fin 32) (n : Fin 64)
include h

theorem pr_at (k : Fin 33) : D.pr (ix3 g k n) = (R.pre g n k.val : EReal) := by
  unfold DirA.pr
  pointwise [hPr, hScale, hK, hDt]
  rw [h.ar, h.ai, h.ld, sitofp_at _ (by omega)]
  simp only [Ideal.exp_coe, Ideal.cos_coe, ← EReal.coe_mul, Dir.pre]

theorem pi_at (k : Fin 33) : D.pi (ix3 g k n) = (R.pim g n k.val : EReal) := by
  unfold DirA.pi
  pointwise [hPi, hScale, hK, hDt]
  rw [h.ar, h.ai, h.ld, sitofp_at _ (by omega)]
  simp only [Ideal.exp_coe, Ideal.sin_coe, ← EReal.coe_mul, Dir.pim]

omit h in
theorem hRow1_at (x : Arr S32x33x64) : hRow1 x (ix2 g n) = x (ix3 g 1 n) := by
  pointwise [hRow1]

omit h in
theorem hRow32_at (x : Arr S32x33x64) : hRow32 x (ix2 g n) = x (ix3 g 32 n) := by
  pointwise [hRow32]

theorem pr1_at : hRow1 D.pr (ix2 g n) = (R.pre g n 1 : EReal) := by
  rw [hRow1_at, pr_at R D h]
  simp

theorem pi1_at : hRow1 D.pi (ix2 g n) = (R.pim g n 1 : EReal) := by
  rw [hRow1_at, pi_at R D h]
  simp

theorem pr32_at : hRow32 D.pr (ix2 g n) = ((R.A g n ^ 32).re : EReal) := by
  rw [hRow32_at, pr_at R D h, Dir.pow_eq]
  rfl

theorem pi32_at : hRow32 D.pi (ix2 g n) = ((R.A g n ^ 32).im : EReal) := by
  rw [hRow32_at, pi_at R D h, Dir.pow_eq]
  rfl

theorem qr_at : D.qr (ix2 g n) = (R.qr g n : EReal) := by
  have hr := pr1_at R D h g n
  have hi := pi1_at R D h g n
  unfold DirA.qr
  generalize hRow1 D.pr = x at hr ⊢
  generalize hRow1 D.pi = y at hi ⊢
  pointwise [hQr, hOne, hDen]
  rw [hr, hi, h.ar, h.ai, show (R.ar g n : EReal) * R.ar g n + R.ai g n * R.ai g n = R.den g n by rw [Dir.den, EReal.coe_add, EReal.coe_mul, EReal.coe_mul], Ideal.div_coe (h.ne g n), Dir.qr]
  norm_cast

theorem qi_at : D.qi (ix2 g n) = (R.qi g n : EReal) := by
  have hr := pr1_at R D h g n
  have hi := pi1_at R D h g n
  unfold DirA.qi
  generalize hRow1 D.pr = x at hr ⊢
  generalize hRow1 D.pi = y at hi ⊢
  pointwise [hQi, hOne, hDen]
  rw [hr, hi, h.ar, h.ai, show (R.ar g n : EReal) * R.ar g n + R.ai g n * R.ai g n = R.den g n by rw [Dir.den, EReal.coe_add, EReal.coe_mul, EReal.coe_mul], Ideal.div_coe (h.ne g n), Dir.qi]
  norm_cast

theorem Br_at (q : Fin 16) : D.Br (ix3 g n q) = ((R.B g n q).re : EReal) := by
  have hr := qr_at R D h g n
  have hi := qi_at R D h g n
  unfold DirA.Br
  generalize D.qr = x at hr ⊢
  generalize D.qi = y at hi ⊢
  pointwise [hBr, hB3]
  rw [hr, hi, h.br, h.bi, Dir.B]
  norm_cast

theorem Bi_at (q : Fin 16) : D.Bi (ix3 g n q) = ((R.B g n q).im : EReal) := by
  have hr := qr_at R D h g n
  have hi := qi_at R D h g n
  unfold DirA.Bi
  generalize D.qr = x at hr ⊢
  generalize D.qi = y at hi ⊢
  pointwise [hBi, hB3]
  rw [hr, hi, h.br, h.bi, Dir.B]
  norm_cast

theorem Cr_at (k : Fin 33) (p : Fin 16) : D.Cr (ix4 g k p n) = ((R.C g n p * R.A g n ^ k.val).re : EReal) := by
  have hr := pr_at R D h g n k
  have hi := pi_at R D h g n k
  unfold DirA.Cr
  generalize D.pr = x at hr ⊢
  generalize D.pi = y at hi ⊢
  pointwise [hCr, hC4, hP4]
  rw [hr, hi, h.cr, h.ci, Dir.pow_eq, Complex.mul_re, Dir.C]
  norm_cast

theorem Ci_at (k : Fin 33) (p : Fin 16) : D.Ci (ix4 g k p n) = ((R.C g n p * R.A g n ^ k.val).im : EReal) := by
  have hr := pr_at R D h g n k
  have hi := pi_at R D h g n k
  unfold DirA.Ci
  generalize D.pr = x at hr ⊢
  generalize D.pi = y at hi ⊢
  pointwise [hCi, hC4, hP4]
  rw [hr, hi, h.cr, h.ci, Dir.pow_eq, Complex.mul_im, Dir.C]
  norm_cast

/-- A sum over 128, the first half and the second. -/
theorem sum_128 (f : Fin 128 → EReal) : ∑ i, f i = (∑ i : Fin 64, f ⟨i.val, by omega⟩) + ∑ i : Fin 64, f ⟨64 + i.val, by omega⟩ :=
  Fin.sum_univ_add (a := 64) (b := 64) f

omit h in
theorem hTaps_at (x y : Arr S32x33x16x64) (br bi : Arr S32x64x16) (k : Fin 32) (p q : Fin 16) : hTaps x y br bi (ix4 g k p q)
    = (∑ n : Fin 64, x (ix4 g ⟨k.val, by omega⟩ p n) * br (ix3 g n q)) + ∑ n : Fin 64, -y (ix4 g ⟨k.val, by omega⟩ p n) * bi (ix3 g n q) := by
  pointwise [hTaps]

theorem taps_at (k : Fin 32) (p q : Fin 16) : D.taps (ix4 g k p q) = (tap (R.A g) (R.B g) (fun n => R.C g n p) k.val q : EReal) := by
  unfold DirA.taps
  rw [hTaps_at]
  simp only [Cr_at R D h, Ci_at R D h, Br_at R D h, Bi_at R D h, ← EReal.coe_mul, ← EReal.coe_neg, coe_sum]
  rw [← EReal.coe_add, ← Finset.sum_add_distrib, tap]
  refine congrArg _ (Finset.sum_congr rfl fun n _ => ?_)
  rw [Complex.mul_re (R.C g n p * R.A g n ^ k.val)]
  ring

end Direction

section Operands

theorem hRep_at (x : Arr S32x64x32) (r : Arr S32x512) (g : Fin 32) (n : Fin 64) (l : Fin 512)
    (hr : ∀ (j : Fin 32) (l : Fin 512), r (ix2 j l) = if l.val / 16 = j.val then 1 else 0) :
    hRep x r (ix3 g n l) = x (ix3 g n ⟨l.val / 16, by omega⟩) := by
  pointwise [hRep]
  simp only [hr]
  rw [Finset.sum_eq_single_of_mem (⟨l.val / 16, by omega⟩ : Fin 32) (Finset.mem_univ _)]
  · simp
  · intro j _ hj
    rw [if_neg (fun e => hj (Fin.ext e.symm)), mul_zero]

theorem hTile_at (x : Arr S32x64x16) (r : Arr S16x512) (g : Fin 32) (n : Fin 64) (l : Fin 512)
    (hr : ∀ (j : Fin 16) (l : Fin 512), r (ix2 j l) = if l.val % 16 = j.val then 1 else 0) :
    hTile x r (ix3 g n l) = x (ix3 g n ⟨l.val % 16, by omega⟩) := by
  pointwise [hTile]
  simp only [hr]
  rw [Finset.sum_eq_single_of_mem (⟨l.val % 16, by omega⟩ : Fin 16) (Finset.mem_univ _)]
  · simp
  · intro j _ hj
    rw [if_neg (fun e => hj (Fin.ext e.symm)), mul_zero]

theorem hAsc_at (x : Arr S32x33x64) (g : Fin 32) (n : Fin 64) (s : Fin 32) : hAsc x (ix3 g n s) = x (ix3 g ⟨s.val, by omega⟩ n) := by
  pointwise [hAsc, hPow0]

theorem hDesc_at (x : Arr S32x33x64) (g : Fin 32) (n : Fin 64) (s : Fin 32) : hDesc x (ix3 g n s) = x (ix3 g ⟨31 - s.val, by omega⟩ n) := by
  pointwise [hDesc, hPow0]
  show x (ix3 g ⟨32 - (s.val + 1), _⟩ n) = _
  exact congrArg (fun z => x (ix3 g z n)) (Fin.ext (by simp only; omega))

theorem hWst_at (w x y z : Arr S32x64x512) (g : Fin 32) (n : Fin 64) (l : Fin 512) :
    hWst w x y z (ix3 g ⟨n.val, by omega⟩ l) = w (ix3 g n l) ∧ hWst w x y z (ix3 g ⟨64 + n.val, by omega⟩ l) = x (ix3 g n l)
      ∧ hWst w x y z (ix3 g ⟨128 + n.val, by omega⟩ l) = y (ix3 g n l) ∧ hWst w x y z (ix3 g ⟨192 + n.val, by omega⟩ l) = z (ix3 g n l) := by
  refine ⟨?_, ?_, ?_, ?_⟩
  · pointwise [hWst]
  · pointwise [hWst]
  · pointwise [hWst]
    rw [dif_neg (by omega), dif_neg (by omega), dif_pos (by omega)]
    exact congrArg (fun r => y (ix3 g r l)) (Fin.ext (by simp only; omega))
  · pointwise [hWst]
    rw [dif_neg (by omega), dif_neg (by omega), dif_neg (by omega)]
    exact congrArg (fun r => z (ix3 g r l)) (Fin.ext (by simp only; omega))

theorem hAch_at (w x y z : Arr S32x64) (g : Fin 32) (n : Fin 64) (l : Fin 128) :
    hAch w x y z (ix3 g ⟨n.val, by omega⟩ l) = w (ix2 g n) ∧ hAch w x y z (ix3 g ⟨64 + n.val, by omega⟩ l) = x (ix2 g n)
      ∧ hAch w x y z (ix3 g ⟨128 + n.val, by omega⟩ l) = y (ix2 g n) ∧ hAch w x y z (ix3 g ⟨192 + n.val, by omega⟩ l) = z (ix2 g n) := by
  refine ⟨?_, ?_, ?_, ?_⟩
  · pointwise [hAch]
  · pointwise [hAch]
  · pointwise [hAch]
    rw [dif_neg (by omega), dif_neg (by omega), dif_pos (by omega)]
    exact congrArg (fun r => y (ix2 g r)) (Fin.ext (by simp only; omega))
  · pointwise [hAch]
    rw [dif_neg (by omega), dif_neg (by omega), dif_neg (by omega)]
    exact congrArg (fun r => z (ix2 g r)) (Fin.ext (by simp only; omega))

theorem hFlat_at (x : Arr S32x32x16x64) (g t : Fin 32) (p : Fin 16) (n : Fin 64) :
    hFlat x (ix3 g ⟨t.val * 16 + p.val, by omega⟩ n) = x (ix4 g t p n) := by
  pointwise [hFlat]

theorem hFrom1_at (x : Arr S32x33x16x64) (g t : Fin 32) (p : Fin 16) (n : Fin 64) :
    hFrom1 x (ix4 g t p n) = x (ix4 g ⟨t.val + 1, by omega⟩ p n) := by
  pointwise [hFrom1]
  exact congrArg (fun z => x (ix4 g z p n)) (Fin.ext (Nat.add_comm _ _))

theorem rev_at (x : Arr S32x32x16x64) (g t : Fin 32) (p : Fin 16) (n : Fin 64) :
    Host.reverse [1] x (ix4 g t p n) = x (ix4 g t.rev p n) := by
  pointwise
  rfl

theorem hWot_at (w x y z : Arr S32x33x16x64) (g : Fin 32) (r : Fin 512) (n : Fin 64) :
    hWot w x y z (ix3 g r ⟨n.val, by omega⟩) = hFlat (hFrom1 w) (ix3 g r n)
      ∧ hWot w x y z (ix3 g r ⟨64 + n.val, by omega⟩) = -hFlat (hFrom1 x) (ix3 g r n)
      ∧ hWot w x y z (ix3 g r ⟨128 + n.val, by omega⟩) = hFlat (Host.reverse [1] (hFrom1 y)) (ix3 g r n)
      ∧ hWot w x y z (ix3 g r ⟨192 + n.val, by omega⟩) = -hFlat (Host.reverse [1] (hFrom1 z)) (ix3 g r n) := by
  unfold hWot
  generalize hFlat (hFrom1 w) = a
  generalize hFlat (hFrom1 x) = b
  generalize hFlat (Host.reverse [1] (hFrom1 y)) = c
  generalize hFlat (Host.reverse [1] (hFrom1 z)) = d
  refine ⟨?_, ?_, ?_, ?_⟩
  · pointwise
  · pointwise
  · pointwise
    rw [dif_neg (by omega), dif_neg (by omega), dif_pos (by omega)]
    exact congrArg (fun k => c (ix3 g r k)) (Fin.ext (by simp only; omega))
  · pointwise
    rw [dif_neg (by omega), dif_neg (by omega), dif_neg (by omega)]
    exact congrArg (fun k => -d (ix3 g r k)) (Fin.ext (by simp only; omega))

theorem hU_at (u : Arr S10x4096x512) (b : Fin 10) (t : Fin 32) (c : Fin 128) (k : Fin 512) :
    hU u (ix4 b t c k) = u (ix3 b ⟨c.val * 32 + t.val, by omega⟩ k) := by
  pointwise [hU]

theorem hPad_at (s : Arr S32x16x1008) (z : IVec S_ 32) (g : Fin 32) (p : Fin 16) (l : Fin 1008) :
    hPad s z (ix3 g p ⟨l.val, by omega⟩) = s (ix3 g p l) := by
  pointwise [hPad]

theorem hLags_at (x : Arr S32x31x16x16) (y : Arr S32x1x16x16) (z : Arr S32x31x16x16) (g : Fin 32) (p q : Fin 16) (j : Fin 63) :
    hLags x y z (ix3 g p ⟨j.val * 16 + q.val, by omega⟩)
      = if h : j.val < 31 then z (ix4 g ⟨30 - j.val, by omega⟩ p q) else if h : j.val = 31 then y (ix4 g 0 p q) else x (ix4 g ⟨62 - j.val, by omega⟩ p q) := by
  pointwise [hLags]
  show (if h : 63 - (j.val + 1) < 31 then x (ix4 g ⟨63 - (j.val + 1), _⟩ p q)
    else if h : 63 - (j.val + 1) - 31 < 1 then y (ix4 g ⟨63 - (j.val + 1) - 31, _⟩ p q) else z (ix4 g ⟨63 - (j.val + 1) - 31 - 1, _⟩ p q)) = _
  by_cases h1 : j.val < 31
  · rw [dif_pos h1, dif_neg (by omega), dif_neg (by omega)]
    exact congrArg (fun r => z (ix4 g r p q)) (Fin.ext (by simp only; omega))
  · rw [dif_neg h1]
    by_cases h2 : j.val = 31
    · rw [dif_pos h2, dif_neg (by omega), dif_pos (by omega)]
      exact congrArg (fun r => y (ix4 g r p q)) (Subsingleton.elim (α := Fin 1) _ _)
    · rw [dif_neg h2, dif_pos (by omega)]
      exact congrArg (fun r => x (ix4 g r p q)) (Fin.ext (by simp only; omega))

theorem hTapB_at (x : Arr S32x32x16x16) (g : Fin 32) (l : Fin 31) (p q : Fin 16) :
    hTapB x (ix4 g l p q) = x (ix4 g ⟨31 - l.val, by omega⟩ p q) := by
  pointwise [hTapB]
  show x (ix4 g ⟨1 + (31 - (l.val + 1)), _⟩ p q) = _
  exact congrArg (fun z => x (ix4 g z p q)) (Fin.ext (by simp only; omega))

theorem hTapF_at (x : Arr S32x32x16x16) (g : Fin 32) (l : Fin 31) (p q : Fin 16) :
    hTapF x (ix4 g l p q) = x (ix4 g ⟨l.val + 1, by omega⟩ p q) := by
  pointwise [hTapF]
  exact congrArg (fun z => x (ix4 g z p q)) (Fin.ext (Nat.add_comm _ _))

theorem hTap0_at (x : Arr S32x16x16) (g : Fin 32) (p q : Fin 16) : hTap0 x (ix4 g 0 p q) = x (ix3 g p q) := by
  pointwise [hTap0]

/-- The identity matrix's entries. -/
theorem eye_at (p q : Fin 16) : FloatOps.uitofp (F := Ideal) FTy.f32 (IntOp.cmpi CmpIPredicate.eq (IntOp.addi (BitVec.ofNat 32 p.val) 0#32) (BitVec.ofNat 32 q.val))
    = if p = q then (1 : EReal) else 0 := by
  have e : ∀ p q : Fin 16, (IntOp.cmpi CmpIPredicate.eq (IntOp.addi (BitVec.ofNat 32 p.val) 0#32) (BitVec.ofNat 32 q.val)).toNat = if p = q then 1 else 0 := by decide +kernel
  show ((((IntOp.cmpi CmpIPredicate.eq (IntOp.addi (BitVec.ofNat 32 p.val) 0#32) (BitVec.ofNat 32 q.val)).toNat : ℝ)) : EReal) = _
  rw [e]
  split <;> simp

theorem hCentre_at (tf tb : Arr S32x32x16x16) (d : Arr S512) (g : Fin 32) (p q : Fin 16) :
    hCentre tf tb d (ix3 g p q) = tf (ix4 g 0 p q) + tb (ix4 g 0 p q) + (if p = q then 1 else 0) * d (ix1 ⟨g.val * 16 + q.val, by omega⟩) := by
  pointwise [hCentre]
  rw [eye_at]

end Operands

end Cert.KernelIdeal.S5
-- ==== Proof.Group.lean ====
/- One group's output by the chunked scan, over real operands: the recurrence's output token by token. -/
module

public import proofs.«01_k».proof.Proof.HostVal
public import proofs.«01_k».proof.Proof.Apow

@[expose] public section

set_option maxRecDepth 16384

noncomputable section

open Idealize.ShloMosaic Idealize.ShloMosaic.TcCoe Idealize.SL.Sem Cert.Scan

namespace Cert.KernelIdeal.S5

open Cert.KernelIdeal Cert.KernelIdeal.Gen

theorem sum_512 (f : Fin 512 → EReal) : ∑ i, f i = ∑ s : Fin 32, ∑ q : Fin 16, f ⟨s.val * 16 + q.val, by omega⟩ := by
  rw [← Fintype.sum_prod_type' (f := fun (s : Fin 32) (q : Fin 16) => f ⟨s.val * 16 + q.val, by omega⟩)]
  exact (Fintype.sum_equiv (finProdFinEquiv (m := 32) (n := 16)) _ f fun x => congrArg f (Fin.ext (by
    show x.1.val * 16 + x.2.val = x.2.val + 16 * x.1.val
    omega))).symm

theorem sum_256 (f : Fin 256 → EReal) : ∑ i, f i = (∑ n : Fin 64, f ⟨n.val, by omega⟩) + ((∑ n : Fin 64, f ⟨64 + n.val, by omega⟩)
    + ((∑ n : Fin 64, f ⟨128 + n.val, by omega⟩) + ∑ n : Fin 64, f ⟨192 + n.val, by omega⟩)) := by
  refine (Fin.sum_univ_add (a := 64) (b := 192) f).trans (congrArg₂ (· + ·) rfl ?_)
  refine (Fin.sum_univ_add (a := 64) (b := 128) fun i => f (Fin.natAdd 64 i)).trans (congrArg₂ (· + ·) rfl ?_)
  refine (Fin.sum_univ_add (a := 64) (b := 64) fun i => f (Fin.natAdd 64 (Fin.natAdd 64 i))).trans (congrArg₂ (· + ·) ?_ ?_)
  · exact Finset.sum_congr rfl fun n _ => congrArg f (Fin.ext (by show 64 + (64 + n.val) = 128 + n.val; omega))
  · exact Finset.sum_congr rfl fun n _ => congrArg f (Fin.ext (by show 64 + (64 + (64 + n.val)) = 192 + n.val; omega))

/-- The four row blocks hold the complex numbers `Z` and `W`. -/
def Cx4 (a : FVec Ideal S256x128 .f32) (Z W : Fin 64 → ℂ) : Prop := ∀ (n : Fin 64) (c : Fin 128),
  a (ix2 ⟨n.val, by omega⟩ c) = ((Z n).re : EReal) ∧ a (ix2 ⟨64 + n.val, by omega⟩ c) = ((Z n).im : EReal)
    ∧ a (ix2 ⟨128 + n.val, by omega⟩ c) = ((W n).re : EReal) ∧ a (ix2 ⟨192 + n.val, by omega⟩ c) = ((W n).im : EReal)

theorem two_eq : (FloatOps.ofBits (F := Ideal) .f32 0x40000000#32) = ((2 : ℝ) : EReal) := by
  rw [Ideal.ofBits_def]
  simp [Ideal.ofBits, Ideal.ieee, -EReal.coe_mul]
  norm_num

theorem sq_cx (a : FVec Ideal S256x128 .f32) (Z W : Fin 64 → ℂ) (h : Cx4 a Z W) : Cx4 (sq a) (fun n => Z n ^ 2) (fun n => W n ^ 2) := by
  intro n c
  obtain ⟨h1, h2, h3, h4⟩ := h n c
  have e3 (z : ℕ) (hz : z < 256) (e : z = 128 + n.val) : a (ix2 ⟨z, hz⟩ c) = ((W n).re : EReal) := by subst e; exact h3
  have e4 (z : ℕ) (hz : z < 256) (e : z = 192 + n.val) : a (ix2 ⟨z, hz⟩ c) = ((W n).im : EReal) := by subst e; exact h4
  refine ⟨?_, ?_, ?_, ?_⟩
  · pointwise [sq]
    rw [h1, h2, pow_two, Complex.mul_re]
    norm_cast
  · pointwise [sq]
    rw [h1, h2, ← Ideal.ofBits_def, two_eq, pow_two, Complex.mul_im, ← EReal.coe_mul, ← EReal.coe_mul]
    exact congrArg _ (by ring)
  · pointwise [sq]
    rw [dif_neg (by omega), dif_neg (by omega), dif_pos (by omega), e3 _ _ (by omega), e4 _ _ (by omega), pow_two, Complex.mul_re]
    norm_cast
  · pointwise [sq]
    rw [dif_neg (by omega), dif_neg (by omega), dif_neg (by omega), e3 _ _ (by omega), e4 _ _ (by omega), ← Ideal.ofBits_def, two_eq, pow_two, Complex.mul_im,
      ← EReal.coe_mul, ← EReal.coe_mul]
    exact congrArg _ (by ring)

theorem sqn_cx (a : FVec Ideal S256x128 .f32) (Z W : Fin 64 → ℂ) (h : Cx4 a Z W) (k : ℕ) : Cx4 (sqn a k) (fun n => Z n ^ 2 ^ k) (fun n => W n ^ 2 ^ k) := by
  induction k with
  | zero => simpa [sqn] using h
  | succ k ih =>
    have e := sq_cx _ _ _ ih
    simp only [← pow_mul, ← pow_succ] at e
    exact e

/-- The operands of one group, over real parameters. -/
structure GroupOps (w3 : FVec Ideal S8x256x512 .bf16) (w5 : FVec Ideal S8x512x256 .bf16) (u8 : FVec Ideal S8x512x128 .bf16)
    (a10 : FVec Ideal S8x7x256x128 .f32) (t11 : FVec Ideal S8x512x512 .bf16) (g : Fin 8) (Af Ab : Fin 64 → ℂ) (Bf Bb : Fin 64 → Fin 16 → ℂ)
    (Cf Cb : Fin 16 → Fin 64 → ℂ) (d : Fin 16 → ℝ) (u : ℕ → Fin 16 → ℝ) : Prop where
  hu : ∀ (s : Fin 32) (q : Fin 16) (c : Fin 128), u8 (ix3 g ⟨s.val * 16 + q.val, by omega⟩ c) = (u (32 * c.val + s.val) q : EReal)
  ht : ∀ (t s : Fin 32) (p q : Fin 16), t11 (ix3 g ⟨t.val * 16 + p.val, by omega⟩ ⟨s.val * 16 + q.val, by omega⟩)
    = (((if s.val ≤ t.val then tap Af Bf (Cf p) (t.val - s.val) q else 0) + (if t.val ≤ s.val then tap Ab Bb (Cb p) (s.val - t.val) q else 0)
        + (if t.val = s.val ∧ p = q then d p else 0) : ℝ) : EReal)
  s1 : ∀ (n : Fin 64) (s : Fin 32) (q : Fin 16), w3 (ix3 g ⟨n.val, by omega⟩ ⟨s.val * 16 + q.val, by omega⟩) = ((Af n ^ (31 - s.val) * Bf n q).re : EReal)
  s2 : ∀ (n : Fin 64) (s : Fin 32) (q : Fin 16), w3 (ix3 g ⟨64 + n.val, by omega⟩ ⟨s.val * 16 + q.val, by omega⟩) = ((Af n ^ (31 - s.val) * Bf n q).im : EReal)
  s3 : ∀ (n : Fin 64) (s : Fin 32) (q : Fin 16), w3 (ix3 g ⟨128 + n.val, by omega⟩ ⟨s.val * 16 + q.val, by omega⟩) = ((Ab n ^ s.val * Bb n q).re : EReal)
  s4 : ∀ (n : Fin 64) (s : Fin 32) (q : Fin 16), w3 (ix3 g ⟨192 + n.val, by omega⟩ ⟨s.val * 16 + q.val, by omega⟩) = ((Ab n ^ s.val * Bb n q).im : EReal)
  o1 : ∀ (t : Fin 32) (p : Fin 16) (n : Fin 64), w5 (ix3 g ⟨t.val * 16 + p.val, by omega⟩ ⟨n.val, by omega⟩) = ((Cf p n * Af n ^ (t.val + 1)).re : EReal)
  o2 : ∀ (t : Fin 32) (p : Fin 16) (n : Fin 64), w5 (ix3 g ⟨t.val * 16 + p.val, by omega⟩ ⟨64 + n.val, by omega⟩) = -((Cf p n * Af n ^ (t.val + 1)).im : EReal)
  o3 : ∀ (t : Fin 32) (p : Fin 16) (n : Fin 64), w5 (ix3 g ⟨t.val * 16 + p.val, by omega⟩ ⟨128 + n.val, by omega⟩) = ((Cb p n * Ab n ^ (32 - t.val)).re : EReal)
  o4 : ∀ (t : Fin 32) (p : Fin 16) (n : Fin 64), w5 (ix3 g ⟨t.val * 16 + p.val, by omega⟩ ⟨192 + n.val, by omega⟩) = -((Cb p n * Ab n ^ (32 - t.val)).im : EReal)
  ap : ∀ j : Fin 7, Cx4 (fun z => a10 (ix4 g j (z 0) (z 1))) (fun n => (Af n ^ 32) ^ 2 ^ j.val) (fun n => (Ab n ^ 32) ^ 2 ^ j.val)

section

variable {w3 : FVec Ideal S8x256x512 .bf16} {w5 : FVec Ideal S8x512x256 .bf16} {u8 : FVec Ideal S8x512x128 .bf16}
    {a10 : FVec Ideal S8x7x256x128 .f32} {t11 : FVec Ideal S8x512x512 .bf16} (k : Fin k0_t1_loop.trips) {Af Ab : Fin 64 → ℂ} {Bf Bb : Fin 64 → Fin 16 → ℂ}
    {Cf Cb : Fin 16 → Fin 64 → ℂ} {d : Fin 16 → ℝ} {u : ℕ → Fin 16 → ℝ}
    (h : GroupOps w3 w5 u8 a10 t11 (gOf k) Af Ab Bf Bb Cf Cb d u)
include h

/-- A chunk's local state: the entry sum of a row of weights `z` over the chunk's tokens. -/
theorem loc_row (r : Fin 256) (c : Fin 128) (z : ℕ → Fin 16 → ℝ) (hz : ∀ (s : Fin 32) (q : Fin 16), w3 (ix3 (gOf k) r ⟨s.val * 16 + q.val, by omega⟩) = (z s.val q : EReal)) :
    loc w3 u8 k (ix2 r c) = ((∑ s ∈ Finset.range 32, ∑ q, z s q * u (32 * c.val + s) q : ℝ) : EReal) := by
  rw [loc_apply, sum_512, Finset.sum_range, ← coe_sum]
  refine Finset.sum_congr rfl fun s _ => ?_
  rw [← coe_sum]
  refine Finset.sum_congr rfl fun q _ => ?_
  rw [hz, h.hu, EReal.coe_mul]

omit h in
theorem re_inp (A : ℕ → ℂ) (B : Fin 64 → Fin 16 → ℂ) (n : Fin 64) (c : ℕ) :
    (∑ s ∈ Finset.range 32, A s * inp B u n (32 * c + s)).re = ∑ s ∈ Finset.range 32, ∑ q, (A s * B n q).re * u (32 * c + s) q := by
  rw [Complex.re_sum]
  refine Finset.sum_congr rfl fun s _ => ?_
  rw [inp, Finset.mul_sum, Complex.re_sum]
  refine Finset.sum_congr rfl fun q _ => ?_
  rw [← mul_assoc, Complex.re_mul_ofReal]

omit h in
theorem im_inp (A : ℕ → ℂ) (B : Fin 64 → Fin 16 → ℂ) (n : Fin 64) (c : ℕ) :
    (∑ s ∈ Finset.range 32, A s * inp B u n (32 * c + s)).im = ∑ s ∈ Finset.range 32, ∑ q, (A s * B n q).im * u (32 * c + s) q := by
  rw [Complex.im_sum]
  refine Finset.sum_congr rfl fun s _ => ?_
  rw [inp, Finset.mul_sum, Complex.im_sum]
  refine Finset.sum_congr rfl fun q _ => ?_
  rw [← mul_assoc, Complex.im_mul_ofReal]

omit h in
theorem slice_row (x : FVec Ideal S256x128 .f32) (n : Fin 64) (c : Fin 128) :
    extractStridedSlice S64x128 ![0, 0] x slices_S256x128_o0_0_S64x128 (ix2 n c) = x (ix2 ⟨n.val, by omega⟩ c)
    ∧ extractStridedSlice S64x128 ![64, 0] x slices_S256x128_o64_0_S64x128 (ix2 n c) = x (ix2 ⟨64 + n.val, by omega⟩ c)
    ∧ extractStridedSlice S64x128 ![128, 0] x slices_S256x128_o128_0_S64x128 (ix2 n c) = x (ix2 ⟨128 + n.val, by omega⟩ c)
    ∧ extractStridedSlice S64x128 ![192, 0] x slices_S256x128_o192_0_S64x128 (ix2 n c) = x (ix2 ⟨192 + n.val, by omega⟩ c) := by
  refine ⟨?_, ?_, ?_, ?_⟩ <;> pointwise

theorem fwd_0 : Cx (fwd w3 u8 a10 k 0) fun n c => dbl (Af n) (inp Bf u n) 0 c := by
  intro n c
  have e := slice_row (loc w3 u8 k) n c
  refine ⟨e.1.trans ?_, e.2.1.trans ?_⟩
  · dsimp only
    rw [loc_row k h _ c (fun s q => (Af n ^ (31 - s) * Bf n q).re) (h.s1 n), dbl_zero, re_inp]
  · dsimp only
    rw [loc_row k h _ c (fun s q => (Af n ^ (31 - s) * Bf n q).im) (h.s2 n), dbl_zero, im_inp]

theorem bwd_0 : Cx (bwd w3 u8 a10 k 0) fun n c => dbl (Ab n) (rev (inp Bb u n)) 0 (127 - c) := by
  intro n c
  have e := slice_row (loc w3 u8 k) n c
  refine ⟨e.2.2.1.trans ?_, e.2.2.2.trans ?_⟩
  · dsimp only
    rw [loc_row k h _ c (fun s q => (Ab n ^ s * Bb n q).re) (h.s3 n), dbl_zero_rev _ _ _ c.isLt, re_inp (fun s => Ab n ^ s)]
  · dsimp only
    rw [loc_row k h _ c (fun s q => (Ab n ^ s * Bb n q).im) (h.s4 n), dbl_zero_rev _ _ _ c.isLt, im_inp (fun s => Ab n ^ s)]

omit h in
theorem p0 (a10 : FVec Ideal S8x7x256x128 .f32) (k : Fin k0_t1_loop.trips) (o : Fin k0_t1_loop.trips → Fin 4 → Nat)
    (ho : ∀ k d, o k d + S1x1x64x128.size d ≤ S8x7x256x128.size d) (j : Fin 7)
    (h0 : ∀ k a, o k a = (![k.val, j.val, 0, 0] : Fin 4 → ℕ) a) (n : Fin 64) (c : Fin 128) :
    pw a10 o ho k (ix2 n c) = a10 (ix4 (gOf k) j ⟨n.val, by omega⟩ c) :=
  (pw_apply a10 k o ho j 0 (by omega) h0 n c).trans (congrArg (fun r => a10 (ix4 (gOf k) j r c)) (Fin.ext (Nat.zero_add _)))

theorem pow_f (j : ℕ) (hj : j < 7) : Cx (powF a10 k j) fun n _ => (Af n ^ 32) ^ 2 ^ j := by
  intro n c
  have e := h.ap ⟨j, hj⟩ n c
  refine ⟨Eq.trans ?_ e.1, Eq.trans ?_ e.2.1⟩
  · interval_cases j
    exacts [p0 a10 k _ _ 0 (by decide +kernel) n c, p0 a10 k _ _ 1 (by decide +kernel) n c, p0 a10 k _ _ 2 (by decide +kernel) n c, p0 a10 k _ _ 3 (by decide +kernel) n c, p0 a10 k _ _ 4 (by decide +kernel) n c, p0 a10 k _ _ 5 (by decide +kernel) n c, p0 a10 k _ _ 6 (by decide +kernel) n c]
  · interval_cases j
    exacts [pw_apply a10 k _ _ 0 64 (by omega) (by decide +kernel) n c, pw_apply a10 k _ _ 1 64 (by omega) (by decide +kernel) n c, pw_apply a10 k _ _ 2 64 (by omega) (by decide +kernel) n c, pw_apply a10 k _ _ 3 64 (by omega) (by decide +kernel) n c, pw_apply a10 k _ _ 4 64 (by omega) (by decide +kernel) n c, pw_apply a10 k _ _ 5 64 (by omega) (by decide +kernel) n c, pw_apply a10 k _ _ 6 64 (by omega) (by decide +kernel) n c]

theorem pow_b (j : ℕ) (hj : j < 7) : Cx (powB a10 k j) fun n _ => (Ab n ^ 32) ^ 2 ^ j := by
  intro n c
  have e := h.ap ⟨j, hj⟩ n c
  refine ⟨Eq.trans ?_ e.2.2.1, Eq.trans ?_ e.2.2.2⟩
  · interval_cases j
    exacts [pw_apply a10 k _ _ 0 128 (by omega) (by decide +kernel) n c, pw_apply a10 k _ _ 1 128 (by omega) (by decide +kernel) n c, pw_apply a10 k _ _ 2 128 (by omega) (by decide +kernel) n c, pw_apply a10 k _ _ 3 128 (by omega) (by decide +kernel) n c, pw_apply a10 k _ _ 4 128 (by omega) (by decide +kernel) n c, pw_apply a10 k _ _ 5 128 (by omega) (by decide +kernel) n c, pw_apply a10 k _ _ 6 128 (by omega) (by decide +kernel) n c]
  · interval_cases j
    exacts [pw_apply a10 k _ _ 0 192 (by omega) (by decide +kernel) n c, pw_apply a10 k _ _ 1 192 (by omega) (by decide +kernel) n c, pw_apply a10 k _ _ 2 192 (by omega) (by decide +kernel) n c, pw_apply a10 k _ _ 3 192 (by omega) (by decide +kernel) n c, pw_apply a10 k _ _ 4 192 (by omega) (by decide +kernel) n c, pw_apply a10 k _ _ 5 192 (by omega) (by decide +kernel) n c, pw_apply a10 k _ _ 6 192 (by omega) (by decide +kernel) n c]

theorem group_at (t : Fin 32) (p : Fin 16) (c : Fin 128) :
    tripPay w5 u8 t11 k (fwd w3 u8 a10 k 7) (bwd w3 u8 a10 k 7) (ix3 0 ⟨t.val * 16 + p.val, by omega⟩ c)
      = (((∑ n, (Cf p n * st (Af n) (inp Bf u n) (32 * c.val + t.val + 1)).re) + (∑ n, (Cb p n * st (Ab n) (rev (inp Bb u n)) (4096 - (32 * c.val + t.val))).re)
          + d p * u (32 * c.val + t.val) p : ℝ) : EReal) := by
  have hc := carried_cx _ _ Af Ab (inp Bf u) (fun n => rev (inp Bb u n)) (fwd_cx w3 u8 a10 k Af (inp Bf u) (fwd_0 k h) (pow_f k h) 7 (le_refl 7))
    (bwd_cx w3 u8 a10 k Ab (fun n => rev (inp Bb u n)) (bwd_0 k h) (pow_b k h) 7 (le_refl 7))
  rw [tripPay_apply, ← group_out Af Ab Bf Bb (Cf p) (Cb p) (d p) p u c.val t.val c.isLt t.isLt, EReal.coe_add]
  refine congrArg₂ (· + ·) ?_ ?_
  · rw [sum_512, Finset.sum_range, ← coe_sum]
    refine Finset.sum_congr rfl fun s _ => ?_
    rw [← coe_sum]
    refine Finset.sum_congr rfl fun q _ => ?_
    rw [h.ht, h.hu, EReal.coe_mul]
  · rw [sum_256]
    simp only [fun n => (hc n c).1, fun n => (hc n c).2.1, fun n => (hc n c).2.2.1, fun n => (hc n c).2.2.2, h.o1, h.o2, h.o3, h.o4, ← EReal.coe_neg, ← EReal.coe_mul, coe_sum, ← EReal.coe_add]
    refine congrArg _ ?_
    simp only [Complex.mul_re (_ * _), Finset.sum_sub_distrib, neg_mul, Finset.sum_neg_distrib]
    ring

end

end Cert.KernelIdeal.S5
-- ==== Proof.KVal.lean ====
/- The kernel's result over real arguments: the layer's output token by token. -/
module

public import proofs.«01_k».proof.Proof.Block
public import proofs.«01_k».proof.Proof.Group

@[expose] public section

set_option maxRecDepth 16384

noncomputable section

open Idealize.ShloMosaic Idealize.ShloMosaic.TcCoe Idealize.SL.Sem Cert.Scan

namespace Cert.KernelIdeal.S5

open Cert.KernelIdeal Cert.KernelIdeal.Gen Cert.KernelIdeal.Value

/-- The arguments hold real parameters, and the two marker arrays are the ones of the layer. -/
structure Args (m : (ℓ : Loc nD τ sig) → Buf (Elt Ideal) ℓ) (c : Dev nD) (F B : Dir) (u : Fin 10 → Fin 4096 → Fin 512 → ℝ) (d : Fin 512 → ℝ) : Prop where
  f : EncA F (dirF m c)
  b : EncA B (dirB m c)
  u : ∀ b t k, (m ((c : Thread nD τ).loc main_arg0) : Arr S10x4096x512) (ix3 b t k) = (u b t k : EReal)
  d : ∀ k, skipD m c (ix1 k) = (d k : EReal)
  rep : ∀ (j : Fin 32) (l : Fin 512), (m ((c : Thread nD τ).loc main_arg16) : Arr S32x512) (ix2 j l) = (if l.val / 16 = j.val then 1 else 0 : EReal)
  tile : ∀ (j : Fin 16) (l : Fin 512), (m ((c : Thread nD τ).loc main_arg17) : Arr S16x512) (ix2 j l) = (if l.val % 16 = j.val then 1 else 0 : EReal)

/-- The group of a grid point's `g`-th group. -/
def grp (q : Fin 4) (g : Fin 8) : Fin 32 := ⟨q.val * 8 + g.val, by omega⟩

section Weights

variable {R : Dir} {D : DirA} (h : EncA R D) (r : Arr S32x512) (tl : Arr S16x512)
  (hr : ∀ (j : Fin 32) (l : Fin 512), r (ix2 j l) = if l.val / 16 = j.val then 1 else 0)
  (ht : ∀ (j : Fin 16) (l : Fin 512), tl (ix2 j l) = if l.val % 16 = j.val then 1 else 0)
include h hr ht

/-- A row of the matrix to the local states, of a power of the multiplier for each token. -/
theorem w_at (x y : Arr S32x64x32) (g : Fin 32) (n : Fin 64) (s : Fin 32) (q : Fin 16) (k : ℕ)
    (hx : x (ix3 g n s) = ((R.A g n ^ k).re : EReal)) (hy : y (ix3 g n s) = ((R.A g n ^ k).im : EReal)) :
    hWr x y D.Br D.Bi r tl (ix3 g n ⟨s.val * 16 + q.val, by omega⟩) = ((R.A g n ^ k * R.B g n q).re : EReal)
      ∧ hWi x y D.Br D.Bi r tl (ix3 g n ⟨s.val * 16 + q.val, by omega⟩) = ((R.A g n ^ k * R.B g n q).im : EReal) := by
  have es : (⟨(s.val * 16 + q.val) / 16, by omega⟩ : Fin 32) = s := Fin.ext (by simp only; omega)
  have eq : (⟨(s.val * 16 + q.val) % 16, by omega⟩ : Fin 16) = q := Fin.ext (by simp only; omega)
  have e1 := (hRep_at x r g n ⟨s.val * 16 + q.val, by omega⟩ hr).trans ((congrArg (fun z => x (ix3 g n z)) es).trans hx)
  have e2 := (hRep_at y r g n ⟨s.val * 16 + q.val, by omega⟩ hr).trans ((congrArg (fun z => y (ix3 g n z)) es).trans hy)
  have e3 := (hTile_at D.Br tl g n ⟨s.val * 16 + q.val, by omega⟩ ht).trans ((congrArg (fun z => D.Br (ix3 g n z)) eq).trans (Br_at R D h g n q))
  have e4 := (hTile_at D.Bi tl g n ⟨s.val * 16 + q.val, by omega⟩ ht).trans ((congrArg (fun z => D.Bi (ix3 g n z)) eq).trans (Bi_at R D h g n q))
  constructor
  · unfold hWr
    generalize hRep x r = a1 at e1 ⊢
    generalize hRep y r = a2 at e2 ⊢
    generalize hTile D.Br tl = a3 at e3 ⊢
    generalize hTile D.Bi tl = a4 at e4 ⊢
    pointwise [hMulR]
    rw [e1, e2, e3, e4, Complex.mul_re]
    norm_cast
  · unfold hWi
    generalize hRep x r = a1 at e1 ⊢
    generalize hRep y r = a2 at e2 ⊢
    generalize hTile D.Br tl = a3 at e3 ⊢
    generalize hTile D.Bi tl = a4 at e4 ⊢
    pointwise [hMulI]
    rw [e1, e2, e3, e4, Complex.mul_im]
    norm_cast

end Weights

section Pow

variable {R : Dir} {D : DirA} (h : EncA R D)
include h

theorem desc_at (g : Fin 32) (n : Fin 64) (s : Fin 32) : hDesc D.pr (ix3 g n s) = ((R.A g n ^ (31 - s.val)).re : EReal)
    ∧ hDesc D.pi (ix3 g n s) = ((R.A g n ^ (31 - s.val)).im : EReal) := by
  rw [hDesc_at, hDesc_at, pr_at R D h, pi_at R D h, Dir.pow_eq]
  exact ⟨rfl, rfl⟩

theorem asc_at (g : Fin 32) (n : Fin 64) (s : Fin 32) : hAsc D.pr (ix3 g n s) = ((R.A g n ^ s.val).re : EReal)
    ∧ hAsc D.pi (ix3 g n s) = ((R.A g n ^ s.val).im : EReal) := by
  rw [hAsc_at, hAsc_at, pr_at R D h, pi_at R D h, Dir.pow_eq]
  exact ⟨rfl, rfl⟩

theorem out_f (g : Fin 32) (t : Fin 32) (p : Fin 16) (n : Fin 64) :
    hFlat (hFrom1 D.Cr) (ix3 g ⟨t.val * 16 + p.val, by omega⟩ n) = ((R.C g n p * R.A g n ^ (t.val + 1)).re : EReal)
      ∧ hFlat (hFrom1 D.Ci) (ix3 g ⟨t.val * 16 + p.val, by omega⟩ n) = ((R.C g n p * R.A g n ^ (t.val + 1)).im : EReal) := by
  rw [hFlat_at, hFlat_at, hFrom1_at, hFrom1_at, Cr_at R D h, Ci_at R D h]
  exact ⟨rfl, rfl⟩

theorem out_b (g : Fin 32) (t : Fin 32) (p : Fin 16) (n : Fin 64) :
    hFlat (Host.reverse [1] (hFrom1 D.Cr)) (ix3 g ⟨t.val * 16 + p.val, by omega⟩ n) = ((R.C g n p * R.A g n ^ (32 - t.val)).re : EReal)
      ∧ hFlat (Host.reverse [1] (hFrom1 D.Ci)) (ix3 g ⟨t.val * 16 + p.val, by omega⟩ n) = ((R.C g n p * R.A g n ^ (32 - t.val)).im : EReal) := by
  have e : t.rev.val + 1 = 32 - t.val := by rw [Fin.val_rev]; omega
  rw [hFlat_at, hFlat_at, rev_at, rev_at, hFrom1_at, hFrom1_at, Cr_at R D h, Ci_at R D h]
  simp only [e]
  exact ⟨trivial, trivial⟩

end Pow

section Strip

variable {F B : Dir} {DF DB : DirA} (hF : EncA F DF) (hB : EncA B DB) (sk : Arr S512) (d : Fin 512 → ℝ) (hd : ∀ k, sk (ix1 k) = (d k : EReal))
include hF hB hd

/-- The strip at the lag from token `s` to token `t`. -/
theorem strip_at (g : Fin 32) (t s : Fin 32) (p q : Fin 16) :
    hStripP (hStrip DF.taps DB.taps sk) (ix3 g p ⟨s.val * 16 + q.val + (31 - t.val) * 16, by omega⟩)
      = (((if s.val ≤ t.val then tap (F.A g) (F.B g) (fun n => F.C g n p) (t.val - s.val) q else 0)
          + (if t.val ≤ s.val then tap (B.A g) (B.B g) (fun n => B.C g n p) (s.val - t.val) q else 0)
          + (if t.val = s.val ∧ p = q then d ⟨g.val * 16 + p.val, by omega⟩ else 0) : ℝ) : EReal) := by
  have e0 : hStripP (hStrip DF.taps DB.taps sk) (ix3 g p ⟨s.val * 16 + q.val + (31 - t.val) * 16, by omega⟩)
      = hStrip DF.taps DB.taps sk (ix3 g p ⟨(s.val + (31 - t.val)) * 16 + q.val, by omega⟩) := by
    refine Eq.trans ?_ (hPad_at (hStrip DF.taps DB.taps sk) (constantI S_ 32 0#32) g p ⟨(s.val + (31 - t.val)) * 16 + q.val, by omega⟩)
    exact congrArg (fun z => hStripP (hStrip DF.taps DB.taps sk) (ix3 g p z)) (Fin.ext (by simp only; omega))
  have e1 := hLags_at (hTapB DB.taps) (hTap0 (hCentre DF.taps DB.taps sk)) (hTapF DF.taps) g p q ⟨s.val + (31 - t.val), by omega⟩
  refine e0.trans (e1.trans ?_)
  by_cases h1 : s.val < t.val
  · rw [dif_pos (by simp only; omega), hTapF_at, taps_at F DF hF, if_pos (by omega), if_neg (by omega), if_neg (by omega), add_zero, add_zero]
    exact congrArg (fun l => ((tap (F.A g) (F.B g) (fun n => F.C g n p) l q : ℝ) : EReal)) (by simp only; omega)
  · rw [dif_neg (by simp only; omega)]
    by_cases h2 : t.val = s.val
    · rw [dif_pos (by simp only; omega), hTap0_at, hCentre_at, taps_at F DF hF, taps_at B DB hB, hd, if_pos (show s.val ≤ t.val by omega), if_pos (show t.val ≤ s.val by omega),
        show t.val - s.val = 0 by omega, show s.val - t.val = 0 by omega, EReal.coe_add, EReal.coe_add]
      refine congrArg₂ (· + ·) rfl ?_
      by_cases h3 : p = q
      · subst h3
        rw [if_pos rfl, if_pos ⟨h2, rfl⟩, one_mul]
      · rw [if_neg h3, if_neg (fun h => h3 h.2), zero_mul, EReal.coe_zero]
    · rw [dif_neg (by simp only; omega), hTapB_at, taps_at B DB hB, if_neg (by omega), if_pos (by omega), if_neg (by omega), zero_add, add_zero]
      exact congrArg (fun l => ((tap (B.A g) (B.B g) (fun n => B.C g n p) l q : ℝ) : EReal)) (by simp only; omega)

end Strip

section Value

variable {m : (ℓ : Loc nD τ sig) → Buf (Elt Ideal) ℓ} {c : Dev nD} {F B : Dir} {u : Fin 10 → Fin 4096 → Fin 512 → ℝ} {d : Fin 512 → ℝ}
  (h : Args m c F B u d) (b : Fin 10) (q : Fin 4) (t : Fin cfg0.N) (ht : t.val = 10 * q.val + b.val) (g : Fin 8)
include h ht

theorem u_at (s : Fin 32) (r : Fin 16) (l : Fin 128) :
    UTf (iblk m c 0 t) (ix3 g ⟨s.val * 16 + r.val, by omega⟩ l) = (tok u b (grp q g) (32 * l.val + s.val) r : EReal) := by
  have e : UTf (iblk m c 0 t) (ix3 g ⟨s.val * 16 + r.val, by omega⟩ l)
      = (iblk m c 0 t : FVec Ideal S1x32x128x128 .bf16) (ix4 0 s l ⟨g.val * 16 + r.val, by omega⟩) := by
    unfold UTf
    exact congrArg₂ (fun x y => (iblk m c 0 t : FVec Ideal S1x32x128x128 .bf16) (ix4 0 x l y))
      (Fin.ext (show (s.val * 16 + r.val) / 16 = s.val by omega)) (Fin.ext (show g.val * 16 + (s.val * 16 + r.val) % 16 = g.val * 16 + r.val by omega))
  rw [e, blk0, V_u, hU_at, h.u, tok, dif_pos (by omega)]
  refine congrArg _ ?_
  have e1 : (⟨t.val % 10, by omega⟩ : Fin 10) = b := Fin.ext (by simp only; omega)
  have e2 : (⟨l.val * 32 + s.val, by omega⟩ : Fin 4096) = ⟨32 * l.val + s.val, by omega⟩ := Fin.ext (by simp only; omega)
  have e3 : (⟨t.val / 10 * 128 + (g.val * 16 + r.val), by omega⟩ : Fin 512) = ⟨(grp q g).val * 16 + r.val, by have := (grp q g).isLt; omega⟩ :=
    Fin.ext (show t.val / 10 * 128 + (g.val * 16 + r.val) = (q.val * 8 + g.val) * 16 + r.val by omega)
  rw [e1, e2]
  exact congrArg (u b _) e3

omit h in
theorem grp_eq : (⟨t.val / 10 * 8 + g.val, by have := lt40 t; omega⟩ : Fin 32) = grp q g :=
  Fin.ext (show t.val / 10 * 8 + g.val = q.val * 8 + g.val by omega)

theorem ops : GroupOps (iblk m c 1 t) (iblk m c 3 t) (UTf (iblk m c 0 t)) (APf (iblk m c 4 t)) (TTf (iblk m c 2 t)) g
    (F.A (grp q g)) (B.A (grp q g)) (F.B (grp q g)) (B.B (grp q g)) (fun p n => F.C (grp q g) n p) (fun p n => B.C (grp q g) n p)
    (fun p => d ⟨(grp q g).val * 16 + p.val, by have := (grp q g).isLt; omega⟩) (tok u b (grp q g)) where
  hu := u_at h b q t ht g
  ht := by
    intro i s p r
    have e : TTf (iblk m c 2 t) (ix3 g ⟨i.val * 16 + p.val, by omega⟩ ⟨s.val * 16 + r.val, by omega⟩)
        = (iblk m c 2 t : FVec Ideal S8x16x1024 .f32) (ix3 g p ⟨s.val * 16 + r.val + (31 - i.val) * 16, by omega⟩) := by
      unfold TTf
      exact congrArg₂ (fun x y => (iblk m c 2 t : FVec Ideal S8x16x1024 .f32) (ix3 g x y))
        (Fin.ext (show (i.val * 16 + p.val) % 16 = p.val by omega)) (Fin.ext (show s.val * 16 + r.val + (31 - (i.val * 16 + p.val) / 16) * 16 = s.val * 16 + r.val + (31 - i.val) * 16 by omega))
    rw [e, blk2, V_strip, grp_eq b q t ht g]
    exact strip_at h.f h.b (skipD m c) d h.d (grp q g) i s p r
  s1 n s r := by
    rw [blk1, V_wst, grp_eq b q t ht g]
    exact (hWst_at _ _ _ _ (grp q g) n _).1.trans (w_at h.f _ _ h.rep h.tile _ _ (grp q g) n s r _ (desc_at h.f _ _ _).1 (desc_at h.f _ _ _).2).1
  s2 n s r := by
    rw [blk1, V_wst, grp_eq b q t ht g]
    exact (hWst_at _ _ _ _ (grp q g) n _).2.1.trans (w_at h.f _ _ h.rep h.tile _ _ (grp q g) n s r _ (desc_at h.f _ _ _).1 (desc_at h.f _ _ _).2).2
  s3 n s r := by
    rw [blk1, V_wst, grp_eq b q t ht g]
    exact (hWst_at _ _ _ _ (grp q g) n _).2.2.1.trans (w_at h.b _ _ h.rep h.tile _ _ (grp q g) n s r _ (asc_at h.b _ _ _).1 (asc_at h.b _ _ _).2).1
  s4 n s r := by
    rw [blk1, V_wst, grp_eq b q t ht g]
    exact (hWst_at _ _ _ _ (grp q g) n _).2.2.2.trans (w_at h.b _ _ h.rep h.tile _ _ (grp q g) n s r _ (asc_at h.b _ _ _).1 (asc_at h.b _ _ _).2).2
  o1 i p n := by
    rw [blk3, V_wot, grp_eq b q t ht g]
    exact (hWot_at _ _ _ _ (grp q g) _ n).1.trans (out_f h.f _ _ _ _).1
  o2 i p n := by
    rw [blk3, V_wot, grp_eq b q t ht g]
    exact (hWot_at _ _ _ _ (grp q g) _ n).2.1.trans (congrArg _ (out_f h.f _ _ _ _).2)
  o3 i p n := by
    rw [blk3, V_wot, grp_eq b q t ht g]
    exact (hWot_at _ _ _ _ (grp q g) _ n).2.2.1.trans (out_b h.b _ _ _ _).1
  o4 i p n := by
    rw [blk3, V_wot, grp_eq b q t ht g]
    exact (hWot_at _ _ _ _ (grp q g) _ n).2.2.2.trans (congrArg _ (out_b h.b _ _ _ _).2)
  ap j := by
    refine sqn_cx (fun z : S256x128.Idx => (iblk m c 4 t : FVec Ideal S8x256x128 .f32) (ix3 g (z 0) (z 1))) (fun n => F.A (grp q g) n ^ 32) (fun n => B.A (grp q g) n ^ 32) ?_ j.val
    intro n l
    have e := hAch_at (hRow32 (dirF m c).pr) (hRow32 (dirF m c).pi) (hRow32 (dirB m c).pr) (hRow32 (dirB m c).pi) (grp q g) n l
    have hb (r : Fin 256) : (iblk m c 4 t : FVec Ideal S8x256x128 .f32) (ix3 g r l)
        = hAch (hRow32 (dirF m c).pr) (hRow32 (dirF m c).pi) (hRow32 (dirB m c).pr) (hRow32 (dirB m c).pi) (ix3 (grp q g) r l) := by
      rw [blk4, V_ach, grp_eq b q t ht g]
    exact ⟨(hb _).trans (e.1.trans (pr32_at F _ h.f _ _)), (hb _).trans (e.2.1.trans (pi32_at F _ h.f _ _)),
      (hb _).trans (e.2.2.1.trans (pr32_at B _ h.b _ _)), (hb _).trans (e.2.2.2.trans (pi32_at B _ h.b _ _))⟩

end Value

/-- The result, entry by entry. -/
theorem kernel_at {m : (ℓ : Loc nD τ sig) → Buf (Elt Ideal) ℓ} {c : Dev nD} {F B : Dir} {u : Fin 10 → Fin 4096 → Fin 512 → ℝ} {d : Fin 512 → ℝ}
    (h : Args m c F B u d) (b : Fin 10) (q : Fin 4) (g : Fin 8) (s : Fin 32) (l : Fin 128) (p : Fin 16) :
    G5 m c (ix4 b s l ⟨(grp q g).val * 16 + p.val, by have := (grp q g).isLt; omega⟩ : S10x32x128x512.Idx)
      = (outR F B d u b (32 * l.val + s.val) (grp q g) p : EReal) := by
  have hN : 10 * q.val + b.val < cfg0.N := lt_of_lt_of_eq (show 10 * q.val + b.val < 40 by omega) (show (40 : ℕ) = cfg0.N from N_0.symm)
  have e0 : (⟨(grp q g).val * 16 + p.val, by have := (grp q g).isLt; omega⟩ : Fin 512) = ⟨q.val * 128 + (⟨g.val * 16 + p.val, by omega⟩ : Fin 128).val, by simp only; omega⟩ :=
    Fin.ext (show (q.val * 8 + g.val) * 16 + p.val = q.val * 128 + (g.val * 16 + p.val) by omega)
  rw [e0, G5_at m c b s l q ⟨g.val * 16 + p.val, by omega⟩ ⟨10 * q.val + b.val, hN⟩ rfl]
  have e1 : ∀ (w3 : FVec Ideal S8x256x512 .bf16) (w5 : FVec Ideal S8x512x256 .bf16) (a10 : FVec Ideal S8x7x256x128 .f32) (t11 : FVec Ideal S8x512x512 .bf16) (x0 : FVec Ideal S1x32x128x128 .bf16),
      OutF w3 w5 a10 t11 x0 (ix4 0 s l ⟨g.val * 16 + p.val, by omega⟩) = YTf w3 w5 (UTf x0) a10 t11 (ix3 g ⟨s.val * 16 + p.val, by omega⟩ l) := by
    intro w3 w5 a10 t11 x0
    unfold OutF
    exact congrArg₂ (fun x y => YTf w3 w5 (UTf x0) a10 t11 (ix3 x y l)) (Fin.ext (show (g.val * 16 + p.val) / 16 = g.val by omega))
      (Fin.ext (show 16 * s.val + (g.val * 16 + p.val) % 16 = s.val * 16 + p.val by omega))
  rw [e1]
  exact group_at (kOf g) (ops h b q ⟨10 * q.val + b.val, hN⟩ rfl g) s p l

end Cert.KernelIdeal.S5
-- ==== Proof.Pre.lean ====
/- What the precondition says of the arguments: real entries, eigenvalues off zero, and the two marker arrays. -/
module

public import proofs.«01_k».proof.Proof.Gen.Pre_finite
public import Idealize.ShloMosaic.PureOps.Ideal
public import Idealize.ShloMosaic.Lib.Pointwise
public import Idealize.ShloMosaic.Lib.WordCmp
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.Pre_finite.Read

open Cert.Pre_finite Cert.Pre_finite.Gen

theorem inf_eq : FloatOps.ofBits (F := Ideal) .f32 0x7F800000#32 = (⊤ : EReal) := by
  simp [Ideal.ofBits, Ideal.ieee]
theorem zero_eq : FloatOps.ofBits (F := Ideal) .f32 0x00000000#32 = (0 : EReal) := by
  simp [Ideal.ofBits, Ideal.ieee]

theorem ofBool_one {b : Bool} (h : BitVec.ofBool b = 1#1) : b = true := by
  cases b
  · exact absurd h (by decide)
  · rfl

/-- An array all of whose entries are less than infinity has real entries. -/
theorem real_of {s : Shape} {axes : List (Fin s.rank)} (x : FVec Ideal s .f32) (hb : S_.BroadcastsInDim s (![] : Fin 0 → Fin s.rank)) (h : s.ReducesTo axes S_) (hu : 0 < S_.numel)
    (e : Host.reduce IntOp.andi (cmpf .olt (Host.absf x) (broadcastInDim s ![] hb (constant S_ .f32 0x7F800000#32))) (constantI S_ 1 1#1) h hu ix0 = 1#1) (i : s.Idx) :
    x i = ((x i).toReal : EReal) := by
  have e1 : Ideal.cmp .olt (max (x i) (-(x i))) (FloatOps.ofBits (F := Ideal) .f32 0x7F800000#32) = 1#1 := Host.reduce_andi_all _ _ _ _ _ e i
  rw [inf_eq] at e1
  have e2 : max (x i) (-(x i)) < ⊤ := of_decide_eq_true (ofBool_one e1)
  refine (EReal.coe_toReal ?_ ?_).symm
  · intro h
    rw [h] at e2
    exact absurd e2 (by simp)
  · intro h
    rw [h] at e2
    exact absurd e2 (by simp)

/-- Two arrays never zero at once. -/
theorem ne_of {s : Shape} {axes : List (Fin s.rank)} (x y : FVec Ideal s .f32) (hb : S_.BroadcastsInDim s (![] : Fin 0 → Fin s.rank)) (h : s.ReducesTo axes S_) (hu : 0 < S_.numel)
    (e : Host.reduce IntOp.andi (ori (cmpf .une x (broadcastInDim s ![] hb (constant S_ .f32 0x00000000#32))) (cmpf .une y (broadcastInDim s ![] hb (constant S_ .f32 0x00000000#32))))
      (constantI S_ 1 1#1) h hu ix0 = 1#1) (i : s.Idx) : x i ≠ (0 : EReal) ∨ y i ≠ (0 : EReal) := by
  have e1 : IntOp.ori (Ideal.cmp .une (x i) (FloatOps.ofBits (F := Ideal) .f32 0x00000000#32)) (Ideal.cmp .une (y i) (FloatOps.ofBits (F := Ideal) .f32 0x00000000#32)) = 1#1 :=
    Host.reduce_andi_all _ _ _ _ _ e i
  rw [zero_eq] at e1
  exact (IntOp.ori_eq_one.1 e1).imp (fun e => of_decide_eq_true (ofBool_one e)) (fun e => of_decide_eq_true (ofBool_one e))

theorem peel {a b : IVec S_ 1} (e : andi a b ix0 = 1#1) : a ix0 = 1#1 ∧ b ix0 = 1#1 := IntOp.andi_eq_one.1 e

/-- An array equal to another, entry by entry. -/
theorem eq_of {s : Shape} {axes : List (Fin s.rank)} (x y : FVec Ideal s .f32) (h : s.ReducesTo axes S_) (hu : 0 < S_.numel)
    (e : Host.reduce IntOp.andi (cmpf .oeq x y) (constantI S_ 1 1#1) h hu ix0 = 1#1) (i : s.Idx) : x i = y i := by
  have e1 : Ideal.cmp .oeq (x i) (y i) = 1#1 := Host.reduce_andi_all _ _ _ _ _ e i
  exact of_decide_eq_true (ofBool_one e1)

theorem word_num (b : Prop) [Decidable b] (w : BitVec 1) (h : w.toNat = if b then 1 else 0) : FloatOps.uitofp (F := Ideal) FTy.f32 w = if b then (1 : EReal) else 0 := by
  show ((w.toNat : ℝ) : EReal) = _
  rw [h]
  split <;> simp

theorem eq_word (a b : ℕ) (ha : a < 512) (hb : b < 512) : (IntOp.cmpi .eq (BitVec.ofNat 32 a) (BitVec.ofNat 32 b)).toNat = if a = b then 1 else 0 := by
  by_cases h : a = b
  · rw [if_pos h, IntOp.cmpi_eq.2 (congrArg _ h)]
    rfl
  · rw [if_neg h]
    have e : ¬IntOp.cmpi .eq (BitVec.ofNat 32 a) (BitVec.ofNat 32 b) = 1#1 := fun e => h (by
      have := congrArg BitVec.toNat (IntOp.cmpi_eq.1 e)
      rw [BitVec.toNat_ofNat, BitVec.toNat_ofNat] at this
      omega)
    revert e
    generalize IntOp.cmpi .eq (BitVec.ofNat 32 a) (BitVec.ofNat 32 b) = w
    revert w
    decide

/-- The quotient and the remainder by 16 of a column's number. -/
theorem div_word : ∀ l : Fin 512, Scalar.select
    (IntOp.andi
      (IntOp.cmpi .ne (if BitVec.ofNat 32 l.val = 0 then 0 else if (BitVec.ofNat 32 l.val).msb = true then -1 else 1) (if 16#32 = 0 then 0 else if (16#32).msb = true then -1 else 1 : BitVec 32))
      (IntOp.cmpi .ne (IntOp.remsi ArithUnit.host (BitVec.ofNat 32 l.val) 16#32) 0#32))
    (IntOp.subi (IntOp.divsi ArithUnit.host (BitVec.ofNat 32 l.val) 16#32) 1#32)
    (IntOp.divsi ArithUnit.host (BitVec.ofNat 32 l.val) 16#32) = BitVec.ofNat 32 (l.val / 16) := by decide +kernel
theorem rem_word : ∀ l : Fin 512, Scalar.select
    (IntOp.andi
      (IntOp.cmpi .ne (IntOp.cmpi .slt (IntOp.remsi ArithUnit.host (BitVec.ofNat 32 l.val) (Scalar.select (IntOp.cmpi .eq 16#32 0#32) 1#32 16#32)) 0#32)
        (IntOp.cmpi .slt (Scalar.select (IntOp.cmpi .eq 16#32 0#32) 1#32 16#32) 0#32))
      (IntOp.cmpi .ne (IntOp.remsi ArithUnit.host (BitVec.ofNat 32 l.val) (Scalar.select (IntOp.cmpi .eq 16#32 0#32) 1#32 16#32)) 0#32))
    (IntOp.addi (IntOp.remsi ArithUnit.host (BitVec.ofNat 32 l.val) (Scalar.select (IntOp.cmpi .eq 16#32 0#32) 1#32 16#32)) (Scalar.select (IntOp.cmpi .eq 16#32 0#32) 1#32 16#32))
    (IntOp.remsi ArithUnit.host (BitVec.ofNat 32 l.val) (Scalar.select (IntOp.cmpi .eq 16#32 0#32) 1#32 16#32)) = BitVec.ofNat 32 (l.val % 16) := by decide +kernel

theorem rep_word (j : Fin 32) (l : Fin 512) : uitofp (F := Ideal) .f32 (cmpi .eq
      (broadcastInDim S32x512 ![0, 1] bcast_S1x512_S32x512_0_1 (fn_floor_divide (F := Ideal) (broadcastInDim S1x512 ![1] bcast_S512_S1x512_1 (iotaInDim S512 32 0)) (constantI S_ 32 16#32)))
      (broadcastInDim S32x512 ![0, 1] bcast_S32x1_S32x512_0_1 (broadcastInDim S32x1 ![0] bcast_S32_S32x1_0 (iotaInDim S32 32 0)))) (ix2 j l)
    = if l.val / 16 = j.val then (1 : EReal) else 0 := by
  pointwise [fn_floor_divide, fn_where]
  refine word_num _ _ ((congrArg (fun w => (IntOp.cmpi .eq w (BitVec.ofNat 32 j.val)).toNat) (div_word l)).trans (eq_word _ _ (by omega) (by omega)))

theorem tile_word (j : Fin 16) (l : Fin 512) : uitofp (F := Ideal) .f32 (cmpi .eq
      (broadcastInDim S16x512 ![0, 1] bcast_S1x512_S16x512_0_1 (fn_remainder (F := Ideal) (broadcastInDim S1x512 ![1] bcast_S512_S1x512_1 (iotaInDim S512 32 0)) (constantI S_ 32 16#32)))
      (broadcastInDim S16x512 ![0, 1] bcast_S16x1_S16x512_0_1 (broadcastInDim S16x1 ![0] bcast_S16_S16x1_0 (iotaInDim S16 32 0)))) (ix2 j l)
    = if l.val % 16 = j.val then (1 : EReal) else 0 := by
  pointwise [fn_remainder, fn_where_0]
  refine word_num _ _ ((congrArg (fun w => (IntOp.cmpi .eq w (BitVec.ofNat 32 j.val)).toNat) (rem_word l)).trans (eq_word _ _ (by omega) (by omega)))

section

variable (x0 : FVec Ideal S10x4096x512 .f32) (x1 x2 : FVec Ideal S1x32x64 .f32) (x3 : FVec Ideal S1x32 .f32) (x4 x5 : FVec Ideal S1x32x64x16 .f32) (x6 x7 : FVec Ideal S1x32x16x64 .f32)
  (x8 x9 : FVec Ideal S1x32x64 .f32) (x10 : FVec Ideal S1x32 .f32) (x11 x12 : FVec Ideal S1x32x64x16 .f32) (x13 x14 : FVec Ideal S1x32x16x64 .f32) (x15 : FVec Ideal S1x512 .f32)
  (x16 : FVec Ideal S32x512 .f32) (x17 : FVec Ideal S16x512 .f32)

/-- The precondition, read. -/
structure Says : Prop where
  r0 : ∀ i, x0 i = ((x0 i).toReal : EReal)
  r1 : ∀ i, x1 i = ((x1 i).toReal : EReal)
  r2 : ∀ i, x2 i = ((x2 i).toReal : EReal)
  r3 : ∀ i, x3 i = ((x3 i).toReal : EReal)
  r4 : ∀ i, x4 i = ((x4 i).toReal : EReal)
  r5 : ∀ i, x5 i = ((x5 i).toReal : EReal)
  r6 : ∀ i, x6 i = ((x6 i).toReal : EReal)
  r7 : ∀ i, x7 i = ((x7 i).toReal : EReal)
  r8 : ∀ i, x8 i = ((x8 i).toReal : EReal)
  r9 : ∀ i, x9 i = ((x9 i).toReal : EReal)
  r10 : ∀ i, x10 i = ((x10 i).toReal : EReal)
  r11 : ∀ i, x11 i = ((x11 i).toReal : EReal)
  r12 : ∀ i, x12 i = ((x12 i).toReal : EReal)
  r13 : ∀ i, x13 i = ((x13 i).toReal : EReal)
  r14 : ∀ i, x14 i = ((x14 i).toReal : EReal)
  r15 : ∀ i, x15 i = ((x15 i).toReal : EReal)
  n1 : ∀ i, x1 i ≠ (0 : EReal) ∨ x2 i ≠ (0 : EReal)
  n2 : ∀ i, x8 i ≠ (0 : EReal) ∨ x9 i ≠ (0 : EReal)
  rep : ∀ (j : Fin 32) (l : Fin 512), x16 (ix2 j l) = if l.val / 16 = j.val then (1 : EReal) else 0
  tile : ∀ (j : Fin 16) (l : Fin 512), x17 (ix2 j l) = if l.val % 16 = j.val then (1 : EReal) else 0

theorem read (e : fn (F := Ideal) x0 x1 x2 x3 x4 x5 x6 x7 x8 x9 x10 x11 x12 x13 x14 x15 x16 x17 ix0 = 1#1) :
    Says x0 x1 x2 x3 x4 x5 x6 x7 x8 x9 x10 x11 x12 x13 x14 x15 x16 x17 := by
  dsimp only [fn, fn_part1, fn_part2, fn_part3, fn_part4, fn_part5, fn_part6] at e
  obtain ⟨y0, tl⟩ := peel e
  clear e
  obtain ⟨y1, rp⟩ := peel y0
  clear y0
  obtain ⟨y2, n2⟩ := peel y1
  clear y1
  obtain ⟨y3, n1⟩ := peel y2
  clear y2
  obtain ⟨y4, e15⟩ := peel y3
  clear y3
  obtain ⟨y5, e14⟩ := peel y4
  clear y4
  obtain ⟨y6, e13⟩ := peel y5
  clear y5
  obtain ⟨y7, e12⟩ := peel y6
  clear y6
  obtain ⟨y8, e11⟩ := peel y7
  clear y7
  obtain ⟨y9, e10⟩ := peel y8
  clear y8
  obtain ⟨y10, e9⟩ := peel y9
  clear y9
  obtain ⟨y11, e8⟩ := peel y10
  clear y10
  obtain ⟨y12, e7⟩ := peel y11
  clear y11
  obtain ⟨y13, e6⟩ := peel y12
  clear y12
  obtain ⟨y14, e5⟩ := peel y13
  clear y13
  obtain ⟨y15, e4⟩ := peel y14
  clear y14
  obtain ⟨y16, e3⟩ := peel y15
  clear y15
  obtain ⟨y17, e2⟩ := peel y16
  clear y16
  obtain ⟨y18, e1⟩ := peel y17
  clear y17
  obtain ⟨y19, e0⟩ := peel y18
  clear y18
  clear y19
  exact ⟨real_of x0 _ _ _ e0, real_of x1 _ _ _ e1, real_of x2 _ _ _ e2, real_of x3 _ _ _ e3, real_of x4 _ _ _ e4, real_of x5 _ _ _ e5, real_of x6 _ _ _ e6, real_of x7 _ _ _ e7,
    real_of x8 _ _ _ e8, real_of x9 _ _ _ e9, real_of x10 _ _ _ e10, real_of x11 _ _ _ e11, real_of x12 _ _ _ e12, real_of x13 _ _ _ e13, real_of x14 _ _ _ e14, real_of x15 _ _ _ e15,
    ne_of x1 x2 _ _ _ n1, ne_of x8 x9 _ _ _ n2, fun j l => (eq_of x16 _ _ _ rp (ix2 j l)).trans (rep_word j l), fun j l => (eq_of x17 _ _ _ tl (ix2 j l)).trans (tile_word j l)⟩

end

end Cert.Pre_finite.Read
-- ==== Proof.RefRun.lean ====
/- The reference's run over one trip's standalone definitions (`Step.lean`): the generated `StepRun.lean`, its last four
   comparisons closed by `exact`, since the generated `rw` does not find its pattern under the called function's `id`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v114_9) = s.main_v114_9
  f_10 : V0 (Proc.devRef .tc main_v114_10) = s.main_v114_10
  f_11 : V0 (Proc.devRef .tc main_v114_11) = s.main_v114_11
  f_12 : V0 (Proc.devRef .tc main_v114_12) = s.main_v114_12
  f_13 : V0 (Proc.devRef .tc main_v114_13) = s.main_v114_13
  f_14 : V0 (Proc.devRef .tc main_v114_14) = s.main_v114_14
  f_15 : V0 (Proc.devRef .tc main_v114_15) = s.main_v114_15
  f_16 : V0 (Proc.devRef .tc main_v114_16) = s.main_v114_16
  f_0 : V0 (Proc.devRef .tc main_v114_0) = s.main_v114_0
  f_1 : V0 (Proc.devRef .tc main_v114_1) = s.main_v114_1
  f_2 : V0 (Proc.devRef .tc main_v114_2) = s.main_v114_2
  f_3 : V0 (Proc.devRef .tc main_v114_3) = s.main_v114_3
  f_4 : V0 (Proc.devRef .tc main_v114_4) = s.main_v114_4
  f_5 : V0 (Proc.devRef .tc main_v114_5) = s.main_v114_5
  f_6 : V0 (Proc.devRef .tc main_v114_6) = s.main_v114_6
  f_7 : V0 (Proc.devRef .tc main_v114_7) = s.main_v114_7
  n_8 : V0 (Proc.devRef .tc main_v114_8) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x10x32x64 (V0 (Proc.devRef .tc main_v114_0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64 : (Proc.devRef .tc main_while0b_call2_v0 : DevRef τ sig).ty.Contents (Elt F)) = Cert.ReferenceIdeal.Step.b3 j s := by
  unfold Cert.ReferenceIdeal.Step.b3
  rw [← al_0 h, ← al_1 h, ← al_2 h, h.f_0, h.n_8]
  try rfl
set_option maxRecDepth 8192 in
theorem al_4 (h : Holds V0 s j) : (shapeCast S10x32x64 (Host.dynamicSlice S1x10x32x64 (V0 (Proc.devRef .tc main_v114_0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64) shapeCasts_S1x10x32x64_S10x32x64 : (Proc.devRef .tc main_while0b_v141 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call3_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call3_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x10x32x64 (V0 (Proc.devRef .tc main_v114_1)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64 : (Proc.devRef .tc main_while0b_call3_v0 : DevRef τ sig).ty.Contents (Elt F)) = Cert.ReferenceIdeal.Step.b8 j s := by
  unfold Cert.ReferenceIdeal.Step.b8
  rw [← al_5 h, ← al_6 h, ← al_7 h, h.f_1, h.n_8]
  try rfl
set_option maxRecDepth 8192 in
theorem al_9 (h : Holds V0 s j) : (shapeCast S10x32x64 (Host.dynamicSlice S1x10x32x64 (V0 (Proc.devRef .tc main_v114_1)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64) shapeCasts_S1x10x32x64_S10x32x64 : (Proc.devRef .tc main_while0b_v142 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call4_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call4_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call4_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x10x32x64 (V0 (Proc.devRef .tc main_v114_2)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64 : (Proc.devRef .tc main_while0b_call4_v0 : DevRef τ sig).ty.Contents (Elt F)) = Cert.ReferenceIdeal.Step.b13 j s := by
  unfold Cert.ReferenceIdeal.Step.b13
  rw [← al_10 h, ← al_11 h, ← al_12 h, h.f_2, h.n_8]
  try rfl
set_option maxRecDepth 8192 in
theorem al_14 (h : Holds V0 s j) : (shapeCast S10x32x64 (Host.dynamicSlice S1x10x32x64 (V0 (Proc.devRef .tc main_v114_2)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64) shapeCasts_S1x10x32x64_S10x32x64 : (Proc.devRef .tc main_while0b_v143 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call5_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call5_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call5_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x10x32x64 (V0 (Proc.devRef .tc main_v114_3)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64 : (Proc.devRef .tc main_while0b_call5_v0 : DevRef τ sig).ty.Contents (Elt F)) = Cert.ReferenceIdeal.Step.b18 j s := by
  unfold Cert.ReferenceIdeal.Step.b18
  rw [← al_15 h, ← al_16 h, ← al_17 h, h.f_3, h.n_8]
  try rfl
set_option maxRecDepth 8192 in
theorem al_19 (h : Holds V0 s j) : (shapeCast S10x32x64 (Host.dynamicSlice S1x10x32x64 (V0 (Proc.devRef .tc main_v114_3)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) sliceFits_S4096x10x32x64_S1x10x32x64) shapeCasts_S1x10x32x64_S10x32x64 : (Proc.devRef .tc main_while0b_v144 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (broadcastInDim S1x32x64 ![1, 2] bcast_S32x64_S1x32x64_1_2 (V0 (Proc.devRef .tc main_v114_4)) : (Proc.devRef .tc main_while0b_v145 : DevRef τ sig).ty.Contents (Elt F)) = Cert.ReferenceIdeal.Step.b20 j s := by
  unfold Cert.ReferenceIdeal.Step.b20
  rw [h.f_4]
  try rfl
set_option maxRecDepth 8192 in
theorem al_21 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_4))) : (Proc.devRef .tc main_while0b_v146 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_4)))) (V0 (Proc.devRef .tc main_v114_9)) : (Proc.devRef .tc main_while0b_v147 : DevRef τ sig).ty.Contents (Elt F)) = Cert.ReferenceIdeal.Step.b22 j s := by
  unfold Cert.ReferenceIdeal.Step.b22
  rw [← al_21 h, h.f_9]
  try rfl
set_option maxRecDepth 8192 in
theorem al_23 (h : Holds V0 s j) : (broadcastInDim S1x32x64 ![1, 2] bcast_S32x64_S1x32x64_1_2 (V0 (Proc.devRef .tc main_v114_5)) : (Proc.devRef .tc main_while0b_v148 : DevRef τ sig).ty.Contents (Elt F)) = Cert.ReferenceIdeal.Step.b23 j s := by
  unfold Cert.ReferenceIdeal.Step.b23
  rw [h.f_5]
  try rfl
set_option maxRecDepth 8192 in
theorem al_24 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_5))) : (Proc.devRef .tc main_while0b_v149 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_5)))) (V0 (Proc.devRef .tc main_v114_10)) : (Proc.devRef .tc main_while0b_v150 : DevRef τ sig).ty.Contents (Elt F)) = Cert.ReferenceIdeal.Step.b25 j s := by
  unfold Cert.ReferenceIdeal.Step.b25
  rw [← al_24 h, h.f_10]
  try rfl
set_option maxRecDepth 8192 in
theorem al_26 (h : Holds V0 s j) : (subf (mulf (broadcastInDim S10x32x64 ![0, 1, 2] bcast_S1x32x64_S10x32x64_0_1_2 (broadcastInDim S1x32x64 ![1, 2] bcast_S32x64_S1x32x64_1_2 (V0 (Proc.devRef .tc main_v114_4)))) (V0 (Proc.devRef .tc main_v114_9))) (mulf (broadcastInDim S10x32x64 ![0, 1, 2] bcast_S1x32x64_S10x32x64_0_1_2 (broadcastInDim S1x32x64 ![1, 2] bcast_S32x64_S1x32x64_1_2 (V0 (Proc.devRef .tc main_v114_5)))) (V0 (Proc.devRef .tc main_v114_10))) : (Proc.devRef .tc main_while0b_v151 : DevRef τ sig).ty.Contents (Elt F)) = Cert.ReferenceIdeal.Step.b26 j s := by
  unfold Cert.ReferenceIdeal.Step.b26
  rw [← al_22 h, ← al_25 h]
  try rfl
set_option maxRecDepth 8192 in
theorem al_27 (h : Holds V0 s j) : (res_main_while0b_v152 V0 : (Proc.devRef .tc main_while0b_v152 : DevRef τ sig).ty.Contents (Elt F)) = Cert.ReferenceIdeal.Step.b27 j s := by
  unfold res_main_while0b_v152 Cert.ReferenceIdeal.Step.b27
  rw [← al_26 h, ← al_4 h]
  try rfl
set_option maxRecDepth 8192 in
theorem al_28 (h : Holds V0 s j) : (broadcastInDim S1x32x64 ![1, 2] bcast_S32x64_S1x32x64_1_2 (V0 (Proc.devRef .tc main_v114_4)) : (Proc.devRef .tc main_while0b_v153 : DevRef τ sig).ty.Contents (Elt F)) = Cert.ReferenceIdeal.Step.b28 j s := by
  unfold Cert.ReferenceIdeal.Step.b28
  rw [h.f_4]
  try rfl
set_option maxRecDepth 8192 in
theorem al_29 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_4))) : (Proc.devRef .tc main_while0b_v154 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_4)))) (V0 (Proc.devRef .tc main_v114_10)) : (Proc.devRef .tc main_while0b_v155 : DevRef τ sig).ty.Contents (Elt F)) = Cert.ReferenceIdeal.Step.b30 j s := by
  unfold Cert.ReferenceIdeal.Step.b30
  rw [← al_29 h, h.f_10]
  try rfl
set_option maxRecDepth 8192 in
theorem al_31 (h : Holds V0 s j) : (broadcastInDim S1x32x64 ![1, 2] bcast_S32x64_S1x32x64_1_2 (V0 (Proc.devRef .tc main_v114_5)) : (Proc.devRef .tc main_while0b_v156 : DevRef τ sig).ty.Contents (Elt F)) = Cert.ReferenceIdeal.Step.b31 j s := by
  unfold Cert.ReferenceIdeal.Step.b31
  rw [h.f_5]
  try rfl
set_option maxRecDepth 8192 in
theorem al_32 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_5))) : (Proc.devRef .tc main_while0b_v157 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_5)))) (V0 (Proc.devRef .tc main_v114_9)) : (Proc.devRef .tc main_while0b_v158 : DevRef τ sig).ty.Contents (Elt F)) = Cert.ReferenceIdeal.Step.b33 j s := by
  unfold Cert.ReferenceIdeal.Step.b33
  rw [← al_32 h, h.f_9]
  try rfl
set_option maxRecDepth 8192 in
theorem al_34 (h : Holds V0 s j) : (addf (mulf (broadcastInDim S10x32x64 ![0, 1, 2] bcast_S1x32x64_S10x32x64_0_1_2 (broadcastInDim S1x32x64 ![1, 2] bcast_S32x64_S1x32x64_1_2 (V0 (Proc.devRef .tc main_v114_4)))) (V0 (Proc.devRef .tc main_v114_10))) (mulf (broadcastInDim S10x32x64 ![0, 1, 2] bcast_S1x32x64_S10x32x64_0_1_2 (broadcastInDim S1x32x64 ![1, 2] bcast_S32x64_S1x32x64_1_2 (V0 (Proc.devRef .tc main_v114_5)))) (V0 (Proc.devRef .tc main_v114_9))) : (Proc.devRef .tc main_while0b_v159 : DevRef τ sig).ty.Contents (Elt F)) = Cert.ReferenceIdeal.Step.b34 j s := by
  unfold Cert.ReferenceIdeal.Step.b34
  rw [← al_30 h, ← al_33 h]
  try rfl
set_option maxRecDepth 8192 in
theorem al_35 (h : Holds V0 s j) : (res_main_while0b_v160 V0 : (Proc.devRef .tc main_while0b_v160 : DevRef τ sig).ty.Contents (Elt F)) = Cert.ReferenceIdeal.Step.b35 j s := by
  unfold res_main_while0b_v160 Cert.ReferenceIdeal.Step.b35
  rw [← al_34 h, ← al_9 h]
  try rfl
set_option maxRecDepth 8192 in
theorem al_36 (h : Holds V0 s j) : (broadcastInDim S1x32x64 ![1, 2] bcast_S32x64_S1x32x64_1_2 (V0 (Proc.devRef .tc main_v114_6)) : (Proc.devRef .tc main_while0b_v161 : DevRef τ sig).ty.Contents (Elt F)) = Cert.ReferenceIdeal.Step.b36 j s := by
  unfold Cert.ReferenceIdeal.Step.b36
  rw [h.f_6]
  try rfl
set_option maxRecDepth 8192 in
theorem al_37 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_6))) : (Proc.devRef .tc main_while0b_v162 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_6)))) (V0 (Proc.devRef .tc main_v114_11)) : (Proc.devRef .tc main_while0b_v163 : DevRef τ sig).ty.Contents (Elt F)) = Cert.ReferenceIdeal.Step.b38 j s := by
  unfold Cert.ReferenceIdeal.Step.b38
  rw [← al_37 h, h.f_11]
  try rfl
set_option maxRecDepth 8192 in
theorem al_39 (h : Holds V0 s j) : (broadcastInDim S1x32x64 ![1, 2] bcast_S32x64_S1x32x64_1_2 (V0 (Proc.devRef .tc main_v114_7)) : (Proc.devRef .tc main_while0b_v164 : DevRef τ sig).ty.Contents (Elt F)) = Cert.ReferenceIdeal.Step.b39 j s := by
  unfold Cert.ReferenceIdeal.Step.b39
  rw [h.f_7]
  try rfl
set_option maxRecDepth 8192 in
theorem al_40 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_7))) : (Proc.devRef .tc main_while0b_v165 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_7)))) (V0 (Proc.devRef .tc main_v114_12)) : (Proc.devRef .tc main_while0b_v166 : DevRef τ sig).ty.Contents (Elt F)) = Cert.ReferenceIdeal.Step.b41 j s := by
  unfold Cert.ReferenceIdeal.Step.b41
  rw [← al_40 h, h.f_12]
  try rfl
set_option maxRecDepth 8192 in
theorem al_42 (h : Holds V0 s j) : (subf (mulf (broadcastInDim S10x32x64 ![0, 1, 2] bcast_S1x32x64_S10x32x64_0_1_2 (broadcastInDim S1x32x64 ![1, 2] bcast_S32x64_S1x32x64_1_2 (V0 (Proc.devRef .tc main_v114_6)))) (V0 (Proc.devRef .tc main_v114_11))) (mulf (broadcastInDim S10x32x64 ![0, 1, 2] bcast_S1x32x64_S10x32x64_0_1_2 (broadcastInDim S1x32x64 ![1, 2] bcast_S32x64_S1x32x64_1_2 (V0 (Proc.devRef .tc main_v114_7)))) (V0 (Proc.devRef .tc main_v114_12))) : (Proc.devRef .tc main_while0b_v167 : DevRef τ sig).ty.Contents (Elt F)) = Cert.ReferenceIdeal.Step.b42 j s := by
  unfold Cert.ReferenceIdeal.Step.b42
  rw [← al_38 h, ← al_41 h]
  try rfl
set_option maxRecDepth 8192 in
theorem al_43 (h : Holds V0 s j) : (res_main_while0b_v168 V0 : (Proc.devRef .tc main_while0b_v168 : DevRef τ sig).ty.Contents (Elt F)) = Cert.ReferenceIdeal.Step.b43 j s := by
  unfold res_main_while0b_v168 Cert.ReferenceIdeal.Step.b43
  rw [← al_42 h, ← al_14 h]
  try rfl
set_option maxRecDepth 8192 in
theorem al_44 (h : Holds V0 s j) : (broadcastInDim S1x32x64 ![1, 2] bcast_S32x64_S1x32x64_1_2 (V0 (Proc.devRef .tc main_v114_6)) : (Proc.devRef .tc main_while0b_v169 : DevRef τ sig).ty.Contents (Elt F)) = Cert.ReferenceIdeal.Step.b44 j s := by
  unfold Cert.ReferenceIdeal.Step.b44
  rw [h.f_6]
  try rfl
set_option maxRecDepth 8192 in
theorem al_45 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_6))) : (Proc.devRef .tc main_while0b_v170 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_6)))) (V0 (Proc.devRef .tc main_v114_12)) : (Proc.devRef .tc main_while0b_v171 : DevRef τ sig).ty.Contents (Elt F)) = Cert.ReferenceIdeal.Step.b46 j s := by
  unfold Cert.ReferenceIdeal.Step.b46
  rw [← al_45 h, h.f_12]
  try rfl
set_option maxRecDepth 8192 in
theorem al_47 (h : Holds V0 s j) : (broadcastInDim S1x32x64 ![1, 2] bcast_S32x64_S1x32x64_1_2 (V0 (Proc.devRef .tc main_v114_7)) : (Proc.devRef .tc main_while0b_v172 : DevRef τ sig).ty.Contents (Elt F)) = Cert.ReferenceIdeal.Step.b47 j s := by
  unfold Cert.ReferenceIdeal.Step.b47
  rw [h.f_7]
  try rfl
set_option maxRecDepth 8192 in
theorem al_48 (h : Holds V0 s j) : (broadcastInDim S10x32x64 ![0, 1, 2] bcast_S1x32x64_S10x32x64_0_1_2 (broadcastInDim S1x32x64 ![1, 2] bcast_S32x64_S1x32x64_1_2 (V0 (Proc.devRef .tc main_v114_7))) : (Proc.devRef .tc main_while0b_v173 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (mulf (broadcastInDim S10x32x64 ![0, 1, 2] bcast_S1x32x64_S10x32x64_0_1_2 (broadcastInDim S1x32x64 ![1, 2] bcast_S32x64_S1x32x64_1_2 (V0 (Proc.devRef .tc main_v114_7)))) (V0 (Proc.devRef .tc main_v114_11)) : (Proc.devRef .tc main_while0b_v174 : DevRef τ sig).ty.Contents (Elt F)) = Cert.ReferenceIdeal.Step.b49 j s := by
  unfold Cert.ReferenceIdeal.Step.b49
  rw [← al_48 h, h.f_11]
  try rfl
set_option maxRecDepth 8192 in
theorem al_50 (h : Holds V0 s j) : (addf (mulf (broadcastInDim S10x32x64 ![0, 1, 2] bcast_S1x32x64_S10x32x64_0_1_2 (broadcastInDim S1x32x64 ![1, 2] bcast_S32x64_S1x32x64_1_2 (V0 (Proc.devRef .tc main_v114_6)))) (V0 (Proc.devRef .tc main_v114_12))) (mulf (broadcastInDim S10x32x64 ![0, 1, 2] bcast_S1x32x64_S10x32x64_0_1_2 (broadcastInDim S1x32x64 ![1, 2] bcast_S32x64_S1x32x64_1_2 (V0 (Proc.devRef .tc main_v114_7)))) (V0 (Proc.devRef .tc main_v114_11))) : (Proc.devRef .tc main_while0b_v175 : DevRef τ sig).ty.Contents (Elt F)) = Cert.ReferenceIdeal.Step.b50 j s := by
  unfold Cert.ReferenceIdeal.Step.b50
  rw [← al_46 h, ← al_49 h]
  try rfl
set_option maxRecDepth 8192 in
theorem al_51 (h : Holds V0 s j) : (res_main_while0b_v176 V0 : (Proc.devRef .tc main_while0b_v176 : DevRef τ sig).ty.Contents (Elt F)) = Cert.ReferenceIdeal.Step.b51 j s := by
  unfold res_main_while0b_v176 Cert.ReferenceIdeal.Step.b51
  rw [← al_50 h, ← al_19 h]
  try rfl
set_option maxRecDepth 8192 in
theorem al_52 (h : Holds V0 s j) : (broadcastInDim S1x10x32x64 ![1, 2, 3] bcast_S10x32x64_S1x10x32x64_1_2_3 (res_main_while0b_v152 V0) : (Proc.devRef .tc main_while0b_call6_v0 : DevRef τ sig).ty.Contents (Elt F)) = Cert.ReferenceIdeal.Step.b52 j s := by
  unfold Cert.ReferenceIdeal.Step.b52
  rw [← al_27 h]
  try rfl
set_option maxRecDepth 8192 in
theorem al_53 (h : Holds V0 s j) : (constantI S_ 32 0#32 : (Proc.devRef .tc main_while0b_call6_c : DevRef τ sig).ty.Contents (Elt F)) = Cert.ReferenceIdeal.Step.b53 j s := by
  unfold Cert.ReferenceIdeal.Step.b53
  rfl
set_option maxRecDepth 8192 in
theorem al_54 (h : Holds V0 s j) : (constantI S_ 32 0#32 : (Proc.devRef .tc main_while0b_call6_c_0 : DevRef τ sig).ty.Contents (Elt F)) = Cert.ReferenceIdeal.Step.b54 j s := by
  unfold Cert.ReferenceIdeal.Step.b54
  rfl
set_option maxRecDepth 8192 in
theorem al_55 (h : Holds V0 s j) : (constantI S_ 32 0#32 : (Proc.devRef .tc main_while0b_call6_c_1 : DevRef τ sig).ty.Contents (Elt F)) = Cert.ReferenceIdeal.Step.b55 j s := by
  unfold Cert.ReferenceIdeal.Step.b55
  rfl
set_option maxRecDepth 8192 in
theorem al_56 (h : Holds V0 s j) : (Host.dynamicUpdateSlice (V0 (Proc.devRef .tc main_v114_13)) (broadcastInDim S1x10x32x64 ![1, 2, 3] bcast_S10x32x64_S1x10x32x64_1_2_3 (res_main_while0b_v152 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64 : (Proc.devRef .tc main_while0b_v177 : DevRef τ sig).ty.Contents (Elt F)) = Cert.ReferenceIdeal.Step.b56 j s := by
  unfold Cert.ReferenceIdeal.Step.b56
  rw [← al_52 h, ← al_53 h, ← al_54 h, ← al_55 h, h.f_13, h.n_8]
  try rfl
set_option maxRecDepth 8192 in
theorem al_57 (h : Holds V0 s j) : (broadcastInDim S1x10x32x64 ![1, 2, 3] bcast_S10x32x64_S1x10x32x64_1_2_3 (res_main_while0b_v160 V0) : (Proc.devRef .tc main_while0b_call7_v0 : DevRef τ sig).ty.Contents (Elt F)) = Cert.ReferenceIdeal.Step.b57 j s := by
  unfold Cert.ReferenceIdeal.Step.b57
  rw [← al_35 h]
  try rfl
set_option maxRecDepth 8192 in
theorem al_58 (h : Holds V0 s j) : (constantI S_ 32 0#32 : (Proc.devRef .tc main_while0b_call7_c : DevRef τ sig).ty.Contents (Elt F)) = Cert.ReferenceIdeal.Step.b58 j s := by
  unfold Cert.ReferenceIdeal.Step.b58
  rfl
set_option maxRecDepth 8192 in
theorem al_59 (h : Holds V0 s j) : (constantI S_ 32 0#32 : (Proc.devRef .tc main_while0b_call7_c_0 : DevRef τ sig).ty.Contents (Elt F)) = Cert.ReferenceIdeal.Step.b59 j s := by
  unfold Cert.ReferenceIdeal.Step.b59
  rfl
set_option maxRecDepth 8192 in
theorem al_60 (h : Holds V0 s j) : (constantI S_ 32 0#32 : (Proc.devRef .tc main_while0b_call7_c_1 : DevRef τ sig).ty.Contents (Elt F)) = Cert.ReferenceIdeal.Step.b60 j s := by
  unfold Cert.ReferenceIdeal.Step.b60
  rfl
set_option maxRecDepth 8192 in
theorem al_61 (h : Holds V0 s j) : (Host.dynamicUpdateSlice (V0 (Proc.devRef .tc main_v114_14)) (broadcastInDim S1x10x32x64 ![1, 2, 3] bcast_S10x32x64_S1x10x32x64_1_2_3 (res_main_while0b_v160 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64 : (Proc.devRef .tc main_while0b_v178 : DevRef τ sig).ty.Contents (Elt F)) = Cert.ReferenceIdeal.Step.b61 j s := by
  unfold Cert.ReferenceIdeal.Step.b61
  rw [← al_57 h, ← al_58 h, ← al_59 h, ← al_60 h, h.f_14, h.n_8]
  try rfl
set_option maxRecDepth 8192 in
theorem al_62 (h : Holds V0 s j) : (broadcastInDim S1x10x32x64 ![1, 2, 3] bcast_S10x32x64_S1x10x32x64_1_2_3 (res_main_while0b_v168 V0) : (Proc.devRef .tc main_while0b_call8_v0 : DevRef τ sig).ty.Contents (Elt F)) = Cert.ReferenceIdeal.Step.b62 j s := by
  unfold Cert.ReferenceIdeal.Step.b62
  rw [← al_43 h]
  try rfl
set_option maxRecDepth 8192 in
theorem al_63 (h : Holds V0 s j) : (constantI S_ 32 0#32 : (Proc.devRef .tc main_while0b_call8_c : DevRef τ sig).ty.Contents (Elt F)) = Cert.ReferenceIdeal.Step.b63 j s := by
  unfold Cert.ReferenceIdeal.Step.b63
  rfl
set_option maxRecDepth 8192 in
theorem al_64 (h : Holds V0 s j) : (constantI S_ 32 0#32 : (Proc.devRef .tc main_while0b_call8_c_0 : DevRef τ sig).ty.Contents (Elt F)) = Cert.ReferenceIdeal.Step.b64 j s := by
  unfold Cert.ReferenceIdeal.Step.b64
  rfl
set_option maxRecDepth 8192 in
theorem al_65 (h : Holds V0 s j) : (constantI S_ 32 0#32 : (Proc.devRef .tc main_while0b_call8_c_1 : DevRef τ sig).ty.Contents (Elt F)) = Cert.ReferenceIdeal.Step.b65 j s := by
  unfold Cert.ReferenceIdeal.Step.b65
  rfl
set_option maxRecDepth 8192 in
theorem al_66 (h : Holds V0 s j) : (Host.dynamicUpdateSlice (V0 (Proc.devRef .tc main_v114_15)) (broadcastInDim S1x10x32x64 ![1, 2, 3] bcast_S10x32x64_S1x10x32x64_1_2_3 (res_main_while0b_v168 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64 : (Proc.devRef .tc main_while0b_v179 : DevRef τ sig).ty.Contents (Elt F)) = Cert.ReferenceIdeal.Step.b66 j s := by
  unfold Cert.ReferenceIdeal.Step.b66
  rw [← al_62 h, ← al_63 h, ← al_64 h, ← al_65 h, h.f_15, h.n_8]
  try rfl
set_option maxRecDepth 8192 in
theorem al_67 (h : Holds V0 s j) : (broadcastInDim S1x10x32x64 ![1, 2, 3] bcast_S10x32x64_S1x10x32x64_1_2_3 (res_main_while0b_v176 V0) : (Proc.devRef .tc main_while0b_call9_v0 : DevRef τ sig).ty.Contents (Elt F)) = Cert.ReferenceIdeal.Step.b67 j s := by
  unfold Cert.ReferenceIdeal.Step.b67
  rw [← al_51 h]
  try rfl
set_option maxRecDepth 8192 in
theorem al_68 (h : Holds V0 s j) : (constantI S_ 32 0#32 : (Proc.devRef .tc main_while0b_call9_c : DevRef τ sig).ty.Contents (Elt F)) = Cert.ReferenceIdeal.Step.b68 j s := by
  unfold Cert.ReferenceIdeal.Step.b68
  rfl
set_option maxRecDepth 8192 in
theorem al_69 (h : Holds V0 s j) : (constantI S_ 32 0#32 : (Proc.devRef .tc main_while0b_call9_c_0 : DevRef τ sig).ty.Contents (Elt F)) = Cert.ReferenceIdeal.Step.b69 j s := by
  unfold Cert.ReferenceIdeal.Step.b69
  rfl
set_option maxRecDepth 8192 in
theorem al_70 (h : Holds V0 s j) : (constantI S_ 32 0#32 : (Proc.devRef .tc main_while0b_call9_c_1 : DevRef τ sig).ty.Contents (Elt F)) = Cert.ReferenceIdeal.Step.b70 j s := by
  unfold Cert.ReferenceIdeal.Step.b70
  rfl
set_option maxRecDepth 8192 in
theorem al_71 (h : Holds V0 s j) : (Host.dynamicUpdateSlice (V0 (Proc.devRef .tc main_v114_16)) (broadcastInDim S1x10x32x64 ![1, 2, 3] bcast_S10x32x64_S1x10x32x64_1_2_3 (res_main_while0b_v176 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64 : (Proc.devRef .tc main_while0b_v180 : DevRef τ sig).ty.Contents (Elt F)) = Cert.ReferenceIdeal.Step.b71 j s := by
  unfold Cert.ReferenceIdeal.Step.b71
  rw [← al_67 h, ← al_68 h, ← al_69 h, ← al_70 h, h.f_16, h.n_8]
  try rfl

/-! One trip's step of the carried values is `step`, field by field; a counter steps to the next number. -/

theorem step_9 (h : Holds V0 s j) : step_main_v114_9 V0 = (step j s).main_v114_9 := by
  unfold step_main_v114_9 Cert.ReferenceIdeal.Step.step
  show id (res_main_while0b_v152 V0) = _
  rw [al_27 h]
  try rfl
theorem step_10 (h : Holds V0 s j) : step_main_v114_10 V0 = (step j s).main_v114_10 := by
  unfold step_main_v114_10 Cert.ReferenceIdeal.Step.step
  show id (res_main_while0b_v160 V0) = _
  rw [al_35 h]
  try rfl
theorem step_11 (h : Holds V0 s j) : step_main_v114_11 V0 = (step j s).main_v114_11 := by
  unfold step_main_v114_11 Cert.ReferenceIdeal.Step.step
  show id (res_main_while0b_v168 V0) = _
  rw [al_43 h]
  try rfl
theorem step_12 (h : Holds V0 s j) : step_main_v114_12 V0 = (step j s).main_v114_12 := by
  unfold step_main_v114_12 Cert.ReferenceIdeal.Step.step
  show id (res_main_while0b_v176 V0) = _
  rw [al_51 h]
  try rfl
theorem step_13 (h : Holds V0 s j) : step_main_v114_13 V0 = (step j s).main_v114_13 := by
  unfold step_main_v114_13 Cert.ReferenceIdeal.Step.step
  show id (Host.dynamicUpdateSlice (V0 (Proc.devRef .tc main_v114_13)) (broadcastInDim S1x10x32x64 ![1, 2, 3] bcast_S10x32x64_S1x10x32x64_1_2_3 (res_main_while0b_v152 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64) = _
  exact al_56 h
theorem step_14 (h : Holds V0 s j) : step_main_v114_14 V0 = (step j s).main_v114_14 := by
  unfold step_main_v114_14 Cert.ReferenceIdeal.Step.step
  show id (Host.dynamicUpdateSlice (V0 (Proc.devRef .tc main_v114_14)) (broadcastInDim S1x10x32x64 ![1, 2, 3] bcast_S10x32x64_S1x10x32x64_1_2_3 (res_main_while0b_v160 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64) = _
  exact al_61 h
theorem step_15 (h : Holds V0 s j) : step_main_v114_15 V0 = (step j s).main_v114_15 := by
  unfold step_main_v114_15 Cert.ReferenceIdeal.Step.step
  show id (Host.dynamicUpdateSlice (V0 (Proc.devRef .tc main_v114_15)) (broadcastInDim S1x10x32x64 ![1, 2, 3] bcast_S10x32x64_S1x10x32x64_1_2_3 (res_main_while0b_v168 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64) = _
  exact al_66 h
theorem step_16 (h : Holds V0 s j) : step_main_v114_16 V0 = (step j s).main_v114_16 := by
  unfold step_main_v114_16 Cert.ReferenceIdeal.Step.step
  show id (Host.dynamicUpdateSlice (V0 (Proc.devRef .tc main_v114_16)) (broadcastInDim S1x10x32x64 ![1, 2, 3] bcast_S10x32x64_S1x10x32x64_1_2_3 (res_main_while0b_v176 V0)) (fun k => (((![V0 (Proc.devRef .tc main_v114_8), constantI S_ 32 0#32, constantI S_ 32 0#32, constantI S_ 32 0#32] : Fin 4 → (⟨S_, .i32⟩ : BufTy).Contents (Elt F))) k (Shape.Idx.first h_S_)).toInt) updateFits_S4096x10x32x64_S1x10x32x64) = _
  exact al_71 h
theorem step_8 (h : Holds V0 s j) : step_main_v114_8 V0 = constantI S_ 32 (BitVec.ofNat 32 (j + 1)) := by
  unfold step_main_v114_8
  rw [h.n_8]
  funext i
  show BitVec.ofNat 32 j + 1#32 = BitVec.ofNat 32 (j + 1)
  simp only [BitVec.ofNat_add]

set_option maxRecDepth 8192 in
theorem out_main_v140_holds (h : Holds V0 s j) {x_main_arg0 : (⟨S10x4096x512, .f32⟩ : BufTy).Contents (Elt F)} (h_main_arg0 : V0 (Proc.devRef .tc main_arg0) = x_main_arg0) {x_main_arg6 : (⟨S1x32x16x64, .f32⟩ : BufTy).Contents (Elt F)} (h_main_arg6 : V0 (Proc.devRef .tc main_arg6) = x_main_arg6) {x_main_arg7 : (⟨S1x32x16x64, .f32⟩ : BufTy).Contents (Elt F)} (h_main_arg7 : V0 (Proc.devRef .tc main_arg7) = x_main_arg7) {x_main_arg13 : (⟨S1x32x16x64, .f32⟩ : BufTy).Contents (Elt F)} (h_main_arg13 : V0 (Proc.devRef .tc main_arg13) = x_main_arg13) {x_main_arg14 : (⟨S1x32x16x64, .f32⟩ : BufTy).Contents (Elt F)} (h_main_arg14 : V0 (Proc.devRef .tc main_arg14) = x_main_arg14) {x_main_arg15 : (⟨S1x512, .f32⟩ : BufTy).Contents (Elt F)} (h_main_arg15 : V0 (Proc.devRef .tc main_arg15) = x_main_arg15) : out_main_v140 V0 = Cert.ReferenceIdeal.Step.R_main_v140 s x_main_arg0 x_main_arg6 x_main_arg7 x_main_arg13 x_main_arg14 x_main_arg15 := by
  unfold out_main_v140 Cert.ReferenceIdeal.Step.R_main_v140
  rw [h.f_13, h.f_14, h.f_15, h.f_16, h_main_arg0, h_main_arg6, h_main_arg7, h_main_arg13, h_main_arg14, h_main_arg15]
  try rfl

/-- One trip keeps the valuation holding: `step` of the state, the same set-up values, the next number. -/
theorem holds_step (h : Holds V0 s j) : Holds (STEP V0) (step j s) (j + 1) where
  f_9 := (STEP_main_v114_9 V0).trans (step_9 h)
  f_10 := (STEP_main_v114_10 V0).trans (step_10 h)
  f_11 := (STEP_main_v114_11 V0).trans (step_11 h)
  f_12 := (STEP_main_v114_12 V0).trans (step_12 h)
  f_13 := (STEP_main_v114_13 V0).trans (step_13 h)
  f_14 := (STEP_main_v114_14 V0).trans (step_14 h)
  f_15 := (STEP_main_v114_15 V0).trans (step_15 h)
  f_16 := (STEP_main_v114_16 V0).trans (step_16 h)
  n_8 := (STEP_main_v114_8 V0).trans (step_8 h)
  f_0 := (STEP_main_v114_0 V0).trans h.f_0
  f_1 := (STEP_main_v114_1 V0).trans h.f_1
  f_2 := (STEP_main_v114_2 V0).trans h.f_2
  f_3 := (STEP_main_v114_3 V0).trans h.f_3
  f_4 := (STEP_main_v114_4 V0).trans h.f_4
  f_5 := (STEP_main_v114_5 V0).trans h.f_5
  f_6 := (STEP_main_v114_6 V0).trans h.f_6
  f_7 := (STEP_main_v114_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

variable (m : (ℓ : Loc nD τ sig) → Buf (Elt F) ℓ) (c : Dev nD)

set_option maxRecDepth 65536 in
set_option maxHeartbeats 1200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v140) = Cert.ReferenceIdeal.Step.R_main_v140 (it c 4096) (m ((c.tc : Thread nD τ).loc main_arg0)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    have hk := holds_iter m c (it c) (h0 c) (hs c) 4096
    ⟨(h c).1.trans (out_main_v140_holds hk (iter_main_arg0 m c 4096) (iter_main_arg6 m c 4096) (iter_main_arg7 m c 4096) (iter_main_arg13 m c 4096) (iter_main_arg14 m c 4096) (iter_main_arg15 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.ReferenceIdeal.RefRun

end
-- ==== Proof.RefValue.lean ====
/- What the reference computes: its loop's state after `k` tokens is the recurrence's, in both directions, and its result
   is the layer's output token by token. -/
module

public import proofs.«01_k».proof.Proof.RefRun
public import proofs.«01_k».proof.Proof.Par
public import Idealize.ShloMosaic.PureOps.Ideal
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.ReferenceIdeal.RV

open Cert.ReferenceIdeal Cert.ReferenceIdeal.Gen Cert.ReferenceIdeal.Step Cert.Scan

theorem coe_sum {ι : Type} [Fintype ι] (f : ι → ℝ) : ∑ i, (f i : EReal) = ((∑ i, f i : ℝ) : EReal) := by
  classical
  induction (Finset.univ : Finset ι) using Finset.induction_on with
  | empty => simp
  | insert a s h ih => rw [Finset.sum_insert h, Finset.sum_insert h, ih, EReal.coe_add]

theorem inp_re {ι κ : Type} [Fintype κ] (B : ι → κ → ℂ) (u : ℕ → κ → ℝ) (n : ι) (T : ℕ) : (inp B u n T).re = ∑ q, (B n q).re * u T q := by
  unfold inp
  rw [Complex.re_sum]
  exact Finset.sum_congr rfl fun q _ => by simp
theorem inp_im {ι κ : Type} [Fintype κ] (B : ι → κ → ℂ) (u : ℕ → κ → ℝ) (n : ι) (T : ℕ) : (inp B u n T).im = ∑ q, (B n q).im * u T q := by
  unfold inp
  rw [Complex.im_sum]
  exact Finset.sum_congr rfl fun q _ => by simp

local notation "A3" => FVec Ideal S1x32x64 FTy.f32
local notation "A2" => FVec Ideal S1x32 FTy.f32
local notation "A4" => FVec Ideal S1x32x64x16 FTy.f32
local notation "C4" => FVec Ideal S1x32x16x64 FTy.f32
local notation "U3" => FVec Ideal S10x4096x512 FTy.f32

/-- The arrays hold the direction's real parameters. -/
structure Enc (D : Dir) (a1 a2 : A3) (a3 : A2) (a4 a5 : A4) : Prop where
  ar : ∀ g n, a1 (ix3 0 g n) = (D.ar g n : EReal)
  ai : ∀ g n, a2 (ix3 0 g n) = (D.ai g n : EReal)
  ld : ∀ g, a3 (ix2 0 g) = (D.ld g : EReal)
  br : ∀ g n q, a4 (ix4 0 g n q) = (D.br g n q : EReal)
  bi : ∀ g n q, a5 (ix4 0 g n q) = (D.bi g n q : EReal)
  ne : ∀ g n, D.den g n ≠ 0

section Setup

variable (a0 : U3) (a1 a2 : A3) (a3 : A2) (a4 a5 : A4) (a8 a9 : A3) (a10 : A2) (a11 a12 : A4)
variable (D : Dir) (h : Enc D a1 a2 a3 a4 a5) (g : Fin 32) (n : Fin 64)
include h

theorem v14_apply : A_main_v14 (F := Ideal) a0 a1 a2 a3 a4 a5 a8 a9 a10 a11 a12 (ix2 g n) = ((D.A g n).re : EReal) := by
  pointwise [A_main_v14, A_main_v13, A_main_v12, A_main_v11, A_main_v10, A_main_v9, A_main_v8, A_main_v7, A_main_v6, A_main_v3, A_main_v2, A_main_v1]
  rw [h.ar, h.ai, h.ld]
  simp only [Ideal.exp_coe, Ideal.cos_coe, ← EReal.coe_mul, Dir.A, Dir.pre, one_mul]

theorem v18_apply : A_main_v18 (F := Ideal) a0 a1 a2 a3 a4 a5 a8 a9 a10 a11 a12 (ix2 g n) = ((D.A g n).im : EReal) := by
  pointwise [A_main_v18, A_main_v17, A_main_v16, A_main_v15, A_main_v10, A_main_v9, A_main_v8, A_main_v7, A_main_v6, A_main_v3, A_main_v2, A_main_v1]
  rw [h.ar, h.ai, h.ld]
  simp only [Ideal.exp_coe, Ideal.sin_coe, ← EReal.coe_mul, Dir.A, Dir.pim, one_mul]

theorem v21_apply : A_main_v21 (F := Ideal) a0 a1 a2 a3 a4 a5 a8 a9 a10 a11 a12 (ix2 g n) = (D.den g n : EReal) := by
  pointwise [A_main_v21, A_main_v20, A_main_v19, A_main_v2, A_main_v1]
  rw [h.ar, h.ai]
  simp only [← EReal.coe_mul, ← EReal.coe_add, Dir.den]

theorem v27_apply : A_main_v27 (F := Ideal) a0 a1 a2 a3 a4 a5 a8 a9 a10 a11 a12 (ix2 g n) = (D.qr g n : EReal) := by
  have hd := v21_apply a0 a1 a2 a3 a4 a5 a8 a9 a10 a11 a12 D h g n
  have hr := v14_apply a0 a1 a2 a3 a4 a5 a8 a9 a10 a11 a12 D h g n
  have hi := v18_apply a0 a1 a2 a3 a4 a5 a8 a9 a10 a11 a12 D h g n
  pointwise [A_main_v27, A_main_v26, A_main_v25, A_main_v24, A_main_v23, A_main_v2, A_main_v1, K_main_v22, K_main_cst]
  rw [hd, hr, hi, h.ar, h.ai, Ideal.div_coe (h.ne g n), Dir.qr, Dir.A]
  norm_cast

theorem v33_apply : A_main_v33 (F := Ideal) a0 a1 a2 a3 a4 a5 a8 a9 a10 a11 a12 (ix2 g n) = (D.qi g n : EReal) := by
  have hd := v21_apply a0 a1 a2 a3 a4 a5 a8 a9 a10 a11 a12 D h g n
  have hr := v14_apply a0 a1 a2 a3 a4 a5 a8 a9 a10 a11 a12 D h g n
  have hi := v18_apply a0 a1 a2 a3 a4 a5 a8 a9 a10 a11 a12 D h g n
  pointwise [A_main_v33, A_main_v32, A_main_v31, A_main_v30, A_main_v28, A_main_v2, A_main_v1, K_main_v29, K_main_cst_0]
  rw [hd, hr, hi, h.ar, h.ai, Ideal.div_coe (h.ne g n), Dir.qi, Dir.A]
  norm_cast

theorem v40_apply (q : Fin 16) : A_main_v40 (F := Ideal) a0 a1 a2 a3 a4 a5 a8 a9 a10 a11 a12 (ix3 g n q) = ((D.B g n q).re : EReal) := by
  have hr := v27_apply a0 a1 a2 a3 a4 a5 a8 a9 a10 a11 a12 D h g n
  have hi := v33_apply a0 a1 a2 a3 a4 a5 a8 a9 a10 a11 a12 D h g n
  pointwise [A_main_v40, A_main_v39, A_main_v38, A_main_v37, A_main_v36, A_main_v35, A_main_v34, A_main_v4, A_main_v5]
  rw [hr, hi, h.br, h.bi, Dir.B]
  norm_cast

theorem v47_apply (q : Fin 16) : A_main_v47 (F := Ideal) a0 a1 a2 a3 a4 a5 a8 a9 a10 a11 a12 (ix3 g n q) = ((D.B g n q).im : EReal) := by
  have hr := v27_apply a0 a1 a2 a3 a4 a5 a8 a9 a10 a11 a12 D h g n
  have hi := v33_apply a0 a1 a2 a3 a4 a5 a8 a9 a10 a11 a12 D h g n
  pointwise [A_main_v47, A_main_v46, A_main_v45, A_main_v44, A_main_v43, A_main_v42, A_main_v41, A_main_v4, A_main_v5]
  rw [hr, hi, h.br, h.bi, Dir.B]
  norm_cast

variable (u : Fin 10 → Fin 4096 → Fin 512 → ℝ) (hu : ∀ b t k, a0 (ix3 b t k) = (u b t k : EReal)) (b : Fin 10) (t : Fin 4096)
include hu

theorem v50_apply : A_main_v50 (F := Ideal) a0 a1 a2 a3 a4 a5 a8 a9 a10 a11 a12 (ix4 t b g n) = ((inp (D.B g) (tok u b g) n t.val).re : EReal) := by
  have hb := v40_apply a0 a1 a2 a3 a4 a5 a8 a9 a10 a11 a12 D h g n
  pointwise [A_main_v50, A_main_v49, A_main_v48, A_main_v0]
  rw [inp_re, ← coe_sum]
  refine Finset.sum_congr rfl fun q _ => ?_
  rw [hb, hu, EReal.coe_mul, tok, dif_pos t.isLt]

theorem v53_apply : A_main_v53 (F := Ideal) a0 a1 a2 a3 a4 a5 a8 a9 a10 a11 a12 (ix4 t b g n) = ((inp (D.B g) (tok u b g) n t.val).im : EReal) := by
  have hb := v47_apply a0 a1 a2 a3 a4 a5 a8 a9 a10 a11 a12 D h g n
  pointwise [A_main_v53, A_main_v52, A_main_v51, A_main_v0]
  rw [inp_im, ← coe_sum]
  refine Finset.sum_congr rfl fun q _ => ?_
  rw [hb, hu, EReal.coe_mul, tok, dif_pos t.isLt]

end Setup

section Backward

variable (a0 : U3) (a1 a2 : A3) (a3 : A2) (a4 a5 : A4) (a8 a9 : A3) (a10 : A2) (a11 a12 : A4)

theorem v67_eq : A_main_v67 (F := Ideal) a0 a1 a2 a3 a4 a5 a8 a9 a10 a11 a12 = A_main_v14 (F := Ideal) a0 a8 a9 a10 a11 a12 a1 a2 a3 a4 a5 := rfl
theorem v71_eq : A_main_v71 (F := Ideal) a0 a1 a2 a3 a4 a5 a8 a9 a10 a11 a12 = A_main_v18 (F := Ideal) a0 a8 a9 a10 a11 a12 a1 a2 a3 a4 a5 := rfl
theorem v103_eq : A_main_v103 (F := Ideal) a0 a1 a2 a3 a4 a5 a8 a9 a10 a11 a12 = A_main_v50 (F := Ideal) a0 a8 a9 a10 a11 a12 a1 a2 a3 a4 a5 := rfl
theorem v106_eq : A_main_v106 (F := Ideal) a0 a1 a2 a3 a4 a5 a8 a9 a10 a11 a12 = A_main_v53 (F := Ideal) a0 a8 a9 a10 a11 a12 a1 a2 a3 a4 a5 := rfl

theorem reverse_at (x : FVec Ideal S4096x10x32x64 .f32) (t : Fin 4096) (b : Fin 10) (g : Fin 32) (n : Fin 64) :
    Host.reverse [0] x (ix4 t b g n) = x (ix4 t.rev b g n) := by
  pointwise
  rfl

end Backward

theorem slice_at (x : FVec Ideal S4096x10x32x64 .f32) (j : ℕ) (hj : j < 4096) (z : Fin 4 → (⟨S_, .i32⟩ : BufTy).Contents (Elt Ideal)) (hz : z = ![constantI S_ 32 (BitVec.ofNat 32 j), constantI S_ 32 0#32, constantI S_ 32 0#32, constantI S_ 32 0#32])
    (b : Fin 10) (g : Fin 32) (n : Fin 64) :
    Host.dynamicSlice S1x10x32x64 x (fun k => (z k (Shape.Idx.first h_S_)).toInt) sliceFits_S4096x10x32x64_S1x10x32x64 (ix4 0 b g n)
      = x (ix4 ⟨j, hj⟩ b g n) := by
  have hs : S4096x10x32x64.Slices ![j, 0, 0, 0] S1x10x32x64 := ⟨rfl, fun a => by fin_cases a <;> simp <;> omega⟩
  rw [WordCmp.dynamicSlice_eq_extract S1x10x32x64 x _ _ ![j, 0, 0, 0] hs (fun a => by
    subst hz
    have e : (BitVec.ofNat 32 j).toInt = (j : ℤ) := by
      rw [BitVec.toInt_ofNat']; exact Int.bmod_eq_of_le (by omega) (by omega)
    fin_cases a
    · exact e
    · rfl
    · rfl
    · rfl)]
  pointwise

theorem update_at (x : FVec Ideal S4096x10x32x64 .f32) (y : FVec Ideal S1x10x32x64 .f32) (j : ℕ) (hj : j < 4096) (z : Fin 4 → (⟨S_, .i32⟩ : BufTy).Contents (Elt Ideal)) (hz : z = ![constantI S_ 32 (BitVec.ofNat 32 j), constantI S_ 32 0#32, constantI S_ 32 0#32, constantI S_ 32 0#32])
    (l : Fin 4096) (b : Fin 10) (g : Fin 32) (n : Fin 64) :
    Host.dynamicUpdateSlice x y (fun k => (z k (Shape.Idx.first h_S_)).toInt) updateFits_S4096x10x32x64_S1x10x32x64 (ix4 l b g n)
      = if l.val = j then y (ix4 0 b g n) else x (ix4 l b g n) := by
  have hs : S4096x10x32x64.Slices ![j, 0, 0, 0] S1x10x32x64 := ⟨rfl, fun a => by fin_cases a <;> simp <;> omega⟩
  rw [WordCmp.dynamicUpdateSlice_eq_update x y _ _ ![j, 0, 0, 0] hs (fun a => by
    subst hz
    have e : (BitVec.ofNat 32 j).toInt = (j : ℤ) := by
      rw [BitVec.toInt_ofNat']; exact Int.bmod_eq_of_le (by omega) (by omega)
    fin_cases a
    · exact e
    · rfl
    · rfl
    · rfl)]
  pointwise
  by_cases e : l.val = j
  · rw [dif_pos ⟨by omega, by omega⟩, if_pos e]
    exact congrArg (fun z => y (ix4 z b g n)) (Subsingleton.elim (α := Fin 1) _ _)
  · rw [dif_neg (by omega), if_neg e]

/-- The loop's state after `k` tokens. -/
structure Inv (F B : Dir) (u : Fin 10 → Fin 4096 → Fin 512 → ℝ) (k : ℕ) (s : State Ideal) : Prop where
  fr : ∀ b g n, s.main_v114_9 (ix3 b g n) = ((sf F u b g n k).re : EReal)
  fi : ∀ b g n, s.main_v114_10 (ix3 b g n) = ((sf F u b g n k).im : EReal)
  br : ∀ b g n, s.main_v114_11 (ix3 b g n) = ((sb B u b g n k).re : EReal)
  bi : ∀ b g n, s.main_v114_12 (ix3 b g n) = ((sb B u b g n k).im : EReal)
  Fr : ∀ (l : Fin 4096) b g n, l.val < k → s.main_v114_13 (ix4 l b g n) = ((sf F u b g n (l.val + 1)).re : EReal)
  Fi : ∀ (l : Fin 4096) b g n, l.val < k → s.main_v114_14 (ix4 l b g n) = ((sf F u b g n (l.val + 1)).im : EReal)
  Br : ∀ (l : Fin 4096) b g n, l.val < k → s.main_v114_15 (ix4 l b g n) = ((sb B u b g n (l.val + 1)).re : EReal)
  Bi : ∀ (l : Fin 4096) b g n, l.val < k → s.main_v114_16 (ix4 l b g n) = ((sb B u b g n (l.val + 1)).im : EReal)
  i0 : ∀ (l : Fin 4096) b g n, s.main_v114_0 (ix4 l b g n) = ((inp (F.B g) (tok u b g) n l.val).re : EReal)
  i1 : ∀ (l : Fin 4096) b g n, s.main_v114_1 (ix4 l b g n) = ((inp (F.B g) (tok u b g) n l.val).im : EReal)
  i2 : ∀ (l : Fin 4096) b g n, s.main_v114_2 (ix4 l b g n) = ((rev (inp (B.B g) (tok u b g) n) l.val).re : EReal)
  i3 : ∀ (l : Fin 4096) b g n, s.main_v114_3 (ix4 l b g n) = ((rev (inp (B.B g) (tok u b g) n) l.val).im : EReal)
  a4 : ∀ g n, s.main_v114_4 (ix2 g n) = ((F.A g n).re : EReal)
  a5 : ∀ g n, s.main_v114_5 (ix2 g n) = ((F.A g n).im : EReal)
  a6 : ∀ g n, s.main_v114_6 (ix2 g n) = ((B.A g n).re : EReal)
  a7 : ∀ g n, s.main_v114_7 (ix2 g n) = ((B.A g n).im : EReal)

section Loop

variable (F B : Dir) (u : Fin 10 → Fin 4096 → Fin 512 → ℝ)

theorem init_inv (a0 : U3) (a1 a2 : A3) (a3 : A2) (a4 a5 : A4) (a8 a9 : A3) (a10 : A2) (a11 a12 : A4)
    (hF : Enc F a1 a2 a3 a4 a5) (hB : Enc B a8 a9 a10 a11 a12) (hu : ∀ b t k, a0 (ix3 b t k) = (u b t k : EReal)) :
    Inv F B u 0 (init (F := Ideal) a0 a1 a2 a3 a4 a5 a8 a9 a10 a11 a12) where
  fr b g n := by unfold init; dsimp only; pointwise [K_main_v107, K_main_cst_3]; simp [sf, st]
  fi b g n := by unfold init; dsimp only; pointwise [K_main_v107, K_main_cst_3]; simp [sf, st]
  br b g n := by unfold init; dsimp only; pointwise [K_main_v107, K_main_cst_3]; simp [sb, st]
  bi b g n := by unfold init; dsimp only; pointwise [K_main_v107, K_main_cst_3]; simp [sb, st]
  Fr l b g n h := absurd h (Nat.not_lt_zero _)
  Fi l b g n h := absurd h (Nat.not_lt_zero _)
  Br l b g n h := absurd h (Nat.not_lt_zero _)
  Bi l b g n h := absurd h (Nat.not_lt_zero _)
  i0 l b g n := v50_apply a0 a1 a2 a3 a4 a5 a8 a9 a10 a11 a12 F hF g n u hu b l
  i1 l b g n := v53_apply a0 a1 a2 a3 a4 a5 a8 a9 a10 a11 a12 F hF g n u hu b l
  i2 l b g n := by
    refine (reverse_at _ l b g n).trans ((v50_apply a0 a8 a9 a10 a11 a12 a1 a2 a3 a4 a5 B hB g n u hu b l.rev).trans ?_)
    rw [Fin.val_rev, rev, show 4096 - (l.val + 1) = 4095 - l.val by omega]
  i3 l b g n := by
    refine (reverse_at _ l b g n).trans ((v53_apply a0 a8 a9 a10 a11 a12 a1 a2 a3 a4 a5 B hB g n u hu b l.rev).trans ?_)
    rw [Fin.val_rev, rev, show 4096 - (l.val + 1) = 4095 - l.val by omega]
  a4 g n := v14_apply a0 a1 a2 a3 a4 a5 a8 a9 a10 a11 a12 F hF g n
  a5 g n := v18_apply a0 a1 a2 a3 a4 a5 a8 a9 a10 a11 a12 F hF g n
  a6 g n := v14_apply a0 a8 a9 a10 a11 a12 a1 a2 a3 a4 a5 B hB g n
  a7 g n := v18_apply a0 a8 a9 a10 a11 a12 a1 a2 a3 a4 a5 B hB g n

variable {F B u}
variable {k : ℕ} {s : State Ideal} (h : Inv F B u k s) (hk : k < 4096)
include h hk

theorem b27_at (b : Fin 10) (g : Fin 32) (n : Fin 64) : b27 k s (ix3 b g n) = ((sf F u b g n (k + 1)).re : EReal) := by
  have e : b3 k s (ix4 0 b g n) = _ := (slice_at s.main_v114_0 k hk _ rfl b g n).trans (h.i0 ⟨k, hk⟩ b g n)
  pointwise [b27, b26, b25, b24, b23, b22, b21, b20, b4]
  rw [e, h.a4, h.a5, h.fr, h.fi]
  rw [show sf F u b g n (k + 1) = F.A g n * sf F u b g n k + inp (F.B g) (tok u b g) n k from rfl, Complex.add_re, Complex.mul_re]
  norm_cast

theorem b35_at (b : Fin 10) (g : Fin 32) (n : Fin 64) : b35 k s (ix3 b g n) = ((sf F u b g n (k + 1)).im : EReal) := by
  have e : b8 k s (ix4 0 b g n) = _ := (slice_at s.main_v114_1 k hk _ rfl b g n).trans (h.i1 ⟨k, hk⟩ b g n)
  pointwise [b35, b34, b33, b32, b31, b30, b29, b28, b9]
  rw [e, h.a4, h.a5, h.fr, h.fi]
  rw [show sf F u b g n (k + 1) = F.A g n * sf F u b g n k + inp (F.B g) (tok u b g) n k from rfl, Complex.add_im, Complex.mul_im]
  norm_cast

theorem b43_at (b : Fin 10) (g : Fin 32) (n : Fin 64) : b43 k s (ix3 b g n) = ((sb B u b g n (k + 1)).re : EReal) := by
  have e : b13 k s (ix4 0 b g n) = _ := (slice_at s.main_v114_2 k hk _ rfl b g n).trans (h.i2 ⟨k, hk⟩ b g n)
  pointwise [b43, b42, b41, b40, b39, b38, b37, b36, b14]
  rw [e, h.a6, h.a7, h.br, h.bi]
  rw [show sb B u b g n (k + 1) = B.A g n * sb B u b g n k + rev (inp (B.B g) (tok u b g) n) k from rfl, Complex.add_re, Complex.mul_re]
  norm_cast

theorem b51_at (b : Fin 10) (g : Fin 32) (n : Fin 64) : b51 k s (ix3 b g n) = ((sb B u b g n (k + 1)).im : EReal) := by
  have e : b18 k s (ix4 0 b g n) = _ := (slice_at s.main_v114_3 k hk _ rfl b g n).trans (h.i3 ⟨k, hk⟩ b g n)
  pointwise [b51, b50, b49, b48, b47, b46, b45, b44, b19]
  rw [e, h.a6, h.a7, h.br, h.bi]
  rw [show sb B u b g n (k + 1) = B.A g n * sb B u b g n k + rev (inp (B.B g) (tok u b g) n) k from rfl, Complex.add_im, Complex.mul_im]
  norm_cast

/-- A stacked value's rows after one more token. -/
theorem row_at (x : FVec Ideal S4096x10x32x64 .f32) (y : FVec Ideal S1x10x32x64 .f32) (z : Fin 4 → (⟨S_, .i32⟩ : BufTy).Contents (Elt Ideal)) (hz : z = ![constantI S_ 32 (BitVec.ofNat 32 k), constantI S_ 32 0#32, constantI S_ 32 0#32, constantI S_ 32 0#32])
    (f : ℕ → EReal) (b : Fin 10) (g : Fin 32) (n : Fin 64) (hx : ∀ l : Fin 4096, l.val < k → x (ix4 l b g n) = f l.val) (hy : y (ix4 0 b g n) = f k)
    (l : Fin 4096) (hl : l.val < k + 1) :
    Host.dynamicUpdateSlice x y (fun k => (z k (Shape.Idx.first h_S_)).toInt) updateFits_S4096x10x32x64_S1x10x32x64 (ix4 l b g n) = f l.val := by
  rw [update_at x y k hk z hz l b g n]
  split
  · rename_i e
    rw [hy, e]
  · exact hx l (by omega)

theorem step_inv : Inv F B u (k + 1) (step k s) where
  fr b g n := b27_at h hk b g n
  fi b g n := b35_at h hk b g n
  br b g n := b43_at h hk b g n
  bi b g n := b51_at h hk b g n
  Fr l b g n hl := row_at h hk s.main_v114_13 (b52 k s) _ rfl (fun l => ((sf F u b g n (l + 1)).re : EReal)) b g n (fun l hl => h.Fr l b g n hl)
    (by have e := b27_at h hk b g n; pointwise [b52]; exact e) l hl
  Fi l b g n hl := row_at h hk s.main_v114_14 (b57 k s) _ rfl (fun l => ((sf F u b g n (l + 1)).im : EReal)) b g n (fun l hl => h.Fi l b g n hl)
    (by have e := b35_at h hk b g n; pointwise [b57]; exact e) l hl
  Br l b g n hl := row_at h hk s.main_v114_15 (b62 k s) _ rfl (fun l => ((sb B u b g n (l + 1)).re : EReal)) b g n (fun l hl => h.Br l b g n hl)
    (by have e := b43_at h hk b g n; pointwise [b62]; exact e) l hl
  Bi l b g n hl := row_at h hk s.main_v114_16 (b67 k s) _ rfl (fun l => ((sb B u b g n (l + 1)).im : EReal)) b g n (fun l hl => h.Bi l b g n hl)
    (by have e := b51_at h hk b g n; pointwise [b67]; exact e) l hl
  i0 := h.i0
  i1 := h.i1
  i2 := h.i2
  i3 := h.i3
  a4 := h.a4
  a5 := h.a5
  a6 := h.a6
  a7 := h.a7

end Loop

/-- The arrays hold the direction's output matrix. -/
structure EncC (D : Dir) (a6 a7 : C4) : Prop where
  cr : ∀ g p n, a6 (ix4 0 g p n) = (D.cr g p n : EReal)
  ci : ∀ g p n, a7 (ix4 0 g p n) = (D.ci g p n : EReal)

/-- The sum over a direction's state, real and imaginary parts apart. -/
theorem out_sum (D : Dir) (g : Fin 32) (p : Fin 16) (z : Fin 64 → ℂ) :
    (∑ n, (D.cr g p n : EReal) * ((z n).re : EReal)) - (∑ n, (D.ci g p n : EReal) * ((z n).im : EReal)) = ((∑ n, (D.C g n p * z n).re : ℝ) : EReal) := by
  simp only [← EReal.coe_mul, coe_sum]
  rw [← EReal.coe_sub, ← Finset.sum_sub_distrib]
  refine congrArg _ (Finset.sum_congr rfl fun n _ => ?_)
  rw [Complex.mul_re]
  rfl

theorem result_at (F B : Dir) (u : Fin 10 → Fin 4096 → Fin 512 → ℝ) (d : Fin 512 → ℝ) (s : State Ideal) (h : Inv F B u 4096 s)
    (a0 : U3) (a6 a7 a13 a14 : C4) (a15 : FVec Ideal S1x512 .f32) (hF : EncC F a6 a7) (hB : EncC B a13 a14)
    (hu : ∀ b t k, a0 (ix3 b t k) = (u b t k : EReal)) (hd : ∀ k, a15 (ix2 0 k) = (d k : EReal))
    (b : Fin 10) (t : Fin 32) (c : Fin 128) (g : Fin 32) (p : Fin 16) :
    R_main_v140 (F := Ideal) s a0 a6 a7 a13 a14 a15 (ix4 b t c ⟨g.val * 16 + p.val, by omega⟩) = (outR F B d u b (32 * c.val + t.val) g p : EReal) := by
  unfold R_main_v140
  pointwise
  have hT : c.val * 32 + t.val < 4096 := by omega
  show ((∑ n, a6 (ix4 0 g p n) * s.main_v114_13 (ix4 ⟨c.val * 32 + t.val, hT⟩ b g n)) - (∑ n, a7 (ix4 0 g p n) * s.main_v114_14 (ix4 ⟨c.val * 32 + t.val, hT⟩ b g n))
      + ((∑ n, a13 (ix4 0 g p n) * s.main_v114_15 (ix4 (⟨c.val * 32 + t.val, hT⟩ : Fin 4096).rev b g n)) - (∑ n, a14 (ix4 0 g p n) * s.main_v114_16 (ix4 (⟨c.val * 32 + t.val, hT⟩ : Fin 4096).rev b g n))))
      + a15 (ix2 0 ⟨g.val * 16 + p.val, by omega⟩) * a0 (ix3 b ⟨c.val * 32 + t.val, hT⟩ ⟨g.val * 16 + p.val, by omega⟩) = _
  have e1 : c.val * 32 + t.val + 1 = 32 * c.val + t.val + 1 := by omega
  have e2 : ((⟨c.val * 32 + t.val, hT⟩ : Fin 4096).rev).val + 1 = 4096 - (32 * c.val + t.val) := by
    show 4096 - (c.val * 32 + t.val + 1) + 1 = _; omega
  have e3 : tok u b g (32 * c.val + t.val) p = u b ⟨c.val * 32 + t.val, hT⟩ ⟨g.val * 16 + p.val, by omega⟩ := by
    rw [tok, dif_pos (by omega)]
    exact congrArg (fun T => u b T _) (Fin.ext (by simp only; omega))
  simp only [hF.cr, hF.ci, hB.cr, hB.ci, h.Fr _ b g _ (Fin.isLt _), h.Fi _ b g _ (Fin.isLt _), h.Br _ b g _ (Fin.isLt _), h.Bi _ b g _ (Fin.isLt _), out_sum, hd, hu, e1, e2]
  rw [outR, e3, EReal.coe_add, EReal.coe_add, EReal.coe_mul]

/-- The loop's states, from the memory before it. -/
def iter (m : (ℓ : Loc nD τ sig) → Buf (Elt Ideal) ℓ) (c : Dev nD) : ℕ → State Ideal
  | 0 => RefRun.initState m c
  | k + 1 => step k (iter m c k)

theorem iter_inv (F B : Dir) (u : Fin 10 → Fin 4096 → Fin 512 → ℝ) (m : (ℓ : Loc nD τ sig) → Buf (Elt Ideal) ℓ) (c : Dev nD)
    (h0 : Inv F B u 0 (RefRun.initState m c)) (k : ℕ) (hk : k ≤ 4096) : Inv F B u k (iter m c k) := by
  induction k with
  | zero => exact h0
  | succ k ih => exact step_inv (ih (by omega)) (by omega)

end Cert.ReferenceIdeal.RV
-- ==== Proof.Link.lean ====
/- The two programs' results agree: from arguments the precondition admits, each is the layer's output token by token. -/
module

public import proofs.«01_k».proof.Proof.KVal
public import proofs.«01_k».proof.Proof.Pre
public import proofs.«01_k».proof.Proof.RefValue

@[expose] public section

set_option maxRecDepth 16384

noncomputable section

open Idealize.ShloMosaic Idealize.ShloMosaic.TcCoe Idealize.SL.Sem Cert.Scan

namespace Cert.Link

abbrev A3 := FVec Ideal Cert.ReferenceIdeal.S1x32x64 .f32
abbrev A2 := FVec Ideal Cert.ReferenceIdeal.S1x32 .f32
abbrev A4 := FVec Ideal Cert.ReferenceIdeal.S1x32x64x16 .f32
abbrev C4 := FVec Ideal Cert.ReferenceIdeal.S1x32x16x64 .f32

/-- The real parameters one direction's arrays hold. -/
def dirOf (x1 x2 : A3) (x3 : A2) (x4 x5 : A4) (x6 x7 : C4) : Dir where
  ar g n := (x1 (ix3 0 g n)).toReal
  ai g n := (x2 (ix3 0 g n)).toReal
  ld g := (x3 (ix2 0 g)).toReal
  br g n q := (x4 (ix4 0 g n q)).toReal
  bi g n q := (x5 (ix4 0 g n q)).toReal
  cr g p n := (x6 (ix4 0 g p n)).toReal
  ci g p n := (x7 (ix4 0 g p n)).toReal

/-- One direction's arrays hold real numbers, and no eigenvalue is zero. -/
structure Real (x1 x2 : A3) (x3 : A2) (x4 x5 : A4) (x6 x7 : C4) : Prop where
  r1 : ∀ i, x1 i = ((x1 i).toReal : EReal)
  r2 : ∀ i, x2 i = ((x2 i).toReal : EReal)
  r3 : ∀ i, x3 i = ((x3 i).toReal : EReal)
  r4 : ∀ i, x4 i = ((x4 i).toReal : EReal)
  r5 : ∀ i, x5 i = ((x5 i).toReal : EReal)
  r6 : ∀ i, x6 i = ((x6 i).toReal : EReal)
  r7 : ∀ i, x7 i = ((x7 i).toReal : EReal)
  n1 : ∀ i, x1 i ≠ (0 : EReal) ∨ x2 i ≠ (0 : EReal)

section Direction

variable {x1 x2 y1 y2 : A3} {x3 y3 : A2} {x4 x5 y4 y5 : A4} {x6 x7 y6 y7 : C4} (h : Real x1 x2 x3 x4 x5 x6 x7)
include h

theorem den_ne (g : Fin 32) (n : Fin 64) : (dirOf x1 x2 x3 x4 x5 x6 x7).den g n ≠ 0 := by
  intro e
  have e' : (x1 (ix3 0 g n)).toReal * (x1 (ix3 0 g n)).toReal + (x2 (ix3 0 g n)).toReal * (x2 (ix3 0 g n)).toReal = 0 := e
  obtain ⟨a, b⟩ := mul_self_add_mul_self_eq_zero.mp e'
  rcases h.n1 (ix3 0 g n) with k | k
  · exact k ((h.r1 _).trans (by rw [a]; rfl))
  · exact k ((h.r2 _).trans (by rw [b]; rfl))

theorem enc (e1 : y1 = x1) (e2 : y2 = x2) (e3 : y3 = x3) (e4 : y4 = x4) (e5 : y5 = x5) :
    Cert.ReferenceIdeal.RV.Enc (dirOf x1 x2 x3 x4 x5 x6 x7) y1 y2 y3 y4 y5 := by
  subst e1 e2 e3 e4 e5
  exact ⟨fun g n => h.r1 _, fun g n => h.r2 _, fun g => h.r3 _, fun g n q => h.r4 _, fun g n q => h.r5 _, den_ne h⟩

theorem encC (e6 : y6 = x6) (e7 : y7 = x7) :
    Cert.ReferenceIdeal.RV.EncC (dirOf x1 x2 x3 x4 x5 x6 x7) y6 y7 := by
  subst e6 e7
  exact ⟨fun g p n => h.r6 _, fun g p n => h.r7 _⟩

open Cert.KernelIdeal Cert.KernelIdeal.Gen Cert.KernelIdeal.S5 in
theorem encA : EncA (dirOf x1 x2 x3 x4 x5 x6 x7)
    { ar := shapeCast S32x64 x1 shapeCasts_S1x32x64_S32x64
      ai := shapeCast S32x64 x2 shapeCasts_S1x32x64_S32x64
      ld := shapeCast S32 x3 shapeCasts_S1x32_S32
      br := shapeCast S32x64x16 x4 shapeCasts_S1x32x64x16_S32x64x16
      bi := shapeCast S32x64x16 x5 shapeCasts_S1x32x64x16_S32x64x16
      cr := shapeCast S32x16x64 x6 shapeCasts_S1x32x16x64_S32x16x64
      ci := shapeCast S32x16x64 x7 shapeCasts_S1x32x16x64_S32x16x64 } where
  ar g n := by dsimp only; pointwise; exact h.r1 _
  ai g n := by dsimp only; pointwise; exact h.r2 _
  ld g := by dsimp only; pointwise; exact h.r3 _
  br g n q := by dsimp only; pointwise; exact h.r4 _
  bi g n q := by dsimp only; pointwise; exact h.r5 _
  cr g p n := by dsimp only; pointwise; exact h.r6 _
  ci g p n := by dsimp only; pointwise; exact h.r7 _
  ne := den_ne h

end Direction

section Memory

open Cert.KernelIdeal Cert.KernelIdeal.Gen Cert.KernelIdeal.Value Cert.KernelIdeal.S5

variable (m : (ℓ : Loc nD τ sig) → Buf (Elt Ideal) ℓ) (c : Dev nD)

/-- What the precondition says of a memory's arguments. -/
abbrev Good : Prop := Cert.Pre_finite.Read.Says
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
  (m ((c : Thread nD τ).loc main_arg12)) (m ((c : Thread nD τ).loc main_arg13)) (m ((c : Thread nD τ).loc main_arg14))
  (m ((c : Thread nD τ).loc main_arg15)) (m ((c : Thread nD τ).loc main_arg16)) (m ((c : Thread nD τ).loc main_arg17))

/-- The forward direction's real parameters. -/
def fw : Dir := dirOf (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

/-- The backward direction's. -/
def bw : Dir := dirOf (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13)) (m ((c : Thread nD τ).loc main_arg14))

/-- The input's entries. -/
def inp (b : Fin 10) (t : Fin 4096) (k : Fin 512) : ℝ := EReal.toReal ((m ((c : Thread nD τ).loc main_arg0) : Arr S10x4096x512) (ix3 b t k))

/-- The skip weights. -/
def skp (k : Fin 512) : ℝ := EReal.toReal ((m ((c : Thread nD τ).loc main_arg15) : Arr S1x512) (ix2 0 k))

variable {m c} (h : Good m c)
include h

theorem real_fw : Real (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) :=
  ⟨h.r1, h.r2, h.r3, h.r4, h.r5, h.r6, h.r7, h.n1⟩

theorem real_bw : Real (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) :=
  ⟨h.r8, h.r9, h.r10, h.r11, h.r12, h.r13, h.r14, h.n2⟩

theorem args : Args m c (fw m c) (bw m c) (inp m c) (skp m c) where
  f := encA (real_fw h)
  b := encA (real_bw h)
  u b t k := h.r0 _
  d k := by unfold skipD; pointwise; exact h.r15 _
  rep := h.rep
  tile := h.tile

end Memory

/-- A channel, by its grid point's group and its place in the group. -/
theorem channel (k : Fin 512) : ∃ (q : Fin 4) (g : Fin 8) (p : Fin 16),
    k = ⟨(Cert.KernelIdeal.S5.grp q g).val * 16 + p.val, by have := (Cert.KernelIdeal.S5.grp q g).isLt; omega⟩ :=
  ⟨⟨k.val / 128, by omega⟩, ⟨k.val % 128 / 16, by omega⟩, ⟨k.val % 16, by omega⟩, Fin.ext (by
    show k.val = (k.val / 128 * 8 + k.val % 128 / 16) * 16 + k.val % 16
    omega)⟩

/-- The reference's result, element by element the kernel's. -/
theorem agree (m : (ℓ : Loc Cert.KernelIdeal.nD Cert.KernelIdeal.τ Cert.KernelIdeal.sig) → Buf (Elt Ideal) ℓ) (c : Dev Cert.KernelIdeal.nD) (h : Good m c)
    (s : Cert.ReferenceIdeal.Step.State Ideal) (hs : Cert.ReferenceIdeal.RV.Inv (fw m c) (bw m c) (inp m c) 4096 s)
    (y0 : FVec Ideal Cert.ReferenceIdeal.S10x4096x512 .f32) (y6 y7 y13 y14 : C4) (y15 : FVec Ideal Cert.ReferenceIdeal.S1x512 .f32)
    (e0 : y0 = m ((c : Thread Cert.KernelIdeal.nD Cert.KernelIdeal.τ).loc Cert.KernelIdeal.main_arg0))
    (e6 : y6 = m ((c : Thread Cert.KernelIdeal.nD Cert.KernelIdeal.τ).loc Cert.KernelIdeal.main_arg6))
    (e7 : y7 = m ((c : Thread Cert.KernelIdeal.nD Cert.KernelIdeal.τ).loc Cert.KernelIdeal.main_arg7))
    (e13 : y13 = m ((c : Thread Cert.KernelIdeal.nD Cert.KernelIdeal.τ).loc Cert.KernelIdeal.main_arg13))
    (e14 : y14 = m ((c : Thread Cert.KernelIdeal.nD Cert.KernelIdeal.τ).loc Cert.KernelIdeal.main_arg14))
    (e15 : y15 = m ((c : Thread Cert.KernelIdeal.nD Cert.KernelIdeal.τ).loc Cert.KernelIdeal.main_arg15)) :
    Cert.ReferenceIdeal.Step.R_main_v140 (F := Ideal) s y0 y6 y7 y13 y14 y15 = Cert.KernelIdeal.Value.G5 m c := by
  funext i
  obtain ⟨b, t, l, k, rfl⟩ : ∃ (b : Fin 10) (t : Fin 32) (l : Fin 128) (k : Fin 512), i = ix4 b t l k :=
    ⟨i 0, i 1, i 2, i 3, by funext a; fin_cases a <;> rfl⟩
  obtain ⟨q, g, p, rfl⟩ := channel k
  refine (Cert.ReferenceIdeal.RV.result_at (fw m c) (bw m c) (inp m c) (skp m c) s hs y0 y6 y7 y13 y14 y15
    (encC (real_fw h) e6 e7) (encC (real_bw h) e13 e14) ?_ ?_ b t l (Cert.KernelIdeal.S5.grp q g) p).trans
    (Cert.KernelIdeal.S5.kernel_at (args h) b q g t l p).symm
  · intro b t k
    subst e0
    exact h.r0 _
  · intro k
    subst e15
    exact h.r15 _

end Cert.Link
-- ==== Proof.InProj.lean ====
/- The input projection's call: what every point of the grid leaves, of the operands' blocks. -/
module

public import proofs.«01_k».proof.Proof.Gen.Kernel2Ideal.Value
public import Idealize.ShloMosaic.Lib.Pointwise
public import Idealize.ShloMosaic.Lib.StableHlo.RunRead
public import Idealize.ShloMosaic.Lib.Pipeline.ValueKit.Tiles
public import Idealize.ShloMosaic.Lib.Pipeline.ValueKit.Point

@[expose] public section

set_option maxRecDepth 16384

noncomputable section

open Idealize.ShloMosaic Idealize.ShloMosaic.TcCoe Idealize.SL.Sem

namespace Cert.Kernel2Ideal.InProj

open Cert.Kernel2Ideal Cert.Kernel2Ideal.Gen Cert.Kernel2Ideal.Value

/-- A token's row `x` after the adaptive norm: divided by its root mean square, times the gain `g`, scaled by one plus
    `sc` and shifted by `sh`. -/
def ada (x g sc sh : Fin 2048 → EReal) (k : Fin 2048) : EReal :=
  x k * Ideal.rsqrt (Ideal.div (∑ j, x j * x j) (Ideal.ofBits .f32 1157627904#32) + Ideal.ofBits .f32 897988541#32) * g k * (1 + sc k) + sh k

/-! ## The body's payloads at an index -/

theorem pay3_at (i : grid0.Coords) (v1 v3 : FVec Ideal S1x512x2048 .f32) (v6 : FVec Ideal S1x2048 .f32) (v7 v9 : FVec Ideal S1x1x2048 .f32) (w : FVec Ideal S2048x1536 .bf16)
    (s : Fin 512) (k : Fin 1536) :
    k0_pay3 (F := Ideal) i v1 v3 v6 v7 v9 w (ix2 s k) = ∑ x, ada (fun j => Scalar.select (Scalar.cmpi .slt (BitVec.ofNat 32 (i 0).val) 2#32) (v1 (ix3 0 s j)) (v3 (ix3 0 s j)))
      (fun j => v6 (ix2 0 j)) (fun j => v7 (ix3 0 0 j)) (fun j => v9 (ix3 0 0 j)) x * w (ix2 x k) := by
  unfold k0_pay3
  generalize Scalar.cmpi .slt (BitVec.ofNat 32 (i 0).val) 2#32 = e
  pointwise
  rfl

/-- The body's permutation of the block's rows, decided row by row. -/
theorem perm_row : ∀ (s : Fin 32) (l : Fin 16),
    IntOp.addi (IntOp.muli (IntOp.andi (BitVec.ofNat 32 (s.val * 16 + l.val)) 15#32) 32#32) (IntOp.shrui ArithUnit.vector (BitVec.ofNat 32 (s.val * 16 + l.val)) 4#32)
      = BitVec.ofNat 32 (l.val * 32 + s.val) := by decide +kernel

/-- An entry of the 0-1 matrix. -/
theorem hot (x y : Fin 512) : (FloatOps.sitofp FTy.f32 (BitVec.setWidth 32 (IntOp.cmpi CmpIPredicate.eq (BitVec.ofNat 32 x.val) (BitVec.ofNat 32 y.val))) : Ideal .f32)
    = if x = y then (1 : EReal) else 0 := by
  by_cases h : x = y
  · subst h
    rw [if_pos rfl, show IntOp.cmpi CmpIPredicate.eq (BitVec.ofNat 32 x.val) (BitVec.ofNat 32 x.val) = 1#1 by simp [IntOp.cmpi]]
    show (((BitVec.setWidth 32 (1#1)).toInt : ℝ) : EReal) = 1
    norm_num
  · have e : BitVec.ofNat 32 x.val ≠ BitVec.ofNat 32 y.val := fun c => h (Fin.ext (by
      have c := congrArg BitVec.toNat c
      rw [BitVec.toNat_ofNat, BitVec.toNat_ofNat] at c
      omega))
    rw [if_neg h, show IntOp.cmpi CmpIPredicate.eq (BitVec.ofNat 32 x.val) (BitVec.ofNat 32 y.val) = 0#1 by simp [IntOp.cmpi, beq_eq_false_iff_ne.mpr e]]
    show (((BitVec.setWidth 32 (0#1)).toInt : ℝ) : EReal) = 0
    norm_num

theorem pay2_at (v : FVec Ideal S512x1536 .f32) (s : Fin 32) (l : Fin 16) (k : Fin 512) :
    k0_pay2 (F := Ideal) v (ix4 0 s l k) = v (ix2 ⟨l.val * 32 + s.val, by omega⟩ ⟨1024 + k.val, by omega⟩) := by
  unfold k0_pay2
  pointwise
  rw [perm_row s l]
  refine (Finset.sum_congr rfl fun x _ => congrArg (· * v (ix2 x ⟨1024 + k.val, by omega⟩)) (hot x ⟨l.val * 32 + s.val, by omega⟩)).trans ?_
  rw [Finset.sum_eq_single ⟨l.val * 32 + s.val, by omega⟩ (fun x _ hx => by rw [if_neg hx, zero_mul]) (fun hx => absurd (Finset.mem_univ _) hx), if_pos rfl, one_mul]

/-! ## The output blocks at an index -/

section Out

variable (i : grid0.Coords) (x0 x1 : FVec Ideal S1x512x2048 .f32) (x2 : FVec Ideal S1x6x2048 .f32) (x3 : FVec Ideal S1x2048 .f32) (x4 : FVec Ideal S2048x1536 .bf16)

/-- A row of the block through the norm and the projection. -/
def proj (s : Fin 512) (k : Fin 1536) : EReal :=
  ∑ x, ada (fun j => Scalar.select (Scalar.cmpi .slt (BitVec.ofNat 32 (i 0).val) 2#32) (x0 (ix3 0 s j)) (x1 (ix3 0 s j)))
      (fun j => x3 (ix2 0 j)) (fun j => x2 (ix3 0 1 j)) (fun j => x2 (ix3 0 0 j)) x * x4 (ix2 x k)

theorem pay3_ld (s : Fin 512) (k : Fin 1536) :
    k0_pay3 (F := Ideal) i (View.ld x0 r0_0) (View.ld x1 r0_0) (View.ld x3 r0_1) (View.ld x2 r0_2) (View.ld x2 r0_3) (View.ld x4 r0_4) (ix2 s k) = proj i x0 x1 x2 x3 x4 s k := by
  rw [pay3_at]
  unfold proj
  pointwise

theorem out5_at (s : Fin 512) (k : Fin 1024) :
    out0_5 (F := Ideal) i x0 x1 x2 x3 x4 (ix3 0 s k) = proj i x0 x1 x2 x3 x4 s ⟨k.val, by omega⟩ := by
  unfold out0_5
  rw [View.canon_unit_zero (funext fun a => by fin_cases a <;> rfl)]
  rw [← pay3_ld]
  unfold k0_pay4
  generalize k0_pay3 (F := Ideal) i (View.ld x0 r0_0) (View.ld x1 r0_0) (View.ld x3 r0_1) (View.ld x2 r0_2) (View.ld x2 r0_3) (View.ld x4 r0_4) = y
  unfold k0_pay1
  pointwise

theorem out6_at (s : Fin 32) (l : Fin 16) (k : Fin 512) :
    out0_6 (F := Ideal) i x0 x1 x2 x3 x4 (ix4 0 s l k) = proj i x0 x1 x2 x3 x4 ⟨l.val * 32 + s.val, by omega⟩ ⟨1024 + k.val, by omega⟩ := by
  unfold out0_6
  rw [View.canon_unit_zero (funext fun a => by fin_cases a <;> rfl), ← pay3_ld]
  exact pay2_at _ s l k

end Out

/-! ## The operands' blocks -/

section Blocks

variable (m : (ℓ : Loc nD τ sig) → Buf (Elt Ideal) ℓ) (c : Dev nD)

theorem idx0 : ∀ t : Fin cfg0.N, t.val / 8 < 2 → win0_0.index t = ![t.val / 8, t.val % 8, 0] := (by decide +kernel : ∀ t : Fin grid0.N, _)
theorem idx1 : ∀ t : Fin cfg0.N, ¬ t.val / 8 < 2 → win0_1.index t = ![t.val / 8 - 2, t.val % 8, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 8, t.val % 8, 0] := (by decide +kernel : ∀ t : Fin grid0.N, _)
theorem idx6 : ∀ t : Fin cfg0.N, win0_6.index t = ![t.val / 8, 0, t.val % 8, 0] := (by decide +kernel : ∀ t : Fin grid0.N, _)
theorem sel : ∀ t : Fin cfg0.N, Scalar.cmpi .slt (BitVec.ofNat 32 (grid0.coords t 0).val) 2#32 = if t.val / 8 < 2 then 1#1 else 0#1 := (by decide +kernel : ∀ t : Fin grid0.N, _)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

theorem lt80 (t : Fin cfg0.N) : t.val < 80 := lt_of_lt_of_eq t.isLt (show cfg0.N = 80 from N_0)

theorem V_w (x : Fin 2048) (k : Fin 1536) :
    (Gen.V m c main_v2 : FVec Ideal S2048x1536 .bf16) (ix2 x k) = (m ((c : Thread nD τ).loc main_arg4) : FVec Ideal S1x2048x5632 .f32) (ix3 0 x ⟨k.val, by omega⟩) := by
  unfold Gen.V
  after_reads_simp
  pointwise

theorem blk0 (t : Fin cfg0.N) (h : t.val / 8 < 2) (s : Fin 512) (k : Fin 2048) :
    iblk m c 0 t (ix3 0 s k) = (m ((c : Thread nD τ).loc main_arg0) : FVec Ideal S2x4096x2048 .f32) (ix3 ⟨t.val / 8, h⟩ ⟨t.val % 8 * 512 + s.val, by omega⟩ k) := by
  blk_ext [iblk, V_main_arg0, idx0 t h]
theorem blk1 (t : Fin cfg0.N) (h : ¬ t.val / 8 < 2) (s : Fin 512) (k : Fin 2048) :
    iblk m c 1 t (ix3 0 s k) = (m ((c : Thread nD τ).loc main_arg1) : FVec Ideal S8x4096x2048 .f32) (ix3 ⟨t.val / 8 - 2, by have := lt80 t; omega⟩ ⟨t.val % 8 * 512 + s.val, by omega⟩ k) := by
  blk_ext [iblk, V_main_arg1, idx1 t h]
theorem blk2 (t : Fin cfg0.N) (a : Fin 6) (k : Fin 2048) :
    iblk m c 2 t (ix3 0 a k) = (m ((c : Thread nD τ).loc main_arg2) : FVec Ideal S16x6x2048 .f32) (ix3 ⟨t.val / 8, by have := lt80 t; omega⟩ a k) := by
  blk_ext [iblk, V_main_arg2, idx2 t]
theorem blk3 (t : Fin cfg0.N) (k : Fin 2048) :
    iblk m c 3 t (ix2 0 k) = (m ((c : Thread nD τ).loc main_arg3) : FVec Ideal S1x2048 .f32) (ix2 0 k) := by
  blk_ext [iblk, V_main_arg3, idx3 t]
theorem blk4 (t : Fin cfg0.N) (x : Fin 2048) (k : Fin 1536) :
    iblk m c 4 t (ix2 x k) = (Gen.V m c main_v2 : FVec Ideal S2048x1536 .bf16) (ix2 x k) := by
  blk_ext [iblk, idx4 t]

/-- The projection of token `l` of sequence `b`, of the arguments. -/
def res (b : Fin 10) (l : Fin 4096) (k : Fin 5632) : EReal :=
  ∑ x, ada (fun j => if h : b.val < 2 then (m ((c : Thread nD τ).loc main_arg0) : FVec Ideal S2x4096x2048 .f32) (ix3 ⟨b.val, h⟩ l j)
        else (m ((c : Thread nD τ).loc main_arg1) : FVec Ideal S8x4096x2048 .f32) (ix3 ⟨b.val - 2, by omega⟩ l j))
      (fun j => (m ((c : Thread nD τ).loc main_arg3) : FVec Ideal S1x2048 .f32) (ix2 0 j))
      (fun j => (m ((c : Thread nD τ).loc main_arg2) : FVec Ideal S16x6x2048 .f32) (ix3 ⟨b.val, by omega⟩ 1 j))
      (fun j => (m ((c : Thread nD τ).loc main_arg2) : FVec Ideal S16x6x2048 .f32) (ix3 ⟨b.val, by omega⟩ 0 j)) x
    * (m ((c : Thread nD τ).loc main_arg4) : FVec Ideal S1x2048x5632 .f32) (ix3 0 x k)

theorem proj_blk (t : Fin cfg0.N) (s : Fin 512) (k : Fin 1536) :
    proj (grid0.coords t) (iblk m c 0 t) (iblk m c 1 t) (iblk m c 2 t) (iblk m c 3 t) (iblk m c 4 t) s k
      = res m c ⟨t.val / 8, by have := lt80 t; omega⟩ ⟨t.val % 8 * 512 + s.val, by omega⟩ ⟨k.val, by omega⟩ := by
  unfold proj res
  rw [sel t]
  refine Finset.sum_congr rfl fun x _ => ?_
  rw [blk4, V_w]
  refine congrArg (· * _) ?_
  simp only [blk3, blk2]
  refine congrArg (fun f => ada f _ _ _ x) (funext fun j => ?_)
  by_cases h : t.val / 8 < 2
  · rw [if_pos h, dif_pos h]
    exact blk0 m c t h s j
  · rw [if_neg h, dif_neg h]
    exact blk1 m c t h s j

theorem arr5 (b : Fin 10) (l : Fin 4096) (k : Fin 1024) :
    ((dats m 0 c).arrAt 5 cfg0.N : FVec Ideal S10x4096x1024 .bf16) (ix3 b l k) = res m c b l ⟨k.val, by omega⟩ := by
  have hN : b.val * 8 + l.val / 512 < cfg0.N := lt_of_lt_of_eq (by omega) (show cfg0.N = 80 from N_0).symm
  have e := congrFun (blocks5 m c ⟨b.val * 8 + l.val / 512, hN⟩ (flush5 _)) (ix3 0 ⟨l.val % 512, by omega⟩ k)
  rw [flushed5] at e
  have e1 : ((cfg0.win 5).blk ⟨b.val * 8 + l.val / 512, hN⟩).view.emb (ix3 0 ⟨l.val % 512, by omega⟩ k) = ix3 b l k := by
    funext a
    apply Fin.ext
    match a with
    | ⟨0, _⟩ => show win0_5.index ⟨b.val * 8 + l.val / 512, hN⟩ (0 : Fin 3) * 1 + 1 * 0 = b.val; rw [idx5]; show (b.val * 8 + l.val / 512) / 8 * 1 + 1 * 0 = b.val; omega
    | ⟨1, _⟩ => show win0_5.index ⟨b.val * 8 + l.val / 512, hN⟩ (1 : Fin 3) * 512 + 1 * (l.val % 512) = l.val; rw [idx5]; show (b.val * 8 + l.val / 512) % 8 * 512 + 1 * (l.val % 512) = l.val; omega
    | ⟨2, _⟩ => show win0_5.index ⟨b.val * 8 + l.val / 512, hN⟩ (2 : Fin 3) * 1024 + 1 * k.val = k.val; rw [idx5]; show 0 * 1024 + 1 * k.val = k.val; omega
  have e2 : ((dats m 0 c).arrAt 5 cfg0.N : FVec Ideal S10x4096x1024 .bf16) (((cfg0.win 5).blk ⟨b.val * 8 + l.val / 512, hN⟩).view.emb (ix3 0 ⟨l.val % 512, by omega⟩ k)) = _ := e
  rw [e1] at e2
  refine e2.trans ((out5_at _ _ _ _ _ _ ⟨l.val % 512, by omega⟩ k).trans ((proj_blk m c _ _ _).trans ?_))
  exact congrArg₂ (fun x y => res m c x y ⟨k.val, by omega⟩) (Fin.ext (show (b.val * 8 + l.val / 512) / 8 = b.val by omega))
    (Fin.ext (show (b.val * 8 + l.val / 512) % 8 * 512 + l.val % 512 = l.val by omega))

theorem arr6 (b : Fin 10) (s : Fin 32) (l : Fin 128) (k : Fin 512) :
    ((dats m 0 c).arrAt 6 cfg0.N : FVec Ideal S10x32x128x512 .bf16) (ix4 b s l k) = res m c b ⟨l.val * 32 + s.val, by omega⟩ ⟨1024 + k.val, by omega⟩ := by
  have hN : b.val * 8 + l.val / 16 < cfg0.N := lt_of_lt_of_eq (by omega) (show cfg0.N = 80 from N_0).symm
  have e := congrFun (blocks6 m c ⟨b.val * 8 + l.val / 16, hN⟩ (flush6 _)) (ix4 0 s ⟨l.val % 16, by omega⟩ k)
  rw [flushed6] at e
  have e1 : ((cfg0.win 6).blk ⟨b.val * 8 + l.val / 16, hN⟩).view.emb (ix4 0 s ⟨l.val % 16, by omega⟩ k) = ix4 b s l k := by
    funext a
    apply Fin.ext
    match a with
    | ⟨0, _⟩ => show win0_6.index ⟨b.val * 8 + l.val / 16, hN⟩ (0 : Fin 4) * 1 + 1 * 0 = b.val; rw [idx6]; show (b.val * 8 + l.val / 16) / 8 * 1 + 1 * 0 = b.val; omega
    | ⟨1, _⟩ => show win0_6.index ⟨b.val * 8 + l.val / 16, hN⟩ (1 : Fin 4) * 32 + 1 * s.val = s.val; rw [idx6]; show 0 * 32 + 1 * s.val = s.val; omega
    | ⟨2, _⟩ => show win0_6.index ⟨b.val * 8 + l.val / 16, hN⟩ (2 : Fin 4) * 16 + 1 * (l.val % 16) = l.val; rw [idx6]; show (b.val * 8 + l.val / 16) % 8 * 16 + 1 * (l.val % 16) = l.val; omega
    | ⟨3, _⟩ => show win0_6.index ⟨b.val * 8 + l.val / 16, hN⟩ (3 : Fin 4) * 512 + 1 * k.val = k.val; rw [idx6]; show 0 * 512 + 1 * k.val = k.val; omega
  have e2 : ((dats m 0 c).arrAt 6 cfg0.N : FVec Ideal S10x32x128x512 .bf16) (((cfg0.win 6).blk ⟨b.val * 8 + l.val / 16, hN⟩).view.emb (ix4 0 s ⟨l.val % 16, by omega⟩ k)) = _ := e
  rw [e1] at e2
  refine e2.trans ((out6_at _ _ _ _ _ _ s ⟨l.val % 16, by omega⟩ k).trans ((proj_blk m c _ _ _).trans ?_))
  exact congrArg₂ (fun x y => res m c x y ⟨1024 + k.val, by omega⟩) (Fin.ext (show (b.val * 8 + l.val / 16) / 8 = b.val by omega))
    (Fin.ext (show (b.val * 8 + l.val / 16) % 8 * 512 + (l.val % 16 * 32 + s.val) = l.val * 32 + s.val by omega))

end Blocks

end Cert.Kernel2Ideal.InProj

end
-- ==== Proof.InRef.lean ====
/- The input projection's reference read at an index, and its two results against the call's. -/
module

public import proofs.«01_k».proof.Proof.InProj
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem

namespace Cert.Reference2Ideal.InRef

open Cert.Reference2Ideal Cert.Reference2Ideal.Gen Cert.Reference2Ideal.Read Cert.Kernel2Ideal.InProj

variable (x0 : FVec Ideal S2x4096x2048 .f32) (x1 : FVec Ideal S8x4096x2048 .f32) (x2 : FVec Ideal S16x6x2048 .f32) (x3 : FVec Ideal S1x2048 .f32) (x4 : FVec Ideal S1x2048x5632 .f32)

theorem v0_at (b : Fin 10) (l : Fin 4096) (j : Fin 2048) : val_main_v0 (F := Ideal) x0 x1 (ix3 b l j)
    = if h : b.val < 2 then x0 (ix3 ⟨b.val, h⟩ l j) else x1 (ix3 ⟨b.val - 2, by omega⟩ l j) := by
  unfold val_main_v0
  pointwise

theorem v26_at (b : Fin 10) (l : Fin 4096) (k : Fin 2048) : val_main_v26 (F := Ideal) x0 x1 x2 x3 (ix3 b l k)
    = ada (fun j => val_main_v0 (F := Ideal) x0 x1 (ix3 b l j)) (fun j => x3 (ix2 0 j)) (fun j => x2 (ix3 ⟨b.val, by omega⟩ 1 j)) (fun j => x2 (ix3 ⟨b.val, by omega⟩ 0 j)) k := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1
    val_main_cst val_main_cst_0 val_main_cst_1 val_main_cst_2
  generalize val_main_v0 (F := Ideal) x0 x1 = y
  pointwise
  rfl

theorem v28_at (b : Fin 10) (l : Fin 4096) (k : Fin 5632) : val_main_v28 (F := Ideal) x0 x1 x2 x3 x4 (ix3 b l k)
    = ∑ x, val_main_v26 (F := Ideal) x0 x1 x2 x3 (ix3 b l x) * x4 (ix3 0 x k) := by
  unfold val_main_v28 val_main_v27
  generalize val_main_v26 (F := Ideal) x0 x1 x2 x3 = y
  pointwise

theorem v30_at (b : Fin 10) (l : Fin 4096) (k : Fin 1024) : val_main_v30 (F := Ideal) x0 x1 x2 x3 x4 (ix3 b l k)
    = val_main_v28 (F := Ideal) x0 x1 x2 x3 x4 (ix3 b l ⟨k.val, by omega⟩) := by
  unfold val_main_v30 val_main_v29
  generalize val_main_v28 (F := Ideal) x0 x1 x2 x3 x4 = y
  pointwise

theorem v34_at (b : Fin 10) (s : Fin 32) (l : Fin 128) (k : Fin 512) : val_main_v34 (F := Ideal) x0 x1 x2 x3 x4 (ix4 b s l k)
    = val_main_v28 (F := Ideal) x0 x1 x2 x3 x4 (ix3 b ⟨l.val * 32 + s.val, by omega⟩ ⟨1024 + k.val, by omega⟩) := by
  unfold val_main_v34 val_main_v33 val_main_v32 val_main_v31
  generalize val_main_v28 (F := Ideal) x0 x1 x2 x3 x4 = y
  pointwise

section Link

open Cert.Kernel2Ideal.Gen

variable (m : (ℓ : Loc Cert.Kernel2Ideal.nD Cert.Kernel2Ideal.τ Cert.Kernel2Ideal.sig) → Buf (Elt Ideal) ℓ) (c : Dev Cert.Kernel2Ideal.nD)

theorem v28_res (b : Fin 10) (l : Fin 4096) (k : Fin 5632) :
    val_main_v28 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4)) (ix3 b l k) = res m c b l k := by
  rw [v28_at]
  unfold res
  refine Finset.sum_congr rfl fun x _ => ?_
  rw [v26_at]
  simp only [v0_at]

theorem u_a :
    ((dats m 0 c).arrAt 5 Cert.Kernel2Ideal.cfg0.N : FVec Ideal S10x4096x1024 .bf16)
      = val_main_v30 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4)) := by
  funext i
  have e : i = ix3 (i 0) (i 1) (i 2) := by funext a; fin_cases a <;> rfl
  rw [e]
  exact (arr5 m c (i 0) (i 1) (i 2)).trans ((v30_at _ _ _ _ _ (i 0) (i 1) (i 2)).trans (v28_res m c _ _ _)).symm

theorem u_b :
    ((dats m 0 c).arrAt 6 Cert.Kernel2Ideal.cfg0.N : FVec Ideal S10x32x128x512 .bf16)
      = val_main_v34 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4)) := by
  funext i
  have e : i = ix4 (i 0) (i 1) (i 2) (i 3) := by funext a; fin_cases a <;> rfl
  rw [e]
  exact (arr6 m c (i 0) (i 1) (i 2) (i 3)).trans ((v34_at _ _ _ _ _ (i 0) (i 1) (i 2) (i 3)).trans (v28_res m c _ _ _)).symm

end Link

end Cert.Reference2Ideal.InRef

end
-- ==== Proof.MixDef.lean ====
/- The mixing of one token, in closed form: the gates, the pooled branch, the S5 branch and the residual. -/
module

public import Idealize.ShloMosaic.Lib.Pointwise
public import Idealize.ShloMosaic.Lib.IdealHost

@[expose] public section

noncomputable section

open Idealize.ShloMosaic

namespace Cert.Mix

/-- A token's row `x` after the adaptive norm: divided by its root mean square, times the gain `g`, scaled by one plus
    `sc` and shifted by `sh`. -/
def ada (x g sc sh : Fin 2048 → EReal) (k : Fin 2048) : EReal :=
  x k * Ideal.rsqrt (Ideal.div (∑ j, x j * x j) (Ideal.ofBits .f32 1157627904#32) + Ideal.ofBits .f32 897988541#32) * g k * (1 + sc k) + sh k

/-- A sequence with eight zeros before it, and zeros after it. -/
def padded (f : Fin 4096 → EReal) (q : ℕ) : EReal := if h : 8 ≤ q ∧ q < 4104 then f ⟨q - 8, by omega⟩ else 0

/-- The sum of `f a` and the `n` values after it. -/
def wsum (f : ℕ → EReal) (a : ℕ) : ℕ → EReal
  | 0 => f a
  | n + 1 => wsum f a n + f (a + n + 1)

/-- How many positions of the sequence lie from `a` before position `p` to `z` after it. -/
def cnt (a z p : BitVec 32) : BitVec 32 :=
  IntOp.addi (IntOp.subi (IntOp.minsi (IntOp.addi p z) 4095#32) (IntOp.maxsi (IntOp.subi p a) 0#32)) 1#32

/-- A count as a number. -/
def num (b : BitVec 32) : EReal := ((b.toInt : ℝ) : EReal)

/-- The mean over the window of `2 * w` positions about `l`, less the value there. -/
def dev (w : ℕ) (f : Fin 4096 → EReal) (l : Fin 4096) : EReal :=
  Ideal.div (wsum (padded f) (l.val + 8 - w) (2 * w - 1)) (num (cnt (BitVec.ofNat 32 w) (BitVec.ofNat 32 (w - 1)) (BitVec.ofNat 32 l.val))) - f l

/-- The pooled branch of token `l`: column group `k`'s deviations from the mean over a window of `2 ^ (k + 1)`, mixed within the group and scaled. -/
def pool (u : Fin 4096 → Fin 1024 → EReal) (wp : Fin 4 → Fin 256 → Fin 256 → EReal) (ps : Fin 1024 → EReal) (l : Fin 4096) (k : Fin 1024) : EReal :=
  (∑ x : Fin 256, dev (2 ^ (k.val / 256)) (fun l => u l ⟨k.val / 256 * 256 + x.val, by omega⟩) l * wp ⟨k.val / 256, by omega⟩ x ⟨k.val % 256, by omega⟩) * ps k

/-- The activation of the S5 branch, by its tanh formula. -/
def gelu (x : EReal) : EReal :=
  x * (Ideal.ofBits .f32 1056964608#32 * (1 + Ideal.tanh (Ideal.ofBits .f32 1061962282#32 * (x + Ideal.ofBits .f32 1027024659#32 * (x * x * x)))))

/-- The S5 branch of a token: the activation, gated by its own projection. -/
def glu (y : Fin 512 → EReal) (wg : Fin 512 → Fin 512 → EReal) (bg : Fin 512 → EReal) (k : Fin 512) : EReal :=
  gelu (y k) * Ideal.logistic ((∑ j, gelu (y j) * wg j k) + bg k)

/-- The two branches' projections, each times the logistic function of its gate. -/
def merge (h : Fin 2048 → EReal) (yp : Fin 1024 → EReal) (z : Fin 512 → EReal) (wg : Fin 2048 → Fin 4096 → EReal) (pa : Fin 1024 → Fin 2048 → EReal) (pb : Fin 512 → Fin 2048 → EReal)
    (d : Fin 2048) : EReal :=
  Ideal.logistic (∑ x, h x * wg x ⟨d.val, by omega⟩) * (∑ x, yp x * pa x d) + Ideal.logistic (∑ x, h x * wg x ⟨2048 + d.val, by omega⟩) * ∑ x, z x * pb x d

/-- The residual's row. -/
def resid (x gt mg : Fin 2048 → EReal) (wo : Fin 2048 → Fin 2048 → EReal) (d : Fin 2048) : EReal := x d + gt d * ∑ j, mg j * wo j d

/-- The kernel's order of the activation's factors. -/
theorem gelu_eq (x : EReal) :
    Ideal.ofBits .f32 1056964608#32 * x * (1 + Ideal.tanh (Ideal.ofBits .f32 1061962282#32 * (x + Ideal.ofBits .f32 1027024659#32 * (x * x * x)))) = gelu x := by
  unfold gelu
  rw [mul_comm (Ideal.ofBits .f32 1056964608#32) x, mul_assoc]

theorem num_ne (b : BitVec 32) (h : b.toInt ≠ 0) : num b ≠ 0 := by
  unfold num
  intro e
  apply h
  exact_mod_cast e

theorem cnt_ne : ∀ k : Fin 4, ∀ l : Fin 4096, (cnt (BitVec.ofNat 32 (2 ^ k.val)) (BitVec.ofNat 32 (2 ^ k.val - 1)) (BitVec.ofNat 32 l.val)).toInt ≠ 0 := by
  decide +kernel

/-- The kernel's form of the deviation: the sum times the count's reciprocal. -/
theorem dev_eq (k : Fin 4) (f : Fin 4096 → EReal) (l : Fin 4096) :
    wsum (padded f) (l.val + 8 - 2 ^ k.val) (2 * 2 ^ k.val - 1) * Ideal.div 1 (num (cnt (BitVec.ofNat 32 (2 ^ k.val)) (BitVec.ofNat 32 (2 ^ k.val - 1)) (BitVec.ofNat 32 l.val))) - f l
      = dev (2 ^ k.val) f l := by
  unfold dev
  rw [Ideal.mul_one_div (num_ne _ (cnt_ne k l))]

end Cert.Mix

end
-- ==== Proof.MixPay.lean ====
/- The mixing kernel's payloads read at an index. -/
module

public import proofs.«01_k».proof.Proof.MixDef
public import proofs.«01_k».proof.Proof.InProj
public import proofs.«01_k».proof.Proof.Gen.Kernel3Ideal.Skeleton

@[expose] public section

set_option maxRecDepth 16384

noncomputable section

open Idealize.ShloMosaic Idealize.ShloMosaic.TcCoe Idealize.SL.Sem

namespace Cert.Kernel3Ideal.Mix

open Cert.Kernel3Ideal Cert.Kernel3Ideal.Gen Cert.Mix

theorem pay2_at (i : grid0.Coords) (v1 v3 : FVec Ideal S1x256x2048 .f32) (r : Fin 256) (k : Fin 2048) :
    k0_pay2 (F := Ideal) i v1 v3 (ix2 r k) = Scalar.select (Scalar.cmpi .slt (BitVec.ofNat 32 (i 0).val) 2#32) (v1 (ix3 0 r k)) (v3 (ix3 0 r k)) := by
  unfold k0_pay2
  generalize Scalar.cmpi .slt (BitVec.ofNat 32 (i 0).val) 2#32 = e
  pointwise

theorem pay3_at (i : grid0.Coords) (v1 v3 : FVec Ideal S1x256x2048 .f32) (v6 : FVec Ideal S1x2048 .f32) (v7 v9 : FVec Ideal S1x1x2048 .f32) (r : Fin 256) (k : Fin 2048) :
    k0_pay3 (F := Ideal) i v1 v3 v6 v7 v9 (ix2 r k) = ada (fun j => k0_pay2 (F := Ideal) i v1 v3 (ix2 r j)) (fun j => v6 (ix2 0 j)) (fun j => v7 (ix3 0 0 j)) (fun j => v9 (ix3 0 0 j)) k := by
  unfold k0_pay3
  generalize k0_pay2 (F := Ideal) i v1 v3 = y
  pointwise
  rfl

theorem pay5_at (e : BitVec 1) (v : FVec Ideal S1x16x1024 .bf16) (r : Fin 16) (k : Fin 1024) :
    k0_pay5 (F := Ideal) e (k0_pay4 (F := Ideal) v) (ix2 r k) = Scalar.select e (0 : EReal) (v (ix3 0 r k)) := by
  unfold k0_pay5 k0_pay4
  pointwise

theorem pay6_at (v : FVec Ideal S1x256x1024 .bf16) (r : Fin 256) (k : Fin 1024) : k0_pay6 (F := Ideal) v (ix2 r k) = v (ix3 0 r k) := by
  unfold k0_pay6
  pointwise

theorem pay7_at (e : BitVec 1) (v : FVec Ideal S1x16x1024 .bf16) (r : Fin 16) (k : Fin 1024) :
    k0_pay7 (F := Ideal) e v (ix2 r k) = Scalar.select e (0 : EReal) (v (ix3 0 r k)) := by
  unfold k0_pay7
  pointwise

theorem pos_at (i : Fin 16) (r : Fin 256) : k0_pay8 (BitVec.ofNat 32 i.val) (ix2 r 0) = BitVec.ofNat 32 (i.val * 256 + r.val) := by
  unfold k0_pay8
  pointwise
  apply BitVec.eq_of_toNat_eq
  simp [Scalar.muli, IntOp.muli, IntOp.addi]

theorem inv0_at (p : IVec S256x1 32) (b : BitVec 32) (arg1 : BitVec 32) (r : Fin 256) (h : k0_pay8 arg1 (ix2 r 0) = b) :
    Ideal.div 1 (k0_pay9 (F := Ideal) arg1 (ix2 r 0)) = Ideal.div 1 (num (cnt 1#32 0#32 b)) := by
  subst h
  unfold k0_pay9
  generalize k0_pay8 arg1 = p
  pointwise
  rfl

theorem inv1_at (p : IVec S256x1 32) (r : Fin 256) : k0_pay11 (F := Ideal) p (ix2 r 0) = Ideal.div 1 (num (cnt 2#32 1#32 (p (ix2 r 0)))) := by
  unfold k0_pay11
  pointwise
  rfl

theorem inv2_at (p : IVec S256x1 32) (r : Fin 256) : k0_pay13 (F := Ideal) p (ix2 r 0) = Ideal.div 1 (num (cnt 4#32 3#32 (p (ix2 r 0)))) := by
  unfold k0_pay13
  pointwise
  rfl

theorem inv3_at (p : IVec S256x1 32) (r : Fin 256) : k0_pay16 (F := Ideal) p (k0_pay15 p) 7#32 (ix2 r 0) = Ideal.div 1 (num (cnt 8#32 7#32 (p (ix2 r 0)))) := by
  unfold k0_pay16 k0_pay15
  pointwise
  rfl

theorem pay10_at (d : FVec Ideal S256x1 .f32) (a0 a1 z : FVec Ideal S256x256 .f32) (w : FVec Ideal S1x256x256 .bf16) (s : FVec Ideal S1x256 .f32) (r k : Fin 256) :
    k0_pay10 (F := Ideal) d (Scalar.ofBits .f32 0x3F800000#32) a0 a1 z w s (ix2 r k) = (∑ x : Fin 256, ((a0 (ix2 r x) + a1 (ix2 r x)) * Ideal.div 1 (d (ix2 r 0)) - z (ix2 r x)) * w (ix3 0 x k)) * s (ix2 0 k) := by
  unfold k0_pay10
  pointwise

theorem pay12_at (d : FVec Ideal S256x1 .f32) (a0 a1 a2 a3 z : FVec Ideal S256x256 .f32) (w : FVec Ideal S1x256x256 .bf16) (s : FVec Ideal S1x256 .f32) (r k : Fin 256) :
    k0_pay12 (F := Ideal) d a0 a1 a2 a3 z w s (ix2 r k) = (∑ x : Fin 256, ((a0 (ix2 r x) + a1 (ix2 r x) + a2 (ix2 r x) + a3 (ix2 r x)) * d (ix2 r 0) - z (ix2 r x)) * w (ix3 0 x k)) * s (ix2 0 k) := by
  unfold k0_pay12
  pointwise

theorem pay14_at (d : FVec Ideal S256x1 .f32) (a0 a1 a2 a3 a4 a5 a6 a7 z : FVec Ideal S256x256 .f32) (w : FVec Ideal S1x256x256 .bf16) (s : FVec Ideal S1x256 .f32) (r k : Fin 256) :
    k0_pay14 (F := Ideal) d a0 a1 a2 a3 a4 a5 a6 a7 z w s (ix2 r k) = (∑ x : Fin 256, ((a0 (ix2 r x) + a1 (ix2 r x) + a2 (ix2 r x) + a3 (ix2 r x) + a4 (ix2 r x) + a5 (ix2 r x) + a6 (ix2 r x) + a7 (ix2 r x)) * d (ix2 r 0) - z (ix2 r x)) * w (ix3 0 x k)) * s (ix2 0 k) := by
  unfold k0_pay14
  pointwise

theorem pay18_at (d : FVec Ideal S256x1 .f32) (a0 a1 a2 a3 a4 a5 a6 a7 a8 a9 a10 a11 a12 a13 a14 a15 z : FVec Ideal S256x256 .f32) (w : FVec Ideal S1x256x256 .bf16) (s : FVec Ideal S1x256 .f32) (r k : Fin 256) :
    k0_pay18 (F := Ideal) d (k0_pay17 (F := Ideal) a0 a1 a2 a3 a4 a5 a6 a7 a8 a9 a10 a11) a12 a13 a14 a15 z w s (ix2 r k) = (∑ x : Fin 256, ((a0 (ix2 r x) + a1 (ix2 r x) + a2 (ix2 r x) + a3 (ix2 r x) + a4 (ix2 r x) + a5 (ix2 r x) + a6 (ix2 r x) + a7 (ix2 r x) + a8 (ix2 r x) + a9 (ix2 r x) + a10 (ix2 r x) + a11 (ix2 r x) + a12 (ix2 r x) + a13 (ix2 r x) + a14 (ix2 r x) + a15 (ix2 r x)) * d (ix2 r 0) - z (ix2 r x)) * w (ix3 0 x k)) * s (ix2 0 k) := by
  unfold k0_pay18 k0_pay17
  pointwise

/-- The body's permutation of a block's rows, decided row by row. -/
theorem perm_row : ∀ (l : Fin 8) (s : Fin 32),
    IntOp.addi (IntOp.muli (IntOp.andi (BitVec.ofNat 32 (l.val * 32 + s.val)) 31#32) 8#32) (IntOp.shrui ArithUnit.vector (BitVec.ofNat 32 (l.val * 32 + s.val)) 5#32)
      = BitVec.ofNat 32 (s.val * 8 + l.val) := by decide +kernel

theorem hot (x y : Fin 256) : (FloatOps.sitofp FTy.f32 (BitVec.setWidth 32 (IntOp.cmpi CmpIPredicate.eq (BitVec.ofNat 32 x.val) (BitVec.ofNat 32 y.val))) : Ideal .f32)
    = if x = y then (1 : EReal) else 0 :=
  (Cert.Kernel2Ideal.InProj.hot ⟨x.val, by omega⟩ ⟨y.val, by omega⟩).trans (by simp only [Fin.ext_iff])

/-- The body's activation of the S5 branch's block. -/
theorem act_at (v : FVec Ideal S1x32x8x512 .f32) (s : Fin 32) (l : Fin 8) (k : Fin 512) :
    (k0_pay20 (F := Ideal) v (ix2 ⟨s.val * 8 + l.val, by omega⟩ k) : EReal) * (1 + Ideal.tanh (k0_pay22 (F := Ideal) (ix2 ⟨s.val * 8 + l.val, by omega⟩ k) * k0_pay21 (F := Ideal) v (ix2 ⟨s.val * 8 + l.val, by omega⟩ k)))
      = gelu (v (ix4 0 s l k)) := by
  rw [← gelu_eq]
  unfold k0_pay20 k0_pay21 k0_pay22 k0_pay19
  pointwise

theorem pay23_raw (a b d : FVec Ideal S256x512 .f32) (w : FVec Ideal S512x512 .bf16) (bg : FVec Ideal S1x512 .f32) (l : Fin 8) (s : Fin 32) (k : Fin 512) :
    k0_pay23 (F := Ideal) a b d w bg (ix2 ⟨l.val * 32 + s.val, by omega⟩ k)
      = (a (ix2 ⟨s.val * 8 + l.val, by omega⟩ k) : EReal) * (1 + Ideal.tanh (d (ix2 ⟨s.val * 8 + l.val, by omega⟩ k) * b (ix2 ⟨s.val * 8 + l.val, by omega⟩ k)))
        * Ideal.logistic ((∑ j, ((a (ix2 ⟨s.val * 8 + l.val, by omega⟩ j) : EReal) * (1 + Ideal.tanh (d (ix2 ⟨s.val * 8 + l.val, by omega⟩ j) * b (ix2 ⟨s.val * 8 + l.val, by omega⟩ j)))) * w (ix2 j k)) + bg (ix2 0 k)) := by
  unfold k0_pay23
  pointwise
  rw [perm_row l s]
  refine (Finset.sum_congr rfl fun x _ => congrArg (· * _) (hot x ⟨s.val * 8 + l.val, by omega⟩)).trans ?_
  rw [Finset.sum_eq_single ⟨s.val * 8 + l.val, by omega⟩ (fun x _ hx => by rw [if_neg hx, zero_mul]) (fun hx => absurd (Finset.mem_univ _) hx), if_pos rfl, one_mul]

theorem pay23_at (v : FVec Ideal S1x32x8x512 .f32) (w : FVec Ideal S512x512 .bf16) (bg : FVec Ideal S1x512 .f32) (l : Fin 8) (s : Fin 32) (k : Fin 512) :
    k0_pay23 (F := Ideal) (k0_pay20 (F := Ideal) v) (k0_pay21 (F := Ideal) v) (k0_pay22 (F := Ideal)) w bg (ix2 ⟨l.val * 32 + s.val, by omega⟩ k)
      = glu (fun j => v (ix4 0 s l j)) (fun i j => w (ix2 i j)) (fun j => bg (ix2 0 j)) k := by
  rw [pay23_raw]
  unfold glu
  simp only [act_at]

theorem pay25_at (h : FVec Ideal S256x2048 .bf16) (z : FVec Ideal S256x512 .bf16) (y : FVec Ideal S256x1024 .bf16) (ga : FVec Ideal S2048x1024 .bf16) (pa : FVec Ideal S1024x1024 .bf16)
    (gb : FVec Ideal S2048x1024 .bf16) (pb : FVec Ideal S512x1024 .bf16) (r : Fin 256) (k : Fin 1024) :
    k0_pay25 (F := Ideal) h z (k0_pay24 (F := Ideal) h y ga pa) gb pb (ix2 r k)
      = Ideal.logistic (∑ x, h (ix2 r x) * ga (ix2 x k)) * (∑ x, y (ix2 r x) * pa (ix2 x k)) + Ideal.logistic (∑ x, h (ix2 r x) * gb (ix2 x k)) * ∑ x, z (ix2 r x) * pb (ix2 x k) := by
  unfold k0_pay25 k0_pay24
  pointwise

theorem pay26_at (h : FVec Ideal S256x2048 .bf16) (z : FVec Ideal S256x512 .bf16) (y : FVec Ideal S256x1024 .bf16) (ga : FVec Ideal S2048x1024 .bf16) (pa : FVec Ideal S1024x1024 .bf16)
    (gb : FVec Ideal S2048x1024 .bf16) (pb : FVec Ideal S512x1024 .bf16) (r : Fin 256) (k : Fin 1024) :
    k0_pay26 (F := Ideal) h z y ga pa gb pb (ix2 r k)
      = Ideal.logistic (∑ x, h (ix2 r x) * ga (ix2 x k)) * (∑ x, y (ix2 r x) * pa (ix2 x k)) + Ideal.logistic (∑ x, h (ix2 r x) * gb (ix2 x k)) * ∑ x, z (ix2 r x) * pb (ix2 x k) := by
  unfold k0_pay26
  pointwise

theorem pay28_at (x : FVec Ideal S256x2048 .f32) (gt : FVec Ideal S1x1x2048 .f32) (mg : FVec Ideal S256x2048 .bf16) (wo : FVec Ideal S2048x2048 .bf16) (r : Fin 256) (k : Fin 2048) :
    k0_pay28 (F := Ideal) x (k0_pay27 (F := Ideal) gt) mg wo (ix2 r k) = resid (fun j => x (ix2 r j)) (fun j => gt (ix3 0 0 j)) (fun j => mg (ix2 r j)) (fun i j => wo (ix2 i j)) k := by
  unfold k0_pay28 k0_pay27
  pointwise
  rfl

theorem pay29_at (x : FVec Ideal S256x2048 .f32) (gt : FVec Ideal S1x1x2048 .f32) (mg : FVec Ideal S256x2048 .bf16) (wo : FVec Ideal S2048x2048 .bf16) (r : Fin 256) (k : Fin 2048) :
    k0_pay29 (F := Ideal) x (k0_pay27 (F := Ideal) gt) mg wo (ix3 0 r k) = resid (fun j => x (ix2 r j)) (fun j => gt (ix3 0 0 j)) (fun j => mg (ix2 r j)) (fun i j => wo (ix2 i j)) k := by
  rw [← pay28_at]
  unfold k0_pay29
  generalize k0_pay28 (F := Ideal) x (k0_pay27 (F := Ideal) gt) mg wo = y
  pointwise

theorem pay30_at (x : FVec Ideal S256x2048 .f32) (gt : FVec Ideal S1x1x2048 .f32) (mg : FVec Ideal S256x2048 .bf16) (wo : FVec Ideal S2048x2048 .bf16) (g : FVec Ideal S1x2048 .f32)
    (sc sh : FVec Ideal S1x1x2048 .f32) (r : Fin 256) (k : Fin 2048) :
    k0_pay1 (F := Ideal) (k0_pay30 (F := Ideal) x (k0_pay27 (F := Ideal) gt) mg wo g sc sh) (ix3 0 r k)
      = ada (fun d => resid (fun j => x (ix2 r j)) (fun j => gt (ix3 0 0 j)) (fun j => mg (ix2 r j)) (fun i j => wo (ix2 i j)) d) (fun j => g (ix2 0 j)) (fun j => sc (ix3 0 0 j)) (fun j => sh (ix3 0 0 j)) k := by
  simp only [← pay28_at]
  unfold k0_pay1 k0_pay30
  generalize k0_pay28 (F := Ideal) x (k0_pay27 (F := Ideal) gt) mg wo = y
  pointwise
  rfl

end Cert.Kernel3Ideal.Mix

end
-- ==== Proof.MixScr.lean ====
/- What the mixing kernel's pooling leaves in its scratch. -/
module

public import proofs.«01_k».proof.Proof.MixPay
public import proofs.«01_k».proof.Proof.Gen.Kernel3Ideal.Value
public import Idealize.ShloMosaic.Lib.Pipeline.ValueKit.Tiles
public import Idealize.ShloMosaic.Lib.Pipeline.ValueKit.Point

@[expose] public section

set_option maxRecDepth 16384

noncomputable section

open Idealize.ShloMosaic Idealize.ShloMosaic.TcCoe Idealize.SL.Sem

namespace Cert.Kernel3Ideal.Mix

open Cert.Kernel3Ideal Cert.Kernel3Ideal.Gen Cert.Mix

/-- Row `e` of the block with its neighbours' rows about it. -/
def ext (i : grid0.Coords) (x5 : FVec Ideal S1x256x1024 .bf16) (x6 x7 : FVec Ideal S1x16x1024 .bf16) (e : ℕ) (k : Fin 1024) : EReal :=
  if h : e < 16 then Scalar.select (kernelRun0_A.sl.v30 i) (0 : EReal) (x6 (ix3 0 ⟨e, h⟩ k))
  else if h : e < 272 then x5 (ix3 0 ⟨e - 16, by omega⟩ k)
  else if h : e < 288 then Scalar.select (kernelRun0_A.sl.v31 i) (0 : EReal) (x7 (ix3 0 ⟨e - 272, by omega⟩ k))
  else 0

/-- Column `q` of group `g` of the block's pooled branch. -/
def poolT (i : grid0.Coords) (x5 : FVec Ideal S1x256x1024 .bf16) (x6 x7 : FVec Ideal S1x16x1024 .bf16) (x10 : FVec Ideal S4x256x256 .bf16) (x11 : FVec Ideal S1x1024 .f32)
    (g : Fin 4) (r q : Fin 256) : EReal :=
  (∑ x : Fin 256, (wsum (fun e => ext i x5 x6 x7 e ⟨g.val * 256 + x.val, by omega⟩) (r.val + 16 - 2 ^ g.val) (2 * 2 ^ g.val - 1)
      * Ideal.div 1 (num (cnt (BitVec.ofNat 32 (2 ^ g.val)) (BitVec.ofNat 32 (2 ^ g.val - 1)) (BitVec.ofNat 32 ((i 1).val * 256 + r.val))))
      - ext i x5 x6 x7 (r.val + 16) ⟨g.val * 256 + x.val, by omega⟩) * x10 (ix3 g x q)) * x11 (ix2 0 ⟨g.val * 256 + q.val, by omega⟩)

section Scratch

variable (c : Dev nD) (i : grid0.Coords) (arg7 : Memref sig .tc .vmem S1x256x1024 .bf16) (harg7 : arg7.IsWhole) (arg8 : Memref sig .tc .vmem S1x16x1024 .bf16) (harg8 : arg8.IsWhole)
  (arg9 : Memref sig .tc .vmem S1x16x1024 .bf16) (harg9 : arg9.IsWhole) (arg12 : Memref sig .tc .vmem S4x256x256 .bf16) (harg12 : arg12.IsWhole) (arg13 : Memref sig .tc .vmem S1x1024 .f32) (harg13 : arg13.IsWhole)
  (arg21 : Memref sig .tc .vmem S288x1024 .f32) (arg22 : Memref sig .tc .vmem S256x1024 .bf16)
  (x5 : FVec Ideal S1x256x1024 .bf16) (x6 x7 : FVec Ideal S1x16x1024 .bf16) (x10 : FVec Ideal S4x256x256 .bf16) (x11 : FVec Ideal S1x1024 .f32)

/-- The scratch's rows. -/
def extF : FVec Ideal S288x1024 .f32 := fun y => ext i x5 x6 x7 (y 0).val (y 1)

def ExtGood (p : View.Piece (Elt Ideal) S288x1024 .f32) : Prop := ∀ x : p.1.shape.Idx, p.2 x = extF i x5 x6 x7 (p.1.emb x)

theorem piece16_pt (o : ℕ) (inb) (pay : FVec Ideal S16x1024 .f32) (hp : ∀ r k, pay (ix2 r k) = ext i x5 x6 x7 (o + r.val) k) (x : S16x1024.Idx) :
    pay x = extF i x5 x6 x7 ((Rect.unit (s := S288x1024) ![o, 0] S16x1024.size inb).emb x) := by
  obtain ⟨r, k, rfl⟩ : ∃ (r : Fin 16) (k : Fin 1024), x = ix2 r k := ⟨x 0, x 1, by funext a; fin_cases a <;> rfl⟩
  rw [hp]
  unfold extF
  have e0 : ((Rect.unit (s := S288x1024) ![o, 0] S16x1024.size inb).emb (ix2 r k : S16x1024.Idx) 0).val = o + r.val := Rect.idx_unit_val _ _ _ _ 0
  have e1 : ((Rect.unit (s := S288x1024) ![o, 0] S16x1024.size inb).emb (ix2 r k : S16x1024.Idx) 1).val = 0 + k.val := Rect.idx_unit_val _ _ _ _ 1
  rw [e0]
  exact congrArg (ext i x5 x6 x7 _) (Fin.ext (e1.trans (Nat.zero_add _))).symm

theorem piece256_pt (o : ℕ) (inb) (pay : FVec Ideal S256x1024 .f32) (hp : ∀ r k, pay (ix2 r k) = ext i x5 x6 x7 (o + r.val) k) (x : S256x1024.Idx) :
    pay x = extF i x5 x6 x7 ((Rect.unit (s := S288x1024) ![o, 0] S256x1024.size inb).emb x) := by
  obtain ⟨r, k, rfl⟩ : ∃ (r : Fin 256) (k : Fin 1024), x = ix2 r k := ⟨x 0, x 1, by funext a; fin_cases a <;> rfl⟩
  rw [hp]
  unfold extF
  have e0 : ((Rect.unit (s := S288x1024) ![o, 0] S256x1024.size inb).emb (ix2 r k : S256x1024.Idx) 0).val = o + r.val := Rect.idx_unit_val _ _ _ _ 0
  have e1 : ((Rect.unit (s := S288x1024) ![o, 0] S256x1024.size inb).emb (ix2 r k : S256x1024.Idx) 1).val = 0 + k.val := Rect.idx_unit_val _ _ _ _ 1
  rw [e0]
  exact congrArg (ext i x5 x6 x7 _) (Fin.ext (e1.trans (Nat.zero_add _))).symm

theorem piece16 (o : ℕ) (inb) (pay : FVec Ideal S16x1024 .f32) (hp : ∀ r k, pay (ix2 r k) = ext i x5 x6 x7 (o + r.val) k) :
    ExtGood i x5 x6 x7 ⟨Rect.unit (s := S288x1024) ![o, 0] S16x1024.size inb, pay⟩ := fun x => piece16_pt i x5 x6 x7 o inb pay hp x

theorem piece256 (o : ℕ) (inb) (pay : FVec Ideal S256x1024 .f32) (hp : ∀ r k, pay (ix2 r k) = ext i x5 x6 x7 (o + r.val) k) :
    ExtGood i x5 x6 x7 ⟨Rect.unit (s := S288x1024) ![o, 0] S256x1024.size inb, pay⟩ := fun x => piece256_pt i x5 x6 x7 o inb pay hp x

theorem ext_lo (inb) (inb2) : ExtGood i x5 x6 x7 ⟨Rect.unit (s := S288x1024) ![0, 0] S16x1024.size inb, k0_pay5 (F := Ideal) (kernelRun0_A.sl.v30 i)
    (k0_pay4 (F := Ideal) (View.readAt (Elt Ideal) arg8.view (Rect.unit (s := S1x16x1024) ![0, 0, 0] S1x16x1024.size inb2).toLoadRect (harg8.unread x6)))⟩ := by
  refine piece16 i x5 x6 x7 0 inb _ fun r k => ?_
  refine (pay5_at _ _ r k).trans ?_
  rw [View.readAt_eq_ld, harg8.read_unread]
  unfold ext
  rw [dif_pos (show 0 + r.val < 16 by omega)]
  refine congrArg (Scalar.select _ _) ?_
  refine View.ld_unit_apply_of (Val := Elt Ideal) (e := .bf16) (S := S1x16x1024) x6 _ _ inb2 _ _ fun a => ?_
  fin_cases a <;> simp [ix3]

theorem ext_mid (inb) (inb2) : ExtGood i x5 x6 x7 ⟨Rect.unit (s := S288x1024) ![16, 0] S256x1024.size inb, k0_pay6 (F := Ideal)
    (View.readAt (Elt Ideal) arg7.view (Rect.unit (s := S1x256x1024) ![0, 0, 0] S1x256x1024.size inb2).toLoadRect (harg7.unread x5))⟩ := by
  refine piece256 i x5 x6 x7 16 inb _ fun r k => ?_
  refine (pay6_at _ r k).trans ?_
  rw [View.readAt_eq_ld, harg7.read_unread]
  unfold ext
  rw [dif_neg (show ¬ 16 + r.val < 16 by omega), dif_pos (show 16 + r.val < 272 by omega)]
  refine View.ld_unit_apply_of (Val := Elt Ideal) (e := .bf16) (S := S1x256x1024) x5 _ _ inb2 _ _ fun a => ?_
  fin_cases a <;> simp [ix3]

theorem ext_hi (inb) (inb2) : ExtGood i x5 x6 x7 ⟨Rect.unit (s := S288x1024) ![272, 0] S16x1024.size inb, k0_pay7 (F := Ideal) (kernelRun0_A.sl.v31 i)
    (View.readAt (Elt Ideal) arg9.view (Rect.unit (s := S1x16x1024) ![0, 0, 0] S1x16x1024.size inb2).toLoadRect (harg9.unread x7))⟩ := by
  refine piece16 i x5 x6 x7 272 inb _ fun r k => ?_
  refine (pay7_at _ _ r k).trans ?_
  rw [View.readAt_eq_ld, harg9.read_unread]
  unfold ext
  rw [dif_neg (show ¬ 272 + r.val < 16 by omega), dif_neg (show ¬ 272 + r.val < 272 by omega), dif_pos (show 272 + r.val < 288 by omega)]
  refine congrArg (Scalar.select _ _) ?_
  refine View.ld_unit_apply_of (Val := Elt Ideal) (e := .bf16) (S := S1x16x1024) x7 _ _ inb2 _ _ fun a => ?_
  fin_cases a <;> simp [ix3]

theorem HS0_good : ∀ p ∈ kernelRun0_A.sl.HS0_3 (F := Ideal) c i arg7 harg7 arg8 harg8 arg9 harg9 x5 x6 x7, ExtGood i x5 x6 x7 p := by
  unfold kernelRun0_A.sl.HS0_3 kernelRun0_A.sl.r_2
  refine List.forall_mem_cons.2 ⟨ext_hi i arg9 harg9 x5 x6 x7 _ _, List.forall_mem_cons.2 ⟨ext_mid i arg7 harg7 x5 x6 x7 _ _, List.forall_mem_cons.2 ⟨ext_lo i arg8 harg8 x5 x6 x7 _ _, List.forall_mem_nil _⟩⟩⟩

theorem HS0_cover (y : S288x1024.Idx) : ∃ p ∈ kernelRun0_A.sl.HS0_3 (F := Ideal) c i arg7 harg7 arg8 harg8 arg9 harg9 x5 x6 x7, y ∈ p.1.set := by
  unfold kernelRun0_A.sl.HS0_3
  have h0 : (y 0).val < 288 := (y 0).isLt
  have h1 : (y 1).val < 1024 := (y 1).isLt
  by_cases ha : (y 0).val < 16
  · refine ⟨_, List.mem_cons_of_mem _ (List.mem_cons_of_mem _ List.mem_cons_self), ?_⟩
    refine (Rect.mem_set_unit (inb := inb_S288x1024_S16x1024_0_0)).2 fun a => ?_
    fin_cases a <;> simp <;> omega
  · by_cases hb : (y 0).val < 272
    · refine ⟨_, List.mem_cons_of_mem _ List.mem_cons_self, ?_⟩
      refine (Rect.mem_set_unit (inb := inb_S288x1024_S256x1024_16_0)).2 fun a => ?_
      fin_cases a <;> simp <;> omega
    · refine ⟨_, List.mem_cons_self, ?_⟩
      refine (Rect.mem_set_unit (inb := inb_S288x1024_S16x1024_272_0)).2 fun a => ?_
      fin_cases a <;> simp <;> omega

/-- A window of the scratch, read back. -/
theorem cov (o1 o2 : ℕ) (inb) (r q : Fin 256) (h2 : o2 + q.val < 1024) :
    (arg21.view.readCov (kernelRun0_A.sl.HS0_3 (F := Ideal) c i arg7 harg7 arg8 harg8 arg9 harg9 x5 x6 x7) (Rect.unit (s := S288x1024) ![o1, o2] S256x256.size inb).toLoadRect : FVec Ideal S256x256 .f32) (ix2 r q)
      = ext i x5 x6 x7 (o1 + r.val) ⟨o2 + q.val, h2⟩ := by
  rw [View.readCov_eq_canon']
  refine (View.canon_apply_of_pieces (extF i x5 x6 x7) _ (HS0_good c i arg7 harg7 arg8 harg8 arg9 harg9 x5 x6 x7) _ (HS0_cover c i arg7 harg7 arg8 harg8 arg9 harg9 x5 x6 x7 _)).trans ?_
  unfold extF
  have e0 : ((Rect.unit (s := S288x1024) ![o1, o2] S256x256.size inb).toLoadRect.idx (ix2 r q) 0).val = o1 + r.val := Rect.idx_unit_val _ _ _ _ 0
  have e1 : ((Rect.unit (s := S288x1024) ![o1, o2] S256x256.size inb).toLoadRect.idx (ix2 r q) 1).val = o2 + q.val := Rect.idx_unit_val _ _ _ _ 1
  rw [e0]
  exact congrArg (ext i x5 x6 x7 _) (Fin.ext e1)

/-- The pooled branch's block. -/
def poolF : FVec Ideal S256x1024 .bf16 := fun y => poolT i x5 x6 x7 x10 x11 ⟨(y 1).val / 256, Nat.div_lt_of_lt_mul (y 1).isLt⟩ (y 0) ⟨(y 1).val % 256, Nat.mod_lt _ (by omega)⟩

def PoolGood (p : View.Piece (Elt Ideal) S256x1024 .bf16) : Prop := ∀ x : p.1.shape.Idx, p.2 x = poolF i x5 x6 x7 x10 x11 (p.1.emb x)

theorem pool_pt (g : Fin 4) (inb) (pay : FVec Ideal S256x256 .bf16) (hp : ∀ r q, pay (ix2 r q) = poolT i x5 x6 x7 x10 x11 g r q) (x : S256x256.Idx) :
    pay x = poolF i x5 x6 x7 x10 x11 ((Rect.unit (s := S256x1024) ![0, g.val * 256] S256x256.size inb).emb x) := by
  obtain ⟨r, q, rfl⟩ : ∃ (r q : Fin 256), x = ix2 r q := ⟨x 0, x 1, by funext a; fin_cases a <;> rfl⟩
  have e : (Rect.unit (s := S256x1024) ![0, g.val * 256] S256x256.size inb).emb (ix2 r q : S256x256.Idx) = ix2 r (⟨g.val * 256 + q.val, by omega⟩ : Fin 1024) := by
    funext a
    refine Fin.ext ((Rect.idx_unit_val _ _ _ _ a).trans ?_)
    fin_cases a <;> simp [ix2]
  rw [e]
  refine (hp r q).trans ?_
  unfold poolF
  have a1 : (⟨(g.val * 256 + q.val) / 256, by omega⟩ : Fin 4) = g := Fin.ext (by show (g.val * 256 + q.val) / 256 = g.val; omega)
  have a2 : (⟨(g.val * 256 + q.val) % 256, by omega⟩ : Fin 256) = q := Fin.ext (by show (g.val * 256 + q.val) % 256 = q.val; omega)
  exact (congrArg₂ (fun a b => poolT i x5 x6 x7 x10 x11 a r b) a1 a2).symm

theorem pool_piece (g : Fin 4) (o : ℕ) (ho : o = g.val * 256) (inb) (pay : FVec Ideal S256x256 .bf16) (hp : ∀ r q, pay (ix2 r q) = poolT i x5 x6 x7 x10 x11 g r q) :
    PoolGood i x5 x6 x7 x10 x11 ⟨Rect.unit (s := S256x1024) ![0, o] S256x256.size inb, pay⟩ := by
  subst ho
  exact fun x => pool_pt i x5 x6 x7 x10 x11 g inb pay hp x

theorem ld10 (g : Fin 4) (o : ℕ) (ho : o = g.val) (inb) (x q : Fin 256) :
    (View.readAt (Elt Ideal) arg12.view (Rect.unit (s := S4x256x256) ![o, 0, 0] S1x256x256.size inb).toLoadRect (harg12.unread x10) : FVec Ideal S1x256x256 .bf16) (ix3 0 x q) = x10 (ix3 g x q) := by
  subst ho
  rw [View.readAt_eq_ld, harg12.read_unread]
  refine View.ld_unit_apply_of (Val := Elt Ideal) (e := .bf16) (S := S4x256x256) x10 _ _ inb _ _ fun a => ?_
  fin_cases a <;> simp [ix3]

theorem ld11 (o : ℕ) (inb) (q : Fin 256) (h : o + q.val < 1024) :
    (View.readAt (Elt Ideal) arg13.view (Rect.unit (s := S1x1024) ![0, o] S1x256.size inb).toLoadRect (harg13.unread x11) : FVec Ideal S1x256 .f32) (ix2 0 q) = x11 (ix2 0 ⟨o + q.val, h⟩) := by
  rw [View.readAt_eq_ld, harg13.read_unread]
  refine View.ld_unit_apply_of (Val := Elt Ideal) (e := .f32) (S := S1x1024) x11 _ _ inb _ _ fun a => ?_
  fin_cases a <;> simp [ix2]

theorem pos_i (r : Fin 256) : k0_pay8 (BitVec.ofNat 32 (i 1).val) (ix2 r 0) = BitVec.ofNat 32 ((i 1).val * 256 + r.val) := pos_at ⟨(i 1).val, (i 1).isLt⟩ r

set_option maxHeartbeats 1000000 in
theorem group0 (inb10) (inb11) (r q : Fin 256) : k0_pay10 (F := Ideal) (kernelRun0_A.sl.r_4 (F := Ideal) i) (kernelRun0_A.sl.cst_33 (F := Ideal)) (kernelRun0_A.sl.v72 (F := Ideal) c i arg7 harg7 arg8 harg8 arg9 harg9 arg21 x5 x6 x7) (kernelRun0_A.sl.v73 (F := Ideal) c i arg7 harg7 arg8 harg8 arg9 harg9 arg21 x5 x6 x7) (kernelRun0_A.sl.v73 (F := Ideal) c i arg7 harg7 arg8 harg8 arg9 harg9 arg21 x5 x6 x7) (View.readAt (Elt Ideal) arg12.view (Rect.unit (s := S4x256x256) ![0, 0, 0] S1x256x256.size inb10).toLoadRect (harg12.unread x10)) (View.readAt (Elt Ideal) arg13.view (Rect.unit (s := S1x1024) ![0, 0] S1x256.size inb11).toLoadRect (harg13.unread x11)) (ix2 r q) = poolT i x5 x6 x7 x10 x11 0 r q := by
  unfold kernelRun0_A.sl.r_4 kernelRun0_A.sl.cst_33
  refine (pay10_at _ _ _ _ _ _ r q).trans ?_
  unfold poolT
  refine congrArg₂ (· * ·) (Finset.sum_congr rfl fun x _ => congrArg₂ (· * ·) (congrArg₂ (· - ·) (congrArg₂ (· * ·) ?_ ?_) ?_) ?_) ?_
  · unfold kernelRun0_A.sl.v72 kernelRun0_A.sl.v73
    rw [cov c i arg7 harg7 arg8 harg8 arg9 harg9 arg21 x5 x6 x7 15 0 _ r x (by omega), cov c i arg7 harg7 arg8 harg8 arg9 harg9 arg21 x5 x6 x7 16 0 _ r x (by omega)]
    rw [show r.val + 16 - 2 ^ (0 : Fin 4).val = r.val + 15 from by show r.val + 16 - 1 = r.val + 15; omega]
    simp only [Nat.add_comm _ r.val]
    rfl
  · exact inv0_at (k0_pay8 (BitVec.ofNat 32 (i 1).val)) _ _ r (pos_i i r)
  · unfold kernelRun0_A.sl.v73
    rw [cov c i arg7 harg7 arg8 harg8 arg9 harg9 arg21 x5 x6 x7 16 0 _ r x (by omega), Nat.add_comm]
    rfl
  · exact ld10 arg12 harg12 x10 0 _ rfl _ x q
  · exact ld11 arg13 harg13 x11 _ _ q (by omega)

set_option maxHeartbeats 1000000 in
theorem group1 (inb10) (inb11) (r q : Fin 256) : k0_pay12 (F := Ideal) (kernelRun0_A.sl.r_5 (F := Ideal) i) (kernelRun0_A.sl.v104 (F := Ideal) c i arg7 harg7 arg8 harg8 arg9 harg9 arg21 x5 x6 x7) (kernelRun0_A.sl.v105 (F := Ideal) c i arg7 harg7 arg8 harg8 arg9 harg9 arg21 x5 x6 x7) (kernelRun0_A.sl.v107 (F := Ideal) c i arg7 harg7 arg8 harg8 arg9 harg9 arg21 x5 x6 x7) (kernelRun0_A.sl.v109 (F := Ideal) c i arg7 harg7 arg8 harg8 arg9 harg9 arg21 x5 x6 x7) (kernelRun0_A.sl.v107 (F := Ideal) c i arg7 harg7 arg8 harg8 arg9 harg9 arg21 x5 x6 x7) (View.readAt (Elt Ideal) arg12.view (Rect.unit (s := S4x256x256) ![1, 0, 0] S1x256x256.size inb10).toLoadRect (harg12.unread x10)) (View.readAt (Elt Ideal) arg13.view (Rect.unit (s := S1x1024) ![0, 256] S1x256.size inb11).toLoadRect (harg13.unread x11)) (ix2 r q) = poolT i x5 x6 x7 x10 x11 1 r q := by
  unfold kernelRun0_A.sl.r_5 kernelRun0_A.sl.r_3
  refine (pay12_at _ _ _ _ _ _ _ _ r q).trans ?_
  unfold poolT
  refine congrArg₂ (· * ·) (Finset.sum_congr rfl fun x _ => congrArg₂ (· * ·) (congrArg₂ (· - ·) (congrArg₂ (· * ·) ?_ ?_) ?_) ?_) ?_
  · unfold kernelRun0_A.sl.v104 kernelRun0_A.sl.v105 kernelRun0_A.sl.v107 kernelRun0_A.sl.v109
    rw [cov c i arg7 harg7 arg8 harg8 arg9 harg9 arg21 x5 x6 x7 14 256 _ r x (by omega), cov c i arg7 harg7 arg8 harg8 arg9 harg9 arg21 x5 x6 x7 15 256 _ r x (by omega), cov c i arg7 harg7 arg8 harg8 arg9 harg9 arg21 x5 x6 x7 16 256 _ r x (by omega), cov c i arg7 harg7 arg8 harg8 arg9 harg9 arg21 x5 x6 x7 17 256 _ r x (by omega)]
    rw [show r.val + 16 - 2 ^ (1 : Fin 4).val = r.val + 14 from by show r.val + 16 - 2 = r.val + 14; omega]
    simp only [Nat.add_comm _ r.val]
    rfl
  · rw [inv1_at, pos_i]
    rfl
  · unfold kernelRun0_A.sl.v107
    rw [cov c i arg7 harg7 arg8 harg8 arg9 harg9 arg21 x5 x6 x7 16 256 _ r x (by omega), Nat.add_comm]
    rfl
  · exact ld10 arg12 harg12 x10 1 _ rfl _ x q
  · exact ld11 arg13 harg13 x11 _ _ q (by omega)

set_option maxHeartbeats 1000000 in
theorem group2 (inb10) (inb11) (r q : Fin 256) : k0_pay14 (F := Ideal) (kernelRun0_A.sl.r_6 (F := Ideal) i) (kernelRun0_A.sl.v140 (F := Ideal) c i arg7 harg7 arg8 harg8 arg9 harg9 arg21 x5 x6 x7) (kernelRun0_A.sl.v141 (F := Ideal) c i arg7 harg7 arg8 harg8 arg9 harg9 arg21 x5 x6 x7) (kernelRun0_A.sl.v143 (F := Ideal) c i arg7 harg7 arg8 harg8 arg9 harg9 arg21 x5 x6 x7) (kernelRun0_A.sl.v145 (F := Ideal) c i arg7 harg7 arg8 harg8 arg9 harg9 arg21 x5 x6 x7) (kernelRun0_A.sl.v147 (F := Ideal) c i arg7 harg7 arg8 harg8 arg9 harg9 arg21 x5 x6 x7) (kernelRun0_A.sl.v149 (F := Ideal) c i arg7 harg7 arg8 harg8 arg9 harg9 arg21 x5 x6 x7) (kernelRun0_A.sl.v151 (F := Ideal) c i arg7 harg7 arg8 harg8 arg9 harg9 arg21 x5 x6 x7) (kernelRun0_A.sl.v153 (F := Ideal) c i arg7 harg7 arg8 harg8 arg9 harg9 arg21 x5 x6 x7) (kernelRun0_A.sl.v147 (F := Ideal) c i arg7 harg7 arg8 harg8 arg9 harg9 arg21 x5 x6 x7) (View.readAt (Elt Ideal) arg12.view (Rect.unit (s := S4x256x256) ![2, 0, 0] S1x256x256.size inb10).toLoadRect (harg12.unread x10)) (View.readAt (Elt Ideal) arg13.view (Rect.unit (s := S1x1024) ![0, 512] S1x256.size inb11).toLoadRect (harg13.unread x11)) (ix2 r q) = poolT i x5 x6 x7 x10 x11 2 r q := by
  unfold kernelRun0_A.sl.r_6 kernelRun0_A.sl.r_3
  refine (pay14_at _ _ _ _ _ _ _ _ _ _ _ _ r q).trans ?_
  unfold poolT
  refine congrArg₂ (· * ·) (Finset.sum_congr rfl fun x _ => congrArg₂ (· * ·) (congrArg₂ (· - ·) (congrArg₂ (· * ·) ?_ ?_) ?_) ?_) ?_
  · unfold kernelRun0_A.sl.v140 kernelRun0_A.sl.v141 kernelRun0_A.sl.v143 kernelRun0_A.sl.v145 kernelRun0_A.sl.v147 kernelRun0_A.sl.v149 kernelRun0_A.sl.v151 kernelRun0_A.sl.v153
    rw [cov c i arg7 harg7 arg8 harg8 arg9 harg9 arg21 x5 x6 x7 12 512 _ r x (by omega), cov c i arg7 harg7 arg8 harg8 arg9 harg9 arg21 x5 x6 x7 13 512 _ r x (by omega), cov c i arg7 harg7 arg8 harg8 arg9 harg9 arg21 x5 x6 x7 14 512 _ r x (by omega), cov c i arg7 harg7 arg8 harg8 arg9 harg9 arg21 x5 x6 x7 15 512 _ r x (by omega), cov c i arg7 harg7 arg8 harg8 arg9 harg9 arg21 x5 x6 x7 16 512 _ r x (by omega), cov c i arg7 harg7 arg8 harg8 arg9 harg9 arg21 x5 x6 x7 17 512 _ r x (by omega), cov c i arg7 harg7 arg8 harg8 arg9 harg9 arg21 x5 x6 x7 18 512 _ r x (by omega), cov c i arg7 harg7 arg8 harg8 arg9 harg9 arg21 x5 x6 x7 19 512 _ r x (by omega)]
    rw [show r.val + 16 - 2 ^ (2 : Fin 4).val = r.val + 12 from by show r.val + 16 - 4 = r.val + 12; omega]
    simp only [Nat.add_comm _ r.val]
    rfl
  · rw [inv2_at, pos_i]
    rfl
  · unfold kernelRun0_A.sl.v147
    rw [cov c i arg7 harg7 arg8 harg8 arg9 harg9 arg21 x5 x6 x7 16 512 _ r x (by omega), Nat.add_comm]
    rfl
  · exact ld10 arg12 harg12 x10 2 _ rfl _ x q
  · exact ld11 arg13 harg13 x11 _ _ q (by omega)

set_option maxHeartbeats 1000000 in
theorem group3 (inb10) (inb11) (r q : Fin 256) : k0_pay18 (F := Ideal) (kernelRun0_A.sl.r_8 (F := Ideal) i) (kernelRun0_A.sl.r_9 (F := Ideal) c i arg7 harg7 arg8 harg8 arg9 harg9 arg21 x5 x6 x7) (kernelRun0_A.sl.v207 (F := Ideal) c i arg7 harg7 arg8 harg8 arg9 harg9 arg21 x5 x6 x7) (kernelRun0_A.sl.v209 (F := Ideal) c i arg7 harg7 arg8 harg8 arg9 harg9 arg21 x5 x6 x7) (kernelRun0_A.sl.v211 (F := Ideal) c i arg7 harg7 arg8 harg8 arg9 harg9 arg21 x5 x6 x7) (kernelRun0_A.sl.v213 (F := Ideal) c i arg7 harg7 arg8 harg8 arg9 harg9 arg21 x5 x6 x7) (kernelRun0_A.sl.v199 (F := Ideal) c i arg7 harg7 arg8 harg8 arg9 harg9 arg21 x5 x6 x7) (View.readAt (Elt Ideal) arg12.view (Rect.unit (s := S4x256x256) ![3, 0, 0] S1x256x256.size inb10).toLoadRect (harg12.unread x10)) (View.readAt (Elt Ideal) arg13.view (Rect.unit (s := S1x1024) ![0, 768] S1x256.size inb11).toLoadRect (harg13.unread x11)) (ix2 r q) = poolT i x5 x6 x7 x10 x11 3 r q := by
  unfold kernelRun0_A.sl.r_8 kernelRun0_A.sl.r_7 kernelRun0_A.sl.r_3 kernelRun0_A.sl.r_9
  refine (pay18_at _ _ _ _ _ _ _ _ _ _ _ _ _ _ _ _ _ _ _ _ r q).trans ?_
  unfold poolT
  refine congrArg₂ (· * ·) (Finset.sum_congr rfl fun x _ => congrArg₂ (· * ·) (congrArg₂ (· - ·) (congrArg₂ (· * ·) ?_ ?_) ?_) ?_) ?_
  · unfold kernelRun0_A.sl.v184 kernelRun0_A.sl.v185 kernelRun0_A.sl.v187 kernelRun0_A.sl.v189 kernelRun0_A.sl.v191 kernelRun0_A.sl.v193 kernelRun0_A.sl.v195 kernelRun0_A.sl.v197 kernelRun0_A.sl.v199 kernelRun0_A.sl.v201 kernelRun0_A.sl.v203 kernelRun0_A.sl.v205 kernelRun0_A.sl.v207 kernelRun0_A.sl.v209 kernelRun0_A.sl.v211 kernelRun0_A.sl.v213
    rw [cov c i arg7 harg7 arg8 harg8 arg9 harg9 arg21 x5 x6 x7 8 768 _ r x (by omega), cov c i arg7 harg7 arg8 harg8 arg9 harg9 arg21 x5 x6 x7 9 768 _ r x (by omega), cov c i arg7 harg7 arg8 harg8 arg9 harg9 arg21 x5 x6 x7 10 768 _ r x (by omega), cov c i arg7 harg7 arg8 harg8 arg9 harg9 arg21 x5 x6 x7 11 768 _ r x (by omega), cov c i arg7 harg7 arg8 harg8 arg9 harg9 arg21 x5 x6 x7 12 768 _ r x (by omega), cov c i arg7 harg7 arg8 harg8 arg9 harg9 arg21 x5 x6 x7 13 768 _ r x (by omega), cov c i arg7 harg7 arg8 harg8 arg9 harg9 arg21 x5 x6 x7 14 768 _ r x (by omega), cov c i arg7 harg7 arg8 harg8 arg9 harg9 arg21 x5 x6 x7 15 768 _ r x (by omega), cov c i arg7 harg7 arg8 harg8 arg9 harg9 arg21 x5 x6 x7 16 768 _ r x (by omega), cov c i arg7 harg7 arg8 harg8 arg9 harg9 arg21 x5 x6 x7 17 768 _ r x (by omega), cov c i arg7 harg7 arg8 harg8 arg9 harg9 arg21 x5 x6 x7 18 768 _ r x (by omega), cov c i arg7 harg7 arg8 harg8 arg9 harg9 arg21 x5 x6 x7 19 768 _ r x (by omega), cov c i arg7 harg7 arg8 harg8 arg9 harg9 arg21 x5 x6 x7 20 768 _ r x (by omega), cov c i arg7 harg7 arg8 harg8 arg9 harg9 arg21 x5 x6 x7 21 768 _ r x (by omega), cov c i arg7 harg7 arg8 harg8 arg9 harg9 arg21 x5 x6 x7 22 768 _ r x (by omega), cov c i arg7 harg7 arg8 harg8 arg9 harg9 arg21 x5 x6 x7 23 768 _ r x (by omega)]
    rw [show r.val + 16 - 2 ^ (3 : Fin 4).val = r.val + 8 from by show r.val + 16 - 8 = r.val + 8; omega]
    simp only [Nat.add_comm _ r.val]
    rfl
  · rw [inv3_at, pos_i]
    rfl
  · unfold kernelRun0_A.sl.v199
    rw [cov c i arg7 harg7 arg8 harg8 arg9 harg9 arg21 x5 x6 x7 16 768 _ r x (by omega), Nat.add_comm]
    rfl
  · exact ld10 arg12 harg12 x10 3 _ rfl _ x q
  · exact ld11 arg13 harg13 x11 _ _ q (by omega)

theorem HS1_good : ∀ p ∈ kernelRun0_A.sl.HS1_4 (F := Ideal) c i arg7 harg7 arg8 harg8 arg9 harg9 arg12 harg12 arg13 harg13 arg21 x5 x6 x7 x10 x11, PoolGood i x5 x6 x7 x10 x11 p := by
  unfold kernelRun0_A.sl.HS1_4
  refine List.forall_mem_cons.2 ⟨pool_piece i x5 x6 x7 x10 x11 3 _ rfl _ _ fun r q => group3 c i arg7 harg7 arg8 harg8 arg9 harg9 arg12 harg12 arg13 harg13 arg21 x5 x6 x7 x10 x11 _ _ r q, ?_⟩
  refine List.forall_mem_cons.2 ⟨pool_piece i x5 x6 x7 x10 x11 2 _ rfl _ _ fun r q => group2 c i arg7 harg7 arg8 harg8 arg9 harg9 arg12 harg12 arg13 harg13 arg21 x5 x6 x7 x10 x11 _ _ r q, ?_⟩
  refine List.forall_mem_cons.2 ⟨pool_piece i x5 x6 x7 x10 x11 1 _ rfl _ _ fun r q => group1 c i arg7 harg7 arg8 harg8 arg9 harg9 arg12 harg12 arg13 harg13 arg21 x5 x6 x7 x10 x11 _ _ r q, ?_⟩
  exact List.forall_mem_cons.2 ⟨pool_piece i x5 x6 x7 x10 x11 0 _ rfl _ _ fun r q => group0 c i arg7 harg7 arg8 harg8 arg9 harg9 arg12 harg12 arg13 harg13 arg21 x5 x6 x7 x10 x11 _ _ r q, List.forall_mem_nil _⟩

theorem HS1_cover (y : S256x1024.Idx) : ∃ p ∈ kernelRun0_A.sl.HS1_4 (F := Ideal) c i arg7 harg7 arg8 harg8 arg9 harg9 arg12 harg12 arg13 harg13 arg21 x5 x6 x7 x10 x11, y ∈ p.1.set :=
  View.cover_of_tiledL (kernelRun0_A.sl.HS1_4 (F := Ideal) c i arg7 harg7 arg8 harg8 arg9 harg9 arg12 harg12 arg13 harg13 arg21 x5 x6 x7 x10 x11) S256x256.size (by sl_kernel_rfl) y

theorem v271_eq : kernelRun0_A.sl.v271 (F := Ideal) c i arg7 harg7 arg8 harg8 arg9 harg9 arg12 harg12 arg13 harg13 arg21 arg22 x5 x6 x7 x10 x11 = poolF i x5 x6 x7 x10 x11 := by
  unfold kernelRun0_A.sl.v271
  rw [View.readCov_eq_canon']
  funext y
  refine (View.canon_apply_of_pieces (poolF i x5 x6 x7 x10 x11) _ (HS1_good c i arg7 harg7 arg8 harg8 arg9 harg9 arg12 harg12 arg13 harg13 arg21 x5 x6 x7 x10 x11) _ (HS1_cover c i arg7 harg7 arg8 harg8 arg9 harg9 arg12 harg12 arg13 harg13 arg21 x5 x6 x7 x10 x11 _)).trans ?_
  refine congrArg _ ?_
  funext a
  refine Fin.ext ((Rect.idx_unit_val _ _ _ _ a).trans ?_)
  fin_cases a <;> simp

end Scratch

end Cert.Kernel3Ideal.Mix

end
-- ==== Proof.MixOut.lean ====
/- What a point of the mixing's grid leaves, of the operands' blocks. -/
module

public import proofs.«01_k».proof.Proof.MixScr

@[expose] public section

set_option maxRecDepth 16384

noncomputable section

open Idealize.ShloMosaic Idealize.ShloMosaic.TcCoe Idealize.SL.Sem

namespace Cert.Kernel3Ideal.Mix

open Cert.Kernel3Ideal Cert.Kernel3Ideal.Gen Cert.Mix

section Point

variable (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x256x1024 .bf16) (harg7 : arg7.IsWhole) (arg8 : Memref sig .tc .vmem S1x16x1024 .bf16) (harg8 : arg8.IsWhole) (arg9 : Memref sig .tc .vmem S1x16x1024 .bf16) (harg9 : arg9.IsWhole) (arg10 : Memref sig .tc .vmem S1x32x8x512 .f32) (harg10 : arg10.IsWhole) (arg11 : Memref sig .tc .vmem S2048x4096 .bf16) (harg11 : arg11.IsWhole) (arg12 : Memref sig .tc .vmem S4x256x256 .bf16) (harg12 : arg12.IsWhole) (arg13 : Memref sig .tc .vmem S1x1024 .f32) (harg13 : arg13.IsWhole) (arg14 : Memref sig .tc .vmem S1024x2048 .bf16) (harg14 : arg14.IsWhole) (arg15 : Memref sig .tc .vmem S512x512 .bf16) (harg15 : arg15.IsWhole) (arg16 : Memref sig .tc .vmem S1x512 .f32) (harg16 : arg16.IsWhole) (arg17 : Memref sig .tc .vmem S512x2048 .bf16) (harg17 : arg17.IsWhole) (arg18 : Memref sig .tc .vmem S2048x2048 .bf16) (harg18 : arg18.IsWhole) (arg19 : Memref sig .tc .vmem S1x256x2048 .f32) (harg19 : arg19.IsWhole) (arg20 : Memref sig .tc .vmem S1x256x2048 .bf16) (harg20 : arg20.IsWhole) (arg21 : Memref sig .tc .vmem S288x1024 .f32) (harg21 : arg21.IsWhole) (arg22 : Memref sig .tc .vmem S256x1024 .bf16) (harg22 : arg22.IsWhole) (arg23 : Memref sig .tc .vmem S256x2048 .bf16) (harg23 : arg23.IsWhole)

variable (x0 : FVec Ideal S1x256x2048 .f32) (x1 : FVec Ideal S1x256x2048 .f32) (x2 : FVec Ideal S1x6x2048 .f32) (x3 : FVec Ideal S1x2048 .f32) (x4 : FVec Ideal S1x2048 .f32) (x5 : FVec Ideal S1x256x1024 .bf16) (x6 : FVec Ideal S1x16x1024 .bf16) (x7 : FVec Ideal S1x16x1024 .bf16) (x8 : FVec Ideal S1x32x8x512 .f32) (x9 : FVec Ideal S2048x4096 .bf16) (x10 : FVec Ideal S4x256x256 .bf16) (x11 : FVec Ideal S1x1024 .f32) (x12 : FVec Ideal S1024x2048 .bf16) (x13 : FVec Ideal S512x512 .bf16) (x14 : FVec Ideal S1x512 .f32) (x15 : FVec Ideal S512x2048 .bf16) (x16 : FVec Ideal S2048x2048 .bf16)

/-- A row of the residual stream's block. -/
def xT (r : Fin 256) (j : Fin 2048) : EReal := Scalar.select (Scalar.cmpi .slt (BitVec.ofNat 32 (i 0).val) 2#32) (x0 (ix3 0 r j)) (x1 (ix3 0 r j))

/-- A row of the normed block. -/
def hT (r : Fin 256) (k : Fin 2048) : EReal := ada (xT i x0 x1 r) (fun j => x3 (ix2 0 j)) (fun j => x2 (ix3 0 1 j)) (fun j => x2 (ix3 0 0 j)) k

/-- A row of the S5 branch's block. -/
def zT (r : Fin 256) (k : Fin 512) : EReal :=
  glu (fun j => x8 (ix4 0 ⟨r.val % 32, by omega⟩ ⟨r.val / 32, by omega⟩ j)) (fun i j => x13 (ix2 i j)) (fun j => x14 (ix2 0 j)) k

/-- A row of the merged branches' block. -/
def mT (r : Fin 256) (d : Fin 2048) : EReal :=
  merge (hT i x0 x1 x2 x3 r) (fun k => poolF i x5 x6 x7 x10 x11 (ix2 r k)) (zT x8 x13 x14 r) (fun i j => x9 (ix2 i j)) (fun i j => x12 (ix2 i j)) (fun i j => x15 (ix2 i j)) d

/-- A row of the new residual stream's block. -/
def rT (r : Fin 256) (d : Fin 2048) : EReal := resid (xT i x0 x1 r) (fun j => x2 (ix3 0 2 j)) (mT i x0 x1 x2 x3 x5 x6 x7 x8 x9 x10 x11 x12 x13 x14 x15 r) (fun i j => x16 (ix2 i j)) d

/-- A row of the next norm's block. -/
def nT (r : Fin 256) (k : Fin 2048) : EReal := ada (rT i x0 x1 x2 x3 x5 x6 x7 x8 x9 x10 x11 x12 x13 x14 x15 x16 r) (fun j => x4 (ix2 0 j)) (fun j => x2 (ix3 0 4 j)) (fun j => x2 (ix3 0 3 j)) k

theorem r_at (r : Fin 256) (k : Fin 2048) : kernelRun0_A.sl.r (F := Ideal) c i arg2 harg2 arg3 harg3 x0 x1 (ix2 r k) = xT i x0 x1 r k := by
  unfold kernelRun0_A.sl.r
  rw [pay2_at]
  unfold xT
  simp only [View.readAt_eq_ld, harg2.read_unread, harg3.read_unread]
  generalize Scalar.cmpi .slt (BitVec.ofNat 32 (i 0).val) 2#32 = e
  pointwise

theorem r1_at (r : Fin 256) (k : Fin 2048) : kernelRun0_A.sl.r_1 (F := Ideal) c i arg2 harg2 arg3 harg3 arg4 harg4 arg5 harg5 x0 x1 x2 x3 (ix2 r k) = hT i x0 x1 x2 x3 r k := by
  unfold kernelRun0_A.sl.r_1
  rw [pay3_at]
  simp only [pay2_at]
  unfold hT xT
  simp only [View.readAt_eq_ld, harg2.read_unread, harg3.read_unread, harg4.read_unread, harg5.read_unread]
  generalize Scalar.cmpi .slt (BitVec.ofNat 32 (i 0).val) 2#32 = e
  pointwise

theorem r12_at (r : Fin 256) (k : Fin 512) :
    kernelRun0_A.sl.r_12 (F := Ideal) c arg10 harg10 arg15 harg15 arg16 harg16 x8 x13 x14 (ix2 r k) = zT x8 x13 x14 r k := by
  unfold kernelRun0_A.sl.r_12 kernelRun0_A.sl.r_10 kernelRun0_A.sl.r_11
  have e : (ix2 r k : S256x512.Idx) = ix2 (⟨(⟨r.val / 32, by omega⟩ : Fin 8).val * 32 + (⟨r.val % 32, by omega⟩ : Fin 32).val, by show r.val / 32 * 32 + r.val % 32 < 256; omega⟩ : Fin 256) k :=
    congrArg (fun a : Fin 256 => (ix2 a k : S256x512.Idx)) (Fin.ext (by show r.val = r.val / 32 * 32 + r.val % 32; omega))
  rw [e]
  refine (pay23_at _ _ _ _ _ k).trans ?_
  unfold zT
  simp only [View.readAt_eq_ld, harg10.read_unread, harg15.read_unread, harg16.read_unread]
  pointwise

/-- The merged branches' block. -/
def mF : FVec Ideal S256x2048 .bf16 := fun y => mT i x0 x1 x2 x3 x5 x6 x7 x8 x9 x10 x11 x12 x13 x14 x15 (y 0) (y 1)

theorem merge_pt (n : ℕ) (hn : n ≤ 1024) (inb) (pay : FVec Ideal S256x1024 .bf16) (hp : ∀ r (q : Fin 1024), pay (ix2 r q) = mT i x0 x1 x2 x3 x5 x6 x7 x8 x9 x10 x11 x12 x13 x14 x15 r ⟨n + q.val, by omega⟩) (x : S256x1024.Idx) :
    pay x = mF i x0 x1 x2 x3 x5 x6 x7 x8 x9 x10 x11 x12 x13 x14 x15 ((Rect.unit (s := S256x2048) ![0, n] S256x1024.size inb).emb x) := by
  obtain ⟨r, q, rfl⟩ : ∃ (r : Fin 256) (q : Fin 1024), x = ix2 r q := ⟨x 0, x 1, by funext a; fin_cases a <;> rfl⟩
  have e : (Rect.unit (s := S256x2048) ![0, n] S256x1024.size inb).emb (ix2 r q : S256x1024.Idx) = ix2 r (⟨n + q.val, by omega⟩ : Fin 2048) := by
    funext a
    refine Fin.ext ((Rect.idx_unit_val _ _ _ _ a).trans ?_)
    fin_cases a <;> simp [ix2]
  rw [e]
  exact hp r q

def MergeGood (p : View.Piece (Elt Ideal) S256x2048 .bf16) : Prop := ∀ x : p.1.shape.Idx, p.2 x = mF i x0 x1 x2 x3 x5 x6 x7 x8 x9 x10 x11 x12 x13 x14 x15 (p.1.emb x)

theorem merge_piece (n : ℕ) (hn : n ≤ 1024) (inb) (pay : FVec Ideal S256x1024 .bf16) (hp : ∀ r (q : Fin 1024), pay (ix2 r q) = mT i x0 x1 x2 x3 x5 x6 x7 x8 x9 x10 x11 x12 x13 x14 x15 r ⟨n + q.val, by omega⟩) :
    MergeGood i x0 x1 x2 x3 x5 x6 x7 x8 x9 x10 x11 x12 x13 x14 x15 ⟨Rect.unit (s := S256x2048) ![0, n] S256x1024.size inb, pay⟩ := fun x => merge_pt i x0 x1 x2 x3 x5 x6 x7 x8 x9 x10 x11 x12 x13 x14 x15 n hn inb pay hp x

theorem ldg (n : ℕ) (inb) (x : Fin 2048) (q : Fin 1024) (h : n + q.val < 4096) :
    (View.readAt (Elt Ideal) arg11.view (Rect.unit (s := S2048x4096) ![0, n] S2048x1024.size inb).toLoadRect (harg11.unread x9) : FVec Ideal S2048x1024 .bf16) (ix2 x q) = x9 (ix2 x ⟨n + q.val, h⟩) := by
  rw [View.readAt_eq_ld, harg11.read_unread]
  refine View.ld_unit_apply_of (Val := Elt Ideal) (e := .bf16) (S := S2048x4096) x9 _ _ inb _ _ fun a => ?_
  fin_cases a <;> simp [ix2]

theorem lda (n : ℕ) (inb) (x : Fin 1024) (q : Fin 1024) (h : n + q.val < 2048) :
    (View.readAt (Elt Ideal) arg14.view (Rect.unit (s := S1024x2048) ![0, n] S1024x1024.size inb).toLoadRect (harg14.unread x12) : FVec Ideal S1024x1024 .bf16) (ix2 x q) = x12 (ix2 x ⟨n + q.val, h⟩) := by
  rw [View.readAt_eq_ld, harg14.read_unread]
  refine View.ld_unit_apply_of (Val := Elt Ideal) (e := .bf16) (S := S1024x2048) x12 _ _ inb _ _ fun a => ?_
  fin_cases a <;> simp [ix2]

theorem ldb (n : ℕ) (inb) (x : Fin 512) (q : Fin 1024) (h : n + q.val < 2048) :
    (View.readAt (Elt Ideal) arg17.view (Rect.unit (s := S512x2048) ![0, n] S512x1024.size inb).toLoadRect (harg17.unread x15) : FVec Ideal S512x1024 .bf16) (ix2 x q) = x15 (ix2 x ⟨n + q.val, h⟩) := by
  rw [View.readAt_eq_ld, harg17.read_unread]
  refine View.ld_unit_apply_of (Val := Elt Ideal) (e := .bf16) (S := S512x2048) x15 _ _ inb _ _ fun a => ?_
  fin_cases a <;> simp [ix2]

set_option maxHeartbeats 1000000 in
theorem half0 (inb17) (r : Fin 256) (q : Fin 1024) :
    k0_pay25 (F := Ideal) (kernelRun0_A.sl.r_1 (F := Ideal) c i arg2 harg2 arg3 harg3 arg4 harg4 arg5 harg5 x0 x1 x2 x3) (kernelRun0_A.sl.r_12 (F := Ideal) c arg10 harg10 arg15 harg15 arg16 harg16 x8 x13 x14) (kernelRun0_A.sl.r_13 (F := Ideal) c i arg2 harg2 arg3 harg3 arg4 harg4 arg5 harg5 arg7 harg7 arg8 harg8 arg9 harg9 arg11 harg11 arg12 harg12 arg13 harg13 arg14 harg14 arg21 arg22 x0 x1 x2 x3 x5 x6 x7 x9 x10 x11 x12) (kernelRun0_A.sl.r_14 (F := Ideal) c arg11 harg11 x9) (View.readAt (Elt Ideal) arg17.view (Rect.unit (s := S512x2048) ![0, 0] S512x1024.size inb17).toLoadRect (harg17.unread x15)) (ix2 r q) = mT i x0 x1 x2 x3 x5 x6 x7 x8 x9 x10 x11 x12 x13 x14 x15 r ⟨0 + q.val, by omega⟩ := by
  unfold kernelRun0_A.sl.r_13 kernelRun0_A.sl.r_14
  refine (pay25_at _ _ _ _ _ _ _ r q).trans ?_
  unfold mT merge
  refine congrArg₂ (· + ·) (congrArg₂ (· * ·) (congrArg Ideal.logistic (Finset.sum_congr rfl fun x _ => congrArg₂ (· * ·) ?_ ?_)) (Finset.sum_congr rfl fun x _ => congrArg₂ (· * ·) ?_ ?_))
    (congrArg₂ (· * ·) (congrArg Ideal.logistic (Finset.sum_congr rfl fun x _ => congrArg₂ (· * ·) ?_ ?_)) (Finset.sum_congr rfl fun x _ => congrArg₂ (· * ·) ?_ ?_))
  · exact r1_at c i arg2 harg2 arg3 harg3 arg4 harg4 arg5 harg5 x0 x1 x2 x3 r x
  · exact ldg arg11 harg11 x9 0 _ x q (by omega)
  · exact congrFun (v271_eq c i arg7 harg7 arg8 harg8 arg9 harg9 arg12 harg12 arg13 harg13 arg21 arg22 x5 x6 x7 x10 x11) (ix2 r x)
  · exact lda arg14 harg14 x12 0 _ x q (by omega)
  · exact r1_at c i arg2 harg2 arg3 harg3 arg4 harg4 arg5 harg5 x0 x1 x2 x3 r x
  · refine (ldg arg11 harg11 x9 2048 _ x q (by omega)).trans (congrArg (fun a => x9 (ix2 x a)) (Fin.ext ?_))
    show 2048 + q.val = 2048 + (0 + q.val)
    omega
  · exact r12_at c arg10 harg10 arg15 harg15 arg16 harg16 x8 x13 x14 r x
  · exact ldb arg17 harg17 x15 0 _ x q (by omega)

set_option maxHeartbeats 1000000 in
theorem half1 (inb11 inb14 inb11b inb17) (r : Fin 256) (q : Fin 1024) :
    k0_pay26 (F := Ideal) (kernelRun0_A.sl.r_1 (F := Ideal) c i arg2 harg2 arg3 harg3 arg4 harg4 arg5 harg5 x0 x1 x2 x3) (kernelRun0_A.sl.r_12 (F := Ideal) c arg10 harg10 arg15 harg15 arg16 harg16 x8 x13 x14) (kernelRun0_A.sl.v271 (F := Ideal) c i arg7 harg7 arg8 harg8 arg9 harg9 arg12 harg12 arg13 harg13 arg21 arg22 x5 x6 x7 x10 x11) (View.readAt (Elt Ideal) arg11.view (Rect.unit (s := S2048x4096) ![0, 1024] S2048x1024.size inb11).toLoadRect (harg11.unread x9)) (View.readAt (Elt Ideal) arg14.view (Rect.unit (s := S1024x2048) ![0, 1024] S1024x1024.size inb14).toLoadRect (harg14.unread x12)) (View.readAt (Elt Ideal) arg11.view (Rect.unit (s := S2048x4096) ![0, 3072] S2048x1024.size inb11b).toLoadRect (harg11.unread x9)) (View.readAt (Elt Ideal) arg17.view (Rect.unit (s := S512x2048) ![0, 1024] S512x1024.size inb17).toLoadRect (harg17.unread x15)) (ix2 r q) = mT i x0 x1 x2 x3 x5 x6 x7 x8 x9 x10 x11 x12 x13 x14 x15 r ⟨1024 + q.val, by omega⟩ := by
  refine (pay26_at _ _ _ _ _ _ _ r q).trans ?_
  unfold mT merge
  refine congrArg₂ (· + ·) (congrArg₂ (· * ·) (congrArg Ideal.logistic (Finset.sum_congr rfl fun x _ => congrArg₂ (· * ·) ?_ ?_)) (Finset.sum_congr rfl fun x _ => congrArg₂ (· * ·) ?_ ?_))
    (congrArg₂ (· * ·) (congrArg Ideal.logistic (Finset.sum_congr rfl fun x _ => congrArg₂ (· * ·) ?_ ?_)) (Finset.sum_congr rfl fun x _ => congrArg₂ (· * ·) ?_ ?_))
  · exact r1_at c i arg2 harg2 arg3 harg3 arg4 harg4 arg5 harg5 x0 x1 x2 x3 r x
  · exact ldg arg11 harg11 x9 1024 _ x q (by omega)
  · exact congrFun (v271_eq c i arg7 harg7 arg8 harg8 arg9 harg9 arg12 harg12 arg13 harg13 arg21 arg22 x5 x6 x7 x10 x11) (ix2 r x)
  · exact lda arg14 harg14 x12 1024 _ x q (by omega)
  · exact r1_at c i arg2 harg2 arg3 harg3 arg4 harg4 arg5 harg5 x0 x1 x2 x3 r x
  · refine (ldg arg11 harg11 x9 3072 _ x q (by omega)).trans (congrArg (fun a => x9 (ix2 x a)) (Fin.ext ?_))
    show 3072 + q.val = 2048 + (1024 + q.val)
    omega
  · exact r12_at c arg10 harg10 arg15 harg15 arg16 harg16 x8 x13 x14 r x
  · exact ldb arg17 harg17 x15 1024 _ x q (by omega)

theorem HS2_good : ∀ p ∈ kernelRun0_A.sl.HS2_2 (F := Ideal) c i arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 x0 x1 x2 x3 x5 x6 x7 x8 x9 x10 x11 x12 x13 x14 x15, MergeGood i x0 x1 x2 x3 x5 x6 x7 x8 x9 x10 x11 x12 x13 x14 x15 p := by
  unfold kernelRun0_A.sl.HS2_2
  refine List.forall_mem_cons.2 ⟨merge_piece i x0 x1 x2 x3 x5 x6 x7 x8 x9 x10 x11 x12 x13 x14 x15 1024 (by omega) _ _ fun r q => ?_, List.forall_mem_cons.2 ⟨merge_piece i x0 x1 x2 x3 x5 x6 x7 x8 x9 x10 x11 x12 x13 x14 x15 0 (by omega) _ _ fun r q => ?_, List.forall_mem_nil _⟩⟩
  · apply half1
  · apply half0

theorem HS2_cover (y : S256x2048.Idx) : ∃ p ∈ kernelRun0_A.sl.HS2_2 (F := Ideal) c i arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 x0 x1 x2 x3 x5 x6 x7 x8 x9 x10 x11 x12 x13 x14 x15, y ∈ p.1.set :=
  View.cover_of_tiledL (kernelRun0_A.sl.HS2_2 (F := Ideal) c i arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 x0 x1 x2 x3 x5 x6 x7 x8 x9 x10 x11 x12 x13 x14 x15) S256x1024.size (by sl_kernel_rfl) y

theorem v316_eq : kernelRun0_A.sl.v316 (F := Ideal) c i arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 arg23 x0 x1 x2 x3 x5 x6 x7 x8 x9 x10 x11 x12 x13 x14 x15 = mF i x0 x1 x2 x3 x5 x6 x7 x8 x9 x10 x11 x12 x13 x14 x15 := by
  unfold kernelRun0_A.sl.v316
  rw [View.readCov_eq_canon']
  funext y
  refine (View.canon_apply_of_pieces (mF i x0 x1 x2 x3 x5 x6 x7 x8 x9 x10 x11 x12 x13 x14 x15) _ (HS2_good c i arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 x0 x1 x2 x3 x5 x6 x7 x8 x9 x10 x11 x12 x13 x14 x15) _ (HS2_cover c i arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 x0 x1 x2 x3 x5 x6 x7 x8 x9 x10 x11 x12 x13 x14 x15 _)).trans ?_
  refine congrArg _ ?_
  funext a
  refine Fin.ext ((Rect.idx_unit_val _ _ _ _ a).trans ?_)
  fin_cases a <;> simp

theorem ldm (n : Fin 6) (o : ℕ) (ho : o = n.val) (inb) (q : Fin 2048) :
    (View.readAt (Elt Ideal) arg4.view (Rect.unit (s := S1x6x2048) ![0, o, 0] S1x1x2048.size inb).toLoadRect (harg4.unread x2) : FVec Ideal S1x1x2048 .f32) (ix3 0 0 q) = x2 (ix3 0 n q) := by
  subst ho
  rw [View.readAt_eq_ld, harg4.read_unread]
  refine View.ld_unit_apply_of (Val := Elt Ideal) (e := .f32) (S := S1x6x2048) x2 _ _ inb _ _ fun a => ?_
  fin_cases a <;> simp [ix3]

theorem ldo (inb) (x q : Fin 2048) :
    (View.readAt (Elt Ideal) arg18.view (Rect.unit (s := S2048x2048) ![0, 0] S2048x2048.size inb).toLoadRect (harg18.unread x16) : FVec Ideal S2048x2048 .bf16) (ix2 x q) = x16 (ix2 x q) := by
  rw [View.readAt_eq_ld, harg18.read_unread]
  refine View.ld_unit_apply_of (Val := Elt Ideal) (e := .bf16) (S := S2048x2048) x16 _ _ inb _ _ fun a => ?_
  fin_cases a <;> simp [ix2]

theorem ldn (inb) (q : Fin 2048) :
    (View.readAt (Elt Ideal) arg6.view (Rect.unit (s := S1x2048) ![0, 0] S1x2048.size inb).toLoadRect (harg6.unread x4) : FVec Ideal S1x2048 .f32) (ix2 0 q) = x4 (ix2 0 q) := by
  rw [View.readAt_eq_ld, harg6.read_unread]
  refine View.ld_unit_apply_of (Val := Elt Ideal) (e := .f32) (S := S1x2048) x4 _ _ inb _ _ fun a => ?_
  fin_cases a <;> simp [ix2]

theorem res_at (inb4) (inb) (r : Fin 256) (d : Fin 2048) :
    resid (fun j => kernelRun0_A.sl.r (F := Ideal) c i arg2 harg2 arg3 harg3 x0 x1 (ix2 r j))
      (fun j => (View.readAt (Elt Ideal) arg4.view (Rect.unit (s := S1x6x2048) ![0, 2, 0] S1x1x2048.size inb4).toLoadRect (harg4.unread x2) : FVec Ideal S1x1x2048 .f32) (ix3 0 0 j))
      (fun j => kernelRun0_A.sl.v316 (F := Ideal) c i arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 arg23 x0 x1 x2 x3 x5 x6 x7 x8 x9 x10 x11 x12 x13 x14 x15 (ix2 r j))
      (fun i j => (View.readAt (Elt Ideal) arg18.view (Rect.unit (s := S2048x2048) ![0, 0] S2048x2048.size inb).toLoadRect (harg18.unread x16) : FVec Ideal S2048x2048 .bf16) (ix2 i j)) d
      = rT i x0 x1 x2 x3 x5 x6 x7 x8 x9 x10 x11 x12 x13 x14 x15 x16 r d := by
  rw [v316_eq]
  simp only [r_at, ldm arg4 harg4 x2 2 2 rfl, ldo arg18 harg18 x16]
  rfl

set_option maxHeartbeats 1000000 in
theorem out17_at (r : Fin 256) (d : Fin 2048) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 (ix3 0 r d) = rT i x0 x1 x2 x3 x5 x6 x7 x8 x9 x10 x11 x12 x13 x14 x15 x16 r d := by
  unfold out0_A_17
  rw [View.read_writes_junk_eq_canon]
  unfold kernelRun0_A
  dsimp only
  rw [View.canon_unit_zero (funext fun a => by fin_cases a <;> rfl)]
  unfold kernelRun0_A.sl.r_15
  refine (pay29_at _ _ _ _ r d).trans ?_
  apply res_at

set_option maxHeartbeats 1000000 in
theorem out18_at (r : Fin 256) (d : Fin 2048) : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 (ix3 0 r d) = nT i x0 x1 x2 x3 x4 x5 x6 x7 x8 x9 x10 x11 x12 x13 x14 x15 x16 r d := by
  unfold out0_A_18
  rw [View.read_writes_junk_eq_canon]
  unfold kernelRun0_A
  dsimp only
  rw [View.canon_unit_zero (funext fun a => by fin_cases a <;> rfl)]
  unfold kernelRun0_A.sl.r_16 kernelRun0_A.sl.r_15
  refine (pay30_at _ _ _ _ _ _ _ r d).trans ?_
  simp only [res_at, ldm arg4 harg4 x2 4 4 rfl, ldm arg4 harg4 x2 3 3 rfl, ldn arg6 harg6 x4]
  rfl

end Point

end Cert.Kernel3Ideal.Mix

end
-- ==== Proof.MixRef.lean ====
/- The mixing's reference read at an index. -/
module

public import proofs.«01_k».proof.Proof.MixDef
public import Idealize.ShloMosaic.Lib.KernelVsHost
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem

namespace Cert.Reference3Ideal.MixRef

open Cert.Reference3Ideal Cert.Reference3Ideal.Gen Cert.Reference3Ideal.Read Cert.Mix

variable (x0 : FVec Ideal S2x4096x2048 .f32) (x1 : FVec Ideal S8x4096x2048 .f32) (x2 : FVec Ideal S16x6x2048 .f32) (x3 : FVec Ideal S1x2048 .f32) (x4 : FVec Ideal S1x2048 .f32) (x5 : FVec Ideal S10x4096x1024 .f32) (x6 : FVec Ideal S10x4096x512 .f32) (x7 : FVec Ideal S1x2048x5632 .f32) (x8 : FVec Ideal S1x4x256x256 .f32) (x9 : FVec Ideal S1x1024 .f32) (x10 : FVec Ideal S1x1024x2048 .f32) (x11 : FVec Ideal S1x512x512 .f32) (x12 : FVec Ideal S1x512 .f32) (x13 : FVec Ideal S1x512x2048 .f32) (x14 : FVec Ideal S1x2048x2048 .f32)

theorem v0_at (b : Fin 10) (l : Fin 4096) (j : Fin 2048) : val_main_v0 (F := Ideal) x0 x1 (ix3 b l j)
    = if h : b.val < 2 then x0 (ix3 ⟨b.val, h⟩ l j) else x1 (ix3 ⟨b.val - 2, by omega⟩ l j) := by
  unfold val_main_v0
  pointwise

theorem v35_at (b : Fin 10) (l : Fin 4096) (k : Fin 2048) : val_main_v35 (F := Ideal) x0 x1 x2 x3 (ix3 b l k)
    = ada (fun j => val_main_v0 (F := Ideal) x0 x1 (ix3 b l j)) (fun j => x3 (ix2 0 j)) (fun j => x2 (ix3 ⟨b.val, by omega⟩ 1 j)) (fun j => x2 (ix3 ⟨b.val, by omega⟩ 0 j)) k := by
  unfold val_main_v35 val_main_v34 val_main_v33 val_main_v32 val_main_v31 val_main_v30 val_main_cst_2 val_main_v29 val_main_v28 val_main_v27 val_main_v26 val_main_v25 val_main_v24 val_main_v23 val_main_v22 val_main_v21 val_main_cst_1 val_main_v20 val_main_v19 val_main_cst_0 val_main_v18 val_main_v17 val_main_cst val_main_v16 val_main_v6 val_main_v5 val_main_v4 val_main_v3 val_main_v2 val_main_v1
  generalize val_main_v0 (F := Ideal) x0 x1 = y0
  pointwise
  rfl

theorem v38_at (b : Fin 10) (l : Fin 4096) (k : Fin 4096) : val_main_v38 (F := Ideal) x0 x1 x2 x3 x7 (ix3 b l k)
    = ∑ x, val_main_v35 (F := Ideal) x0 x1 x2 x3 (ix3 b l x) * x7 (ix3 0 x ⟨1536 + k.val, by omega⟩) := by
  unfold val_main_v38 val_main_v37 val_main_v36
  generalize val_main_v35 (F := Ideal) x0 x1 x2 x3 = y0
  pointwise

theorem v40_at (b : Fin 10) (q : Fin 4112) (k : Fin 1024) : val_main_v40 (F := Ideal) x5 (ix3 b q k) = padded (fun l => x5 (ix3 b l k)) q.val := by
  unfold val_main_v40 padded
  by_cases h : 8 ≤ q.val ∧ q.val < 4104
  · rw [dif_pos h]
    refine pad_apply_of_inside _ _ _ _ _ _ _ _ (ix3 b ⟨q.val - 8, by omega⟩ k) fun a => ?_
    fin_cases a <;> dsimp [ix3] <;> simp <;> omega
  · rw [dif_neg h]
    refine (pad_apply_of_not_inside _ _ _ _ _ _ _ _ (1 : Fin 3) ?_).trans ?_
    · intro e
      apply h
      have e1 := e.1
      have e2 := e.2.2
      simp [ix3] at e1 e2
      omega
    · pointwise
      unfold val_main_call0_v0 val_main_c
      show (((0#32 : BitVec 32).toInt : ℝ) : EReal) = 0
      norm_num

theorem v60_at (b : Fin 10) (l : Fin 4096) (k : Fin 256) : val_main_v60 (F := Ideal) x5 (ix3 b l k)
    = dev 1 (fun l => x5 (ix3 b l ⟨0 + k.val, by omega⟩)) l := by
  have hp := v40_at x5
  unfold val_main_v60 val_main_v59 val_main_v58 val_main_v57 val_main_v56 val_main_v55 val_main_v54 val_main_v53 val_main_c_7 val_main_v52 val_main_v51 val_main_v50 val_main_v49 val_main_v48 val_main_v47 val_main_c_6 val_main_v46 val_main_v45 val_main_c_5 val_main_v44 val_main_v43 val_main_c_4 val_main_v42 val_main_v41 val_main_c_3 val_main_v39
  generalize val_main_v40 (F := Ideal) x5 = y at hp ⊢
  pointwise
  simp only [hp]
  unfold dev
  rw [show l.val + 8 - 1 = l.val + 7 from by omega]
  simp only [wsum, Nat.add_assoc, Nat.reduceAdd, Nat.reduceMul, Nat.reduceSub]
  simp only [Nat.add_comm _ l.val]
  rfl

theorem v63_at (b : Fin 10) (l : Fin 4096) (k : Fin 256) : val_main_v63 (F := Ideal) x5 x8 (ix3 b l k)
    = ∑ x : Fin 256, val_main_v60 (F := Ideal) x5 (ix3 b l x) * x8 (ix4 0 0 x k) := by
  unfold val_main_v63 val_main_v62 val_main_v61
  generalize val_main_v60 (F := Ideal) x5 = y0
  pointwise

theorem v87_at (b : Fin 10) (l : Fin 4096) (k : Fin 256) : val_main_v87 (F := Ideal) x5 (ix3 b l k)
    = dev 2 (fun l => x5 (ix3 b l ⟨256 + k.val, by omega⟩)) l := by
  have hp := v40_at x5
  unfold val_main_v87 val_main_v86 val_main_v85 val_main_v84 val_main_v83 val_main_v82 val_main_v81 val_main_v80 val_main_c_12 val_main_v79 val_main_v78 val_main_v77 val_main_v76 val_main_v75 val_main_v74 val_main_v73 val_main_v72 val_main_v71 val_main_v70 val_main_c_11 val_main_v69 val_main_v68 val_main_c_10 val_main_v67 val_main_v66 val_main_c_9 val_main_v65 val_main_v64 val_main_c_8 val_main_v39
  generalize val_main_v40 (F := Ideal) x5 = y at hp ⊢
  pointwise
  simp only [hp]
  unfold dev
  rw [show l.val + 8 - 2 = l.val + 6 from by omega]
  simp only [wsum, Nat.add_assoc, Nat.reduceAdd, Nat.reduceMul, Nat.reduceSub]
  simp only [Nat.add_comm _ l.val]
  rfl

theorem v90_at (b : Fin 10) (l : Fin 4096) (k : Fin 256) : val_main_v90 (F := Ideal) x5 x8 (ix3 b l k)
    = ∑ x : Fin 256, val_main_v87 (F := Ideal) x5 (ix3 b l x) * x8 (ix4 0 1 x k) := by
  unfold val_main_v90 val_main_v89 val_main_v88
  generalize val_main_v87 (F := Ideal) x5 = y0
  pointwise

theorem v122_at (b : Fin 10) (l : Fin 4096) (k : Fin 256) : val_main_v122 (F := Ideal) x5 (ix3 b l k)
    = dev 4 (fun l => x5 (ix3 b l ⟨512 + k.val, by omega⟩)) l := by
  have hp := v40_at x5
  unfold val_main_v122 val_main_v121 val_main_v120 val_main_v119 val_main_v118 val_main_v117 val_main_v116 val_main_v115 val_main_c_17 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_c_16 val_main_v96 val_main_v95 val_main_c_15 val_main_v94 val_main_v93 val_main_c_14 val_main_v92 val_main_v91 val_main_c_13 val_main_v39
  generalize val_main_v40 (F := Ideal) x5 = y at hp ⊢
  pointwise
  simp only [hp]
  unfold dev
  rw [show l.val + 8 - 4 = l.val + 4 from by omega]
  simp only [wsum, Nat.add_assoc, Nat.reduceAdd, Nat.reduceMul, Nat.reduceSub]
  simp only [Nat.add_comm _ l.val]
  rfl

theorem v125_at (b : Fin 10) (l : Fin 4096) (k : Fin 256) : val_main_v125 (F := Ideal) x5 x8 (ix3 b l k)
    = ∑ x : Fin 256, val_main_v122 (F := Ideal) x5 (ix3 b l x) * x8 (ix4 0 2 x k) := by
  unfold val_main_v125 val_main_v124 val_main_v123
  generalize val_main_v122 (F := Ideal) x5 = y0
  pointwise

theorem v173_at (b : Fin 10) (l : Fin 4096) (k : Fin 256) : val_main_v173 (F := Ideal) x5 (ix3 b l k)
    = dev 8 (fun l => x5 (ix3 b l ⟨768 + k.val, by omega⟩)) l := by
  have hp := v40_at x5
  unfold val_main_v173 val_main_v172 val_main_v171 val_main_v170 val_main_v169 val_main_v168 val_main_v167 val_main_v166 val_main_c_22 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_c_21 val_main_v131 val_main_v130 val_main_c_20 val_main_v129 val_main_v128 val_main_c_19 val_main_v127 val_main_v126 val_main_c_18 val_main_v39
  generalize val_main_v40 (F := Ideal) x5 = y at hp ⊢
  pointwise
  simp only [hp]
  unfold dev
  rw [show l.val + 8 - 8 = l.val + 0 from by omega]
  simp only [wsum, Nat.add_assoc, Nat.reduceAdd, Nat.reduceMul, Nat.reduceSub]
  simp only [Nat.add_comm _ l.val]
  rfl

theorem v176_at (b : Fin 10) (l : Fin 4096) (k : Fin 256) : val_main_v176 (F := Ideal) x5 x8 (ix3 b l k)
    = ∑ x : Fin 256, val_main_v173 (F := Ideal) x5 (ix3 b l x) * x8 (ix4 0 3 x k) := by
  unfold val_main_v176 val_main_v175 val_main_v174
  generalize val_main_v173 (F := Ideal) x5 = y0
  pointwise

theorem v194_at (b : Fin 10) (l : Fin 4096) (k : Fin 512) : val_main_v194 (F := Ideal) x6 (ix3 b l k)
    = gelu (x6 (ix3 b l k)) := by
  unfold val_main_v194 val_main_v193 val_main_v192 val_main_cst_26 val_main_v191 val_main_v190 val_main_cst_25 val_main_v189 val_main_v188 val_main_v187 val_main_cst_24 val_main_v186 val_main_v185 val_main_v184 val_main_cst_23 val_main_v183 val_main_v182
  pointwise
  rfl

theorem v207_at (b : Fin 10) (l : Fin 4096) (k : Fin 512) : val_main_v207 (F := Ideal) x6 x11 x12 (ix3 b l k)
    = glu (fun j => x6 (ix3 b l j)) (fun i j => x11 (ix3 0 i j)) (fun j => x12 (ix2 0 j)) k := by
  unfold val_main_v207 val_main_v206 val_main_v205 val_main_cst_28 val_main_v204 val_main_v203 val_main_cst_27 val_main_v202 val_main_v201 val_main_v200 val_main_v199 val_main_v198 val_main_v197 val_main_v196 val_main_v195
  have hg := v194_at x6
  generalize val_main_v194 (F := Ideal) x6 = y0 at hg ⊢
  pointwise
  unfold glu
  simp only [hg]
  rfl

theorem v177_at (b : Fin 10) (l : Fin 4096) (k : Fin 1024) : val_main_v177 (F := Ideal) x5 x8 (ix3 b l k)
    = ∑ x : Fin 256, dev (2 ^ (k.val / 256)) (fun l => x5 (ix3 b l ⟨k.val / 256 * 256 + x.val, by omega⟩)) l * x8 (ix4 0 ⟨k.val / 256, by omega⟩ x ⟨k.val % 256, by omega⟩) := by
  have h0 := v63_at x5 x8
  have h1 := v90_at x5 x8
  have h2 := v125_at x5 x8
  have h3 := v176_at x5 x8
  simp only [v60_at, v87_at, v122_at, v173_at] at h0 h1 h2 h3
  unfold val_main_v177
  generalize val_main_v63 (F := Ideal) x5 x8 = y0 at h0 ⊢
  generalize val_main_v90 (F := Ideal) x5 x8 = y1 at h1 ⊢
  generalize val_main_v125 (F := Ideal) x5 x8 = y2 at h2 ⊢
  generalize val_main_v176 (F := Ideal) x5 x8 = y3 at h3 ⊢
  obtain ⟨g, q, rfl⟩ : ∃ (g : Fin 4) (q : Fin 256), k = ⟨g.val * 256 + q.val, by omega⟩ := ⟨⟨k.val / 256, by omega⟩, ⟨k.val % 256, by omega⟩, Fin.ext (by show k.val = k.val / 256 * 256 + k.val % 256; omega)⟩
  have e1 : (g.val * 256 + q.val) / 256 = g.val := by omega
  have e2 : (g.val * 256 + q.val) % 256 = q.val := by omega
  simp only [e1, e2]
  fin_cases g
  · refine Eq.trans ?_ (h0 b l q)
    pointwise
  · refine Eq.trans ?_ (h1 b l q)
    pointwise
  · refine Eq.trans ?_ (h2 b l q)
    pointwise
    rw [dif_neg (by omega), dif_neg (by omega), dif_pos (by omega)]
    exact congrArg (fun k => y2 (ix3 b l k)) (Fin.ext (by show 512 + q.val - 256 - 256 = q.val; omega))
  · refine Eq.trans ?_ (h3 b l q)
    pointwise
    rw [dif_neg (by omega), dif_neg (by omega), dif_neg (by omega)]
    exact congrArg (fun k => y3 (ix3 b l k)) (Fin.ext (by show 768 + q.val - 256 - 256 - 256 = q.val; omega))

theorem v181_at (b : Fin 10) (l : Fin 4096) (k : Fin 1024) : val_main_v181 (F := Ideal) x5 x8 x9 (ix3 b l k)
    = pool (fun l k => x5 (ix3 b l k)) (fun g x q => x8 (ix4 0 g x q)) (fun k => x9 (ix2 0 k)) l k := by
  have h := v177_at x5 x8
  unfold val_main_v181 val_main_v180 val_main_v179 val_main_v178
  generalize val_main_v177 (F := Ideal) x5 x8 = y at h ⊢
  pointwise
  rw [h]
  rfl

theorem v228_at (b : Fin 10) (l : Fin 4096) (k : Fin 2048) : val_main_v228 (F := Ideal) x0 x1 x2 x3 x5 x6 x7 x8 x9 x10 x11 x12 x13 (ix3 b l k)
    = merge (fun j => val_main_v35 (F := Ideal) x0 x1 x2 x3 (ix3 b l j)) (fun j => val_main_v181 (F := Ideal) x5 x8 x9 (ix3 b l j)) (fun j => val_main_v207 (F := Ideal) x6 x11 x12 (ix3 b l j)) (fun i j => x7 (ix3 0 i ⟨1536 + j.val, by omega⟩)) (fun i j => x10 (ix3 0 i j)) (fun i j => x13 (ix3 0 i j)) k := by
  have h := v38_at x0 x1 x2 x3 x7
  unfold val_main_v228 val_main_v227 val_main_v226 val_main_v225 val_main_v224 val_main_v223 val_main_cst_32 val_main_v222 val_main_v221 val_main_cst_31 val_main_v220 val_main_v219 val_main_v218 val_main_v217 val_main_v216 val_main_v215 val_main_v214 val_main_v213 val_main_cst_30 val_main_v212 val_main_v211 val_main_cst_29 val_main_v210 val_main_v209 val_main_v208
  generalize val_main_v38 (F := Ideal) x0 x1 x2 x3 x7 = y0 at h ⊢
  generalize val_main_v181 (F := Ideal) x5 x8 x9 = y1
  generalize val_main_v207 (F := Ideal) x6 x11 x12 = y2
  pointwise
  simp only [h]
  rfl

theorem v233_at (b : Fin 10) (l : Fin 4096) (k : Fin 2048) : val_main_v233 (F := Ideal) x0 x1 x2 x3 x5 x6 x7 x8 x9 x10 x11 x12 x13 x14 (ix3 b l k)
    = resid (fun j => val_main_v0 (F := Ideal) x0 x1 (ix3 b l j)) (fun j => x2 (ix3 ⟨b.val, by omega⟩ 2 j)) (fun j => val_main_v228 (F := Ideal) x0 x1 x2 x3 x5 x6 x7 x8 x9 x10 x11 x12 x13 (ix3 b l j)) (fun i j => x14 (ix3 0 i j)) k := by
  unfold val_main_v233 val_main_v232 val_main_v231 val_main_v230 val_main_v229 val_main_v9 val_main_v8 val_main_v7
  generalize val_main_v228 (F := Ideal) x0 x1 x2 x3 x5 x6 x7 x8 x9 x10 x11 x12 x13 = y0
  generalize val_main_v0 (F := Ideal) x0 x1 = y1
  pointwise
  rfl

theorem v254_at (b : Fin 10) (l : Fin 4096) (k : Fin 2048) : val_main_v254 (F := Ideal) x0 x1 x2 x3 x4 x5 x6 x7 x8 x9 x10 x11 x12 x13 x14 (ix3 b l k)
    = ada (fun j => val_main_v233 (F := Ideal) x0 x1 x2 x3 x5 x6 x7 x8 x9 x10 x11 x12 x13 x14 (ix3 b l j)) (fun j => x4 (ix2 0 j)) (fun j => x2 (ix3 ⟨b.val, by omega⟩ 4 j)) (fun j => x2 (ix3 ⟨b.val, by omega⟩ 3 j)) k := by
  unfold val_main_v254 val_main_v253 val_main_v252 val_main_v251 val_main_v250 val_main_v249 val_main_v248 val_main_cst_36 val_main_v247 val_main_v246 val_main_v245 val_main_v244 val_main_v243 val_main_v242 val_main_v241 val_main_v240 val_main_v239 val_main_cst_35 val_main_v238 val_main_v237 val_main_cst_34 val_main_v236 val_main_v235 val_main_cst_33 val_main_v234 val_main_v15 val_main_v14 val_main_v13 val_main_v12 val_main_v11 val_main_v10
  generalize val_main_v233 (F := Ideal) x0 x1 x2 x3 x5 x6 x7 x8 x9 x10 x11 x12 x13 x14 = y0
  pointwise
  rfl

end Cert.Reference3Ideal.MixRef

end
-- ==== Proof.MixArr.lean ====
/- The mixing's blocks of the operands, and its two results against the reference's. -/
module

public import proofs.«01_k».proof.Proof.Gen.Kernel3Ideal.Value
public import proofs.«01_k».proof.Proof.MixOut
public import proofs.«01_k».proof.Proof.MixRef
public import Idealize.ShloMosaic.Lib.StableHlo.RunRead
public import Idealize.ShloMosaic.Lib.Pipeline.ValueKit.Tiles
public import Idealize.ShloMosaic.Lib.Pipeline.ValueKit.Point

@[expose] public section

set_option maxRecDepth 16384

noncomputable section

open Idealize.ShloMosaic Idealize.ShloMosaic.TcCoe Idealize.SL.Sem

namespace Cert.Kernel3Ideal.Mix

open Cert.Kernel3Ideal Cert.Kernel3Ideal.Gen Cert.Kernel3Ideal.Value Cert.Mix Cert.Reference3Ideal.Read Cert.Reference3Ideal.MixRef

section Blocks

variable (m : (ℓ : Loc nD τ sig) → Buf (Elt Ideal) ℓ) (c : Dev nD)

/-- Argument 0. -/
abbrev A0 : FVec Ideal S2x4096x2048 .f32 := m ((c : Thread nD τ).loc main_arg0)
/-- Argument 1. -/
abbrev A1 : FVec Ideal S8x4096x2048 .f32 := m ((c : Thread nD τ).loc main_arg1)
/-- Argument 2. -/
abbrev A2 : FVec Ideal S16x6x2048 .f32 := m ((c : Thread nD τ).loc main_arg2)
/-- Argument 3. -/
abbrev A3 : FVec Ideal S1x2048 .f32 := m ((c : Thread nD τ).loc main_arg3)
/-- Argument 4. -/
abbrev A4 : FVec Ideal S1x2048 .f32 := m ((c : Thread nD τ).loc main_arg4)
/-- Argument 5. -/
abbrev A5 : FVec Ideal S10x4096x1024 .f32 := m ((c : Thread nD τ).loc main_arg5)
/-- Argument 6. -/
abbrev A6 : FVec Ideal S10x4096x512 .f32 := m ((c : Thread nD τ).loc main_arg6)
/-- Argument 7. -/
abbrev A7 : FVec Ideal S1x2048x5632 .f32 := m ((c : Thread nD τ).loc main_arg7)
/-- Argument 8. -/
abbrev A8 : FVec Ideal S1x4x256x256 .f32 := m ((c : Thread nD τ).loc main_arg8)
/-- Argument 9. -/
abbrev A9 : FVec Ideal S1x1024 .f32 := m ((c : Thread nD τ).loc main_arg9)
/-- Argument 10. -/
abbrev A10 : FVec Ideal S1x1024x2048 .f32 := m ((c : Thread nD τ).loc main_arg10)
/-- Argument 11. -/
abbrev A11 : FVec Ideal S1x512x512 .f32 := m ((c : Thread nD τ).loc main_arg11)
/-- Argument 12. -/
abbrev A12 : FVec Ideal S1x512 .f32 := m ((c : Thread nD τ).loc main_arg12)
/-- Argument 13. -/
abbrev A13 : FVec Ideal S1x512x2048 .f32 := m ((c : Thread nD τ).loc main_arg13)
/-- Argument 14. -/
abbrev A14 : FVec Ideal S1x2048x2048 .f32 := m ((c : Thread nD τ).loc main_arg14)

theorem idx0 : ∀ t : Fin cfg0.N, t.val / 16 < 2 → win0_0.index t = ![t.val / 16, t.val % 16, 0] := (by decide +kernel : ∀ t : Fin grid0.N, _)
theorem idx1 : ∀ t : Fin cfg0.N, ¬ t.val / 16 < 2 → win0_1.index t = ![t.val / 16 - 2, t.val % 16, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 16, t.val % 16, 0] := (by decide +kernel : ∀ t : Fin grid0.N, _)
theorem idx6 : ∀ t : Fin cfg0.N, t.val % 16 ≠ 0 → win0_6.index t = ![t.val / 16, t.val % 16 * 16 - 1, 0] := (by decide +kernel : ∀ t : Fin grid0.N, _)
theorem idx7 : ∀ t : Fin cfg0.N, t.val % 16 ≠ 15 → win0_7.index t = ![t.val / 16, (t.val % 16 + 1) * 16, 0] := (by decide +kernel : ∀ t : Fin grid0.N, _)
theorem idx8 : ∀ t : Fin cfg0.N, win0_8.index t = ![t.val / 16, 0, t.val % 16, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![t.val / 16, t.val % 16, 0] := (by decide +kernel : ∀ t : Fin grid0.N, _)
theorem idx18 : ∀ t : Fin cfg0.N, win0_18.index t = ![t.val / 16, t.val % 16, 0] := (by decide +kernel : ∀ t : Fin grid0.N, _)
theorem sel : ∀ t : Fin cfg0.N, Scalar.cmpi .slt (BitVec.ofNat 32 (grid0.coords t 0).val) 2#32 = if t.val / 16 < 2 then 1#1 else 0#1 := (by decide +kernel : ∀ t : Fin grid0.N, _)
theorem tile : ∀ t : Fin cfg0.N, (grid0.coords t 1).val = t.val % 16 := (by decide +kernel : ∀ t : Fin grid0.N, _)
theorem first : ∀ t : Fin cfg0.N, kernelRun0_A.sl.v30 (grid0.coords t) = if t.val % 16 = 0 then 1#1 else 0#1 := (by decide +kernel : ∀ t : Fin grid0.N, _)
theorem last : ∀ t : Fin cfg0.N, kernelRun0_A.sl.v31 (grid0.coords t) = if t.val % 16 = 15 then 1#1 else 0#1 := (by decide +kernel : ∀ t : Fin grid0.N, _)
theorem flush17 : ∀ t : Fin cfg0.N, (cfg0.win 17).flush t = true := (by decide +kernel : ∀ t : Fin grid0.N, win0_17.flush t = true)
theorem flush18 : ∀ t : Fin cfg0.N, (cfg0.win 18).flush t = true := (by decide +kernel : ∀ t : Fin grid0.N, win0_18.flush t = true)

theorem lt160 (t : Fin cfg0.N) : t.val < 160 := lt_of_lt_of_eq t.isLt (show cfg0.N = 160 from N_0)

/-! ## What the host leaves -/

theorem V_v3 (b : Fin 10) (s : Fin 32) (l : Fin 128) (k : Fin 512) : (Gen.V m c main_v3 : FVec Ideal S10x32x128x512 .f32) (ix4 b s l k) = A6 m c (ix3 b ⟨l.val * 32 + s.val, by omega⟩ k) := by
  unfold Gen.V
  after_reads_simp
  pointwise

theorem V_v4 (b : Fin 10) (l : Fin 4096) (k : Fin 1024) : (Gen.V m c main_v4 : FVec Ideal S10x4096x1024 .bf16) (ix3 b l k) = A5 m c (ix3 b l k) := by
  unfold Gen.V
  after_reads_simp
  pointwise

theorem V_v5 (x : Fin 2048) (k : Fin 4096) : (Gen.V m c main_v5 : FVec Ideal S2048x4096 .bf16) (ix2 x k) = A7 m c (ix3 0 x ⟨1536 + k.val, by omega⟩) := by
  unfold Gen.V
  after_reads_simp
  pointwise

theorem V_v7 (g : Fin 4) (x k : Fin 256) : (Gen.V m c main_v7 : FVec Ideal S4x256x256 .bf16) (ix3 g x k) = A8 m c (ix4 0 g x k) := by
  unfold Gen.V
  after_reads_simp
  pointwise

theorem V_v9 (x : Fin 1024) (k : Fin 2048) : (Gen.V m c main_v9 : FVec Ideal S1024x2048 .bf16) (ix2 x k) = A10 m c (ix3 0 x k) := by
  unfold Gen.V
  after_reads_simp
  pointwise

theorem V_v11 (x k : Fin 512) : (Gen.V m c main_v11 : FVec Ideal S512x512 .bf16) (ix2 x k) = A11 m c (ix3 0 x k) := by
  unfold Gen.V
  after_reads_simp
  pointwise

theorem V_v13 (x : Fin 512) (k : Fin 2048) : (Gen.V m c main_v13 : FVec Ideal S512x2048 .bf16) (ix2 x k) = A13 m c (ix3 0 x k) := by
  unfold Gen.V
  after_reads_simp
  pointwise

theorem V_v15 (x k : Fin 2048) : (Gen.V m c main_v15 : FVec Ideal S2048x2048 .bf16) (ix2 x k) = A14 m c (ix3 0 x k) := by
  unfold Gen.V
  after_reads_simp
  pointwise

/-! ## The operands' blocks -/

theorem blk0 (t : Fin cfg0.N) (h : t.val / 16 < 2) (r : Fin 256) (j : Fin 2048) : iblk m c 0 t (ix3 0 r j) = A0 m c (ix3 ⟨t.val / 16, h⟩ ⟨t.val % 16 * 256 + r.val, by omega⟩ j) := by
  blk_ext [iblk, V_main_arg0, idx0 t h]

theorem blk1 (t : Fin cfg0.N) (h : ¬ t.val / 16 < 2) (r : Fin 256) (j : Fin 2048) : iblk m c 1 t (ix3 0 r j) = A1 m c (ix3 ⟨t.val / 16 - 2, by have := lt160 t; omega⟩ ⟨t.val % 16 * 256 + r.val, by omega⟩ j) := by
  blk_ext [iblk, V_main_arg1, idx1 t h]

theorem blk2 (t : Fin cfg0.N) (a : Fin 6) (k : Fin 2048) : iblk m c 2 t (ix3 0 a k) = A2 m c (ix3 ⟨t.val / 16, by have := lt160 t; omega⟩ a k) := by
  blk_ext [iblk, V_main_arg2, idx2 t]

theorem blk3 (t : Fin cfg0.N) (k : Fin 2048) : iblk m c 3 t (ix2 0 k) = A3 m c (ix2 0 k) := by
  blk_ext [iblk, V_main_arg3, idx3 t]

theorem blk4 (t : Fin cfg0.N) (k : Fin 2048) : iblk m c 4 t (ix2 0 k) = A4 m c (ix2 0 k) := by
  blk_ext [iblk, V_main_arg4, idx4 t]

theorem blk5 (t : Fin cfg0.N) (r : Fin 256) (k : Fin 1024) : iblk m c 5 t (ix3 0 r k) = A5 m c (ix3 ⟨t.val / 16, by have := lt160 t; omega⟩ ⟨t.val % 16 * 256 + r.val, by omega⟩ k) := by
  rw [← V_v4]
  blk_ext [iblk, idx5 t]

theorem blk6 (t : Fin cfg0.N) (h : t.val % 16 ≠ 0) (r : Fin 16) (k : Fin 1024) : iblk m c 6 t (ix3 0 r k) = A5 m c (ix3 ⟨t.val / 16, by have := lt160 t; omega⟩ ⟨(t.val % 16 * 16 - 1) * 16 + r.val, by omega⟩ k) := by
  rw [← V_v4]
  blk_ext [iblk, idx6 t h]

theorem blk7 (t : Fin cfg0.N) (h : t.val % 16 ≠ 15) (r : Fin 16) (k : Fin 1024) : iblk m c 7 t (ix3 0 r k) = A5 m c (ix3 ⟨t.val / 16, by have := lt160 t; omega⟩ ⟨(t.val % 16 + 1) * 16 * 16 + r.val, by omega⟩ k) := by
  rw [← V_v4]
  blk_ext [iblk, idx7 t h]

theorem blk8 (t : Fin cfg0.N) (s : Fin 32) (l : Fin 8) (k : Fin 512) : iblk m c 8 t (ix4 0 s l k) = A6 m c (ix3 ⟨t.val / 16, by have := lt160 t; omega⟩ ⟨(t.val % 16 * 8 + l.val) * 32 + s.val, by omega⟩ k) := by
  refine Eq.trans ?_ (V_v3 m c ⟨t.val / 16, by have := lt160 t; omega⟩ s ⟨t.val % 16 * 8 + l.val, by omega⟩ k)
  blk_ext [iblk, idx8 t]

theorem blk9 (t : Fin cfg0.N) (x : Fin 2048) (k : Fin 4096) : iblk m c 9 t (ix2 x k) = A7 m c (ix3 0 x ⟨1536 + k.val, by omega⟩) := by
  rw [← V_v5]
  blk_ext [iblk, idx9 t]

theorem blk10 (t : Fin cfg0.N) (g : Fin 4) (x k : Fin 256) : iblk m c 10 t (ix3 g x k) = A8 m c (ix4 0 g x k) := by
  rw [← V_v7]
  blk_ext [iblk, idx10 t]

theorem blk11 (t : Fin cfg0.N) (k : Fin 1024) : iblk m c 11 t (ix2 0 k) = A9 m c (ix2 0 k) := by
  blk_ext [iblk, V_main_arg9, idx11 t]

theorem blk12 (t : Fin cfg0.N) (x : Fin 1024) (k : Fin 2048) : iblk m c 12 t (ix2 x k) = A10 m c (ix3 0 x k) := by
  rw [← V_v9]
  blk_ext [iblk, idx12 t]

theorem blk13 (t : Fin cfg0.N) (x k : Fin 512) : iblk m c 13 t (ix2 x k) = A11 m c (ix3 0 x k) := by
  rw [← V_v11]
  blk_ext [iblk, idx13 t]

theorem blk14 (t : Fin cfg0.N) (k : Fin 512) : iblk m c 14 t (ix2 0 k) = A12 m c (ix2 0 k) := by
  blk_ext [iblk, V_main_arg12, idx14 t]

theorem blk15 (t : Fin cfg0.N) (x : Fin 512) (k : Fin 2048) : iblk m c 15 t (ix2 x k) = A13 m c (ix3 0 x k) := by
  rw [← V_v13]
  blk_ext [iblk, idx15 t]

theorem blk16 (t : Fin cfg0.N) (x k : Fin 2048) : iblk m c 16 t (ix2 x k) = A14 m c (ix3 0 x k) := by
  rw [← V_v15]
  blk_ext [iblk, idx16 t]

/-! ## The rows of a block -/

theorem wsum_congr (f g : ℕ → EReal) (a b : ℕ) : ∀ n : ℕ, (∀ i, i ≤ n → f (a + i) = g (b + i)) → wsum f a n = wsum g b n
  | 0, h => h 0 le_rfl
  | n + 1, h => congrArg₂ (· + ·) (wsum_congr f g a b n fun i hi => h i (Nat.le_succ_of_le hi)) (h (n + 1) le_rfl)

/-- The block with its sixteen rows before and after it is a stretch of the padded sequence. -/
theorem ext_blk (t : Fin cfg0.N) (e : ℕ) (h8 : 8 ≤ e) (h280 : e < 280) (k : Fin 1024) :
    ext (grid0.coords t) (iblk m c 5 t) (iblk m c 6 t) (iblk m c 7 t) e k = padded (fun l => A5 m c (ix3 ⟨t.val / 16, by have := lt160 t; omega⟩ l k)) (t.val % 16 * 256 + e - 8) := by
  have hN := lt160 t
  unfold ext padded
  rw [first t, last t]
  by_cases h1 : e < 16
  · rw [dif_pos h1]
    by_cases h0 : t.val % 16 = 0
    · rw [if_pos h0, dif_neg (by omega)]
      rfl
    · rw [if_neg h0, dif_pos (by omega)]
      refine (blk6 m c t h0 ⟨e, h1⟩ k).trans (congrArg (fun l => A5 m c (ix3 ⟨t.val / 16, by have := lt160 t; omega⟩ l k)) (Fin.ext ?_))
      show (t.val % 16 * 16 - 1) * 16 + e = t.val % 16 * 256 + e - 8 - 8
      omega
  · rw [dif_neg h1]
    by_cases h2 : e < 272
    · rw [dif_pos h2, dif_pos (by omega)]
      refine (blk5 m c t ⟨e - 16, by omega⟩ k).trans (congrArg (fun l => A5 m c (ix3 ⟨t.val / 16, by have := lt160 t; omega⟩ l k)) (Fin.ext ?_))
      show t.val % 16 * 256 + (e - 16) = t.val % 16 * 256 + e - 8 - 8
      omega
    · rw [dif_neg h2, dif_pos (by omega)]
      by_cases h0 : t.val % 16 = 15
      · rw [if_pos h0, dif_neg (by omega)]
        rfl
      · rw [if_neg h0, dif_pos (by omega)]
        refine (blk7 m c t h0 ⟨e - 272, by omega⟩ k).trans (congrArg (fun l => A5 m c (ix3 ⟨t.val / 16, by have := lt160 t; omega⟩ l k)) (Fin.ext ?_))
        show (t.val % 16 + 1) * 16 * 16 + (e - 272) = t.val % 16 * 256 + e - 8 - 8
        omega

theorem dev_blk (t : Fin cfg0.N) (g : Fin 4) (r : Fin 256) (k : Fin 1024) :
    wsum (fun e => ext (grid0.coords t) (iblk m c 5 t) (iblk m c 6 t) (iblk m c 7 t) e k) (r.val + 16 - 2 ^ g.val) (2 * 2 ^ g.val - 1)
        * Ideal.div 1 (num (cnt (BitVec.ofNat 32 (2 ^ g.val)) (BitVec.ofNat 32 (2 ^ g.val - 1)) (BitVec.ofNat 32 ((grid0.coords t 1).val * 256 + r.val))))
        - ext (grid0.coords t) (iblk m c 5 t) (iblk m c 6 t) (iblk m c 7 t) (r.val + 16) k
      = dev (2 ^ g.val) (fun l => A5 m c (ix3 ⟨t.val / 16, by have := lt160 t; omega⟩ l k)) ⟨t.val % 16 * 256 + r.val, by omega⟩ := by
  rw [← dev_eq g, tile t]
  have hw : 1 ≤ 2 ^ g.val ∧ 2 ^ g.val ≤ 8 := by fin_cases g <;> decide
  have e1 : wsum (fun e => ext (grid0.coords t) (iblk m c 5 t) (iblk m c 6 t) (iblk m c 7 t) e k) (r.val + 16 - 2 ^ g.val) (2 * 2 ^ g.val - 1)
      = wsum (padded fun l => A5 m c (ix3 ⟨t.val / 16, by have := lt160 t; omega⟩ l k)) (t.val % 16 * 256 + r.val + 8 - 2 ^ g.val) (2 * 2 ^ g.val - 1) := by
    generalize 2 ^ g.val = w at hw
    refine wsum_congr _ _ _ _ _ fun i hi => ?_
    refine (ext_blk m c t (r.val + 16 - w + i) (by omega) (by omega) k).trans (congrArg _ ?_)
    omega
  have e2 : ext (grid0.coords t) (iblk m c 5 t) (iblk m c 6 t) (iblk m c 7 t) (r.val + 16) k = A5 m c (ix3 ⟨t.val / 16, by have := lt160 t; omega⟩ ⟨t.val % 16 * 256 + r.val, by omega⟩ k) := by
    refine (ext_blk m c t (r.val + 16) (by omega) (by omega) k).trans ?_
    unfold padded
    rw [dif_pos (by have := lt160 t; omega)]
    refine congrArg (fun l => A5 m c (ix3 ⟨t.val / 16, by have := lt160 t; omega⟩ l k)) (Fin.ext ?_)
    show t.val % 16 * 256 + (r.val + 16) - 8 - 8 = t.val % 16 * 256 + r.val
    omega
  rw [e1, e2]

theorem pool_blk (t : Fin cfg0.N) (r : Fin 256) (k : Fin 1024) :
    poolF (grid0.coords t) (iblk m c 5 t) (iblk m c 6 t) (iblk m c 7 t) (iblk m c 10 t) (iblk m c 11 t) (ix2 r k) = val_main_v181 (F := Ideal) (A5 m c) (A8 m c) (A9 m c) (ix3 ⟨t.val / 16, by have := lt160 t; omega⟩ ⟨t.val % 16 * 256 + r.val, by omega⟩ k) := by
  rw [v181_at]
  show poolT (grid0.coords t) (iblk m c 5 t) (iblk m c 6 t) (iblk m c 7 t) (iblk m c 10 t) (iblk m c 11 t) ⟨k.val / 256, by omega⟩ r ⟨k.val % 256, by omega⟩ = _
  unfold poolT Cert.Mix.pool
  refine congrArg₂ (· * ·) (Finset.sum_congr rfl fun x _ => congrArg₂ (· * ·) ?_ ?_) ?_
  · exact dev_blk m c t ⟨k.val / 256, by omega⟩ r ⟨k.val / 256 * 256 + x.val, by omega⟩
  · exact blk10 m c t _ _ _
  · refine (blk11 m c t _).trans (congrArg (fun a => A9 m c (ix2 0 a)) (Fin.ext ?_))
    show k.val / 256 * 256 + k.val % 256 = k.val
    omega

theorem x_blk (t : Fin cfg0.N) (r : Fin 256) (j : Fin 2048) :
    xT (grid0.coords t) (iblk m c 0 t) (iblk m c 1 t) r j = val_main_v0 (F := Ideal) (A0 m c) (A1 m c) (ix3 ⟨t.val / 16, by have := lt160 t; omega⟩ ⟨t.val % 16 * 256 + r.val, by omega⟩ j) := by
  rw [v0_at]
  unfold xT
  rw [sel t]
  by_cases h : t.val / 16 < 2
  · rw [if_pos h, dif_pos h]
    exact blk0 m c t h r j
  · rw [if_neg h, dif_neg h]
    exact blk1 m c t h r j

theorem h_blk (t : Fin cfg0.N) (r : Fin 256) (k : Fin 2048) :
    hT (grid0.coords t) (iblk m c 0 t) (iblk m c 1 t) (iblk m c 2 t) (iblk m c 3 t) r k = val_main_v35 (F := Ideal) (A0 m c) (A1 m c) (A2 m c) (A3 m c) (ix3 ⟨t.val / 16, by have := lt160 t; omega⟩ ⟨t.val % 16 * 256 + r.val, by omega⟩ k) := by
  rw [v35_at]
  unfold hT
  rw [show xT (grid0.coords t) (iblk m c 0 t) (iblk m c 1 t) r = fun j => val_main_v0 (F := Ideal) (A0 m c) (A1 m c) (ix3 ⟨t.val / 16, by have := lt160 t; omega⟩ ⟨t.val % 16 * 256 + r.val, by omega⟩ j) from funext (x_blk m c t r)]
  simp only [blk2, blk3]

theorem z_blk (t : Fin cfg0.N) (r : Fin 256) (k : Fin 512) :
    zT (iblk m c 8 t) (iblk m c 13 t) (iblk m c 14 t) r k = val_main_v207 (F := Ideal) (A6 m c) (A11 m c) (A12 m c) (ix3 ⟨t.val / 16, by have := lt160 t; omega⟩ ⟨t.val % 16 * 256 + r.val, by omega⟩ k) := by
  rw [v207_at]
  unfold zT
  have e (j : Fin 512) : iblk m c 8 t (ix4 0 ⟨r.val % 32, by omega⟩ ⟨r.val / 32, by omega⟩ j) = A6 m c (ix3 ⟨t.val / 16, by have := lt160 t; omega⟩ ⟨t.val % 16 * 256 + r.val, by omega⟩ j) := by
    refine (blk8 m c t _ _ j).trans (congrArg (fun l => A6 m c (ix3 ⟨t.val / 16, by have := lt160 t; omega⟩ l j)) (Fin.ext ?_))
    show (t.val % 16 * 8 + r.val / 32) * 32 + r.val % 32 = t.val % 16 * 256 + r.val
    omega
  simp only [e, blk13, blk14]

theorem m_blk (t : Fin cfg0.N) (r : Fin 256) (d : Fin 2048) :
    mT (grid0.coords t) (iblk m c 0 t) (iblk m c 1 t) (iblk m c 2 t) (iblk m c 3 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r d = val_main_v228 (F := Ideal) (A0 m c) (A1 m c) (A2 m c) (A3 m c) (A5 m c) (A6 m c) (A7 m c) (A8 m c) (A9 m c) (A10 m c) (A11 m c) (A12 m c) (A13 m c) (ix3 ⟨t.val / 16, by have := lt160 t; omega⟩ ⟨t.val % 16 * 256 + r.val, by omega⟩ d) := by
  rw [v228_at]
  unfold mT
  rw [show hT (grid0.coords t) (iblk m c 0 t) (iblk m c 1 t) (iblk m c 2 t) (iblk m c 3 t) r = fun k => val_main_v35 (F := Ideal) (A0 m c) (A1 m c) (A2 m c) (A3 m c) (ix3 ⟨t.val / 16, by have := lt160 t; omega⟩ ⟨t.val % 16 * 256 + r.val, by omega⟩ k) from funext (h_blk m c t r),
    show zT (iblk m c 8 t) (iblk m c 13 t) (iblk m c 14 t) r = fun k => val_main_v207 (F := Ideal) (A6 m c) (A11 m c) (A12 m c) (ix3 ⟨t.val / 16, by have := lt160 t; omega⟩ ⟨t.val % 16 * 256 + r.val, by omega⟩ k) from funext (z_blk m c t r)]
  simp only [pool_blk, blk9, blk12, blk15]

theorem r_blk (t : Fin cfg0.N) (r : Fin 256) (d : Fin 2048) :
    rT (grid0.coords t) (iblk m c 0 t) (iblk m c 1 t) (iblk m c 2 t) (iblk m c 3 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r d = val_main_v233 (F := Ideal) (A0 m c) (A1 m c) (A2 m c) (A3 m c) (A5 m c) (A6 m c) (A7 m c) (A8 m c) (A9 m c) (A10 m c) (A11 m c) (A12 m c) (A13 m c) (A14 m c) (ix3 ⟨t.val / 16, by have := lt160 t; omega⟩ ⟨t.val % 16 * 256 + r.val, by omega⟩ d) := by
  rw [v233_at]
  unfold rT
  rw [show xT (grid0.coords t) (iblk m c 0 t) (iblk m c 1 t) r = fun j => val_main_v0 (F := Ideal) (A0 m c) (A1 m c) (ix3 ⟨t.val / 16, by have := lt160 t; omega⟩ ⟨t.val % 16 * 256 + r.val, by omega⟩ j) from funext (x_blk m c t r),
    show mT (grid0.coords t) (iblk m c 0 t) (iblk m c 1 t) (iblk m c 2 t) (iblk m c 3 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r = fun d => val_main_v228 (F := Ideal) (A0 m c) (A1 m c) (A2 m c) (A3 m c) (A5 m c) (A6 m c) (A7 m c) (A8 m c) (A9 m c) (A10 m c) (A11 m c) (A12 m c) (A13 m c) (ix3 ⟨t.val / 16, by have := lt160 t; omega⟩ ⟨t.val % 16 * 256 + r.val, by omega⟩ d) from funext (m_blk m c t r)]
  simp only [blk2, blk16]

theorem n_blk (t : Fin cfg0.N) (r : Fin 256) (d : Fin 2048) :
    nT (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r d = val_main_v254 (F := Ideal) (A0 m c) (A1 m c) (A2 m c) (A3 m c) (A4 m c) (A5 m c) (A6 m c) (A7 m c) (A8 m c) (A9 m c) (A10 m c) (A11 m c) (A12 m c) (A13 m c) (A14 m c) (ix3 ⟨t.val / 16, by have := lt160 t; omega⟩ ⟨t.val % 16 * 256 + r.val, by omega⟩ d) := by
  rw [v254_at]
  unfold nT
  rw [show rT (grid0.coords t) (iblk m c 0 t) (iblk m c 1 t) (iblk m c 2 t) (iblk m c 3 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r = fun d => val_main_v233 (F := Ideal) (A0 m c) (A1 m c) (A2 m c) (A3 m c) (A5 m c) (A6 m c) (A7 m c) (A8 m c) (A9 m c) (A10 m c) (A11 m c) (A12 m c) (A13 m c) (A14 m c) (ix3 ⟨t.val / 16, by have := lt160 t; omega⟩ ⟨t.val % 16 * 256 + r.val, by omega⟩ d) from funext (r_blk m c t r)]
  simp only [blk2, blk4]

/-! ## The results -/

theorem arr17 (b : Fin 10) (l : Fin 4096) (k : Fin 2048) :
    ((dats m 0 c).arrAt 17 cfg0.N : FVec Ideal S10x4096x2048 .f32) (ix3 b l k) = val_main_v233 (F := Ideal) (A0 m c) (A1 m c) (A2 m c) (A3 m c) (A5 m c) (A6 m c) (A7 m c) (A8 m c) (A9 m c) (A10 m c) (A11 m c) (A12 m c) (A13 m c) (A14 m c) (ix3 b l k) := by
  have hN : b.val * 16 + l.val / 256 < cfg0.N := lt_of_lt_of_eq (by omega) (show cfg0.N = 160 from N_0).symm
  have e := congrFun (blocks17 m c ⟨b.val * 16 + l.val / 256, hN⟩ (flush17 _)) (ix3 0 ⟨l.val % 256, by omega⟩ k)
  rw [flushed17_A] at e
  have e1 : ((cfg0.win 17).blk ⟨b.val * 16 + l.val / 256, hN⟩).view.emb (ix3 0 ⟨l.val % 256, by omega⟩ k) = ix3 b l k := by
    funext a
    apply Fin.ext
    match a with
    | ⟨0, _⟩ => show win0_17.index ⟨b.val * 16 + l.val / 256, hN⟩ (0 : Fin 3) * 1 + 1 * 0 = b.val; rw [idx17]; show (b.val * 16 + l.val / 256) / 16 * 1 + 1 * 0 = b.val; omega
    | ⟨1, _⟩ => show win0_17.index ⟨b.val * 16 + l.val / 256, hN⟩ (1 : Fin 3) * 256 + 1 * (l.val % 256) = l.val; rw [idx17]; show (b.val * 16 + l.val / 256) % 16 * 256 + 1 * (l.val % 256) = l.val; omega
    | ⟨2, _⟩ => show win0_17.index ⟨b.val * 16 + l.val / 256, hN⟩ (2 : Fin 3) * 2048 + 1 * k.val = k.val; rw [idx17]; show 0 * 2048 + 1 * k.val = k.val; omega
  have e2 : ((dats m 0 c).arrAt 17 cfg0.N : FVec Ideal S10x4096x2048 .f32) (((cfg0.win 17).blk ⟨b.val * 16 + l.val / 256, hN⟩).view.emb (ix3 0 ⟨l.val % 256, by omega⟩ k)) = _ := e
  rw [e1] at e2
  refine e2.trans (Eq.trans (by apply out17_at) ((r_blk m c ⟨b.val * 16 + l.val / 256, hN⟩ ⟨l.val % 256, by omega⟩ k).trans ?_))
  exact congrArg₂ (fun x y => val_main_v233 (F := Ideal) (A0 m c) (A1 m c) (A2 m c) (A3 m c) (A5 m c) (A6 m c) (A7 m c) (A8 m c) (A9 m c) (A10 m c) (A11 m c) (A12 m c) (A13 m c) (A14 m c) (ix3 x y k)) (Fin.ext (show (b.val * 16 + l.val / 256) / 16 = b.val by omega))
    (Fin.ext (show (b.val * 16 + l.val / 256) % 16 * 256 + l.val % 256 = l.val by omega))

theorem arr18 (b : Fin 10) (l : Fin 4096) (k : Fin 2048) :
    ((dats m 0 c).arrAt 18 cfg0.N : FVec Ideal S10x4096x2048 .bf16) (ix3 b l k) = val_main_v254 (F := Ideal) (A0 m c) (A1 m c) (A2 m c) (A3 m c) (A4 m c) (A5 m c) (A6 m c) (A7 m c) (A8 m c) (A9 m c) (A10 m c) (A11 m c) (A12 m c) (A13 m c) (A14 m c) (ix3 b l k) := by
  have hN : b.val * 16 + l.val / 256 < cfg0.N := lt_of_lt_of_eq (by omega) (show cfg0.N = 160 from N_0).symm
  have e := congrFun (blocks18 m c ⟨b.val * 16 + l.val / 256, hN⟩ (flush18 _)) (ix3 0 ⟨l.val % 256, by omega⟩ k)
  rw [flushed18_A] at e
  have e1 : ((cfg0.win 18).blk ⟨b.val * 16 + l.val / 256, hN⟩).view.emb (ix3 0 ⟨l.val % 256, by omega⟩ k) = ix3 b l k := by
    funext a
    apply Fin.ext
    match a with
    | ⟨0, _⟩ => show win0_18.index ⟨b.val * 16 + l.val / 256, hN⟩ (0 : Fin 3) * 1 + 1 * 0 = b.val; rw [idx18]; show (b.val * 16 + l.val / 256) / 16 * 1 + 1 * 0 = b.val; omega
    | ⟨1, _⟩ => show win0_18.index ⟨b.val * 16 + l.val / 256, hN⟩ (1 : Fin 3) * 256 + 1 * (l.val % 256) = l.val; rw [idx18]; show (b.val * 16 + l.val / 256) % 16 * 256 + 1 * (l.val % 256) = l.val; omega
    | ⟨2, _⟩ => show win0_18.index ⟨b.val * 16 + l.val / 256, hN⟩ (2 : Fin 3) * 2048 + 1 * k.val = k.val; rw [idx18]; show 0 * 2048 + 1 * k.val = k.val; omega
  have e2 : ((dats m 0 c).arrAt 18 cfg0.N : FVec Ideal S10x4096x2048 .bf16) (((cfg0.win 18).blk ⟨b.val * 16 + l.val / 256, hN⟩).view.emb (ix3 0 ⟨l.val % 256, by omega⟩ k)) = _ := e
  rw [e1] at e2
  refine e2.trans (Eq.trans (by apply out18_at) ((n_blk m c ⟨b.val * 16 + l.val / 256, hN⟩ ⟨l.val % 256, by omega⟩ k).trans ?_))
  exact congrArg₂ (fun x y => val_main_v254 (F := Ideal) (A0 m c) (A1 m c) (A2 m c) (A3 m c) (A4 m c) (A5 m c) (A6 m c) (A7 m c) (A8 m c) (A9 m c) (A10 m c) (A11 m c) (A12 m c) (A13 m c) (A14 m c) (ix3 x y k)) (Fin.ext (show (b.val * 16 + l.val / 256) / 16 = b.val by omega))
    (Fin.ext (show (b.val * 16 + l.val / 256) % 16 * 256 + l.val % 256 = l.val by omega))

/-- The new residual stream. -/
theorem x1_eq : ((dats m 0 c).arrAt 17 cfg0.N : FVec Ideal S10x4096x2048 .f32) = val_main_v233 (F := Ideal) (A0 m c) (A1 m c) (A2 m c) (A3 m c) (A5 m c) (A6 m c) (A7 m c) (A8 m c) (A9 m c) (A10 m c) (A11 m c) (A12 m c) (A13 m c) (A14 m c) := by
  funext i
  have e : i = ix3 (i 0) (i 1) (i 2) := by funext a; fin_cases a <;> rfl
  rw [e]
  exact arr17 m c (i 0) (i 1) (i 2)

/-- The next norm's rows. -/
theorem h2_eq : ((dats m 0 c).arrAt 18 cfg0.N : FVec Ideal S10x4096x2048 .bf16) = val_main_v254 (F := Ideal) (A0 m c) (A1 m c) (A2 m c) (A3 m c) (A4 m c) (A5 m c) (A6 m c) (A7 m c) (A8 m c) (A9 m c) (A10 m c) (A11 m c) (A12 m c) (A13 m c) (A14 m c) := by
  funext i
  have e : i = ix3 (i 0) (i 1) (i 2) := by funext a; fin_cases a <;> rfl
  rw [e]
  exact arr18 m c (i 0) (i 1) (i 2)

end Blocks

end Cert.Kernel3Ideal.Mix

end
-- ==== Proof.lean ====
/- The claims, from their parts: for each of the three calls the frames, the reference's run, and the equality of the results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Link
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.InRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MixArr
public import Idealize.ShloMosaic.Adequacy
public import Idealize.ShloMosaic.Init

@[expose] public section

set_option maxRecDepth 16384

noncomputable section

namespace Cert.Proof

open Idealize.ShloMosaic Idealize.SL.Sem Cert.Kernel

/-- The reference ends with its arguments unchanged and every counter at zero. -/
theorem reference_frame : Cert.quiescent_ReferenceIdeal (hReferenceIdeal := Cert.ReferenceIdeal.Gen.facts) := fun m' g' _ =>
  (θ_run _ _ _).mono (fun r h => ⟨fun c => (h c).2, sem_eq_zero_of_no_sems (by decide) r.2⟩)
    (Cert.ReferenceIdeal.RefRun.run_iter (F := Ideal) m' g' (fun c => Cert.ReferenceIdeal.RV.iter m' c) (fun _ => rfl) (fun _ _ => rfl))

/-- The kernel's result is the reference's, over arguments the precondition admits. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.KernelIdeal.Value.G5 m c, Cert.KernelIdeal.Value.run m g, ?_⟩
  refine (θ_run _ _ _).mono (fun r h c => ⟨(h c).1.trans ?_, (h c).2⟩)
    (Cert.ReferenceIdeal.RefRun.run_iter (F := Ideal) m' g' (fun c => Cert.ReferenceIdeal.RV.iter m' c) (fun _ => rfl) (fun _ _ => rfl))
  have hc : Cert.Link.Good m c := Cert.Pre_finite.Read.read _ _ _ _ _ _ _ _ _ _ _ _ _ _ _ _ _ _ (congrFun (hp c) ix0)
  obtain ⟨a0, a1, a2, a3, a4, a5, a6, a7, a8, a9, a10, a11, a12, a13, a14, a15, _, _⟩ := ha c
  have h0 : Cert.ReferenceIdeal.RV.Inv (Cert.Link.fw m c) (Cert.Link.bw m c) (Cert.Link.inp m c) 0 (Cert.ReferenceIdeal.RefRun.initState m' c) :=
    Cert.ReferenceIdeal.RV.init_inv _ _ _ _ _ _ _ _ _ _ _ _ _ _
      (Cert.Link.enc (Cert.Link.real_fw hc) a1 a2 a3 a4 a5) (Cert.Link.enc (Cert.Link.real_bw hc) a8 a9 a10 a11 a12)
      (fun b t k => (congrFun a0 (ix3 b t k)).trans (hc.r0 _))
  exact Cert.Link.agree m c hc _ (Cert.ReferenceIdeal.RV.iter_inv _ _ _ m' c h0 4096 le_rfl) _ _ _ _ _ _ a0 a6 a7 a13 a14 a15

/-- The input projection's reference ends with its arguments unchanged and every counter at zero. -/
theorem reference2_frame : Cert.quiescent_Reference2Ideal (hReference2Ideal := Cert.Reference2Ideal.Gen.facts) := fun m' g' _ =>
  (θ_run _ _ _).mono (fun r h => ⟨fun c => (h c).2.2, sem_eq_zero_of_no_sems (by decide) r.2⟩) (Cert.Reference2Ideal.Value.run (F := Ideal) m' g')

/-- The input projection's two results are the reference's, over any arguments. -/
theorem value2 : Cert.algebraic_Kernel2Ideal_Reference2Ideal (hKernel2Ideal := Cert.Kernel2Ideal.Gen.facts)
    (hReference2Ideal := Cert.Reference2Ideal.Gen.facts) := by
  intro m g m' g' _ ha
  refine ⟨_, _, Cert.Kernel2Ideal.Value.run_blocks m g, ?_⟩
  refine (θ_run _ _ _).mono (fun r h c => ⟨(h c).1.trans ?_, (h c).2.1.trans ?_, (h c).2.2⟩) (Cert.Reference2Ideal.Value.run (F := Ideal) m' g')
  · obtain ⟨a0, a1, a2, a3, a4⟩ := ha c
    rw [a0, a1, a2, a3, a4]
    exact (Cert.Reference2Ideal.Read.val_main_v30_eq _ _ _ _ _).trans (Cert.Reference2Ideal.InRef.u_a m c).symm
  · obtain ⟨a0, a1, a2, a3, a4⟩ := ha c
    rw [a0, a1, a2, a3, a4]
    exact (Cert.Reference2Ideal.Read.val_main_v34_eq _ _ _ _ _).trans (Cert.Reference2Ideal.InRef.u_b m c).symm

/-- The mixing's reference ends with its arguments unchanged and every counter at zero. -/
theorem reference3_frame : Cert.quiescent_Reference3Ideal (hReference3Ideal := Cert.Reference3Ideal.Gen.facts) := fun m' g' _ =>
  (θ_run _ _ _).mono (fun r h => ⟨fun c => (h c).2.2, sem_eq_zero_of_no_sems (by decide) r.2⟩) (Cert.Reference3Ideal.Value.run (F := Ideal) m' g')

/-- The mixing's two results are the reference's, over any arguments. -/
theorem value3 : Cert.algebraic_Kernel3Ideal_Reference3Ideal (hKernel3Ideal := Cert.Kernel3Ideal.Gen.facts)
    (hReference3Ideal := Cert.Reference3Ideal.Gen.facts) := by
  intro m g m' g' _ ha
  refine ⟨_, _, Cert.Kernel3Ideal.Value.run_blocks m g, ?_⟩
  refine (θ_run _ _ _).mono (fun r h c => ⟨(h c).1.trans ?_, (h c).2.1.trans ?_, (h c).2.2⟩) (Cert.Reference3Ideal.Value.run (F := Ideal) m' g')
  · obtain ⟨a0, a1, a2, a3, a4, a5, a6, a7, a8, a9, a10, a11, a12, a13, a14⟩ := ha c
    refine (Cert.Reference3Ideal.Read.val_main_v233_eq (StableHlo.launchContents m' c)).trans ?_
    show Cert.Reference3Ideal.Read.val_main_v233 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) = _
    rw [a0, a1, a2, a3, a5, a6, a7, a8, a9, a10, a11, a12, a13, a14]
    exact (Cert.Kernel3Ideal.Mix.x1_eq m c).symm
  · obtain ⟨a0, a1, a2, a3, a4, a5, a6, a7, a8, a9, a10, a11, a12, a13, a14⟩ := ha c
    refine (Cert.Reference3Ideal.Read.val_main_v254_eq (StableHlo.launchContents m' c)).trans ?_
    show Cert.Reference3Ideal.Read.val_main_v254 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) = _
    rw [a0, a1, a2, a3, a4, a5, a6, a7, a8, a9, a10, a11, a12, a13, a14]
    exact (Cert.Kernel3Ideal.Mix.h2_eq m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, Cert.Pre_finite.Gen.facts,
  fun m g _ => Cert.Kernel.Gen.frame m g, fun m g _ => Cert.KernelIdeal.Gen.frame m g, fun m g _ => Cert.KernelIdeal.Gen.frame m g,
  reference_frame, fun m' g' _ => reference_frame m' g' trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  trivial, value, trivial, value2, trivial, value3⟩

end Cert.Proof

end
